-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Amax (m : (ℓ : Loc Cert.Amax.nD Cert.Amax.τ Cert.Amax.sig) → Buf (Elt Bits) ℓ) : Prop :=
  True

def Pre_AmaxIdeal (m : (ℓ : Loc Cert.AmaxIdeal.nD Cert.AmaxIdeal.τ Cert.AmaxIdeal.sig) → Buf (Elt Ideal) ℓ) : Prop :=
  True

def Pre_AmaxReferenceIdeal (m : (ℓ : Loc Cert.AmaxReferenceIdeal.nD Cert.AmaxReferenceIdeal.τ Cert.AmaxReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Amax [hAmax : Cert.Amax.Facts] : Prop :=
  ∀ (m : (ℓ : Loc Cert.Amax.nD Cert.Amax.τ Cert.Amax.sig) → Buf (Elt Bits) ℓ) (g : Dev Cert.Amax.nD → PrngReg), Pre_Amax m →
    θ_run (Cert.Amax.defs (F := Bits)) (onTc (τ := Cert.Amax.τ) (Cert.Amax.main (F := Bits))) ⟨m, fun _ => 0, g⟩ (fun r => (∀ c : Dev Cert.Amax.nD,
      r.2.mem ((c.tc : Thread Cert.Amax.nD Cert.Amax.τ).loc Cert.Amax.main_arg0) = m ((c.tc : Thread Cert.Amax.nD Cert.Amax.τ).loc Cert.Amax.main_arg0))
      ∧ r.2.sem = fun _ => 0)

def quiescent_AmaxIdeal [hAmaxIdeal : Cert.AmaxIdeal.Facts] : Prop :=
  ∀ (m : (ℓ : Loc Cert.AmaxIdeal.nD Cert.AmaxIdeal.τ Cert.AmaxIdeal.sig) → Buf (Elt Ideal) ℓ) (g : Dev Cert.AmaxIdeal.nD → PrngReg), Pre_AmaxIdeal m →
    θ_run (Cert.AmaxIdeal.defs (F := Ideal)) (onTc (τ := Cert.AmaxIdeal.τ) (Cert.AmaxIdeal.main (F := Ideal))) ⟨m, fun _ => 0, g⟩ (fun r => (∀ c : Dev Cert.AmaxIdeal.nD,
      r.2.mem ((c.tc : Thread Cert.AmaxIdeal.nD Cert.AmaxIdeal.τ).loc Cert.AmaxIdeal.main_arg0) = m ((c.tc : Thread Cert.AmaxIdeal.nD Cert.AmaxIdeal.τ).loc Cert.AmaxIdeal.main_arg0))
      ∧ r.2.sem = fun _ => 0)

def quiescent_AmaxReferenceIdeal [hAmaxReferenceIdeal : Cert.AmaxReferenceIdeal.Facts] : Prop :=
  ∀ (m : (ℓ : Loc Cert.AmaxReferenceIdeal.nD Cert.AmaxReferenceIdeal.τ Cert.AmaxReferenceIdeal.sig) → Buf (Elt Ideal) ℓ) (g : Dev Cert.AmaxReferenceIdeal.nD → PrngReg), Pre_AmaxReferenceIdeal m →
    θ_run (Cert.AmaxReferenceIdeal.defs (F := Ideal)) (onTc (τ := Cert.AmaxReferenceIdeal.τ) (Cert.AmaxReferenceIdeal.main (F := Ideal))) ⟨m, fun _ => 0, g⟩ (fun r => (∀ c : Dev Cert.AmaxReferenceIdeal.nD,
      r.2.mem ((c.tc : Thread Cert.AmaxReferenceIdeal.nD Cert.AmaxReferenceIdeal.τ).loc Cert.AmaxReferenceIdeal.main_arg0) = m ((c.tc : Thread Cert.AmaxReferenceIdeal.nD Cert.AmaxReferenceIdeal.τ).loc Cert.AmaxReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Amax_AmaxIdeal : Prop :=
  IdealRules.bf16_pair.Statement Cert.AmaxIdeal.S16x128 Cert.AmaxIdeal.S8x128

def algebraic_AmaxIdeal_AmaxReferenceIdeal [hAmaxIdeal : Cert.AmaxIdeal.Facts] [hAmaxReferenceIdeal : Cert.AmaxReferenceIdeal.Facts] : Prop :=
  ∀ (m : (ℓ : Loc Cert.AmaxIdeal.nD Cert.AmaxIdeal.τ Cert.AmaxIdeal.sig) → Buf (Elt Ideal) ℓ) (g : Dev Cert.AmaxIdeal.nD → PrngReg)
    (m' : (ℓ : Loc Cert.AmaxReferenceIdeal.nD Cert.AmaxReferenceIdeal.τ Cert.AmaxReferenceIdeal.sig) → Buf (Elt Ideal) ℓ) (g' : Dev Cert.AmaxReferenceIdeal.nD → PrngReg), Pre_AmaxIdeal m →
    (∀ c : Dev Cert.AmaxIdeal.nD,
      m' ((c.tc : Thread Cert.AmaxReferenceIdeal.nD Cert.AmaxReferenceIdeal.τ).loc Cert.AmaxReferenceIdeal.main_arg0) = m ((c.tc : Thread Cert.AmaxIdeal.nD Cert.AmaxIdeal.τ).loc Cert.AmaxIdeal.main_arg0)) →
    ∃ (v0 : (c : Dev Cert.AmaxIdeal.nD) → Buf (Elt Ideal) ((c.tc : Thread Cert.AmaxIdeal.nD Cert.AmaxIdeal.τ).loc Cert.AmaxIdeal.main_v0)),
      θ_run (Cert.AmaxIdeal.defs (F := Ideal)) (onTc (τ := Cert.AmaxIdeal.τ) (Cert.AmaxIdeal.main (F := Ideal))) ⟨m, fun _ => 0, g⟩ (fun r => ∀ c : Dev Cert.AmaxIdeal.nD,
          r.2.mem ((c.tc : Thread Cert.AmaxIdeal.nD Cert.AmaxIdeal.τ).loc Cert.AmaxIdeal.main_v0) = v0 c
          ∧ r.2.mem ((c.tc : Thread Cert.AmaxIdeal.nD Cert.AmaxIdeal.τ).loc Cert.AmaxIdeal.main_arg0) = m ((c.tc : Thread Cert.AmaxIdeal.nD Cert.AmaxIdeal.τ).loc Cert.AmaxIdeal.main_arg0))
      ∧ θ_run (Cert.AmaxReferenceIdeal.defs (F := Ideal)) (onTc (τ := Cert.AmaxReferenceIdeal.τ) (Cert.AmaxReferenceIdeal.main (F := Ideal))) ⟨m', fun _ => 0, g'⟩ (fun r => ∀ c : Dev Cert.AmaxReferenceIdeal.nD,
          r.2.mem ((c.tc : Thread Cert.AmaxReferenceIdeal.nD Cert.AmaxReferenceIdeal.τ).loc Cert.AmaxReferenceIdeal.main_v0) = v0 c
          ∧ r.2.mem ((c.tc : Thread Cert.AmaxReferenceIdeal.nD Cert.AmaxReferenceIdeal.τ).loc Cert.AmaxReferenceIdeal.main_arg0) = m' ((c.tc : Thread Cert.AmaxReferenceIdeal.nD Cert.AmaxReferenceIdeal.τ).loc Cert.AmaxReferenceIdeal.main_arg0))

def Claim : Prop :=
  ∃ (hKernel : Cert.Kernel.Facts) (hKernelIdeal : Cert.KernelIdeal.Facts) (hReferenceIdeal : Cert.ReferenceIdeal.Facts) (hAmax : Cert.Amax.Facts) (hAmaxIdeal : Cert.AmaxIdeal.Facts) (hAmaxReferenceIdeal : Cert.AmaxReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Amax (hAmax := hAmax)
    ∧ quiescent_AmaxIdeal (hAmaxIdeal := hAmaxIdeal)
    ∧ quiescent_AmaxReferenceIdeal (hAmaxReferenceIdeal := hAmaxReferenceIdeal)
    ∧ preserves_Kernel_KernelIdeal
    ∧ algebraic_KernelIdeal_ReferenceIdeal (hKernelIdeal := hKernelIdeal) (hReferenceIdeal := hReferenceIdeal)
    ∧ preserves_Amax_AmaxIdeal
    ∧ algebraic_AmaxIdeal_AmaxReferenceIdeal (hAmaxIdeal := hAmaxIdeal) (hAmaxReferenceIdeal := hAmaxReferenceIdeal)
-- ==== Kernel.lean ====
abbrev S256x896 : Shape := ⟨2, ![256, 896]⟩
abbrev S1920x4096 : Shape := ⟨2, ![1920, 4096]⟩
abbrev S4096x14336 : Shape := ⟨2, ![4096, 14336]⟩
abbrev S1920x14336 : Shape := ⟨2, ![1920, 14336]⟩
abbrev S4096x7168 : Shape := ⟨2, ![4096, 7168]⟩
abbrev S14336x2048 : Shape := ⟨2, ![14336, 2048]⟩
abbrev S1 : Shape := ⟨1, ![1]⟩
abbrev S256x128 : Shape := ⟨2, ![256, 128]⟩
abbrev S1920x256 : Shape := ⟨2, ![1920, 256]⟩
abbrev S4096x128 : Shape := ⟨2, ![4096, 128]⟩
abbrev S256x2048 : Shape := ⟨2, ![256, 2048]⟩
abbrev S4096x256 : Shape := ⟨2, ![4096, 256]⟩
abbrev S10x2x256x128 : Shape := ⟨4, ![10, 2, 256, 128]⟩
abbrev S2x2x128x128 : Shape := ⟨4, ![2, 2, 128, 128]⟩
abbrev S_ : Shape := ⟨0, ![]⟩
abbrev S2 : Shape := ⟨1, ![2]⟩
abbrev S1x256x896 : Shape := ⟨3, ![1, 256, 896]⟩
abbrev S1x1x1 : Shape := ⟨3, ![1, 1, 1]⟩
abbrev S8x128 : Shape := ⟨2, ![8, 128]⟩
abbrev S8x128x1 : Shape := ⟨3, ![8, 128, 1]⟩
abbrev S1x1x8x128 : Shape := ⟨4, ![1, 1, 8, 128]⟩
abbrev S16x128 : Shape := ⟨2, ![16, 128]⟩
abbrev S1x1x16x128 : Shape := ⟨4, ![1, 1, 16, 128]⟩
abbrev S1x1x128x128 : Shape := ⟨4, ![1, 1, 128, 128]⟩
abbrev S128x128 : Shape := ⟨2, ![128, 128]⟩
abbrev S1x1x64x128 : Shape := ⟨4, ![1, 1, 64, 128]⟩
abbrev S64x128 : Shape := ⟨2, ![64, 128]⟩
abbrev S240x4096 : Shape := ⟨2, ![240, 4096]⟩
abbrev S240x256 : Shape := ⟨2, ![240, 256]⟩

abbrev nBuf : Space → Nat
  | .hbm => 8
  | .vmem => 18
  | .smem => 2
  | _ => 0

abbrev bufTy : (tb : Table) → Fin (tcTables nBuf tb) → BufTy
  | .hbm, ⟨0, _⟩ => ⟨S256x896, .f32⟩
  | .hbm, ⟨1, _⟩ => ⟨S1920x4096, .bf16⟩
  | .hbm, ⟨2, _⟩ => ⟨S4096x14336, .bf16⟩
  | .hbm, ⟨3, _⟩ => ⟨S1920x14336, .bf16⟩
  | .hbm, ⟨4, _⟩ => ⟨S4096x7168, .i8⟩
  | .hbm, ⟨5, _⟩ => ⟨S14336x2048, .i8⟩
  | .hbm, ⟨6, _⟩ => ⟨S256x896, .fp8e4m3⟩
  | .hbm, ⟨7, _⟩ => ⟨S1, .f32⟩
  | .local _ .vmem, ⟨0, _⟩ => ⟨S256x896, .f32⟩
  | .local _ .vmem, ⟨1, _⟩ => ⟨S256x128, .f32⟩
  | .local _ .vmem, ⟨2, _⟩ => ⟨S256x128, .f32⟩
  | .local _ .vmem, ⟨3, _⟩ => ⟨S1920x256, .bf16⟩
  | .local _ .vmem, ⟨4, _⟩ => ⟨S1920x256, .bf16⟩
  | .local _ .vmem, ⟨5, _⟩ => ⟨S4096x128, .i8⟩
  | .local _ .vmem, ⟨6, _⟩ => ⟨S4096x128, .i8⟩
  | .local _ .vmem, ⟨7, _⟩ => ⟨S256x2048, .i8⟩
  | .local _ .vmem, ⟨8, _⟩ => ⟨S256x2048, .i8⟩
  | .local _ .vmem, ⟨9, _⟩ => ⟨S256x128, .fp8e4m3⟩
  | .local _ .vmem, ⟨10, _⟩ => ⟨S256x128, .fp8e4m3⟩
  | .local _ .vmem, ⟨11, _⟩ => ⟨S1920x4096, .bf16⟩
  | .local _ .vmem, ⟨12, _⟩ => ⟨S4096x256, .bf16⟩
  | .local _ .vmem, ⟨13, _⟩ => ⟨S4096x256, .bf16⟩
  | .local _ .vmem, ⟨14, _⟩ => ⟨S4096x256, .bf16⟩
  | .local _ .vmem, ⟨15, _⟩ => ⟨S4096x256, .bf16⟩
  | .local _ .vmem, ⟨16, _⟩ => ⟨S10x2x256x128, .f32⟩
  | .local _ .vmem, ⟨17, _⟩ => ⟨S2x2x128x128, .i32⟩
  | .local _ .smem, ⟨0, _⟩ => ⟨S1, .f32⟩
  | .local _ .smem, ⟨1, _⟩ => ⟨S1, .f32⟩
  | _, _ => ⟨S256x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_stg6_0 : Ref sig .tc := ⟨.smem, 0, rfl⟩
abbrev cc0_scratch7 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![57], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_19 : BitVec 32 := 0#32
  c0_i32_19
def k0_cond2 (i : grid0.Coords) : BitVec 1 :=
  let arg0 : BitVec 32 := BitVec.ofNat 32 (i 0).val
  let c0_i32_1 : BitVec 32 := 0#32
  let v4 : BitVec 1 := Scalar.cmpi .eq arg0 c0_i32_1
  let v5 : BitVec 32 := Scalar.extui v4
  let c0_i32_2 : BitVec 32 := 0#32
  let v6 : BitVec 1 := Scalar.cmpi .ne v5 c0_i32_2
  v6

def k0_mult2 : BitVec 32 :=
  let c0_i32_19 : BitVec 32 := 0#32
  c0_i32_19
def k0_mult3 : BitVec 32 :=
  let c256_i32 : BitVec 32 := 256#32
  c256_i32
@[reducible] def k0_t1_loop : Scf.Loop 32 :=
  let c0_i32_41 : BitVec 32 := 0#32
  let c32_i32 : BitVec 32 := 32#32
  let v91 : BitVec 32 := Scalar.addi c0_i32_41 c32_i32
  let c1_i32_42 : BitVec 32 := 1#32
  ⟨c0_i32_41, v91, c1_i32_42⟩
def k0_mult4 (k0_t1 : Fin k0_t1_loop.trips) : BitVec 32 :=
  let c0_i32_41 : BitVec 32 := 0#32
  let c1_i32_42 : BitVec 32 := 1#32
  let arg20 : BitVec 32 := Scf.iv c0_i32_41 c1_i32_42 k0_t1
  let c8_i32_48 : BitVec 32 := 8#32
  let v93 : BitVec 32 := Scalar.muli arg20 c8_i32_48
  v93
def k0_off1 (k0_t1 : Fin k0_t1_loop.trips) : Fin 2 → Nat :=
  let c0_i32_41 : BitVec 32 := 0#32
  let c1_i32_42 : BitVec 32 := 1#32
  let arg20 : BitVec 32 := Scf.iv c0_i32_41 c1_i32_42 k0_t1
  let c8_i32_48 : BitVec 32 := 8#32
  let v93 : BitVec 32 := Scalar.muli arg20 c8_i32_48
  let v94 : BitVec 32 := v93
  let v95 : Index := Scalar.indexCast v94
  let c0_49 : Index := 0#32
  ![v95.toNat, 0]
def k0_off2 (k0_t1 : Fin k0_t1_loop.trips) : Fin 4 → Nat :=
  let c0_72 : Index := 0#32
  let c0_73 : Index := 0#32
  let c0_i32_41 : BitVec 32 := 0#32
  let c1_i32_42 : BitVec 32 := 1#32
  let arg20 : BitVec 32 := Scf.iv c0_i32_41 c1_i32_42 k0_t1
  let c8_i32_48 : BitVec 32 := 8#32
  let v93 : BitVec 32 := Scalar.muli arg20 c8_i32_48
  let v94 : BitVec 32 := v93
  let v151 : Index := Scalar.indexCast v94
  let c0_74 : Index := 0#32
  ![0, 0, v151.toNat, 0]
def k0_off3 (k0_t1 : Fin k0_t1_loop.trips) : Fin 4 → Nat :=
  let c1 : Index := 1#32
  let c0_77 : Index := 0#32
  let c0_i32_41 : BitVec 32 := 0#32
  let c1_i32_42 : BitVec 32 := 1#32
  let arg20 : BitVec 32 := Scf.iv c0_i32_41 c1_i32_42 k0_t1
  let c8_i32_48 : BitVec 32 := 8#32
  let v93 : BitVec 32 := Scalar.muli arg20 c8_i32_48
  let v94 : BitVec 32 := v93
  let v163 : Index := Scalar.indexCast v94
  let c0_78 : Index := 0#32
  ![1, 0, v163.toNat, 0]
def k0_off4 (k0_t1 : Fin k0_t1_loop.trips) : Fin 4 → Nat :=
  let c2 : Index := 2#32
  let c0_81 : Index := 0#32
  let c0_i32_41 : BitVec 32 := 0#32
  let c1_i32_42 : BitVec 32 := 1#32
  let arg20 : BitVec 32 := Scf.iv c0_i32_41 c1_i32_42 k0_t1
  let c8_i32_48 : BitVec 32 := 8#32
  let v93 : BitVec 32 := Scalar.muli arg20 c8_i32_48
  let v94 : BitVec 32 := v93
  let v175 : Index := Scalar.indexCast v94
  let c0_82 : Index := 0#32
  ![2, 0, v175.toNat, 0]
def k0_off5 (k0_t1 : Fin k0_t1_loop.trips) : Fin 4 → Nat :=
  let c3 : Index := 3#32
  let c0_85 : Index := 0#32
  let c0_i32_41 : BitVec 32 := 0#32
  let c1_i32_42 : BitVec 32 := 1#32
  let arg20 : BitVec 32 := Scf.iv c0_i32_41 c1_i32_42 k0_t1
  let c8_i32_48 : BitVec 32 := 8#32
  let v93 : BitVec 32 := Scalar.muli arg20 c8_i32_48
  let v94 : BitVec 32 := v93
  let v187 : Index := Scalar.indexCast v94
  let c0_86 : Index := 0#32
  ![3, 0, v187.toNat, 0]
def k0_off6 (k0_t1 : Fin k0_t1_loop.trips) : Fin 4 → Nat :=
  let c4 : Index := 4#32
  let c0_89 : Index := 0#32
  let c0_i32_41 : BitVec 32 := 0#32
  let c1_i32_42 : BitVec 32 := 1#32
  let arg20 : BitVec 32 := Scf.iv c0_i32_41 c1_i32_42 k0_t1
  let c8_i32_48 : BitVec 32 := 8#32
  let v93 : BitVec 32 := Scalar.muli arg20 c8_i32_48
  let v94 : BitVec 32 := v93
  let v199 : Index := Scalar.indexCast v94
  let c0_90 : Index := 0#32
  ![4, 0, v199.toNat, 0]
def k0_off7 (k0_t1 : Fin k0_t1_loop.trips) : Fin 4 → Nat :=
  let c5 : Index := 5#32
  let c0_93 : Index := 0#32
  let c0_i32_41 : BitVec 32 := 0#32
  let c1_i32_42 : BitVec 32 := 1#32
  let arg20 : BitVec 32 := Scf.iv c0_i32_41 c1_i32_42 k0_t1
  let c8_i32_48 : BitVec 32 := 8#32
  let v93 : BitVec 32 := Scalar.muli arg20 c8_i32_48
  let v94 : BitVec 32 := v93
  let v211 : Index := Scalar.indexCast v94
  let c0_94 : Index := 0#32
  ![5, 0, v211.toNat, 0]
def k0_off8 (k0_t1 : Fin k0_t1_loop.trips) : Fin 4 → Nat :=
  let c6 : Index := 6#32
  let c0_97 : Index := 0#32
  let c0_i32_41 : BitVec 32 := 0#32
  let c1_i32_42 : BitVec 32 := 1#32
  let arg20 : BitVec 32 := Scf.iv c0_i32_41 c1_i32_42 k0_t1
  let c8_i32_48 : BitVec 32 := 8#32
  let v93 : BitVec 32 := Scalar.muli arg20 c8_i32_48
  let v94 : BitVec 32 := v93
  let v223 : Index := Scalar.indexCast v94
  let c0_98 : Index := 0#32
  ![6, 0, v223.toNat, 0]
def k0_off9 (k0_t1 : Fin k0_t1_loop.trips) : Fin 4 → Nat :=
  let c7 : Index := 7#32
  let c0_101 : Index := 0#32
  let c0_i32_41 : BitVec 32 := 0#32
  let c1_i32_42 : BitVec 32 := 1#32
  let arg20 : BitVec 32 := Scf.iv c0_i32_41 c1_i32_42 k0_t1
  let c8_i32_48 : BitVec 32 := 8#32
  let v93 : BitVec 32 := Scalar.muli arg20 c8_i32_48
  let v94 : BitVec 32 := v93
  let v235 : Index := Scalar.indexCast v94
  let c0_102 : Index := 0#32
  ![7, 0, v235.toNat, 0]
def k0_off10 (k0_t1 : Fin k0_t1_loop.trips) : Fin 4 → Nat :=
  let c8 : Index := 8#32
  let c0_105 : Index := 0#32
  let c0_i32_41 : BitVec 32 := 0#32
  let c1_i32_42 : BitVec 32 := 1#32
  let arg20 : BitVec 32 := Scf.iv c0_i32_41 c1_i32_42 k0_t1
  let c8_i32_48 : BitVec 32 := 8#32
  let v93 : BitVec 32 := Scalar.muli arg20 c8_i32_48
  let v94 : BitVec 32 := v93
  let v247 : Index := Scalar.indexCast v94
  let c0_106 : Index := 0#32
  ![8, 0, v247.toNat, 0]
def k0_off11 (k0_t1 : Fin k0_t1_loop.trips) : Fin 4 → Nat :=
  let c9 : Index := 9#32
  let c0_109 : Index := 0#32
  let c0_i32_41 : BitVec 32 := 0#32
  let c1_i32_42 : BitVec 32 := 1#32
  let arg20 : BitVec 32 := Scf.iv c0_i32_41 c1_i32_42 k0_t1
  let c8_i32_48 : BitVec 32 := 8#32
  let v93 : BitVec 32 := Scalar.muli arg20 c8_i32_48
  let v94 : BitVec 32 := v93
  let v259 : Index := Scalar.indexCast v94
  let c0_110 : Index := 0#32
  ![9, 0, v259.toNat, 0]
def k0_off12 (k0_t1 : Fin k0_t1_loop.trips) : Fin 4 → Nat :=
  let c0_114 : Index := 0#32
  let c1_115 : Index := 1#32
  let c0_i32_41 : BitVec 32 := 0#32
  let c1_i32_42 : BitVec 32 := 1#32
  let arg20 : BitVec 32 := Scf.iv c0_i32_41 c1_i32_42 k0_t1
  let c8_i32_48 : BitVec 32 := 8#32
  let v93 : BitVec 32 := Scalar.muli arg20 c8_i32_48
  let v94 : BitVec 32 := v93
  let v273 : Index := Scalar.indexCast v94
  let c0_116 : Index := 0#32
  ![0, 1, v273.toNat, 0]
def k0_off13 (k0_t1 : Fin k0_t1_loop.trips) : Fin 4 → Nat :=
  let c1_119 : Index := 1#32
  let c1_120 : Index := 1#32
  let c0_i32_41 : BitVec 32 := 0#32
  let c1_i32_42 : BitVec 32 := 1#32
  let arg20 : BitVec 32 := Scf.iv c0_i32_41 c1_i32_42 k0_t1
  let c8_i32_48 : BitVec 32 := 8#32
  let v93 : BitVec 32 := Scalar.muli arg20 c8_i32_48
  let v94 : BitVec 32 := v93
  let v285 : Index := Scalar.indexCast v94
  let c0_121 : Index := 0#32
  ![1, 1, v285.toNat, 0]
def k0_off14 (k0_t1 : Fin k0_t1_loop.trips) : Fin 4 → Nat :=
  let c2_124 : Index := 2#32
  let c1_125 : Index := 1#32
  let c0_i32_41 : BitVec 32 := 0#32
  let c1_i32_42 : BitVec 32 := 1#32
  let arg20 : BitVec 32 := Scf.iv c0_i32_41 c1_i32_42 k0_t1
  let c8_i32_48 : BitVec 32 := 8#32
  let v93 : BitVec 32 := Scalar.muli arg20 c8_i32_48
  let v94 : BitVec 32 := v93
  let v297 : Index := Scalar.indexCast v94
  let c0_126 : Index := 0#32
  ![2, 1, v297.toNat, 0]
def k0_off15 (k0_t1 : Fin k0_t1_loop.trips) : Fin 4 → Nat :=
  let c3_129 : Index := 3#32
  let c1_130 : Index := 1#32
  let c0_i32_41 : BitVec 32 := 0#32
  let c1_i32_42 : BitVec 32 := 1#32
  let arg20 : BitVec 32 := Scf.iv c0_i32_41 c1_i32_42 k0_t1
  let c8_i32_48 : BitVec 32 := 8#32
  let v93 : BitVec 32 := Scalar.muli arg20 c8_i32_48
  let v94 : BitVec 32 := v93
  let v309 : Index := Scalar.indexCast v94
  let c0_131 : Index := 0#32
  ![3, 1, v309.toNat, 0]
def k0_off16 (k0_t1 : Fin k0_t1_loop.trips) : Fin 4 → Nat :=
  let c4_134 : Index := 4#32
  let c1_135 : Index := 1#32
  let c0_i32_41 : BitVec 32 := 0#32
  let c1_i32_42 : BitVec 32 := 1#32
  let arg20 : BitVec 32 := Scf.iv c0_i32_41 c1_i32_42 k0_t1
  let c8_i32_48 : BitVec 32 := 8#32
  let v93 : BitVec 32 := Scalar.muli arg20 c8_i32_48
  let v94 : BitVec 32 := v93
  let v321 : Index := Scalar.indexCast v94
  let c0_136 : Index := 0#32
  ![4, 1, v321.toNat, 0]
def k0_off17 (k0_t1 : Fin k0_t1_loop.trips) : Fin 4 → Nat :=
  let c5_139 : Index := 5#32
  let c1_140 : Index := 1#32
  let c0_i32_41 : BitVec 32 := 0#32
  let c1_i32_42 : BitVec 32 := 1#32
  let arg20 : BitVec 32 := Scf.iv c0_i32_41 c1_i32_42 k0_t1
  let c8_i32_48 : BitVec 32 := 8#32
  let v93 : BitVec 32 := Scalar.muli arg20 c8_i32_48
  let v94 : BitVec 32 := v93
  let v333 : Index := Scalar.indexCast v94
  let c0_141 : Index := 0#32
  ![5, 1, v333.toNat, 0]
def k0_off18 (k0_t1 : Fin k0_t1_loop.trips) : Fin 4 → Nat :=
  let c6_144 : Index := 6#32
  let c1_145 : Index := 1#32
  let c0_i32_41 : BitVec 32 := 0#32
  let c1_i32_42 : BitVec 32 := 1#32
  let arg20 : BitVec 32 := Scf.iv c0_i32_41 c1_i32_42 k0_t1
  let c8_i32_48 : BitVec 32 := 8#32
  let v93 : BitVec 32 := Scalar.muli arg20 c8_i32_48
  let v94 : BitVec 32 := v93
  let v345 : Index := Scalar.indexCast v94
  let c0_146 : Index := 0#32
  ![6, 1, v345.toNat, 0]
def k0_off19 (k0_t1 : Fin k0_t1_loop.trips) : Fin 4 → Nat :=
  let c7_149 : Index := 7#32
  let c1_150 : Index := 1#32
  let c0_i32_41 : BitVec 32 := 0#32
  let c1_i32_42 : BitVec 32 := 1#32
  let arg20 : BitVec 32 := Scf.iv c0_i32_41 c1_i32_42 k0_t1
  let c8_i32_48 : BitVec 32 := 8#32
  let v93 : BitVec 32 := Scalar.muli arg20 c8_i32_48
  let v94 : BitVec 32 := v93
  let v357 : Index := Scalar.indexCast v94
  let c0_151 : Index := 0#32
  ![7, 1, v357.toNat, 0]
def k0_off20 (k0_t1 : Fin k0_t1_loop.trips) : Fin 4 → Nat :=
  let c8_154 : Index := 8#32
  let c1_155 : Index := 1#32
  let c0_i32_41 : BitVec 32 := 0#32
  let c1_i32_42 : BitVec 32 := 1#32
  let arg20 : BitVec 32 := Scf.iv c0_i32_41 c1_i32_42 k0_t1
  let c8_i32_48 : BitVec 32 := 8#32
  let v93 : BitVec 32 := Scalar.muli arg20 c8_i32_48
  let v94 : BitVec 32 := v93
  let v369 : Index := Scalar.indexCast v94
  let c0_156 : Index := 0#32
  ![8, 1, v369.toNat, 0]
def k0_off21 (k0_t1 : Fin k0_t1_loop.trips) : Fin 4 → Nat :=
  let c9_159 : Index := 9#32
  let c1_160 : Index := 1#32
  let c0_i32_41 : BitVec 32 := 0#32
  let c1_i32_42 : BitVec 32 := 1#32
  let arg20 : BitVec 32 := Scf.iv c0_i32_41 c1_i32_42 k0_t1
  let c8_i32_48 : BitVec 32 := 8#32
  let v93 : BitVec 32 := Scalar.muli arg20 c8_i32_48
  let v94 : BitVec 32 := v93
  let v381 : Index := Scalar.indexCast v94
  let c0_161 : Index := 0#32
  ![9, 1, v381.toNat, 0]
@[reducible] def k0_t2_loop : Scf.Loop 32 :=
  let c0_i32_44 : BitVec 32 := 0#32
  let c16_i32_45 : BitVec 32 := 16#32
  let v92 : BitVec 32 := Scalar.addi c0_i32_44 c16_i32_45
  let c1_i32_46 : BitVec 32 := 1#32
  ⟨c0_i32_44, v92, c1_i32_46⟩
def k0_mult5 (k0_t2 : Fin k0_t2_loop.trips) : BitVec 32 :=
  let c0_i32_44 : BitVec 32 := 0#32
  let c1_i32_46 : BitVec 32 := 1#32
  let arg20 : BitVec 32 := Scf.iv c0_i32_44 c1_i32_46 k0_t2
  let c256_i32_48 : BitVec 32 := 256#32
  let v93 : BitVec 32 := Scalar.muli arg20 c256_i32_48
  v93
@[reducible] def k0_t3_loop : Scf.Loop 32 :=
  let c0_i32_49 : BitVec 32 := 0#32
  let c16_i32_50 : BitVec 32 := 16#32
  let v95 : BitVec 32 := Scalar.addi c0_i32_49 c16_i32_50
  let c1_i32_51 : BitVec 32 := 1#32
  ⟨c0_i32_49, v95, c1_i32_51⟩
def k0_mult6 (k0_t2 : Fin k0_t2_loop.trips) (k0_t3 : Fin k0_t3_loop.trips) : BitVec 32 :=
  let c0_i32_44 : BitVec 32 := 0#32
  let c1_i32_46 : BitVec 32 := 1#32
  let arg20 : BitVec 32 := Scf.iv c0_i32_44 c1_i32_46 k0_t2
  let c256_i32_48 : BitVec 32 := 256#32
  let v93 : BitVec 32 := Scalar.muli arg20 c256_i32_48
  let v94 : BitVec 32 := v93
  let c0_i32_49 : BitVec 32 := 0#32
  let c1_i32_51 : BitVec 32 := 1#32
  let arg21 : BitVec 32 := Scf.iv c0_i32_49 c1_i32_51 k0_t3
  let c16_i32_134 : BitVec 32 := 16#32
  let v237 : BitVec 32 := Scalar.muli arg21 c16_i32_134
  let v238 : BitVec 32 := Scalar.addi v94 v237
  v238
def k0_off22 (k0_t2 : Fin k0_t2_loop.trips) (k0_t3 : Fin k0_t3_loop.trips) : Fin 2 → Nat :=
  let c0_i32_44 : BitVec 32 := 0#32
  let c1_i32_46 : BitVec 32 := 1#32
  let arg20 : BitVec 32 := Scf.iv c0_i32_44 c1_i32_46 k0_t2
  let c256_i32_48 : BitVec 32 := 256#32
  let v93 : BitVec 32 := Scalar.muli arg20 c256_i32_48
  let v94 : BitVec 32 := v93
  let c0_i32_49 : BitVec 32 := 0#32
  let c1_i32_51 : BitVec 32 := 1#32
  let arg21 : BitVec 32 := Scf.iv c0_i32_49 c1_i32_51 k0_t3
  let c16_i32_134 : BitVec 32 := 16#32
  let v237 : BitVec 32 := Scalar.muli arg21 c16_i32_134
  let v238 : BitVec 32 := Scalar.addi v94 v237
  let v239 : BitVec 32 := v238
  let v242 : Index := Scalar.indexCast v239
  let c0_136 : Index := 0#32
  ![v242.toNat, 0]
def k0_off23 (k0_t2 : Fin k0_t2_loop.trips) (k0_t3 : Fin k0_t3_loop.trips) : Fin 4 → Nat :=
  let c3 : Index := 3#32
  let c0_137 : Index := 0#32
  let c0_i32_44 : BitVec 32 := 0#32
  let c1_i32_46 : BitVec 32 := 1#32
  let arg20 : BitVec 32 := Scf.iv c0_i32_44 c1_i32_46 k0_t2
  let c16_i32_135 : BitVec 32 := 16#32
  let v240 : BitVec 32 := Scalar.muli arg20 c16_i32_135
  let c0_i32_49 : BitVec 32 := 0#32
  let c1_i32_51 : BitVec 32 := 1#32
  let arg21 : BitVec 32 := Scf.iv c0_i32_49 c1_i32_51 k0_t3
  let v241 : BitVec 32 := Scalar.addi v240 arg21
  let v246 : Index := Scalar.indexCast v241
  let c0_138 : Index := 0#32
  ![3, 0, v246.toNat, 0]
def k0_off24 (k0_t2 : Fin k0_t2_loop.trips) (k0_t3 : Fin k0_t3_loop.trips) : Fin 4 → Nat :=
  let c5 : Index := 5#32
  let c0_140 : Index := 0#32
  let c0_i32_44 : BitVec 32 := 0#32
  let c1_i32_46 : BitVec 32 := 1#32
  let arg20 : BitVec 32 := Scf.iv c0_i32_44 c1_i32_46 k0_t2
  let c16_i32_135 : BitVec 32 := 16#32
  let v240 : BitVec 32 := Scalar.muli arg20 c16_i32_135
  let c0_i32_49 : BitVec 32 := 0#32
  let c1_i32_51 : BitVec 32 := 1#32
  let arg21 : BitVec 32 := Scf.iv c0_i32_49 c1_i32_51 k0_t3
  let v241 : BitVec 32 := Scalar.addi v240 arg21
  let v253 : Index := Scalar.indexCast v241
  let c0_141 : Index := 0#32
  ![5, 0, v253.toNat, 0]
def k0_off25 (k0_t2 : Fin k0_t2_loop.trips) (k0_t3 : Fin k0_t3_loop.trips) : Fin 4 → Nat :=
  let c1_142 : Index := 1#32
  let c0_143 : Index := 0#32
  let c0_i32_44 : BitVec 32 := 0#32
  let c1_i32_46 : BitVec 32 := 1#32
  let arg20 : BitVec 32 := Scf.iv c0_i32_44 c1_i32_46 k0_t2
  let c16_i32_135 : BitVec 32 := 16#32
  let v240 : BitVec 32 := Scalar.muli arg20 c16_i32_135
  let c0_i32_49 : BitVec 32 := 0#32
  let c1_i32_51 : BitVec 32 := 1#32
  let arg21 : BitVec 32 := Scf.iv c0_i32_49 c1_i32_51 k0_t3
  let v241 : BitVec 32 := Scalar.addi v240 arg21
  let v256 : Index := Scalar.indexCast v241
  let c0_144 : Index := 0#32
  ![1, 0, v256.toNat, 0]
def k0_off26 (k0_t2 : Fin k0_t2_loop.trips) (k0_t3 : Fin k0_t3_loop.trips) : Fin 4 → Nat :=
  let c6 : Index := 6#32
  let c0_146 : Index := 0#32
  let c0_i32_44 : BitVec 32 := 0#32
  let c1_i32_46 : BitVec 32 := 1#32
  let arg20 : BitVec 32 := Scf.iv c0_i32_44 c1_i32_46 k0_t2
  let c16_i32_135 : BitVec 32 := 16#32
  let v240 : BitVec 32 := Scalar.muli arg20 c16_i32_135
  let c0_i32_49 : BitVec 32 := 0#32
  let c1_i32_51 : BitVec 32 := 1#32
  let arg21 : BitVec 32 := Scf.iv c0_i32_49 c1_i32_51 k0_t3
  let v241 : BitVec 32 := Scalar.addi v240 arg21
  let v264 : Index := Scalar.indexCast v241
  let c0_147 : Index := 0#32
  ![6, 0, v264.toNat, 0]
def k0_off27 (k0_t2 : Fin k0_t2_loop.trips) (k0_t3 : Fin k0_t3_loop.trips) : Fin 4 → Nat :=
  let c4 : Index := 4#32
  let c0_148 : Index := 0#32
  let c0_i32_44 : BitVec 32 := 0#32
  let c1_i32_46 : BitVec 32 := 1#32
  let arg20 : BitVec 32 := Scf.iv c0_i32_44 c1_i32_46 k0_t2
  let c16_i32_135 : BitVec 32 := 16#32
  let v240 : BitVec 32 := Scalar.muli arg20 c16_i32_135
  let c0_i32_49 : BitVec 32 := 0#32
  let c1_i32_51 : BitVec 32 := 1#32
  let arg21 : BitVec 32 := Scf.iv c0_i32_49 c1_i32_51 k0_t3
  let v241 : BitVec 32 := Scalar.addi v240 arg21
  let v267 : Index := Scalar.indexCast v241
  let c0_149 : Index := 0#32
  ![4, 0, v267.toNat, 0]
def k0_off28 (k0_t2 : Fin k0_t2_loop.trips) (k0_t3 : Fin k0_t3_loop.trips) : Fin 4 → Nat :=
  let c2 : Index := 2#32
  let c0_150 : Index := 0#32
  let c0_i32_44 : BitVec 32 := 0#32
  let c1_i32_46 : BitVec 32 := 1#32
  let arg20 : BitVec 32 := Scf.iv c0_i32_44 c1_i32_46 k0_t2
  let c16_i32_135 : BitVec 32 := 16#32
  let v240 : BitVec 32 := Scalar.muli arg20 c16_i32_135
  let c0_i32_49 : BitVec 32 := 0#32
  let c1_i32_51 : BitVec 32 := 1#32
  let arg21 : BitVec 32 := Scf.iv c0_i32_49 c1_i32_51 k0_t3
  let v241 : BitVec 32 := Scalar.addi v240 arg21
  let v271 : Index := Scalar.indexCast v241
  let c0_151 : Index := 0#32
  ![2, 0, v271.toNat, 0]
def k0_off29 (k0_t2 : Fin k0_t2_loop.trips) (k0_t3 : Fin k0_t3_loop.trips) : Fin 4 → Nat :=
  let c0_152 : Index := 0#32
  let c0_153 : Index := 0#32
  let c0_i32_44 : BitVec 32 := 0#32
  let c1_i32_46 : BitVec 32 := 1#32
  let arg20 : BitVec 32 := Scf.iv c0_i32_44 c1_i32_46 k0_t2
  let c16_i32_135 : BitVec 32 := 16#32
  let v240 : BitVec 32 := Scalar.muli arg20 c16_i32_135
  let c0_i32_49 : BitVec 32 := 0#32
  let c1_i32_51 : BitVec 32 := 1#32
  let arg21 : BitVec 32 := Scf.iv c0_i32_49 c1_i32_51 k0_t3
  let v241 : BitVec 32 := Scalar.addi v240 arg21
  let v274 : Index := Scalar.indexCast v241
  let c0_154 : Index := 0#32
  ![0, 0, v274.toNat, 0]
def k0_off30 (k0_t2 : Fin k0_t2_loop.trips) (k0_t3 : Fin k0_t3_loop.trips) : Fin 4 → Nat :=
  let c7 : Index := 7#32
  let c0_155 : Index := 0#32
  let c0_i32_44 : BitVec 32 := 0#32
  let c1_i32_46 : BitVec 32 := 1#32
  let arg20 : BitVec 32 := Scf.iv c0_i32_44 c1_i32_46 k0_t2
  let c16_i32_135 : BitVec 32 := 16#32
  let v240 : BitVec 32 := Scalar.muli arg20 c16_i32_135
  let c0_i32_49 : BitVec 32 := 0#32
  let c1_i32_51 : BitVec 32 := 1#32
  let arg21 : BitVec 32 := Scf.iv c0_i32_49 c1_i32_51 k0_t3
  let v241 : BitVec 32 := Scalar.addi v240 arg21
  let v281 : Index := Scalar.indexCast v241
  let c0_156 : Index := 0#32
  ![7, 0, v281.toNat, 0]
def k0_off31 (k0_t2 : Fin k0_t2_loop.trips) (k0_t3 : Fin k0_t3_loop.trips) : Fin 4 → Nat :=
  let c9 : Index := 9#32
  let c0_163 : Index := 0#32
  let c0_i32_44 : BitVec 32 := 0#32
  let c1_i32_46 : BitVec 32 := 1#32
  let arg20 : BitVec 32 := Scf.iv c0_i32_44 c1_i32_46 k0_t2
  let c16_i32_135 : BitVec 32 := 16#32
  let v240 : BitVec 32 := Scalar.muli arg20 c16_i32_135
  let c0_i32_49 : BitVec 32 := 0#32
  let c1_i32_51 : BitVec 32 := 1#32
  let arg21 : BitVec 32 := Scf.iv c0_i32_49 c1_i32_51 k0_t3
  let v241 : BitVec 32 := Scalar.addi v240 arg21
  let v311 : Index := Scalar.indexCast v241
  let c0_164 : Index := 0#32
  ![9, 0, v311.toNat, 0]
def k0_off32 (k0_t2 : Fin k0_t2_loop.trips) (k0_t3 : Fin k0_t3_loop.trips) : Fin 4 → Nat :=
  let c8 : Index := 8#32
  let c0_165 : Index := 0#32
  let c0_i32_44 : BitVec 32 := 0#32
  let c1_i32_46 : BitVec 32 := 1#32
  let arg20 : BitVec 32 := Scf.iv c0_i32_44 c1_i32_46 k0_t2
  let c16_i32_135 : BitVec 32 := 16#32
  let v240 : BitVec 32 := Scalar.muli arg20 c16_i32_135
  let c0_i32_49 : BitVec 32 := 0#32
  let c1_i32_51 : BitVec 32 := 1#32
  let arg21 : BitVec 32 := Scf.iv c0_i32_49 c1_i32_51 k0_t3
  let v241 : BitVec 32 := Scalar.addi v240 arg21
  let v314 : Index := Scalar.indexCast v241
  let c0_166 : Index := 0#32
  ![8, 0, v314.toNat, 0]
def k0_mult7 (k0_t3 : Fin k0_t3_loop.trips) : BitVec 32 :=
  let c0_i32_49 : BitVec 32 := 0#32
  let c1_i32_51 : BitVec 32 := 1#32
  let arg21 : BitVec 32 := Scf.iv c0_i32_49 c1_i32_51 k0_t3
  let c8_i32_173 : BitVec 32 := 8#32
  let v331 : BitVec 32 := Scalar.muli arg21 c8_i32_173
  v331
def k0_off33 (k0_t2 : Fin k0_t2_loop.trips) (k0_t3 : Fin k0_t3_loop.trips) : Fin 4 → Nat :=
  let c0_i32_44 : BitVec 32 := 0#32
  let c1_i32_46 : BitVec 32 := 1#32
  let arg20 : BitVec 32 := Scf.iv c0_i32_44 c1_i32_46 k0_t2
  let c2_i32_167 : BitVec 32 := 2#32
  let c0_i32_168 : BitVec 32 := 0#32
  let v321 : BitVec 1 := Scalar.cmpi .eq c2_i32_167 c0_i32_168
  let c1_i32_169 : BitVec 32 := 1#32
  let v322 : BitVec 32 := Scalar.select v321 c1_i32_169 c2_i32_167
  let v323 : BitVec 32 := Scalar.remsi arg20 v322
  let c0_i32_171 : BitVec 32 := 0#32
  let v325 : BitVec 1 := Scalar.cmpi .slt v323 c0_i32_171
  let c0_i32_172 : BitVec 32 := 0#32
  let v326 : BitVec 1 := Scalar.cmpi .slt v322 c0_i32_172
  let v327 : BitVec 1 := Scalar.xori v325 v326
  let c0_i32_170 : BitVec 32 := 0#32
  let v324 : BitVec 1 := Scalar.cmpi .ne v323 c0_i32_170
  let v328 : BitVec 1 := Scalar.andi v327 v324
  let v329 : BitVec 32 := Scalar.addi v323 v322
  let v330 : BitVec 32 := Scalar.select v328 v329 v323
  let v333 : Index := Scalar.indexCast v330
  let c0_174 : Index := 0#32
  let c0_i32_49 : BitVec 32 := 0#32
  let c1_i32_51 : BitVec 32 := 1#32
  let arg21 : BitVec 32 := Scf.iv c0_i32_49 c1_i32_51 k0_t3
  let c8_i32_173 : BitVec 32 := 8#32
  let v331 : BitVec 32 := Scalar.muli arg21 c8_i32_173
  let v332 : BitVec 32 := v331
  let v334 : Index := Scalar.indexCast v332
  let c0_175 : Index := 0#32
  ![v333.toNat, 0, v334.toNat, 0]
def k0_off34 (k0_t2 : Fin k0_t2_loop.trips) : Fin 4 → Nat :=
  let c0_i32_44 : BitVec 32 := 0#32
  let c1_i32_46 : BitVec 32 := 1#32
  let arg20 : BitVec 32 := Scf.iv c0_i32_44 c1_i32_46 k0_t2
  let c2_i32_53 : BitVec 32 := 2#32
  let c0_i32_54 : BitVec 32 := 0#32
  let v96 : BitVec 1 := Scalar.cmpi .eq c2_i32_53 c0_i32_54
  let c1_i32_55 : BitVec 32 := 1#32
  let v97 : BitVec 32 := Scalar.select v96 c1_i32_55 c2_i32_53
  let v98 : BitVec 32 := Scalar.remsi arg20 v97
  let c0_i32_57 : BitVec 32 := 0#32
  let v100 : BitVec 1 := Scalar.cmpi .slt v98 c0_i32_57
  let c0_i32_58 : BitVec 32 := 0#32
  let v101 : BitVec 1 := Scalar.cmpi .slt v97 c0_i32_58
  let v102 : BitVec 1 := Scalar.xori v100 v101
  let c0_i32_56 : BitVec 32 := 0#32
  let v99 : BitVec 1 := Scalar.cmpi .ne v98 c0_i32_56
  let v103 : BitVec 1 := Scalar.andi v102 v99
  let v104 : BitVec 32 := Scalar.addi v98 v97
  let v105 : BitVec 32 := Scalar.select v103 v104 v98
  let v106 : Index := Scalar.indexCast v105
  let c0_59 : Index := 0#32
  let c0_60 : Index := 0#32
  let c0_61 : Index := 0#32
  ![v106.toNat, 0, 0, 0]
def k0_mult8 (k0_t2 : Fin k0_t2_loop.trips) : BitVec 32 :=
  let c0_i32_44 : BitVec 32 := 0#32
  let c1_i32_46 : BitVec 32 := 1#32
  let arg20 : BitVec 32 := Scf.iv c0_i32_44 c1_i32_46 k0_t2
  let c128_i32 : BitVec 32 := 128#32
  let v116 : BitVec 32 := Scalar.muli arg20 c128_i32
  v116
def k0_off35 (k0_t2 : Fin k0_t2_loop.trips) : Fin 2 → Nat :=
  let c0_62 : Index := 0#32
  let c0_i32_44 : BitVec 32 := 0#32
  let c1_i32_46 : BitVec 32 := 1#32
  let arg20 : BitVec 32 := Scf.iv c0_i32_44 c1_i32_46 k0_t2
  let c128_i32 : BitVec 32 := 128#32
  let v116 : BitVec 32 := Scalar.muli arg20 c128_i32
  let v117 : BitVec 32 := v116
  let v118 : Index := Scalar.indexCast v117
  ![0, v118.toNat]
def k0_off36 (k0_t2 : Fin k0_t2_loop.trips) : Fin 4 → Nat :=
  let c0_i32_44 : BitVec 32 := 0#32
  let c1_i32_46 : BitVec 32 := 1#32
  let arg20 : BitVec 32 := Scf.iv c0_i32_44 c1_i32_46 k0_t2
  let c2_i32_72 : BitVec 32 := 2#32
  let c0_i32_73 : BitVec 32 := 0#32
  let v134 : BitVec 1 := Scalar.cmpi .eq c2_i32_72 c0_i32_73
  let c1_i32_74 : BitVec 32 := 1#32
  let v135 : BitVec 32 := Scalar.select v134 c1_i32_74 c2_i32_72
  let v136 : BitVec 32 := Scalar.remsi arg20 v135
  let c0_i32_76 : BitVec 32 := 0#32
  let v138 : BitVec 1 := Scalar.cmpi .slt v136 c0_i32_76
  let c0_i32_77 : BitVec 32 := 0#32
  let v139 : BitVec 1 := Scalar.cmpi .slt v135 c0_i32_77
  let v140 : BitVec 1 := Scalar.xori v138 v139
  let c0_i32_75 : BitVec 32 := 0#32
  let v137 : BitVec 1 := Scalar.cmpi .ne v136 c0_i32_75
  let v141 : BitVec 1 := Scalar.andi v140 v137
  let v142 : BitVec 32 := Scalar.addi v136 v135
  let v143 : BitVec 32 := Scalar.select v141 v142 v136
  let v144 : Index := Scalar.indexCast v143
  let c0_78 : Index := 0#32
  let c0_79 : Index := 0#32
  let c0_80 : Index := 0#32
  ![v144.toNat, 0, 0, 0]
def k0_off37 (k0_t2 : Fin k0_t2_loop.trips) : Fin 4 → Nat :=
  let c0_i32_44 : BitVec 32 := 0#32
  let c1_i32_46 : BitVec 32 := 1#32
  let arg20 : BitVec 32 := Scf.iv c0_i32_44 c1_i32_46 k0_t2
  let c2_i32_81 : BitVec 32 := 2#32
  let c0_i32_82 : BitVec 32 := 0#32
  let v147 : BitVec 1 := Scalar.cmpi .eq c2_i32_81 c0_i32_82
  let c1_i32_83 : BitVec 32 := 1#32
  let v148 : BitVec 32 := Scalar.select v147 c1_i32_83 c2_i32_81
  let v149 : BitVec 32 := Scalar.remsi arg20 v148
  let c0_i32_85 : BitVec 32 := 0#32
  let v151 : BitVec 1 := Scalar.cmpi .slt v149 c0_i32_85
  let c0_i32_86 : BitVec 32 := 0#32
  let v152 : BitVec 1 := Scalar.cmpi .slt v148 c0_i32_86
  let v153 : BitVec 1 := Scalar.xori v151 v152
  let c0_i32_84 : BitVec 32 := 0#32
  let v150 : BitVec 1 := Scalar.cmpi .ne v149 c0_i32_84
  let v154 : BitVec 1 := Scalar.andi v153 v150
  let v155 : BitVec 32 := Scalar.addi v149 v148
  let v156 : BitVec 32 := Scalar.select v154 v155 v149
  let v157 : Index := Scalar.indexCast v156
  let c0_87 : Index := 0#32
  let c1 : Index := 1#32
  let c0_88 : Index := 0#32
  ![v157.toNat, 0, 1, 0]
@[reducible] def k0_t4_loop : Scf.Loop 32 :=
  let c0_i32_89 : BitVec 32 := 0#32
  let c16_i32_90 : BitVec 32 := 16#32
  let v163 : BitVec 32 := Scalar.addi c0_i32_89 c16_i32_90
  let c1_i32_91 : BitVec 32 := 1#32
  ⟨c0_i32_89, v163, c1_i32_91⟩
def k0_mult9 (k0_t2 : Fin k0_t2_loop.trips) (k0_t4 : Fin k0_t4_loop.trips) : BitVec 32 :=
  let c0_i32_44 : BitVec 32 := 0#32
  let c1_i32_46 : BitVec 32 := 1#32
  let arg20 : BitVec 32 := Scf.iv c0_i32_44 c1_i32_46 k0_t2
  let c256_i32_48 : BitVec 32 := 256#32
  let v93 : BitVec 32 := Scalar.muli arg20 c256_i32_48
  let v94 : BitVec 32 := v93
  let c0_i32_89 : BitVec 32 := 0#32
  let c1_i32_91 : BitVec 32 := 1#32
  let arg21 : BitVec 32 := Scf.iv c0_i32_89 c1_i32_91 k0_t4
  let c16_i32_134 : BitVec 32 := 16#32
  let v237 : BitVec 32 := Scalar.muli arg21 c16_i32_134
  let v238 : BitVec 32 := Scalar.addi v94 v237
  v238
def k0_off38 (k0_t2 : Fin k0_t2_loop.trips) (k0_t4 : Fin k0_t4_loop.trips) : Fin 2 → Nat :=
  let c0_i32_44 : BitVec 32 := 0#32
  let c1_i32_46 : BitVec 32 := 1#32
  let arg20 : BitVec 32 := Scf.iv c0_i32_44 c1_i32_46 k0_t2
  let c256_i32_48 : BitVec 32 := 256#32
  let v93 : BitVec 32 := Scalar.muli arg20 c256_i32_48
  let v94 : BitVec 32 := v93
  let c0_i32_89 : BitVec 32 := 0#32
  let c1_i32_91 : BitVec 32 := 1#32
  let arg21 : BitVec 32 := Scf.iv c0_i32_89 c1_i32_91 k0_t4
  let c16_i32_134 : BitVec 32 := 16#32
  let v237 : BitVec 32 := Scalar.muli arg21 c16_i32_134
  let v238 : BitVec 32 := Scalar.addi v94 v237
  let v239 : BitVec 32 := v238
  let v242 : Index := Scalar.indexCast v239
  let c128_136 : Index := 128#32
  ![v242.toNat, 128]
def k0_off39 (k0_t2 : Fin k0_t2_loop.trips) (k0_t4 : Fin k0_t4_loop.trips) : Fin 4 → Nat :=
  let c3 : Index := 3#32
  let c1_137 : Index := 1#32
  let c0_i32_44 : BitVec 32 := 0#32
  let c1_i32_46 : BitVec 32 := 1#32
  let arg20 : BitVec 32 := Scf.iv c0_i32_44 c1_i32_46 k0_t2
  let c16_i32_135 : BitVec 32 := 16#32
  let v240 : BitVec 32 := Scalar.muli arg20 c16_i32_135
  let c0_i32_89 : BitVec 32 := 0#32
  let c1_i32_91 : BitVec 32 := 1#32
  let arg21 : BitVec 32 := Scf.iv c0_i32_89 c1_i32_91 k0_t4
  let v241 : BitVec 32 := Scalar.addi v240 arg21
  let v246 : Index := Scalar.indexCast v241
  let c0_138 : Index := 0#32
  ![3, 1, v246.toNat, 0]
def k0_off40 (k0_t2 : Fin k0_t2_loop.trips) (k0_t4 : Fin k0_t4_loop.trips) : Fin 4 → Nat :=
  let c5 : Index := 5#32
  let c1_140 : Index := 1#32
  let c0_i32_44 : BitVec 32 := 0#32
  let c1_i32_46 : BitVec 32 := 1#32
  let arg20 : BitVec 32 := Scf.iv c0_i32_44 c1_i32_46 k0_t2
  let c16_i32_135 : BitVec 32 := 16#32
  let v240 : BitVec 32 := Scalar.muli arg20 c16_i32_135
  let c0_i32_89 : BitVec 32 := 0#32
  let c1_i32_91 : BitVec 32 := 1#32
  let arg21 : BitVec 32 := Scf.iv c0_i32_89 c1_i32_91 k0_t4
  let v241 : BitVec 32 := Scalar.addi v240 arg21
  let v253 : Index := Scalar.indexCast v241
  let c0_141 : Index := 0#32
  ![5, 1, v253.toNat, 0]
def k0_off41 (k0_t2 : Fin k0_t2_loop.trips) (k0_t4 : Fin k0_t4_loop.trips) : Fin 4 → Nat :=
  let c1_142 : Index := 1#32
  let c1_143 : Index := 1#32
  let c0_i32_44 : BitVec 32 := 0#32
  let c1_i32_46 : BitVec 32 := 1#32
  let arg20 : BitVec 32 := Scf.iv c0_i32_44 c1_i32_46 k0_t2
  let c16_i32_135 : BitVec 32 := 16#32
  let v240 : BitVec 32 := Scalar.muli arg20 c16_i32_135
  let c0_i32_89 : BitVec 32 := 0#32
  let c1_i32_91 : BitVec 32 := 1#32
  let arg21 : BitVec 32 := Scf.iv c0_i32_89 c1_i32_91 k0_t4
  let v241 : BitVec 32 := Scalar.addi v240 arg21
  let v256 : Index := Scalar.indexCast v241
  let c0_144 : Index := 0#32
  ![1, 1, v256.toNat, 0]
def k0_off42 (k0_t2 : Fin k0_t2_loop.trips) (k0_t4 : Fin k0_t4_loop.trips) : Fin 4 → Nat :=
  let c6 : Index := 6#32
  let c1_146 : Index := 1#32
  let c0_i32_44 : BitVec 32 := 0#32
  let c1_i32_46 : BitVec 32 := 1#32
  let arg20 : BitVec 32 := Scf.iv c0_i32_44 c1_i32_46 k0_t2
  let c16_i32_135 : BitVec 32 := 16#32
  let v240 : BitVec 32 := Scalar.muli arg20 c16_i32_135
  let c0_i32_89 : BitVec 32 := 0#32
  let c1_i32_91 : BitVec 32 := 1#32
  let arg21 : BitVec 32 := Scf.iv c0_i32_89 c1_i32_91 k0_t4
  let v241 : BitVec 32 := Scalar.addi v240 arg21
  let v264 : Index := Scalar.indexCast v241
  let c0_147 : Index := 0#32
  ![6, 1, v264.toNat, 0]
def k0_off43 (k0_t2 : Fin k0_t2_loop.trips) (k0_t4 : Fin k0_t4_loop.trips) : Fin 4 → Nat :=
  let c4 : Index := 4#32
  let c1_148 : Index := 1#32
  let c0_i32_44 : BitVec 32 := 0#32
  let c1_i32_46 : BitVec 32 := 1#32
  let arg20 : BitVec 32 := Scf.iv c0_i32_44 c1_i32_46 k0_t2
  let c16_i32_135 : BitVec 32 := 16#32
  let v240 : BitVec 32 := Scalar.muli arg20 c16_i32_135
  let c0_i32_89 : BitVec 32 := 0#32
  let c1_i32_91 : BitVec 32 := 1#32
  let arg21 : BitVec 32 := Scf.iv c0_i32_89 c1_i32_91 k0_t4
  let v241 : BitVec 32 := Scalar.addi v240 arg21
  let v267 : Index := Scalar.indexCast v241
  let c0_149 : Index := 0#32
  ![4, 1, v267.toNat, 0]
def k0_off44 (k0_t2 : Fin k0_t2_loop.trips) (k0_t4 : Fin k0_t4_loop.trips) : Fin 4 → Nat :=
  let c2 : Index := 2#32
  let c1_150 : Index := 1#32
  let c0_i32_44 : BitVec 32 := 0#32
  let c1_i32_46 : BitVec 32 := 1#32
  let arg20 : BitVec 32 := Scf.iv c0_i32_44 c1_i32_46 k0_t2
  let c16_i32_135 : BitVec 32 := 16#32
  let v240 : BitVec 32 := Scalar.muli arg20 c16_i32_135
  let c0_i32_89 : BitVec 32 := 0#32
  let c1_i32_91 : BitVec 32 := 1#32
  let arg21 : BitVec 32 := Scf.iv c0_i32_89 c1_i32_91 k0_t4
  let v241 : BitVec 32 := Scalar.addi v240 arg21
  let v271 : Index := Scalar.indexCast v241
  let c0_151 : Index := 0#32
  ![2, 1, v271.toNat, 0]
def k0_off45 (k0_t2 : Fin k0_t2_loop.trips) (k0_t4 : Fin k0_t4_loop.trips) : Fin 4 → Nat :=
  let c0_152 : Index := 0#32
  let c1_153 : Index := 1#32
  let c0_i32_44 : BitVec 32 := 0#32
  let c1_i32_46 : BitVec 32 := 1#32
  let arg20 : BitVec 32 := Scf.iv c0_i32_44 c1_i32_46 k0_t2
  let c16_i32_135 : BitVec 32 := 16#32
  let v240 : BitVec 32 := Scalar.muli arg20 c16_i32_135
  let c0_i32_89 : BitVec 32 := 0#32
  let c1_i32_91 : BitVec 32 := 1#32
  let arg21 : BitVec 32 := Scf.iv c0_i32_89 c1_i32_91 k0_t4
  let v241 : BitVec 32 := Scalar.addi v240 arg21
  let v274 : Index := Scalar.indexCast v241
  let c0_154 : Index := 0#32
  ![0, 1, v274.toNat, 0]
def k0_off46 (k0_t2 : Fin k0_t2_loop.trips) (k0_t4 : Fin k0_t4_loop.trips) : Fin 4 → Nat :=
  let c7 : Index := 7#32
  let c1_155 : Index := 1#32
  let c0_i32_44 : BitVec 32 := 0#32
  let c1_i32_46 : BitVec 32 := 1#32
  let arg20 : BitVec 32 := Scf.iv c0_i32_44 c1_i32_46 k0_t2
  let c16_i32_135 : BitVec 32 := 16#32
  let v240 : BitVec 32 := Scalar.muli arg20 c16_i32_135
  let c0_i32_89 : BitVec 32 := 0#32
  let c1_i32_91 : BitVec 32 := 1#32
  let arg21 : BitVec 32 := Scf.iv c0_i32_89 c1_i32_91 k0_t4
  let v241 : BitVec 32 := Scalar.addi v240 arg21
  let v281 : Index := Scalar.indexCast v241
  let c0_156 : Index := 0#32
  ![7, 1, v281.toNat, 0]
def k0_off47 (k0_t2 : Fin k0_t2_loop.trips) (k0_t4 : Fin k0_t4_loop.trips) : Fin 4 → Nat :=
  let c9 : Index := 9#32
  let c1_163 : Index := 1#32
  let c0_i32_44 : BitVec 32 := 0#32
  let c1_i32_46 : BitVec 32 := 1#32
  let arg20 : BitVec 32 := Scf.iv c0_i32_44 c1_i32_46 k0_t2
  let c16_i32_135 : BitVec 32 := 16#32
  let v240 : BitVec 32 := Scalar.muli arg20 c16_i32_135
  let c0_i32_89 : BitVec 32 := 0#32
  let c1_i32_91 : BitVec 32 := 1#32
  let arg21 : BitVec 32 := Scf.iv c0_i32_89 c1_i32_91 k0_t4
  let v241 : BitVec 32 := Scalar.addi v240 arg21
  let v311 : Index := Scalar.indexCast v241
  let c0_164 : Index := 0#32
  ![9, 1, v311.toNat, 0]
def k0_off48 (k0_t2 : Fin k0_t2_loop.trips) (k0_t4 : Fin k0_t4_loop.trips) : Fin 4 → Nat :=
  let c8 : Index := 8#32
  let c1_165 : Index := 1#32
  let c0_i32_44 : BitVec 32 := 0#32
  let c1_i32_46 : BitVec 32 := 1#32
  let arg20 : BitVec 32 := Scf.iv c0_i32_44 c1_i32_46 k0_t2
  let c16_i32_135 : BitVec 32 := 16#32
  let v240 : BitVec 32 := Scalar.muli arg20 c16_i32_135
  let c0_i32_89 : BitVec 32 := 0#32
  let c1_i32_91 : BitVec 32 := 1#32
  let arg21 : BitVec 32 := Scf.iv c0_i32_89 c1_i32_91 k0_t4
  let v241 : BitVec 32 := Scalar.addi v240 arg21
  let v314 : Index := Scalar.indexCast v241
  let c0_166 : Index := 0#32
  ![8, 1, v314.toNat, 0]
def k0_mult10 (k0_t4 : Fin k0_t4_loop.trips) : BitVec 32 :=
  let c0_i32_89 : BitVec 32 := 0#32
  let c1_i32_91 : BitVec 32 := 1#32
  let arg21 : BitVec 32 := Scf.iv c0_i32_89 c1_i32_91 k0_t4
  let c8_i32_173 : BitVec 32 := 8#32
  let v331 : BitVec 32 := Scalar.muli arg21 c8_i32_173
  v331
def k0_off49 (k0_t2 : Fin k0_t2_loop.trips) (k0_t4 : Fin k0_t4_loop.trips) : Fin 4 → Nat :=
  let c0_i32_44 : BitVec 32 := 0#32
  let c1_i32_46 : BitVec 32 := 1#32
  let arg20 : BitVec 32 := Scf.iv c0_i32_44 c1_i32_46 k0_t2
  let c2_i32_167 : BitVec 32 := 2#32
  let c0_i32_168 : BitVec 32 := 0#32
  let v321 : BitVec 1 := Scalar.cmpi .eq c2_i32_167 c0_i32_168
  let c1_i32_169 : BitVec 32 := 1#32
  let v322 : BitVec 32 := Scalar.select v321 c1_i32_169 c2_i32_167
  let v323 : BitVec 32 := Scalar.remsi arg20 v322
  let c0_i32_171 : BitVec 32 := 0#32
  let v325 : BitVec 1 := Scalar.cmpi .slt v323 c0_i32_171
  let c0_i32_172 : BitVec 32 := 0#32
  let v326 : BitVec 1 := Scalar.cmpi .slt v322 c0_i32_172
  let v327 : BitVec 1 := Scalar.xori v325 v326
  let c0_i32_170 : BitVec 32 := 0#32
  let v324 : BitVec 1 := Scalar.cmpi .ne v323 c0_i32_170
  let v328 : BitVec 1 := Scalar.andi v327 v324
  let v329 : BitVec 32 := Scalar.addi v323 v322
  let v330 : BitVec 32 := Scalar.select v328 v329 v323
  let v333 : Index := Scalar.indexCast v330
  let c1_174 : Index := 1#32
  let c0_i32_89 : BitVec 32 := 0#32
  let c1_i32_91 : BitVec 32 := 1#32
  let arg21 : BitVec 32 := Scf.iv c0_i32_89 c1_i32_91 k0_t4
  let c8_i32_173 : BitVec 32 := 8#32
  let v331 : BitVec 32 := Scalar.muli arg21 c8_i32_173
  let v332 : BitVec 32 := v331
  let v334 : Index := Scalar.indexCast v332
  let c0_175 : Index := 0#32
  ![v333.toNat, 1, v334.toNat, 0]
def k0_off50 (k0_t2 : Fin k0_t2_loop.trips) : Fin 4 → Nat :=
  let c0_i32_44 : BitVec 32 := 0#32
  let c1_i32_46 : BitVec 32 := 1#32
  let arg20 : BitVec 32 := Scf.iv c0_i32_44 c1_i32_46 k0_t2
  let c2_i32_93 : BitVec 32 := 2#32
  let c0_i32_94 : BitVec 32 := 0#32
  let v164 : BitVec 1 := Scalar.cmpi .eq c2_i32_93 c0_i32_94
  let c1_i32_95 : BitVec 32 := 1#32
  let v165 : BitVec 32 := Scalar.select v164 c1_i32_95 c2_i32_93
  let v166 : BitVec 32 := Scalar.remsi arg20 v165
  let c0_i32_97 : BitVec 32 := 0#32
  let v168 : BitVec 1 := Scalar.cmpi .slt v166 c0_i32_97
  let c0_i32_98 : BitVec 32 := 0#32
  let v169 : BitVec 1 := Scalar.cmpi .slt v165 c0_i32_98
  let v170 : BitVec 1 := Scalar.xori v168 v169
  let c0_i32_96 : BitVec 32 := 0#32
  let v167 : BitVec 1 := Scalar.cmpi .ne v166 c0_i32_96
  let v171 : BitVec 1 := Scalar.andi v170 v167
  let v172 : BitVec 32 := Scalar.addi v166 v165
  let v173 : BitVec 32 := Scalar.select v171 v172 v166
  let v174 : Index := Scalar.indexCast v173
  let c1_99 : Index := 1#32
  let c0_100 : Index := 0#32
  let c0_101 : Index := 0#32
  ![v174.toNat, 1, 0, 0]
def k0_mult11 (k0_t2 : Fin k0_t2_loop.trips) : BitVec 32 :=
  let c0_i32_44 : BitVec 32 := 0#32
  let c1_i32_46 : BitVec 32 := 1#32
  let arg20 : BitVec 32 := Scf.iv c0_i32_44 c1_i32_46 k0_t2
  let c128_i32_104 : BitVec 32 := 128#32
  let v184 : BitVec 32 := Scalar.muli arg20 c128_i32_104
  v184
def k0_off51 (k0_t2 : Fin k0_t2_loop.trips) : Fin 2 → Nat :=
  let c128 : Index := 128#32
  let c0_i32_44 : BitVec 32 := 0#32
  let c1_i32_46 : BitVec 32 := 1#32
  let arg20 : BitVec 32 := Scf.iv c0_i32_44 c1_i32_46 k0_t2
  let c128_i32_104 : BitVec 32 := 128#32
  let v184 : BitVec 32 := Scalar.muli arg20 c128_i32_104
  let v185 : BitVec 32 := v184
  let v186 : Index := Scalar.indexCast v185
  ![128, v186.toNat]
def k0_off52 (k0_t2 : Fin k0_t2_loop.trips) : Fin 4 → Nat :=
  let c0_i32_44 : BitVec 32 := 0#32
  let c1_i32_46 : BitVec 32 := 1#32
  let arg20 : BitVec 32 := Scf.iv c0_i32_44 c1_i32_46 k0_t2
  let c2_i32_114 : BitVec 32 := 2#32
  let c0_i32_115 : BitVec 32 := 0#32
  let v202 : BitVec 1 := Scalar.cmpi .eq c2_i32_114 c0_i32_115
  let c1_i32_116 : BitVec 32 := 1#32
  let v203 : BitVec 32 := Scalar.select v202 c1_i32_116 c2_i32_114
  let v204 : BitVec 32 := Scalar.remsi arg20 v203
  let c0_i32_118 : BitVec 32 := 0#32
  let v206 : BitVec 1 := Scalar.cmpi .slt v204 c0_i32_118
  let c0_i32_119 : BitVec 32 := 0#32
  let v207 : BitVec 1 := Scalar.cmpi .slt v203 c0_i32_119
  let v208 : BitVec 1 := Scalar.xori v206 v207
  let c0_i32_117 : BitVec 32 := 0#32
  let v205 : BitVec 1 := Scalar.cmpi .ne v204 c0_i32_117
  let v209 : BitVec 1 := Scalar.andi v208 v205
  let v210 : BitVec 32 := Scalar.addi v204 v203
  let v211 : BitVec 32 := Scalar.select v209 v210 v204
  let v212 : Index := Scalar.indexCast v211
  let c1_120 : Index := 1#32
  let c0_121 : Index := 0#32
  let c0_122 : Index := 0#32
  ![v212.toNat, 1, 0, 0]
def k0_off53 (k0_t2 : Fin k0_t2_loop.trips) : Fin 4 → Nat :=
  let c0_i32_44 : BitVec 32 := 0#32
  let c1_i32_46 : BitVec 32 := 1#32
  let arg20 : BitVec 32 := Scf.iv c0_i32_44 c1_i32_46 k0_t2
  let c2_i32_123 : BitVec 32 := 2#32
  let c0_i32_124 : BitVec 32 := 0#32
  let v215 : BitVec 1 := Scalar.cmpi .eq c2_i32_123 c0_i32_124
  let c1_i32_125 : BitVec 32 := 1#32
  let v216 : BitVec 32 := Scalar.select v215 c1_i32_125 c2_i32_123
  let v217 : BitVec 32 := Scalar.remsi arg20 v216
  let c0_i32_127 : BitVec 32 := 0#32
  let v219 : BitVec 1 := Scalar.cmpi .slt v217 c0_i32_127
  let c0_i32_128 : BitVec 32 := 0#32
  let v220 : BitVec 1 := Scalar.cmpi .slt v216 c0_i32_128
  let v221 : BitVec 1 := Scalar.xori v219 v220
  let c0_i32_126 : BitVec 32 := 0#32
  let v218 : BitVec 1 := Scalar.cmpi .ne v217 c0_i32_126
  let v222 : BitVec 1 := Scalar.andi v221 v218
  let v223 : BitVec 32 := Scalar.addi v217 v216
  let v224 : BitVec 32 := Scalar.select v222 v223 v217
  let v225 : Index := Scalar.indexCast v224
  let c1_129 : Index := 1#32
  let c1_130 : Index := 1#32
  let c0_131 : Index := 0#32
  ![v225.toNat, 1, 1, 0]
def k0_off54 (k0_t2 : Fin k0_t2_loop.trips) : Fin 2 → Nat :=
  let c0_i32_44 : BitVec 32 := 0#32
  let c1_i32_46 : BitVec 32 := 1#32
  let arg20 : BitVec 32 := Scf.iv c0_i32_44 c1_i32_46 k0_t2
  let c256_i32_48 : BitVec 32 := 256#32
  let v93 : BitVec 32 := Scalar.muli arg20 c256_i32_48
  let v94 : BitVec 32 := v93
  let v235 : Index := Scalar.indexCast v94
  let c0_133 : Index := 0#32
  ![v235.toNat, 0]
def k0_cond3 (i : grid0.Coords) : BitVec 1 :=
  let arg0 : BitVec 32 := BitVec.ofNat 32 (i 0).val
  let c0_i32_3 : BitVec 32 := 0#32
  let v7 : BitVec 1 := Scalar.cmpi .sgt arg0 c0_i32_3
  let c2_i32 : BitVec 32 := 2#32
  let c0_i32_4 : BitVec 32 := 0#32
  let v8 : BitVec 1 := Scalar.cmpi .eq c2_i32 c0_i32_4
  let c1_i32 : BitVec 32 := 1#32
  let v9 : BitVec 32 := Scalar.select v8 c1_i32 c2_i32
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c0_i32_8 : BitVec 32 := 0#32
  let v18 : BitVec 1 := Scalar.cmpi .eq v17 c0_i32_8
  let v19 : BitVec 1 := Scalar.andi v7 v18
  let v20 : BitVec 32 := Scalar.extui v19
  let c0_i32_9 : BitVec 32 := 0#32
  let v21 : BitVec 1 := Scalar.cmpi .ne v20 c0_i32_9
  v21

def k0_mult12 (i : grid0.Coords) : BitVec 32 :=
  let arg0 : BitVec 32 := BitVec.ofNat 32 (i 0).val
  let c55_i32 : BitVec 32 := 55#32
  let v37 : BitVec 32 := Scalar.minsi arg0 c55_i32
  let c256_i32 : BitVec 32 := 256#32
  let v38 : BitVec 32 := Scalar.muli v37 c256_i32
  v38
def k0_off55 (i : grid0.Coords) : Fin 2 → Nat :=
  let c0_i32_20 : BitVec 32 := 0#32
  let arg0 : BitVec 32 := BitVec.ofNat 32 (i 0).val
  let c55_i32 : BitVec 32 := 55#32
  let v37 : BitVec 32 := Scalar.minsi arg0 c55_i32
  let c256_i32 : BitVec 32 := 256#32
  let v38 : BitVec 32 := Scalar.muli v37 c256_i32
  let v39 : BitVec 32 := v38
  ![0, v39.toNat]
def k0_cond4 (i : grid0.Coords) : BitVec 1 :=
  let arg0 : BitVec 32 := BitVec.ofNat 32 (i 0).val
  let c56_i32 : BitVec 32 := 56#32
  let v43 : BitVec 1 := Scalar.cmpi .slt arg0 c56_i32
  let v44 : BitVec 32 := Scalar.extui v43
  let c0_i32_21 : BitVec 32 := 0#32
  let v45 : BitVec 1 := Scalar.cmpi .ne v44 c0_i32_21
  v45

def k0_mult13 (i : grid0.Coords) : BitVec 32 :=
  let arg0 : BitVec 32 := BitVec.ofNat 32 (i 0).val
  let c1_i32_47 : BitVec 32 := 1#32
  let v95 : BitVec 32 := Scalar.addi arg0 c1_i32_47
  let c55_i32_48 : BitVec 32 := 55#32
  let v96 : BitVec 32 := Scalar.minsi v95 c55_i32_48
  let c256_i32_49 : BitVec 32 := 256#32
  let v97 : BitVec 32 := Scalar.muli v96 c256_i32_49
  v97
def k0_off56 (i : grid0.Coords) : Fin 2 → Nat :=
  let c0_i32_51 : BitVec 32 := 0#32
  let arg0 : BitVec 32 := BitVec.ofNat 32 (i 0).val
  let c1_i32_47 : BitVec 32 := 1#32
  let v95 : BitVec 32 := Scalar.addi arg0 c1_i32_47
  let c55_i32_48 : BitVec 32 := 55#32
  let v96 : BitVec 32 := Scalar.minsi v95 c55_i32_48
  let c256_i32_49 : BitVec 32 := 256#32
  let v97 : BitVec 32 := Scalar.muli v96 c256_i32_49
  let v98 : BitVec 32 := v97
  ![0, v98.toNat]
@[reducible] def k0_t5_loop : Scf.Loop 32 :=
  let c0_i32_40 : BitVec 32 := 0#32
  let c32_i32 : BitVec 32 := 32#32
  let v93 : BitVec 32 := Scalar.addi c0_i32_40 c32_i32
  let c1_i32_41 : BitVec 32 := 1#32
  ⟨c0_i32_40, v93, c1_i32_41⟩
def k0_mult14 (k0_t5 : Fin k0_t5_loop.trips) : BitVec 32 :=
  let c0_i32_40 : BitVec 32 := 0#32
  let c1_i32_41 : BitVec 32 := 1#32
  let arg20 : BitVec 32 := Scf.iv c0_i32_40 c1_i32_41 k0_t5
  let c8_i32_47 : BitVec 32 := 8#32
  let v95 : BitVec 32 := Scalar.muli arg20 c8_i32_47
  v95
def k0_off57 (k0_t5 : Fin k0_t5_loop.trips) : Fin 2 → Nat :=
  let c0_i32_40 : BitVec 32 := 0#32
  let c1_i32_41 : BitVec 32 := 1#32
  let arg20 : BitVec 32 := Scf.iv c0_i32_40 c1_i32_41 k0_t5
  let c8_i32_47 : BitVec 32 := 8#32
  let v95 : BitVec 32 := Scalar.muli arg20 c8_i32_47
  let v96 : BitVec 32 := v95
  let v97 : Index := Scalar.indexCast v96
  let c0_48 : Index := 0#32
  ![v97.toNat, 0]
def k0_off58 (k0_t5 : Fin k0_t5_loop.trips) : Fin 4 → Nat :=
  let c0_71 : Index := 0#32
  let c0_72 : Index := 0#32
  let c0_i32_40 : BitVec 32 := 0#32
  let c1_i32_41 : BitVec 32 := 1#32
  let arg20 : BitVec 32 := Scf.iv c0_i32_40 c1_i32_41 k0_t5
  let c8_i32_47 : BitVec 32 := 8#32
  let v95 : BitVec 32 := Scalar.muli arg20 c8_i32_47
  let v96 : BitVec 32 := v95
  let v153 : Index := Scalar.indexCast v96
  let c0_73 : Index := 0#32
  ![0, 0, v153.toNat, 0]
def k0_off59 (k0_t5 : Fin k0_t5_loop.trips) : Fin 4 → Nat :=
  let c1 : Index := 1#32
  let c0_76 : Index := 0#32
  let c0_i32_40 : BitVec 32 := 0#32
  let c1_i32_41 : BitVec 32 := 1#32
  let arg20 : BitVec 32 := Scf.iv c0_i32_40 c1_i32_41 k0_t5
  let c8_i32_47 : BitVec 32 := 8#32
  let v95 : BitVec 32 := Scalar.muli arg20 c8_i32_47
  let v96 : BitVec 32 := v95
  let v165 : Index := Scalar.indexCast v96
  let c0_77 : Index := 0#32
  ![1, 0, v165.toNat, 0]
def k0_off60 (k0_t5 : Fin k0_t5_loop.trips) : Fin 4 → Nat :=
  let c2 : Index := 2#32
  let c0_80 : Index := 0#32
  let c0_i32_40 : BitVec 32 := 0#32
  let c1_i32_41 : BitVec 32 := 1#32
  let arg20 : BitVec 32 := Scf.iv c0_i32_40 c1_i32_41 k0_t5
  let c8_i32_47 : BitVec 32 := 8#32
  let v95 : BitVec 32 := Scalar.muli arg20 c8_i32_47
  let v96 : BitVec 32 := v95
  let v177 : Index := Scalar.indexCast v96
  let c0_81 : Index := 0#32
  ![2, 0, v177.toNat, 0]
def k0_off61 (k0_t5 : Fin k0_t5_loop.trips) : Fin 4 → Nat :=
  let c3 : Index := 3#32
  let c0_84 : Index := 0#32
  let c0_i32_40 : BitVec 32 := 0#32
  let c1_i32_41 : BitVec 32 := 1#32
  let arg20 : BitVec 32 := Scf.iv c0_i32_40 c1_i32_41 k0_t5
  let c8_i32_47 : BitVec 32 := 8#32
  let v95 : BitVec 32 := Scalar.muli arg20 c8_i32_47
  let v96 : BitVec 32 := v95
  let v189 : Index := Scalar.indexCast v96
  let c0_85 : Index := 0#32
  ![3, 0, v189.toNat, 0]
def k0_off62 (k0_t5 : Fin k0_t5_loop.trips) : Fin 4 → Nat :=
  let c4 : Index := 4#32
  let c0_88 : Index := 0#32
  let c0_i32_40 : BitVec 32 := 0#32
  let c1_i32_41 : BitVec 32 := 1#32
  let arg20 : BitVec 32 := Scf.iv c0_i32_40 c1_i32_41 k0_t5
  let c8_i32_47 : BitVec 32 := 8#32
  let v95 : BitVec 32 := Scalar.muli arg20 c8_i32_47
  let v96 : BitVec 32 := v95
  let v201 : Index := Scalar.indexCast v96
  let c0_89 : Index := 0#32
  ![4, 0, v201.toNat, 0]
def k0_off63 (k0_t5 : Fin k0_t5_loop.trips) : Fin 4 → Nat :=
  let c5 : Index := 5#32
  let c0_92 : Index := 0#32
  let c0_i32_40 : BitVec 32 := 0#32
  let c1_i32_41 : BitVec 32 := 1#32
  let arg20 : BitVec 32 := Scf.iv c0_i32_40 c1_i32_41 k0_t5
  let c8_i32_47 : BitVec 32 := 8#32
  let v95 : BitVec 32 := Scalar.muli arg20 c8_i32_47
  let v96 : BitVec 32 := v95
  let v213 : Index := Scalar.indexCast v96
  let c0_93 : Index := 0#32
  ![5, 0, v213.toNat, 0]
def k0_off64 (k0_t5 : Fin k0_t5_loop.trips) : Fin 4 → Nat :=
  let c6 : Index := 6#32
  let c0_96 : Index := 0#32
  let c0_i32_40 : BitVec 32 := 0#32
  let c1_i32_41 : BitVec 32 := 1#32
  let arg20 : BitVec 32 := Scf.iv c0_i32_40 c1_i32_41 k0_t5
  let c8_i32_47 : BitVec 32 := 8#32
  let v95 : BitVec 32 := Scalar.muli arg20 c8_i32_47
  let v96 : BitVec 32 := v95
  let v225 : Index := Scalar.indexCast v96
  let c0_97 : Index := 0#32
  ![6, 0, v225.toNat, 0]
def k0_off65 (k0_t5 : Fin k0_t5_loop.trips) : Fin 4 → Nat :=
  let c7 : Index := 7#32
  let c0_100 : Index := 0#32
  let c0_i32_40 : BitVec 32 := 0#32
  let c1_i32_41 : BitVec 32 := 1#32
  let arg20 : BitVec 32 := Scf.iv c0_i32_40 c1_i32_41 k0_t5
  let c8_i32_47 : BitVec 32 := 8#32
  let v95 : BitVec 32 := Scalar.muli arg20 c8_i32_47
  let v96 : BitVec 32 := v95
  let v237 : Index := Scalar.indexCast v96
  let c0_101 : Index := 0#32
  ![7, 0, v237.toNat, 0]
def k0_off66 (k0_t5 : Fin k0_t5_loop.trips) : Fin 4 → Nat :=
  let c8 : Index := 8#32
  let c0_104 : Index := 0#32
  let c0_i32_40 : BitVec 32 := 0#32
  let c1_i32_41 : BitVec 32 := 1#32
  let arg20 : BitVec 32 := Scf.iv c0_i32_40 c1_i32_41 k0_t5
  let c8_i32_47 : BitVec 32 := 8#32
  let v95 : BitVec 32 := Scalar.muli arg20 c8_i32_47
  let v96 : BitVec 32 := v95
  let v249 : Index := Scalar.indexCast v96
  let c0_105 : Index := 0#32
  ![8, 0, v249.toNat, 0]
def k0_off67 (k0_t5 : Fin k0_t5_loop.trips) : Fin 4 → Nat :=
  let c9 : Index := 9#32
  let c0_108 : Index := 0#32
  let c0_i32_40 : BitVec 32 := 0#32
  let c1_i32_41 : BitVec 32 := 1#32
  let arg20 : BitVec 32 := Scf.iv c0_i32_40 c1_i32_41 k0_t5
  let c8_i32_47 : BitVec 32 := 8#32
  let v95 : BitVec 32 := Scalar.muli arg20 c8_i32_47
  let v96 : BitVec 32 := v95
  let v261 : Index := Scalar.indexCast v96
  let c0_109 : Index := 0#32
  ![9, 0, v261.toNat, 0]
def k0_off68 (k0_t5 : Fin k0_t5_loop.trips) : Fin 4 → Nat :=
  let c0_113 : Index := 0#32
  let c1_114 : Index := 1#32
  let c0_i32_40 : BitVec 32 := 0#32
  let c1_i32_41 : BitVec 32 := 1#32
  let arg20 : BitVec 32 := Scf.iv c0_i32_40 c1_i32_41 k0_t5
  let c8_i32_47 : BitVec 32 := 8#32
  let v95 : BitVec 32 := Scalar.muli arg20 c8_i32_47
  let v96 : BitVec 32 := v95
  let v275 : Index := Scalar.indexCast v96
  let c0_115 : Index := 0#32
  ![0, 1, v275.toNat, 0]
def k0_off69 (k0_t5 : Fin k0_t5_loop.trips) : Fin 4 → Nat :=
  let c1_118 : Index := 1#32
  let c1_119 : Index := 1#32
  let c0_i32_40 : BitVec 32 := 0#32
  let c1_i32_41 : BitVec 32 := 1#32
  let arg20 : BitVec 32 := Scf.iv c0_i32_40 c1_i32_41 k0_t5
  let c8_i32_47 : BitVec 32 := 8#32
  let v95 : BitVec 32 := Scalar.muli arg20 c8_i32_47
  let v96 : BitVec 32 := v95
  let v287 : Index := Scalar.indexCast v96
  let c0_120 : Index := 0#32
  ![1, 1, v287.toNat, 0]
def k0_off70 (k0_t5 : Fin k0_t5_loop.trips) : Fin 4 → Nat :=
  let c2_123 : Index := 2#32
  let c1_124 : Index := 1#32
  let c0_i32_40 : BitVec 32 := 0#32
  let c1_i32_41 : BitVec 32 := 1#32
  let arg20 : BitVec 32 := Scf.iv c0_i32_40 c1_i32_41 k0_t5
  let c8_i32_47 : BitVec 32 := 8#32
  let v95 : BitVec 32 := Scalar.muli arg20 c8_i32_47
  let v96 : BitVec 32 := v95
  let v299 : Index := Scalar.indexCast v96
  let c0_125 : Index := 0#32
  ![2, 1, v299.toNat, 0]
def k0_off71 (k0_t5 : Fin k0_t5_loop.trips) : Fin 4 → Nat :=
  let c3_128 : Index := 3#32
  let c1_129 : Index := 1#32
  let c0_i32_40 : BitVec 32 := 0#32
  let c1_i32_41 : BitVec 32 := 1#32
  let arg20 : BitVec 32 := Scf.iv c0_i32_40 c1_i32_41 k0_t5
  let c8_i32_47 : BitVec 32 := 8#32
  let v95 : BitVec 32 := Scalar.muli arg20 c8_i32_47
  let v96 : BitVec 32 := v95
  let v311 : Index := Scalar.indexCast v96
  let c0_130 : Index := 0#32
  ![3, 1, v311.toNat, 0]
def k0_off72 (k0_t5 : Fin k0_t5_loop.trips) : Fin 4 → Nat :=
  let c4_133 : Index := 4#32
  let c1_134 : Index := 1#32
  let c0_i32_40 : BitVec 32 := 0#32
  let c1_i32_41 : BitVec 32 := 1#32
  let arg20 : BitVec 32 := Scf.iv c0_i32_40 c1_i32_41 k0_t5
  let c8_i32_47 : BitVec 32 := 8#32
  let v95 : BitVec 32 := Scalar.muli arg20 c8_i32_47
  let v96 : BitVec 32 := v95
  let v323 : Index := Scalar.indexCast v96
  let c0_135 : Index := 0#32
  ![4, 1, v323.toNat, 0]
def k0_off73 (k0_t5 : Fin k0_t5_loop.trips) : Fin 4 → Nat :=
  let c5_138 : Index := 5#32
  let c1_139 : Index := 1#32
  let c0_i32_40 : BitVec 32 := 0#32
  let c1_i32_41 : BitVec 32 := 1#32
  let arg20 : BitVec 32 := Scf.iv c0_i32_40 c1_i32_41 k0_t5
  let c8_i32_47 : BitVec 32 := 8#32
  let v95 : BitVec 32 := Scalar.muli arg20 c8_i32_47
  let v96 : BitVec 32 := v95
  let v335 : Index := Scalar.indexCast v96
  let c0_140 : Index := 0#32
  ![5, 1, v335.toNat, 0]
def k0_off74 (k0_t5 : Fin k0_t5_loop.trips) : Fin 4 → Nat :=
  let c6_143 : Index := 6#32
  let c1_144 : Index := 1#32
  let c0_i32_40 : BitVec 32 := 0#32
  let c1_i32_41 : BitVec 32 := 1#32
  let arg20 : BitVec 32 := Scf.iv c0_i32_40 c1_i32_41 k0_t5
  let c8_i32_47 : BitVec 32 := 8#32
  let v95 : BitVec 32 := Scalar.muli arg20 c8_i32_47
  let v96 : BitVec 32 := v95
  let v347 : Index := Scalar.indexCast v96
  let c0_145 : Index := 0#32
  ![6, 1, v347.toNat, 0]
def k0_off75 (k0_t5 : Fin k0_t5_loop.trips) : Fin 4 → Nat :=
  let c7_148 : Index := 7#32
  let c1_149 : Index := 1#32
  let c0_i32_40 : BitVec 32 := 0#32
  let c1_i32_41 : BitVec 32 := 1#32
  let arg20 : BitVec 32 := Scf.iv c0_i32_40 c1_i32_41 k0_t5
  let c8_i32_47 : BitVec 32 := 8#32
  let v95 : BitVec 32 := Scalar.muli arg20 c8_i32_47
  let v96 : BitVec 32 := v95
  let v359 : Index := Scalar.indexCast v96
  let c0_150 : Index := 0#32
  ![7, 1, v359.toNat, 0]
def k0_off76 (k0_t5 : Fin k0_t5_loop.trips) : Fin 4 → Nat :=
  let c8_153 : Index := 8#32
  let c1_154 : Index := 1#32
  let c0_i32_40 : BitVec 32 := 0#32
  let c1_i32_41 : BitVec 32 := 1#32
  let arg20 : BitVec 32 := Scf.iv c0_i32_40 c1_i32_41 k0_t5
  let c8_i32_47 : BitVec 32 := 8#32
  let v95 : BitVec 32 := Scalar.muli arg20 c8_i32_47
  let v96 : BitVec 32 := v95
  let v371 : Index := Scalar.indexCast v96
  let c0_155 : Index := 0#32
  ![8, 1, v371.toNat, 0]
def k0_off77 (k0_t5 : Fin k0_t5_loop.trips) : Fin 4 → Nat :=
  let c9_158 : Index := 9#32
  let c1_159 : Index := 1#32
  let c0_i32_40 : BitVec 32 := 0#32
  let c1_i32_41 : BitVec 32 := 1#32
  let arg20 : BitVec 32 := Scf.iv c0_i32_40 c1_i32_41 k0_t5
  let c8_i32_47 : BitVec 32 := 8#32
  let v95 : BitVec 32 := Scalar.muli arg20 c8_i32_47
  let v96 : BitVec 32 := v95
  let v383 : Index := Scalar.indexCast v96
  let c0_160 : Index := 0#32
  ![9, 1, v383.toNat, 0]
@[reducible] def k0_t6_loop : Scf.Loop 32 :=
  let c0_i32_43 : BitVec 32 := 0#32
  let c8_i32_44 : BitVec 32 := 8#32
  let v94 : BitVec 32 := Scalar.addi c0_i32_43 c8_i32_44
  let c1_i32_45 : BitVec 32 := 1#32
  ⟨c0_i32_43, v94, c1_i32_45⟩
def k0_mult15 (k0_t6 : Fin k0_t6_loop.trips) : BitVec 32 :=
  let c0_i32_43 : BitVec 32 := 0#32
  let c1_i32_45 : BitVec 32 := 1#32
  let arg20 : BitVec 32 := Scf.iv c0_i32_43 c1_i32_45 k0_t6
  let c240_i32 : BitVec 32 := 240#32
  let v95 : BitVec 32 := Scalar.muli arg20 c240_i32
  v95
def k0_off78 (k0_t6 : Fin k0_t6_loop.trips) : Fin 2 → Nat :=
  let c0_i32_43 : BitVec 32 := 0#32
  let c1_i32_45 : BitVec 32 := 1#32
  let arg20 : BitVec 32 := Scf.iv c0_i32_43 c1_i32_45 k0_t6
  let c240_i32 : BitVec 32 := 240#32
  let v95 : BitVec 32 := Scalar.muli arg20 c240_i32
  let v96 : BitVec 32 := v95
  let v97 : Index := Scalar.indexCast v96
  let c0_47 : Index := 0#32
  ![v97.toNat, 0]
def k0_off79 (k0_t6 : Fin k0_t6_loop.trips) : Fin 2 → Nat :=
  let c0_i32_43 : BitVec 32 := 0#32
  let c1_i32_45 : BitVec 32 := 1#32
  let arg20 : BitVec 32 := Scf.iv c0_i32_43 c1_i32_45 k0_t6
  let c240_i32 : BitVec 32 := 240#32
  let v95 : BitVec 32 := Scalar.muli arg20 c240_i32
  let v96 : BitVec 32 := v95
  let v104 : Index := Scalar.indexCast v96
  let c0_51 : Index := 0#32
  ![v104.toNat, 0]
@[reducible] def k0_t7_loop : Scf.Loop 32 :=
  let c0_i32_52 : BitVec 32 := 0#32
  let c2_i32_53 : BitVec 32 := 2#32
  let v106 : BitVec 32 := Scalar.addi c0_i32_52 c2_i32_53
  let c1_i32_54 : BitVec 32 := 1#32
  ⟨c0_i32_52, v106, c1_i32_54⟩
def k0_mult16 (k0_t6 : Fin k0_t6_loop.trips) (k0_t7 : Fin k0_t7_loop.trips) : BitVec 32 :=
  let c0_i32_43 : BitVec 32 := 0#32
  let c1_i32_45 : BitVec 32 := 1#32
  let arg20 : BitVec 32 := Scf.iv c0_i32_43 c1_i32_45 k0_t6
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t7
  let v108 : BitVec 32 := Scalar.addi v107 arg21
  let c256_i32_57 : BitVec 32 := 256#32
  let v109 : BitVec 32 := Scalar.muli v108 c256_i32_57
  v109
@[reducible] def k0_t8_loop : Scf.Loop 32 :=
  let c0_i32_58 : BitVec 32 := 0#32
  let c16_i32_59 : BitVec 32 := 16#32
  let v111 : BitVec 32 := Scalar.addi c0_i32_58 c16_i32_59
  let c1_i32_60 : BitVec 32 := 1#32
  ⟨c0_i32_58, v111, c1_i32_60⟩
def k0_mult17 (k0_t6 : Fin k0_t6_loop.trips) (k0_t7 : Fin k0_t7_loop.trips) (k0_t8 : Fin k0_t8_loop.trips) : BitVec 32 :=
  let c0_i32_43 : BitVec 32 := 0#32
  let c1_i32_45 : BitVec 32 := 1#32
  let arg20 : BitVec 32 := Scf.iv c0_i32_43 c1_i32_45 k0_t6
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t7
  let v108 : BitVec 32 := Scalar.addi v107 arg21
  let c256_i32_57 : BitVec 32 := 256#32
  let v109 : BitVec 32 := Scalar.muli v108 c256_i32_57
  let v110 : BitVec 32 := v109
  let c0_i32_58 : BitVec 32 := 0#32
  let c1_i32_60 : BitVec 32 := 1#32
  let arg22 : BitVec 32 := Scf.iv c0_i32_58 c1_i32_60 k0_t8
  let c16_i32_143 : BitVec 32 := 16#32
  let v253 : BitVec 32 := Scalar.muli arg22 c16_i32_143
  let v254 : BitVec 32 := Scalar.addi v110 v253
  v254
def k0_off80 (k0_t6 : Fin k0_t6_loop.trips) (k0_t7 : Fin k0_t7_loop.trips) (k0_t8 : Fin k0_t8_loop.trips) : Fin 2 → Nat :=
  let c0_i32_43 : BitVec 32 := 0#32
  let c1_i32_45 : BitVec 32 := 1#32
  let arg20 : BitVec 32 := Scf.iv c0_i32_43 c1_i32_45 k0_t6
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t7
  let v108 : BitVec 32 := Scalar.addi v107 arg21
  let c256_i32_57 : BitVec 32 := 256#32
  let v109 : BitVec 32 := Scalar.muli v108 c256_i32_57
  let v110 : BitVec 32 := v109
  let c0_i32_58 : BitVec 32 := 0#32
  let c1_i32_60 : BitVec 32 := 1#32
  let arg22 : BitVec 32 := Scf.iv c0_i32_58 c1_i32_60 k0_t8
  let c16_i32_143 : BitVec 32 := 16#32
  let v253 : BitVec 32 := Scalar.muli arg22 c16_i32_143
  let v254 : BitVec 32 := Scalar.addi v110 v253
  let v255 : BitVec 32 := v254
  let v258 : Index := Scalar.indexCast v255
  let c0_145 : Index := 0#32
  ![v258.toNat, 0]
def k0_off81 (k0_t6 : Fin k0_t6_loop.trips) (k0_t7 : Fin k0_t7_loop.trips) (k0_t8 : Fin k0_t8_loop.trips) : Fin 4 → Nat :=
  let c3 : Index := 3#32
  let c0_146 : Index := 0#32
  let c0_i32_43 : BitVec 32 := 0#32
  let c1_i32_45 : BitVec 32 := 1#32
  let arg20 : BitVec 32 := Scf.iv c0_i32_43 c1_i32_45 k0_t6
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t7
  let v108 : BitVec 32 := Scalar.addi v107 arg21
  let c16_i32_144 : BitVec 32 := 16#32
  let v256 : BitVec 32 := Scalar.muli v108 c16_i32_144
  let c0_i32_58 : BitVec 32 := 0#32
  let c1_i32_60 : BitVec 32 := 1#32
  let arg22 : BitVec 32 := Scf.iv c0_i32_58 c1_i32_60 k0_t8
  let v257 : BitVec 32 := Scalar.addi v256 arg22
  let v262 : Index := Scalar.indexCast v257
  let c0_147 : Index := 0#32
  ![3, 0, v262.toNat, 0]
def k0_off82 (k0_t6 : Fin k0_t6_loop.trips) (k0_t7 : Fin k0_t7_loop.trips) (k0_t8 : Fin k0_t8_loop.trips) : Fin 4 → Nat :=
  let c5 : Index := 5#32
  let c0_149 : Index := 0#32
  let c0_i32_43 : BitVec 32 := 0#32
  let c1_i32_45 : BitVec 32 := 1#32
  let arg20 : BitVec 32 := Scf.iv c0_i32_43 c1_i32_45 k0_t6
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t7
  let v108 : BitVec 32 := Scalar.addi v107 arg21
  let c16_i32_144 : BitVec 32 := 16#32
  let v256 : BitVec 32 := Scalar.muli v108 c16_i32_144
  let c0_i32_58 : BitVec 32 := 0#32
  let c1_i32_60 : BitVec 32 := 1#32
  let arg22 : BitVec 32 := Scf.iv c0_i32_58 c1_i32_60 k0_t8
  let v257 : BitVec 32 := Scalar.addi v256 arg22
  let v269 : Index := Scalar.indexCast v257
  let c0_150 : Index := 0#32
  ![5, 0, v269.toNat, 0]
def k0_off83 (k0_t6 : Fin k0_t6_loop.trips) (k0_t7 : Fin k0_t7_loop.trips) (k0_t8 : Fin k0_t8_loop.trips) : Fin 4 → Nat :=
  let c1_151 : Index := 1#32
  let c0_152 : Index := 0#32
  let c0_i32_43 : BitVec 32 := 0#32
  let c1_i32_45 : BitVec 32 := 1#32
  let arg20 : BitVec 32 := Scf.iv c0_i32_43 c1_i32_45 k0_t6
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t7
  let v108 : BitVec 32 := Scalar.addi v107 arg21
  let c16_i32_144 : BitVec 32 := 16#32
  let v256 : BitVec 32 := Scalar.muli v108 c16_i32_144
  let c0_i32_58 : BitVec 32 := 0#32
  let c1_i32_60 : BitVec 32 := 1#32
  let arg22 : BitVec 32 := Scf.iv c0_i32_58 c1_i32_60 k0_t8
  let v257 : BitVec 32 := Scalar.addi v256 arg22
  let v272 : Index := Scalar.indexCast v257
  let c0_153 : Index := 0#32
  ![1, 0, v272.toNat, 0]
def k0_off84 (k0_t6 : Fin k0_t6_loop.trips) (k0_t7 : Fin k0_t7_loop.trips) (k0_t8 : Fin k0_t8_loop.trips) : Fin 4 → Nat :=
  let c6 : Index := 6#32
  let c0_155 : Index := 0#32
  let c0_i32_43 : BitVec 32 := 0#32
  let c1_i32_45 : BitVec 32 := 1#32
  let arg20 : BitVec 32 := Scf.iv c0_i32_43 c1_i32_45 k0_t6
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t7
  let v108 : BitVec 32 := Scalar.addi v107 arg21
  let c16_i32_144 : BitVec 32 := 16#32
  let v256 : BitVec 32 := Scalar.muli v108 c16_i32_144
  let c0_i32_58 : BitVec 32 := 0#32
  let c1_i32_60 : BitVec 32 := 1#32
  let arg22 : BitVec 32 := Scf.iv c0_i32_58 c1_i32_60 k0_t8
  let v257 : BitVec 32 := Scalar.addi v256 arg22
  let v280 : Index := Scalar.indexCast v257
  let c0_156 : Index := 0#32
  ![6, 0, v280.toNat, 0]
def k0_off85 (k0_t6 : Fin k0_t6_loop.trips) (k0_t7 : Fin k0_t7_loop.trips) (k0_t8 : Fin k0_t8_loop.trips) : Fin 4 → Nat :=
  let c4 : Index := 4#32
  let c0_157 : Index := 0#32
  let c0_i32_43 : BitVec 32 := 0#32
  let c1_i32_45 : BitVec 32 := 1#32
  let arg20 : BitVec 32 := Scf.iv c0_i32_43 c1_i32_45 k0_t6
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t7
  let v108 : BitVec 32 := Scalar.addi v107 arg21
  let c16_i32_144 : BitVec 32 := 16#32
  let v256 : BitVec 32 := Scalar.muli v108 c16_i32_144
  let c0_i32_58 : BitVec 32 := 0#32
  let c1_i32_60 : BitVec 32 := 1#32
  let arg22 : BitVec 32 := Scf.iv c0_i32_58 c1_i32_60 k0_t8
  let v257 : BitVec 32 := Scalar.addi v256 arg22
  let v283 : Index := Scalar.indexCast v257
  let c0_158 : Index := 0#32
  ![4, 0, v283.toNat, 0]
def k0_off86 (k0_t6 : Fin k0_t6_loop.trips) (k0_t7 : Fin k0_t7_loop.trips) (k0_t8 : Fin k0_t8_loop.trips) : Fin 4 → Nat :=
  let c2 : Index := 2#32
  let c0_159 : Index := 0#32
  let c0_i32_43 : BitVec 32 := 0#32
  let c1_i32_45 : BitVec 32 := 1#32
  let arg20 : BitVec 32 := Scf.iv c0_i32_43 c1_i32_45 k0_t6
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t7
  let v108 : BitVec 32 := Scalar.addi v107 arg21
  let c16_i32_144 : BitVec 32 := 16#32
  let v256 : BitVec 32 := Scalar.muli v108 c16_i32_144
  let c0_i32_58 : BitVec 32 := 0#32
  let c1_i32_60 : BitVec 32 := 1#32
  let arg22 : BitVec 32 := Scf.iv c0_i32_58 c1_i32_60 k0_t8
  let v257 : BitVec 32 := Scalar.addi v256 arg22
  let v287 : Index := Scalar.indexCast v257
  let c0_160 : Index := 0#32
  ![2, 0, v287.toNat, 0]
def k0_off87 (k0_t6 : Fin k0_t6_loop.trips) (k0_t7 : Fin k0_t7_loop.trips) (k0_t8 : Fin k0_t8_loop.trips) : Fin 4 → Nat :=
  let c0_161 : Index := 0#32
  let c0_162 : Index := 0#32
  let c0_i32_43 : BitVec 32 := 0#32
  let c1_i32_45 : BitVec 32 := 1#32
  let arg20 : BitVec 32 := Scf.iv c0_i32_43 c1_i32_45 k0_t6
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t7
  let v108 : BitVec 32 := Scalar.addi v107 arg21
  let c16_i32_144 : BitVec 32 := 16#32
  let v256 : BitVec 32 := Scalar.muli v108 c16_i32_144
  let c0_i32_58 : BitVec 32 := 0#32
  let c1_i32_60 : BitVec 32 := 1#32
  let arg22 : BitVec 32 := Scf.iv c0_i32_58 c1_i32_60 k0_t8
  let v257 : BitVec 32 := Scalar.addi v256 arg22
  let v290 : Index := Scalar.indexCast v257
  let c0_163 : Index := 0#32
  ![0, 0, v290.toNat, 0]
def k0_off88 (k0_t6 : Fin k0_t6_loop.trips) (k0_t7 : Fin k0_t7_loop.trips) (k0_t8 : Fin k0_t8_loop.trips) : Fin 4 → Nat :=
  let c7 : Index := 7#32
  let c0_164 : Index := 0#32
  let c0_i32_43 : BitVec 32 := 0#32
  let c1_i32_45 : BitVec 32 := 1#32
  let arg20 : BitVec 32 := Scf.iv c0_i32_43 c1_i32_45 k0_t6
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t7
  let v108 : BitVec 32 := Scalar.addi v107 arg21
  let c16_i32_144 : BitVec 32 := 16#32
  let v256 : BitVec 32 := Scalar.muli v108 c16_i32_144
  let c0_i32_58 : BitVec 32 := 0#32
  let c1_i32_60 : BitVec 32 := 1#32
  let arg22 : BitVec 32 := Scf.iv c0_i32_58 c1_i32_60 k0_t8
  let v257 : BitVec 32 := Scalar.addi v256 arg22
  let v297 : Index := Scalar.indexCast v257
  let c0_165 : Index := 0#32
  ![7, 0, v297.toNat, 0]
def k0_off89 (k0_t6 : Fin k0_t6_loop.trips) (k0_t7 : Fin k0_t7_loop.trips) (k0_t8 : Fin k0_t8_loop.trips) : Fin 4 → Nat :=
  let c9 : Index := 9#32
  let c0_172 : Index := 0#32
  let c0_i32_43 : BitVec 32 := 0#32
  let c1_i32_45 : BitVec 32 := 1#32
  let arg20 : BitVec 32 := Scf.iv c0_i32_43 c1_i32_45 k0_t6
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t7
  let v108 : BitVec 32 := Scalar.addi v107 arg21
  let c16_i32_144 : BitVec 32 := 16#32
  let v256 : BitVec 32 := Scalar.muli v108 c16_i32_144
  let c0_i32_58 : BitVec 32 := 0#32
  let c1_i32_60 : BitVec 32 := 1#32
  let arg22 : BitVec 32 := Scf.iv c0_i32_58 c1_i32_60 k0_t8
  let v257 : BitVec 32 := Scalar.addi v256 arg22
  let v327 : Index := Scalar.indexCast v257
  let c0_173 : Index := 0#32
  ![9, 0, v327.toNat, 0]
def k0_off90 (k0_t6 : Fin k0_t6_loop.trips) (k0_t7 : Fin k0_t7_loop.trips) (k0_t8 : Fin k0_t8_loop.trips) : Fin 4 → Nat :=
  let c8 : Index := 8#32
  let c0_174 : Index := 0#32
  let c0_i32_43 : BitVec 32 := 0#32
  let c1_i32_45 : BitVec 32 := 1#32
  let arg20 : BitVec 32 := Scf.iv c0_i32_43 c1_i32_45 k0_t6
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t7
  let v108 : BitVec 32 := Scalar.addi v107 arg21
  let c16_i32_144 : BitVec 32 := 16#32
  let v256 : BitVec 32 := Scalar.muli v108 c16_i32_144
  let c0_i32_58 : BitVec 32 := 0#32
  let c1_i32_60 : BitVec 32 := 1#32
  let arg22 : BitVec 32 := Scf.iv c0_i32_58 c1_i32_60 k0_t8
  let v257 : BitVec 32 := Scalar.addi v256 arg22
  let v330 : Index := Scalar.indexCast v257
  let c0_175 : Index := 0#32
  ![8, 0, v330.toNat, 0]
def k0_mult18 (k0_t8 : Fin k0_t8_loop.trips) : BitVec 32 :=
  let c0_i32_58 : BitVec 32 := 0#32
  let c1_i32_60 : BitVec 32 := 1#32
  let arg22 : BitVec 32 := Scf.iv c0_i32_58 c1_i32_60 k0_t8
  let c8_i32_182 : BitVec 32 := 8#32
  let v347 : BitVec 32 := Scalar.muli arg22 c8_i32_182
  v347
def k0_off91 (k0_t6 : Fin k0_t6_loop.trips) (k0_t7 : Fin k0_t7_loop.trips) (k0_t8 : Fin k0_t8_loop.trips) : Fin 4 → Nat :=
  let c0_i32_43 : BitVec 32 := 0#32
  let c1_i32_45 : BitVec 32 := 1#32
  let arg20 : BitVec 32 := Scf.iv c0_i32_43 c1_i32_45 k0_t6
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t7
  let v108 : BitVec 32 := Scalar.addi v107 arg21
  let c2_i32_176 : BitVec 32 := 2#32
  let c0_i32_177 : BitVec 32 := 0#32
  let v337 : BitVec 1 := Scalar.cmpi .eq c2_i32_176 c0_i32_177
  let c1_i32_178 : BitVec 32 := 1#32
  let v338 : BitVec 32 := Scalar.select v337 c1_i32_178 c2_i32_176
  let v339 : BitVec 32 := Scalar.remsi v108 v338
  let c0_i32_180 : BitVec 32 := 0#32
  let v341 : BitVec 1 := Scalar.cmpi .slt v339 c0_i32_180
  let c0_i32_181 : BitVec 32 := 0#32
  let v342 : BitVec 1 := Scalar.cmpi .slt v338 c0_i32_181
  let v343 : BitVec 1 := Scalar.xori v341 v342
  let c0_i32_179 : BitVec 32 := 0#32
  let v340 : BitVec 1 := Scalar.cmpi .ne v339 c0_i32_179
  let v344 : BitVec 1 := Scalar.andi v343 v340
  let v345 : BitVec 32 := Scalar.addi v339 v338
  let v346 : BitVec 32 := Scalar.select v344 v345 v339
  let v349 : Index := Scalar.indexCast v346
  let c0_183 : Index := 0#32
  let c0_i32_58 : BitVec 32 := 0#32
  let c1_i32_60 : BitVec 32 := 1#32
  let arg22 : BitVec 32 := Scf.iv c0_i32_58 c1_i32_60 k0_t8
  let c8_i32_182 : BitVec 32 := 8#32
  let v347 : BitVec 32 := Scalar.muli arg22 c8_i32_182
  let v348 : BitVec 32 := v347
  let v350 : Index := Scalar.indexCast v348
  let c0_184 : Index := 0#32
  ![v349.toNat, 0, v350.toNat, 0]
def k0_off92 (k0_t6 : Fin k0_t6_loop.trips) (k0_t7 : Fin k0_t7_loop.trips) : Fin 4 → Nat :=
  let c0_i32_43 : BitVec 32 := 0#32
  let c1_i32_45 : BitVec 32 := 1#32
  let arg20 : BitVec 32 := Scf.iv c0_i32_43 c1_i32_45 k0_t6
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t7
  let v108 : BitVec 32 := Scalar.addi v107 arg21
  let c2_i32_62 : BitVec 32 := 2#32
  let c0_i32_63 : BitVec 32 := 0#32
  let v112 : BitVec 1 := Scalar.cmpi .eq c2_i32_62 c0_i32_63
  let c1_i32_64 : BitVec 32 := 1#32
  let v113 : BitVec 32 := Scalar.select v112 c1_i32_64 c2_i32_62
  let v114 : BitVec 32 := Scalar.remsi v108 v113
  let c0_i32_66 : BitVec 32 := 0#32
  let v116 : BitVec 1 := Scalar.cmpi .slt v114 c0_i32_66
  let c0_i32_67 : BitVec 32 := 0#32
  let v117 : BitVec 1 := Scalar.cmpi .slt v113 c0_i32_67
  let v118 : BitVec 1 := Scalar.xori v116 v117
  let c0_i32_65 : BitVec 32 := 0#32
  let v115 : BitVec 1 := Scalar.cmpi .ne v114 c0_i32_65
  let v119 : BitVec 1 := Scalar.andi v118 v115
  let v120 : BitVec 32 := Scalar.addi v114 v113
  let v121 : BitVec 32 := Scalar.select v119 v120 v114
  let v122 : Index := Scalar.indexCast v121
  let c0_68 : Index := 0#32
  let c0_69 : Index := 0#32
  let c0_70 : Index := 0#32
  ![v122.toNat, 0, 0, 0]
def k0_mult19 (k0_t6 : Fin k0_t6_loop.trips) (k0_t7 : Fin k0_t7_loop.trips) : BitVec 32 :=
  let c0_i32_43 : BitVec 32 := 0#32
  let c1_i32_45 : BitVec 32 := 1#32
  let arg20 : BitVec 32 := Scf.iv c0_i32_43 c1_i32_45 k0_t6
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t7
  let v108 : BitVec 32 := Scalar.addi v107 arg21
  let c128_i32 : BitVec 32 := 128#32
  let v132 : BitVec 32 := Scalar.muli v108 c128_i32
  v132
def k0_off93 (k0_t6 : Fin k0_t6_loop.trips) (k0_t7 : Fin k0_t7_loop.trips) : Fin 2 → Nat :=
  let c0_71 : Index := 0#32
  let c0_i32_43 : BitVec 32 := 0#32
  let c1_i32_45 : BitVec 32 := 1#32
  let arg20 : BitVec 32 := Scf.iv c0_i32_43 c1_i32_45 k0_t6
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t7
  let v108 : BitVec 32 := Scalar.addi v107 arg21
  let c128_i32 : BitVec 32 := 128#32
  let v132 : BitVec 32 := Scalar.muli v108 c128_i32
  let v133 : BitVec 32 := v132
  let v134 : Index := Scalar.indexCast v133
  ![0, v134.toNat]
def k0_off94 (k0_t6 : Fin k0_t6_loop.trips) (k0_t7 : Fin k0_t7_loop.trips) : Fin 4 → Nat :=
  let c0_i32_43 : BitVec 32 := 0#32
  let c1_i32_45 : BitVec 32 := 1#32
  let arg20 : BitVec 32 := Scf.iv c0_i32_43 c1_i32_45 k0_t6
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t7
  let v108 : BitVec 32 := Scalar.addi v107 arg21
  let c2_i32_81 : BitVec 32 := 2#32
  let c0_i32_82 : BitVec 32 := 0#32
  let v150 : BitVec 1 := Scalar.cmpi .eq c2_i32_81 c0_i32_82
  let c1_i32_83 : BitVec 32 := 1#32
  let v151 : BitVec 32 := Scalar.select v150 c1_i32_83 c2_i32_81
  let v152 : BitVec 32 := Scalar.remsi v108 v151
  let c0_i32_85 : BitVec 32 := 0#32
  let v154 : BitVec 1 := Scalar.cmpi .slt v152 c0_i32_85
  let c0_i32_86 : BitVec 32 := 0#32
  let v155 : BitVec 1 := Scalar.cmpi .slt v151 c0_i32_86
  let v156 : BitVec 1 := Scalar.xori v154 v155
  let c0_i32_84 : BitVec 32 := 0#32
  let v153 : BitVec 1 := Scalar.cmpi .ne v152 c0_i32_84
  let v157 : BitVec 1 := Scalar.andi v156 v153
  let v158 : BitVec 32 := Scalar.addi v152 v151
  let v159 : BitVec 32 := Scalar.select v157 v158 v152
  let v160 : Index := Scalar.indexCast v159
  let c0_87 : Index := 0#32
  let c0_88 : Index := 0#32
  let c0_89 : Index := 0#32
  ![v160.toNat, 0, 0, 0]
def k0_off95 (k0_t6 : Fin k0_t6_loop.trips) (k0_t7 : Fin k0_t7_loop.trips) : Fin 4 → Nat :=
  let c0_i32_43 : BitVec 32 := 0#32
  let c1_i32_45 : BitVec 32 := 1#32
  let arg20 : BitVec 32 := Scf.iv c0_i32_43 c1_i32_45 k0_t6
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t7
  let v108 : BitVec 32 := Scalar.addi v107 arg21
  let c2_i32_90 : BitVec 32 := 2#32
  let c0_i32_91 : BitVec 32 := 0#32
  let v163 : BitVec 1 := Scalar.cmpi .eq c2_i32_90 c0_i32_91
  let c1_i32_92 : BitVec 32 := 1#32
  let v164 : BitVec 32 := Scalar.select v163 c1_i32_92 c2_i32_90
  let v165 : BitVec 32 := Scalar.remsi v108 v164
  let c0_i32_94 : BitVec 32 := 0#32
  let v167 : BitVec 1 := Scalar.cmpi .slt v165 c0_i32_94
  let c0_i32_95 : BitVec 32 := 0#32
  let v168 : BitVec 1 := Scalar.cmpi .slt v164 c0_i32_95
  let v169 : BitVec 1 := Scalar.xori v167 v168
  let c0_i32_93 : BitVec 32 := 0#32
  let v166 : BitVec 1 := Scalar.cmpi .ne v165 c0_i32_93
  let v170 : BitVec 1 := Scalar.andi v169 v166
  let v171 : BitVec 32 := Scalar.addi v165 v164
  let v172 : BitVec 32 := Scalar.select v170 v171 v165
  let v173 : Index := Scalar.indexCast v172
  let c0_96 : Index := 0#32
  let c1 : Index := 1#32
  let c0_97 : Index := 0#32
  ![v173.toNat, 0, 1, 0]
@[reducible] def k0_t9_loop : Scf.Loop 32 :=
  let c0_i32_98 : BitVec 32 := 0#32
  let c16_i32_99 : BitVec 32 := 16#32
  let v179 : BitVec 32 := Scalar.addi c0_i32_98 c16_i32_99
  let c1_i32_100 : BitVec 32 := 1#32
  ⟨c0_i32_98, v179, c1_i32_100⟩
def k0_mult20 (k0_t6 : Fin k0_t6_loop.trips) (k0_t7 : Fin k0_t7_loop.trips) (k0_t9 : Fin k0_t9_loop.trips) : BitVec 32 :=
  let c0_i32_43 : BitVec 32 := 0#32
  let c1_i32_45 : BitVec 32 := 1#32
  let arg20 : BitVec 32 := Scf.iv c0_i32_43 c1_i32_45 k0_t6
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t7
  let v108 : BitVec 32 := Scalar.addi v107 arg21
  let c256_i32_57 : BitVec 32 := 256#32
  let v109 : BitVec 32 := Scalar.muli v108 c256_i32_57
  let v110 : BitVec 32 := v109
  let c0_i32_98 : BitVec 32 := 0#32
  let c1_i32_100 : BitVec 32 := 1#32
  let arg22 : BitVec 32 := Scf.iv c0_i32_98 c1_i32_100 k0_t9
  let c16_i32_143 : BitVec 32 := 16#32
  let v253 : BitVec 32 := Scalar.muli arg22 c16_i32_143
  let v254 : BitVec 32 := Scalar.addi v110 v253
  v254
def k0_off96 (k0_t6 : Fin k0_t6_loop.trips) (k0_t7 : Fin k0_t7_loop.trips) (k0_t9 : Fin k0_t9_loop.trips) : Fin 2 → Nat :=
  let c0_i32_43 : BitVec 32 := 0#32
  let c1_i32_45 : BitVec 32 := 1#32
  let arg20 : BitVec 32 := Scf.iv c0_i32_43 c1_i32_45 k0_t6
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t7
  let v108 : BitVec 32 := Scalar.addi v107 arg21
  let c256_i32_57 : BitVec 32 := 256#32
  let v109 : BitVec 32 := Scalar.muli v108 c256_i32_57
  let v110 : BitVec 32 := v109
  let c0_i32_98 : BitVec 32 := 0#32
  let c1_i32_100 : BitVec 32 := 1#32
  let arg22 : BitVec 32 := Scf.iv c0_i32_98 c1_i32_100 k0_t9
  let c16_i32_143 : BitVec 32 := 16#32
  let v253 : BitVec 32 := Scalar.muli arg22 c16_i32_143
  let v254 : BitVec 32 := Scalar.addi v110 v253
  let v255 : BitVec 32 := v254
  let v258 : Index := Scalar.indexCast v255
  let c128_145 : Index := 128#32
  ![v258.toNat, 128]
def k0_off97 (k0_t6 : Fin k0_t6_loop.trips) (k0_t7 : Fin k0_t7_loop.trips) (k0_t9 : Fin k0_t9_loop.trips) : Fin 4 → Nat :=
  let c3 : Index := 3#32
  let c1_146 : Index := 1#32
  let c0_i32_43 : BitVec 32 := 0#32
  let c1_i32_45 : BitVec 32 := 1#32
  let arg20 : BitVec 32 := Scf.iv c0_i32_43 c1_i32_45 k0_t6
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t7
  let v108 : BitVec 32 := Scalar.addi v107 arg21
  let c16_i32_144 : BitVec 32 := 16#32
  let v256 : BitVec 32 := Scalar.muli v108 c16_i32_144
  let c0_i32_98 : BitVec 32 := 0#32
  let c1_i32_100 : BitVec 32 := 1#32
  let arg22 : BitVec 32 := Scf.iv c0_i32_98 c1_i32_100 k0_t9
  let v257 : BitVec 32 := Scalar.addi v256 arg22
  let v262 : Index := Scalar.indexCast v257
  let c0_147 : Index := 0#32
  ![3, 1, v262.toNat, 0]
def k0_off98 (k0_t6 : Fin k0_t6_loop.trips) (k0_t7 : Fin k0_t7_loop.trips) (k0_t9 : Fin k0_t9_loop.trips) : Fin 4 → Nat :=
  let c5 : Index := 5#32
  let c1_149 : Index := 1#32
  let c0_i32_43 : BitVec 32 := 0#32
  let c1_i32_45 : BitVec 32 := 1#32
  let arg20 : BitVec 32 := Scf.iv c0_i32_43 c1_i32_45 k0_t6
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t7
  let v108 : BitVec 32 := Scalar.addi v107 arg21
  let c16_i32_144 : BitVec 32 := 16#32
  let v256 : BitVec 32 := Scalar.muli v108 c16_i32_144
  let c0_i32_98 : BitVec 32 := 0#32
  let c1_i32_100 : BitVec 32 := 1#32
  let arg22 : BitVec 32 := Scf.iv c0_i32_98 c1_i32_100 k0_t9
  let v257 : BitVec 32 := Scalar.addi v256 arg22
  let v269 : Index := Scalar.indexCast v257
  let c0_150 : Index := 0#32
  ![5, 1, v269.toNat, 0]
def k0_off99 (k0_t6 : Fin k0_t6_loop.trips) (k0_t7 : Fin k0_t7_loop.trips) (k0_t9 : Fin k0_t9_loop.trips) : Fin 4 → Nat :=
  let c1_151 : Index := 1#32
  let c1_152 : Index := 1#32
  let c0_i32_43 : BitVec 32 := 0#32
  let c1_i32_45 : BitVec 32 := 1#32
  let arg20 : BitVec 32 := Scf.iv c0_i32_43 c1_i32_45 k0_t6
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t7
  let v108 : BitVec 32 := Scalar.addi v107 arg21
  let c16_i32_144 : BitVec 32 := 16#32
  let v256 : BitVec 32 := Scalar.muli v108 c16_i32_144
  let c0_i32_98 : BitVec 32 := 0#32
  let c1_i32_100 : BitVec 32 := 1#32
  let arg22 : BitVec 32 := Scf.iv c0_i32_98 c1_i32_100 k0_t9
  let v257 : BitVec 32 := Scalar.addi v256 arg22
  let v272 : Index := Scalar.indexCast v257
  let c0_153 : Index := 0#32
  ![1, 1, v272.toNat, 0]
def k0_off100 (k0_t6 : Fin k0_t6_loop.trips) (k0_t7 : Fin k0_t7_loop.trips) (k0_t9 : Fin k0_t9_loop.trips) : Fin 4 → Nat :=
  let c6 : Index := 6#32
  let c1_155 : Index := 1#32
  let c0_i32_43 : BitVec 32 := 0#32
  let c1_i32_45 : BitVec 32 := 1#32
  let arg20 : BitVec 32 := Scf.iv c0_i32_43 c1_i32_45 k0_t6
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t7
  let v108 : BitVec 32 := Scalar.addi v107 arg21
  let c16_i32_144 : BitVec 32 := 16#32
  let v256 : BitVec 32 := Scalar.muli v108 c16_i32_144
  let c0_i32_98 : BitVec 32 := 0#32
  let c1_i32_100 : BitVec 32 := 1#32
  let arg22 : BitVec 32 := Scf.iv c0_i32_98 c1_i32_100 k0_t9
  let v257 : BitVec 32 := Scalar.addi v256 arg22
  let v280 : Index := Scalar.indexCast v257
  let c0_156 : Index := 0#32
  ![6, 1, v280.toNat, 0]
def k0_off101 (k0_t6 : Fin k0_t6_loop.trips) (k0_t7 : Fin k0_t7_loop.trips) (k0_t9 : Fin k0_t9_loop.trips) : Fin 4 → Nat :=
  let c4 : Index := 4#32
  let c1_157 : Index := 1#32
  let c0_i32_43 : BitVec 32 := 0#32
  let c1_i32_45 : BitVec 32 := 1#32
  let arg20 : BitVec 32 := Scf.iv c0_i32_43 c1_i32_45 k0_t6
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t7
  let v108 : BitVec 32 := Scalar.addi v107 arg21
  let c16_i32_144 : BitVec 32 := 16#32
  let v256 : BitVec 32 := Scalar.muli v108 c16_i32_144
  let c0_i32_98 : BitVec 32 := 0#32
  let c1_i32_100 : BitVec 32 := 1#32
  let arg22 : BitVec 32 := Scf.iv c0_i32_98 c1_i32_100 k0_t9
  let v257 : BitVec 32 := Scalar.addi v256 arg22
  let v283 : Index := Scalar.indexCast v257
  let c0_158 : Index := 0#32
  ![4, 1, v283.toNat, 0]
def k0_off102 (k0_t6 : Fin k0_t6_loop.trips) (k0_t7 : Fin k0_t7_loop.trips) (k0_t9 : Fin k0_t9_loop.trips) : Fin 4 → Nat :=
  let c2 : Index := 2#32
  let c1_159 : Index := 1#32
  let c0_i32_43 : BitVec 32 := 0#32
  let c1_i32_45 : BitVec 32 := 1#32
  let arg20 : BitVec 32 := Scf.iv c0_i32_43 c1_i32_45 k0_t6
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t7
  let v108 : BitVec 32 := Scalar.addi v107 arg21
  let c16_i32_144 : BitVec 32 := 16#32
  let v256 : BitVec 32 := Scalar.muli v108 c16_i32_144
  let c0_i32_98 : BitVec 32 := 0#32
  let c1_i32_100 : BitVec 32 := 1#32
  let arg22 : BitVec 32 := Scf.iv c0_i32_98 c1_i32_100 k0_t9
  let v257 : BitVec 32 := Scalar.addi v256 arg22
  let v287 : Index := Scalar.indexCast v257
  let c0_160 : Index := 0#32
  ![2, 1, v287.toNat, 0]
def k0_off103 (k0_t6 : Fin k0_t6_loop.trips) (k0_t7 : Fin k0_t7_loop.trips) (k0_t9 : Fin k0_t9_loop.trips) : Fin 4 → Nat :=
  let c0_161 : Index := 0#32
  let c1_162 : Index := 1#32
  let c0_i32_43 : BitVec 32 := 0#32
  let c1_i32_45 : BitVec 32 := 1#32
  let arg20 : BitVec 32 := Scf.iv c0_i32_43 c1_i32_45 k0_t6
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t7
  let v108 : BitVec 32 := Scalar.addi v107 arg21
  let c16_i32_144 : BitVec 32 := 16#32
  let v256 : BitVec 32 := Scalar.muli v108 c16_i32_144
  let c0_i32_98 : BitVec 32 := 0#32
  let c1_i32_100 : BitVec 32 := 1#32
  let arg22 : BitVec 32 := Scf.iv c0_i32_98 c1_i32_100 k0_t9
  let v257 : BitVec 32 := Scalar.addi v256 arg22
  let v290 : Index := Scalar.indexCast v257
  let c0_163 : Index := 0#32
  ![0, 1, v290.toNat, 0]
def k0_off104 (k0_t6 : Fin k0_t6_loop.trips) (k0_t7 : Fin k0_t7_loop.trips) (k0_t9 : Fin k0_t9_loop.trips) : Fin 4 → Nat :=
  let c7 : Index := 7#32
  let c1_164 : Index := 1#32
  let c0_i32_43 : BitVec 32 := 0#32
  let c1_i32_45 : BitVec 32 := 1#32
  let arg20 : BitVec 32 := Scf.iv c0_i32_43 c1_i32_45 k0_t6
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t7
  let v108 : BitVec 32 := Scalar.addi v107 arg21
  let c16_i32_144 : BitVec 32 := 16#32
  let v256 : BitVec 32 := Scalar.muli v108 c16_i32_144
  let c0_i32_98 : BitVec 32 := 0#32
  let c1_i32_100 : BitVec 32 := 1#32
  let arg22 : BitVec 32 := Scf.iv c0_i32_98 c1_i32_100 k0_t9
  let v257 : BitVec 32 := Scalar.addi v256 arg22
  let v297 : Index := Scalar.indexCast v257
  let c0_165 : Index := 0#32
  ![7, 1, v297.toNat, 0]
def k0_off105 (k0_t6 : Fin k0_t6_loop.trips) (k0_t7 : Fin k0_t7_loop.trips) (k0_t9 : Fin k0_t9_loop.trips) : Fin 4 → Nat :=
  let c9 : Index := 9#32
  let c1_172 : Index := 1#32
  let c0_i32_43 : BitVec 32 := 0#32
  let c1_i32_45 : BitVec 32 := 1#32
  let arg20 : BitVec 32 := Scf.iv c0_i32_43 c1_i32_45 k0_t6
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t7
  let v108 : BitVec 32 := Scalar.addi v107 arg21
  let c16_i32_144 : BitVec 32 := 16#32
  let v256 : BitVec 32 := Scalar.muli v108 c16_i32_144
  let c0_i32_98 : BitVec 32 := 0#32
  let c1_i32_100 : BitVec 32 := 1#32
  let arg22 : BitVec 32 := Scf.iv c0_i32_98 c1_i32_100 k0_t9
  let v257 : BitVec 32 := Scalar.addi v256 arg22
  let v327 : Index := Scalar.indexCast v257
  let c0_173 : Index := 0#32
  ![9, 1, v327.toNat, 0]
def k0_off106 (k0_t6 : Fin k0_t6_loop.trips) (k0_t7 : Fin k0_t7_loop.trips) (k0_t9 : Fin k0_t9_loop.trips) : Fin 4 → Nat :=
  let c8 : Index := 8#32
  let c1_174 : Index := 1#32
  let c0_i32_43 : BitVec 32 := 0#32
  let c1_i32_45 : BitVec 32 := 1#32
  let arg20 : BitVec 32 := Scf.iv c0_i32_43 c1_i32_45 k0_t6
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t7
  let v108 : BitVec 32 := Scalar.addi v107 arg21
  let c16_i32_144 : BitVec 32 := 16#32
  let v256 : BitVec 32 := Scalar.muli v108 c16_i32_144
  let c0_i32_98 : BitVec 32 := 0#32
  let c1_i32_100 : BitVec 32 := 1#32
  let arg22 : BitVec 32 := Scf.iv c0_i32_98 c1_i32_100 k0_t9
  let v257 : BitVec 32 := Scalar.addi v256 arg22
  let v330 : Index := Scalar.indexCast v257
  let c0_175 : Index := 0#32
  ![8, 1, v330.toNat, 0]
def k0_mult21 (k0_t9 : Fin k0_t9_loop.trips) : BitVec 32 :=
  let c0_i32_98 : BitVec 32 := 0#32
  let c1_i32_100 : BitVec 32 := 1#32
  let arg22 : BitVec 32 := Scf.iv c0_i32_98 c1_i32_100 k0_t9
  let c8_i32_182 : BitVec 32 := 8#32
  let v347 : BitVec 32 := Scalar.muli arg22 c8_i32_182
  v347
def k0_off107 (k0_t6 : Fin k0_t6_loop.trips) (k0_t7 : Fin k0_t7_loop.trips) (k0_t9 : Fin k0_t9_loop.trips) : Fin 4 → Nat :=
  let c0_i32_43 : BitVec 32 := 0#32
  let c1_i32_45 : BitVec 32 := 1#32
  let arg20 : BitVec 32 := Scf.iv c0_i32_43 c1_i32_45 k0_t6
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t7
  let v108 : BitVec 32 := Scalar.addi v107 arg21
  let c2_i32_176 : BitVec 32 := 2#32
  let c0_i32_177 : BitVec 32 := 0#32
  let v337 : BitVec 1 := Scalar.cmpi .eq c2_i32_176 c0_i32_177
  let c1_i32_178 : BitVec 32 := 1#32
  let v338 : BitVec 32 := Scalar.select v337 c1_i32_178 c2_i32_176
  let v339 : BitVec 32 := Scalar.remsi v108 v338
  let c0_i32_180 : BitVec 32 := 0#32
  let v341 : BitVec 1 := Scalar.cmpi .slt v339 c0_i32_180
  let c0_i32_181 : BitVec 32 := 0#32
  let v342 : BitVec 1 := Scalar.cmpi .slt v338 c0_i32_181
  let v343 : BitVec 1 := Scalar.xori v341 v342
  let c0_i32_179 : BitVec 32 := 0#32
  let v340 : BitVec 1 := Scalar.cmpi .ne v339 c0_i32_179
  let v344 : BitVec 1 := Scalar.andi v343 v340
  let v345 : BitVec 32 := Scalar.addi v339 v338
  let v346 : BitVec 32 := Scalar.select v344 v345 v339
  let v349 : Index := Scalar.indexCast v346
  let c1_183 : Index := 1#32
  let c0_i32_98 : BitVec 32 := 0#32
  let c1_i32_100 : BitVec 32 := 1#32
  let arg22 : BitVec 32 := Scf.iv c0_i32_98 c1_i32_100 k0_t9
  let c8_i32_182 : BitVec 32 := 8#32
  let v347 : BitVec 32 := Scalar.muli arg22 c8_i32_182
  let v348 : BitVec 32 := v347
  let v350 : Index := Scalar.indexCast v348
  let c0_184 : Index := 0#32
  ![v349.toNat, 1, v350.toNat, 0]
def k0_off108 (k0_t6 : Fin k0_t6_loop.trips) (k0_t7 : Fin k0_t7_loop.trips) : Fin 4 → Nat :=
  let c0_i32_43 : BitVec 32 := 0#32
  let c1_i32_45 : BitVec 32 := 1#32
  let arg20 : BitVec 32 := Scf.iv c0_i32_43 c1_i32_45 k0_t6
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t7
  let v108 : BitVec 32 := Scalar.addi v107 arg21
  let c2_i32_102 : BitVec 32 := 2#32
  let c0_i32_103 : BitVec 32 := 0#32
  let v180 : BitVec 1 := Scalar.cmpi .eq c2_i32_102 c0_i32_103
  let c1_i32_104 : BitVec 32 := 1#32
  let v181 : BitVec 32 := Scalar.select v180 c1_i32_104 c2_i32_102
  let v182 : BitVec 32 := Scalar.remsi v108 v181
  let c0_i32_106 : BitVec 32 := 0#32
  let v184 : BitVec 1 := Scalar.cmpi .slt v182 c0_i32_106
  let c0_i32_107 : BitVec 32 := 0#32
  let v185 : BitVec 1 := Scalar.cmpi .slt v181 c0_i32_107
  let v186 : BitVec 1 := Scalar.xori v184 v185
  let c0_i32_105 : BitVec 32 := 0#32
  let v183 : BitVec 1 := Scalar.cmpi .ne v182 c0_i32_105
  let v187 : BitVec 1 := Scalar.andi v186 v183
  let v188 : BitVec 32 := Scalar.addi v182 v181
  let v189 : BitVec 32 := Scalar.select v187 v188 v182
  let v190 : Index := Scalar.indexCast v189
  let c1_108 : Index := 1#32
  let c0_109 : Index := 0#32
  let c0_110 : Index := 0#32
  ![v190.toNat, 1, 0, 0]
def k0_mult22 (k0_t6 : Fin k0_t6_loop.trips) (k0_t7 : Fin k0_t7_loop.trips) : BitVec 32 :=
  let c0_i32_43 : BitVec 32 := 0#32
  let c1_i32_45 : BitVec 32 := 1#32
  let arg20 : BitVec 32 := Scf.iv c0_i32_43 c1_i32_45 k0_t6
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t7
  let v108 : BitVec 32 := Scalar.addi v107 arg21
  let c128_i32_113 : BitVec 32 := 128#32
  let v200 : BitVec 32 := Scalar.muli v108 c128_i32_113
  v200
def k0_off109 (k0_t6 : Fin k0_t6_loop.trips) (k0_t7 : Fin k0_t7_loop.trips) : Fin 2 → Nat :=
  let c128 : Index := 128#32
  let c0_i32_43 : BitVec 32 := 0#32
  let c1_i32_45 : BitVec 32 := 1#32
  let arg20 : BitVec 32 := Scf.iv c0_i32_43 c1_i32_45 k0_t6
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t7
  let v108 : BitVec 32 := Scalar.addi v107 arg21
  let c128_i32_113 : BitVec 32 := 128#32
  let v200 : BitVec 32 := Scalar.muli v108 c128_i32_113
  let v201 : BitVec 32 := v200
  let v202 : Index := Scalar.indexCast v201
  ![128, v202.toNat]
def k0_off110 (k0_t6 : Fin k0_t6_loop.trips) (k0_t7 : Fin k0_t7_loop.trips) : Fin 4 → Nat :=
  let c0_i32_43 : BitVec 32 := 0#32
  let c1_i32_45 : BitVec 32 := 1#32
  let arg20 : BitVec 32 := Scf.iv c0_i32_43 c1_i32_45 k0_t6
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t7
  let v108 : BitVec 32 := Scalar.addi v107 arg21
  let c2_i32_123 : BitVec 32 := 2#32
  let c0_i32_124 : BitVec 32 := 0#32
  let v218 : BitVec 1 := Scalar.cmpi .eq c2_i32_123 c0_i32_124
  let c1_i32_125 : BitVec 32 := 1#32
  let v219 : BitVec 32 := Scalar.select v218 c1_i32_125 c2_i32_123
  let v220 : BitVec 32 := Scalar.remsi v108 v219
  let c0_i32_127 : BitVec 32 := 0#32
  let v222 : BitVec 1 := Scalar.cmpi .slt v220 c0_i32_127
  let c0_i32_128 : BitVec 32 := 0#32
  let v223 : BitVec 1 := Scalar.cmpi .slt v219 c0_i32_128
  let v224 : BitVec 1 := Scalar.xori v222 v223
  let c0_i32_126 : BitVec 32 := 0#32
  let v221 : BitVec 1 := Scalar.cmpi .ne v220 c0_i32_126
  let v225 : BitVec 1 := Scalar.andi v224 v221
  let v226 : BitVec 32 := Scalar.addi v220 v219
  let v227 : BitVec 32 := Scalar.select v225 v226 v220
  let v228 : Index := Scalar.indexCast v227
  let c1_129 : Index := 1#32
  let c0_130 : Index := 0#32
  let c0_131 : Index := 0#32
  ![v228.toNat, 1, 0, 0]
def k0_off111 (k0_t6 : Fin k0_t6_loop.trips) (k0_t7 : Fin k0_t7_loop.trips) : Fin 4 → Nat :=
  let c0_i32_43 : BitVec 32 := 0#32
  let c1_i32_45 : BitVec 32 := 1#32
  let arg20 : BitVec 32 := Scf.iv c0_i32_43 c1_i32_45 k0_t6
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t7
  let v108 : BitVec 32 := Scalar.addi v107 arg21
  let c2_i32_132 : BitVec 32 := 2#32
  let c0_i32_133 : BitVec 32 := 0#32
  let v231 : BitVec 1 := Scalar.cmpi .eq c2_i32_132 c0_i32_133
  let c1_i32_134 : BitVec 32 := 1#32
  let v232 : BitVec 32 := Scalar.select v231 c1_i32_134 c2_i32_132
  let v233 : BitVec 32 := Scalar.remsi v108 v232
  let c0_i32_136 : BitVec 32 := 0#32
  let v235 : BitVec 1 := Scalar.cmpi .slt v233 c0_i32_136
  let c0_i32_137 : BitVec 32 := 0#32
  let v236 : BitVec 1 := Scalar.cmpi .slt v232 c0_i32_137
  let v237 : BitVec 1 := Scalar.xori v235 v236
  let c0_i32_135 : BitVec 32 := 0#32
  let v234 : BitVec 1 := Scalar.cmpi .ne v233 c0_i32_135
  let v238 : BitVec 1 := Scalar.andi v237 v234
  let v239 : BitVec 32 := Scalar.addi v233 v232
  let v240 : BitVec 32 := Scalar.select v238 v239 v233
  let v241 : Index := Scalar.indexCast v240
  let c1_138 : Index := 1#32
  let c1_139 : Index := 1#32
  let c0_140 : Index := 0#32
  ![v241.toNat, 1, 1, 0]
def k0_off112 (k0_t6 : Fin k0_t6_loop.trips) (k0_t7 : Fin k0_t7_loop.trips) : Fin 2 → Nat :=
  let c0_i32_43 : BitVec 32 := 0#32
  let c1_i32_45 : BitVec 32 := 1#32
  let arg20 : BitVec 32 := Scf.iv c0_i32_43 c1_i32_45 k0_t6
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t7
  let v108 : BitVec 32 := Scalar.addi v107 arg21
  let c256_i32_57 : BitVec 32 := 256#32
  let v109 : BitVec 32 := Scalar.muli v108 c256_i32_57
  let v110 : BitVec 32 := v109
  let v251 : Index := Scalar.indexCast v110
  let c0_142 : Index := 0#32
  ![v251.toNat, 0]
def k0_cond5 (i : grid0.Coords) : BitVec 1 :=
  let arg0 : BitVec 32 := BitVec.ofNat 32 (i 0).val
  let c0_i32_10 : BitVec 32 := 0#32
  let v22 : BitVec 1 := Scalar.cmpi .sgt arg0 c0_i32_10
  let c2_i32_11 : BitVec 32 := 2#32
  let c0_i32_12 : BitVec 32 := 0#32
  let v23 : BitVec 1 := Scalar.cmpi .eq c2_i32_11 c0_i32_12
  let c1_i32_13 : BitVec 32 := 1#32
  let v24 : BitVec 32 := Scalar.select v23 c1_i32_13 c2_i32_11
  let v25 : BitVec 32 := Scalar.remsi arg0 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let c1_i32_17 : BitVec 32 := 1#32
  let v33 : BitVec 1 := Scalar.cmpi .eq v32 c1_i32_17
  let v34 : BitVec 1 := Scalar.andi v22 v33
  let v35 : BitVec 32 := Scalar.extui v34
  let c0_i32_18 : BitVec 32 := 0#32
  let v36 : BitVec 1 := Scalar.cmpi .ne v35 c0_i32_18
  v36

def k0_mult23 (i : grid0.Coords) : BitVec 32 :=
  let arg0 : BitVec 32 := BitVec.ofNat 32 (i 0).val
  let c55_i32 : BitVec 32 := 55#32
  let v37 : BitVec 32 := Scalar.minsi arg0 c55_i32
  let c256_i32 : BitVec 32 := 256#32
  let v38 : BitVec 32 := Scalar.muli v37 c256_i32
  v38
def k0_off113 (i : grid0.Coords) : Fin 2 → Nat :=
  let c0_i32_20 : BitVec 32 := 0#32
  let arg0 : BitVec 32 := BitVec.ofNat 32 (i 0).val
  let c55_i32 : BitVec 32 := 55#32
  let v37 : BitVec 32 := Scalar.minsi arg0 c55_i32
  let c256_i32 : BitVec 32 := 256#32
  let v38 : BitVec 32 := Scalar.muli v37 c256_i32
  let v39 : BitVec 32 := v38
  ![0, v39.toNat]
def k0_cond6 (i : grid0.Coords) : BitVec 1 :=
  let arg0 : BitVec 32 := BitVec.ofNat 32 (i 0).val
  let c56_i32 : BitVec 32 := 56#32
  let v43 : BitVec 1 := Scalar.cmpi .slt arg0 c56_i32
  let v44 : BitVec 32 := Scalar.extui v43
  let c0_i32_21 : BitVec 32 := 0#32
  let v45 : BitVec 1 := Scalar.cmpi .ne v44 c0_i32_21
  v45

def k0_mult24 (i : grid0.Coords) : BitVec 32 :=
  let arg0 : BitVec 32 := BitVec.ofNat 32 (i 0).val
  let c1_i32_47 : BitVec 32 := 1#32
  let v95 : BitVec 32 := Scalar.addi arg0 c1_i32_47
  let c55_i32_48 : BitVec 32 := 55#32
  let v96 : BitVec 32 := Scalar.minsi v95 c55_i32_48
  let c256_i32_49 : BitVec 32 := 256#32
  let v97 : BitVec 32 := Scalar.muli v96 c256_i32_49
  v97
def k0_off114 (i : grid0.Coords) : Fin 2 → Nat :=
  let c0_i32_51 : BitVec 32 := 0#32
  let arg0 : BitVec 32 := BitVec.ofNat 32 (i 0).val
  let c1_i32_47 : BitVec 32 := 1#32
  let v95 : BitVec 32 := Scalar.addi arg0 c1_i32_47
  let c55_i32_48 : BitVec 32 := 55#32
  let v96 : BitVec 32 := Scalar.minsi v95 c55_i32_48
  let c256_i32_49 : BitVec 32 := 256#32
  let v97 : BitVec 32 := Scalar.muli v96 c256_i32_49
  let v98 : BitVec 32 := v97
  ![0, v98.toNat]
@[reducible] def k0_t10_loop : Scf.Loop 32 :=
  let c0_i32_40 : BitVec 32 := 0#32
  let c32_i32 : BitVec 32 := 32#32
  let v93 : BitVec 32 := Scalar.addi c0_i32_40 c32_i32
  let c1_i32_41 : BitVec 32 := 1#32
  ⟨c0_i32_40, v93, c1_i32_41⟩
def k0_mult25 (k0_t10 : Fin k0_t10_loop.trips) : BitVec 32 :=
  let c0_i32_40 : BitVec 32 := 0#32
  let c1_i32_41 : BitVec 32 := 1#32
  let arg20 : BitVec 32 := Scf.iv c0_i32_40 c1_i32_41 k0_t10
  let c8_i32_47 : BitVec 32 := 8#32
  let v95 : BitVec 32 := Scalar.muli arg20 c8_i32_47
  v95
def k0_off115 (k0_t10 : Fin k0_t10_loop.trips) : Fin 2 → Nat :=
  let c0_i32_40 : BitVec 32 := 0#32
  let c1_i32_41 : BitVec 32 := 1#32
  let arg20 : BitVec 32 := Scf.iv c0_i32_40 c1_i32_41 k0_t10
  let c8_i32_47 : BitVec 32 := 8#32
  let v95 : BitVec 32 := Scalar.muli arg20 c8_i32_47
  let v96 : BitVec 32 := v95
  let v97 : Index := Scalar.indexCast v96
  let c0_48 : Index := 0#32
  ![v97.toNat, 0]
def k0_off116 (k0_t10 : Fin k0_t10_loop.trips) : Fin 4 → Nat :=
  let c0_71 : Index := 0#32
  let c0_72 : Index := 0#32
  let c0_i32_40 : BitVec 32 := 0#32
  let c1_i32_41 : BitVec 32 := 1#32
  let arg20 : BitVec 32 := Scf.iv c0_i32_40 c1_i32_41 k0_t10
  let c8_i32_47 : BitVec 32 := 8#32
  let v95 : BitVec 32 := Scalar.muli arg20 c8_i32_47
  let v96 : BitVec 32 := v95
  let v153 : Index := Scalar.indexCast v96
  let c0_73 : Index := 0#32
  ![0, 0, v153.toNat, 0]
def k0_off117 (k0_t10 : Fin k0_t10_loop.trips) : Fin 4 → Nat :=
  let c1 : Index := 1#32
  let c0_76 : Index := 0#32
  let c0_i32_40 : BitVec 32 := 0#32
  let c1_i32_41 : BitVec 32 := 1#32
  let arg20 : BitVec 32 := Scf.iv c0_i32_40 c1_i32_41 k0_t10
  let c8_i32_47 : BitVec 32 := 8#32
  let v95 : BitVec 32 := Scalar.muli arg20 c8_i32_47
  let v96 : BitVec 32 := v95
  let v165 : Index := Scalar.indexCast v96
  let c0_77 : Index := 0#32
  ![1, 0, v165.toNat, 0]
def k0_off118 (k0_t10 : Fin k0_t10_loop.trips) : Fin 4 → Nat :=
  let c2 : Index := 2#32
  let c0_80 : Index := 0#32
  let c0_i32_40 : BitVec 32 := 0#32
  let c1_i32_41 : BitVec 32 := 1#32
  let arg20 : BitVec 32 := Scf.iv c0_i32_40 c1_i32_41 k0_t10
  let c8_i32_47 : BitVec 32 := 8#32
  let v95 : BitVec 32 := Scalar.muli arg20 c8_i32_47
  let v96 : BitVec 32 := v95
  let v177 : Index := Scalar.indexCast v96
  let c0_81 : Index := 0#32
  ![2, 0, v177.toNat, 0]
def k0_off119 (k0_t10 : Fin k0_t10_loop.trips) : Fin 4 → Nat :=
  let c3 : Index := 3#32
  let c0_84 : Index := 0#32
  let c0_i32_40 : BitVec 32 := 0#32
  let c1_i32_41 : BitVec 32 := 1#32
  let arg20 : BitVec 32 := Scf.iv c0_i32_40 c1_i32_41 k0_t10
  let c8_i32_47 : BitVec 32 := 8#32
  let v95 : BitVec 32 := Scalar.muli arg20 c8_i32_47
  let v96 : BitVec 32 := v95
  let v189 : Index := Scalar.indexCast v96
  let c0_85 : Index := 0#32
  ![3, 0, v189.toNat, 0]
def k0_off120 (k0_t10 : Fin k0_t10_loop.trips) : Fin 4 → Nat :=
  let c4 : Index := 4#32
  let c0_88 : Index := 0#32
  let c0_i32_40 : BitVec 32 := 0#32
  let c1_i32_41 : BitVec 32 := 1#32
  let arg20 : BitVec 32 := Scf.iv c0_i32_40 c1_i32_41 k0_t10
  let c8_i32_47 : BitVec 32 := 8#32
  let v95 : BitVec 32 := Scalar.muli arg20 c8_i32_47
  let v96 : BitVec 32 := v95
  let v201 : Index := Scalar.indexCast v96
  let c0_89 : Index := 0#32
  ![4, 0, v201.toNat, 0]
def k0_off121 (k0_t10 : Fin k0_t10_loop.trips) : Fin 4 → Nat :=
  let c5 : Index := 5#32
  let c0_92 : Index := 0#32
  let c0_i32_40 : BitVec 32 := 0#32
  let c1_i32_41 : BitVec 32 := 1#32
  let arg20 : BitVec 32 := Scf.iv c0_i32_40 c1_i32_41 k0_t10
  let c8_i32_47 : BitVec 32 := 8#32
  let v95 : BitVec 32 := Scalar.muli arg20 c8_i32_47
  let v96 : BitVec 32 := v95
  let v213 : Index := Scalar.indexCast v96
  let c0_93 : Index := 0#32
  ![5, 0, v213.toNat, 0]
def k0_off122 (k0_t10 : Fin k0_t10_loop.trips) : Fin 4 → Nat :=
  let c6 : Index := 6#32
  let c0_96 : Index := 0#32
  let c0_i32_40 : BitVec 32 := 0#32
  let c1_i32_41 : BitVec 32 := 1#32
  let arg20 : BitVec 32 := Scf.iv c0_i32_40 c1_i32_41 k0_t10
  let c8_i32_47 : BitVec 32 := 8#32
  let v95 : BitVec 32 := Scalar.muli arg20 c8_i32_47
  let v96 : BitVec 32 := v95
  let v225 : Index := Scalar.indexCast v96
  let c0_97 : Index := 0#32
  ![6, 0, v225.toNat, 0]
def k0_off123 (k0_t10 : Fin k0_t10_loop.trips) : Fin 4 → Nat :=
  let c7 : Index := 7#32
  let c0_100 : Index := 0#32
  let c0_i32_40 : BitVec 32 := 0#32
  let c1_i32_41 : BitVec 32 := 1#32
  let arg20 : BitVec 32 := Scf.iv c0_i32_40 c1_i32_41 k0_t10
  let c8_i32_47 : BitVec 32 := 8#32
  let v95 : BitVec 32 := Scalar.muli arg20 c8_i32_47
  let v96 : BitVec 32 := v95
  let v237 : Index := Scalar.indexCast v96
  let c0_101 : Index := 0#32
  ![7, 0, v237.toNat, 0]
def k0_off124 (k0_t10 : Fin k0_t10_loop.trips) : Fin 4 → Nat :=
  let c8 : Index := 8#32
  let c0_104 : Index := 0#32
  let c0_i32_40 : BitVec 32 := 0#32
  let c1_i32_41 : BitVec 32 := 1#32
  let arg20 : BitVec 32 := Scf.iv c0_i32_40 c1_i32_41 k0_t10
  let c8_i32_47 : BitVec 32 := 8#32
  let v95 : BitVec 32 := Scalar.muli arg20 c8_i32_47
  let v96 : BitVec 32 := v95
  let v249 : Index := Scalar.indexCast v96
  let c0_105 : Index := 0#32
  ![8, 0, v249.toNat, 0]
def k0_off125 (k0_t10 : Fin k0_t10_loop.trips) : Fin 4 → Nat :=
  let c9 : Index := 9#32
  let c0_108 : Index := 0#32
  let c0_i32_40 : BitVec 32 := 0#32
  let c1_i32_41 : BitVec 32 := 1#32
  let arg20 : BitVec 32 := Scf.iv c0_i32_40 c1_i32_41 k0_t10
  let c8_i32_47 : BitVec 32 := 8#32
  let v95 : BitVec 32 := Scalar.muli arg20 c8_i32_47
  let v96 : BitVec 32 := v95
  let v261 : Index := Scalar.indexCast v96
  let c0_109 : Index := 0#32
  ![9, 0, v261.toNat, 0]
def k0_off126 (k0_t10 : Fin k0_t10_loop.trips) : Fin 4 → Nat :=
  let c0_113 : Index := 0#32
  let c1_114 : Index := 1#32
  let c0_i32_40 : BitVec 32 := 0#32
  let c1_i32_41 : BitVec 32 := 1#32
  let arg20 : BitVec 32 := Scf.iv c0_i32_40 c1_i32_41 k0_t10
  let c8_i32_47 : BitVec 32 := 8#32
  let v95 : BitVec 32 := Scalar.muli arg20 c8_i32_47
  let v96 : BitVec 32 := v95
  let v275 : Index := Scalar.indexCast v96
  let c0_115 : Index := 0#32
  ![0, 1, v275.toNat, 0]
def k0_off127 (k0_t10 : Fin k0_t10_loop.trips) : Fin 4 → Nat :=
  let c1_118 : Index := 1#32
  let c1_119 : Index := 1#32
  let c0_i32_40 : BitVec 32 := 0#32
  let c1_i32_41 : BitVec 32 := 1#32
  let arg20 : BitVec 32 := Scf.iv c0_i32_40 c1_i32_41 k0_t10
  let c8_i32_47 : BitVec 32 := 8#32
  let v95 : BitVec 32 := Scalar.muli arg20 c8_i32_47
  let v96 : BitVec 32 := v95
  let v287 : Index := Scalar.indexCast v96
  let c0_120 : Index := 0#32
  ![1, 1, v287.toNat, 0]
def k0_off128 (k0_t10 : Fin k0_t10_loop.trips) : Fin 4 → Nat :=
  let c2_123 : Index := 2#32
  let c1_124 : Index := 1#32
  let c0_i32_40 : BitVec 32 := 0#32
  let c1_i32_41 : BitVec 32 := 1#32
  let arg20 : BitVec 32 := Scf.iv c0_i32_40 c1_i32_41 k0_t10
  let c8_i32_47 : BitVec 32 := 8#32
  let v95 : BitVec 32 := Scalar.muli arg20 c8_i32_47
  let v96 : BitVec 32 := v95
  let v299 : Index := Scalar.indexCast v96
  let c0_125 : Index := 0#32
  ![2, 1, v299.toNat, 0]
def k0_off129 (k0_t10 : Fin k0_t10_loop.trips) : Fin 4 → Nat :=
  let c3_128 : Index := 3#32
  let c1_129 : Index := 1#32
  let c0_i32_40 : BitVec 32 := 0#32
  let c1_i32_41 : BitVec 32 := 1#32
  let arg20 : BitVec 32 := Scf.iv c0_i32_40 c1_i32_41 k0_t10
  let c8_i32_47 : BitVec 32 := 8#32
  let v95 : BitVec 32 := Scalar.muli arg20 c8_i32_47
  let v96 : BitVec 32 := v95
  let v311 : Index := Scalar.indexCast v96
  let c0_130 : Index := 0#32
  ![3, 1, v311.toNat, 0]
def k0_off130 (k0_t10 : Fin k0_t10_loop.trips) : Fin 4 → Nat :=
  let c4_133 : Index := 4#32
  let c1_134 : Index := 1#32
  let c0_i32_40 : BitVec 32 := 0#32
  let c1_i32_41 : BitVec 32 := 1#32
  let arg20 : BitVec 32 := Scf.iv c0_i32_40 c1_i32_41 k0_t10
  let c8_i32_47 : BitVec 32 := 8#32
  let v95 : BitVec 32 := Scalar.muli arg20 c8_i32_47
  let v96 : BitVec 32 := v95
  let v323 : Index := Scalar.indexCast v96
  let c0_135 : Index := 0#32
  ![4, 1, v323.toNat, 0]
def k0_off131 (k0_t10 : Fin k0_t10_loop.trips) : Fin 4 → Nat :=
  let c5_138 : Index := 5#32
  let c1_139 : Index := 1#32
  let c0_i32_40 : BitVec 32 := 0#32
  let c1_i32_41 : BitVec 32 := 1#32
  let arg20 : BitVec 32 := Scf.iv c0_i32_40 c1_i32_41 k0_t10
  let c8_i32_47 : BitVec 32 := 8#32
  let v95 : BitVec 32 := Scalar.muli arg20 c8_i32_47
  let v96 : BitVec 32 := v95
  let v335 : Index := Scalar.indexCast v96
  let c0_140 : Index := 0#32
  ![5, 1, v335.toNat, 0]
def k0_off132 (k0_t10 : Fin k0_t10_loop.trips) : Fin 4 → Nat :=
  let c6_143 : Index := 6#32
  let c1_144 : Index := 1#32
  let c0_i32_40 : BitVec 32 := 0#32
  let c1_i32_41 : BitVec 32 := 1#32
  let arg20 : BitVec 32 := Scf.iv c0_i32_40 c1_i32_41 k0_t10
  let c8_i32_47 : BitVec 32 := 8#32
  let v95 : BitVec 32 := Scalar.muli arg20 c8_i32_47
  let v96 : BitVec 32 := v95
  let v347 : Index := Scalar.indexCast v96
  let c0_145 : Index := 0#32
  ![6, 1, v347.toNat, 0]
def k0_off133 (k0_t10 : Fin k0_t10_loop.trips) : Fin 4 → Nat :=
  let c7_148 : Index := 7#32
  let c1_149 : Index := 1#32
  let c0_i32_40 : BitVec 32 := 0#32
  let c1_i32_41 : BitVec 32 := 1#32
  let arg20 : BitVec 32 := Scf.iv c0_i32_40 c1_i32_41 k0_t10
  let c8_i32_47 : BitVec 32 := 8#32
  let v95 : BitVec 32 := Scalar.muli arg20 c8_i32_47
  let v96 : BitVec 32 := v95
  let v359 : Index := Scalar.indexCast v96
  let c0_150 : Index := 0#32
  ![7, 1, v359.toNat, 0]
def k0_off134 (k0_t10 : Fin k0_t10_loop.trips) : Fin 4 → Nat :=
  let c8_153 : Index := 8#32
  let c1_154 : Index := 1#32
  let c0_i32_40 : BitVec 32 := 0#32
  let c1_i32_41 : BitVec 32 := 1#32
  let arg20 : BitVec 32 := Scf.iv c0_i32_40 c1_i32_41 k0_t10
  let c8_i32_47 : BitVec 32 := 8#32
  let v95 : BitVec 32 := Scalar.muli arg20 c8_i32_47
  let v96 : BitVec 32 := v95
  let v371 : Index := Scalar.indexCast v96
  let c0_155 : Index := 0#32
  ![8, 1, v371.toNat, 0]
def k0_off135 (k0_t10 : Fin k0_t10_loop.trips) : Fin 4 → Nat :=
  let c9_158 : Index := 9#32
  let c1_159 : Index := 1#32
  let c0_i32_40 : BitVec 32 := 0#32
  let c1_i32_41 : BitVec 32 := 1#32
  let arg20 : BitVec 32 := Scf.iv c0_i32_40 c1_i32_41 k0_t10
  let c8_i32_47 : BitVec 32 := 8#32
  let v95 : BitVec 32 := Scalar.muli arg20 c8_i32_47
  let v96 : BitVec 32 := v95
  let v383 : Index := Scalar.indexCast v96
  let c0_160 : Index := 0#32
  ![9, 1, v383.toNat, 0]
@[reducible] def k0_t11_loop : Scf.Loop 32 :=
  let c0_i32_43 : BitVec 32 := 0#32
  let c8_i32_44 : BitVec 32 := 8#32
  let v94 : BitVec 32 := Scalar.addi c0_i32_43 c8_i32_44
  let c1_i32_45 : BitVec 32 := 1#32
  ⟨c0_i32_43, v94, c1_i32_45⟩
def k0_mult26 (k0_t11 : Fin k0_t11_loop.trips) : BitVec 32 :=
  let c0_i32_43 : BitVec 32 := 0#32
  let c1_i32_45 : BitVec 32 := 1#32
  let arg20 : BitVec 32 := Scf.iv c0_i32_43 c1_i32_45 k0_t11
  let c240_i32 : BitVec 32 := 240#32
  let v95 : BitVec 32 := Scalar.muli arg20 c240_i32
  v95
def k0_off136 (k0_t11 : Fin k0_t11_loop.trips) : Fin 2 → Nat :=
  let c0_i32_43 : BitVec 32 := 0#32
  let c1_i32_45 : BitVec 32 := 1#32
  let arg20 : BitVec 32 := Scf.iv c0_i32_43 c1_i32_45 k0_t11
  let c240_i32 : BitVec 32 := 240#32
  let v95 : BitVec 32 := Scalar.muli arg20 c240_i32
  let v96 : BitVec 32 := v95
  let v97 : Index := Scalar.indexCast v96
  let c0_47 : Index := 0#32
  ![v97.toNat, 0]
def k0_off137 (k0_t11 : Fin k0_t11_loop.trips) : Fin 2 → Nat :=
  let c0_i32_43 : BitVec 32 := 0#32
  let c1_i32_45 : BitVec 32 := 1#32
  let arg20 : BitVec 32 := Scf.iv c0_i32_43 c1_i32_45 k0_t11
  let c240_i32 : BitVec 32 := 240#32
  let v95 : BitVec 32 := Scalar.muli arg20 c240_i32
  let v96 : BitVec 32 := v95
  let v104 : Index := Scalar.indexCast v96
  let c0_51 : Index := 0#32
  ![v104.toNat, 0]
@[reducible] def k0_t12_loop : Scf.Loop 32 :=
  let c0_i32_52 : BitVec 32 := 0#32
  let c2_i32_53 : BitVec 32 := 2#32
  let v106 : BitVec 32 := Scalar.addi c0_i32_52 c2_i32_53
  let c1_i32_54 : BitVec 32 := 1#32
  ⟨c0_i32_52, v106, c1_i32_54⟩
def k0_mult27 (k0_t11 : Fin k0_t11_loop.trips) (k0_t12 : Fin k0_t12_loop.trips) : BitVec 32 :=
  let c0_i32_43 : BitVec 32 := 0#32
  let c1_i32_45 : BitVec 32 := 1#32
  let arg20 : BitVec 32 := Scf.iv c0_i32_43 c1_i32_45 k0_t11
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t12
  let v108 : BitVec 32 := Scalar.addi v107 arg21
  let c256_i32_57 : BitVec 32 := 256#32
  let v109 : BitVec 32 := Scalar.muli v108 c256_i32_57
  v109
@[reducible] def k0_t13_loop : Scf.Loop 32 :=
  let c0_i32_58 : BitVec 32 := 0#32
  let c16_i32_59 : BitVec 32 := 16#32
  let v111 : BitVec 32 := Scalar.addi c0_i32_58 c16_i32_59
  let c1_i32_60 : BitVec 32 := 1#32
  ⟨c0_i32_58, v111, c1_i32_60⟩
def k0_mult28 (k0_t11 : Fin k0_t11_loop.trips) (k0_t12 : Fin k0_t12_loop.trips) (k0_t13 : Fin k0_t13_loop.trips) : BitVec 32 :=
  let c0_i32_43 : BitVec 32 := 0#32
  let c1_i32_45 : BitVec 32 := 1#32
  let arg20 : BitVec 32 := Scf.iv c0_i32_43 c1_i32_45 k0_t11
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t12
  let v108 : BitVec 32 := Scalar.addi v107 arg21
  let c256_i32_57 : BitVec 32 := 256#32
  let v109 : BitVec 32 := Scalar.muli v108 c256_i32_57
  let v110 : BitVec 32 := v109
  let c0_i32_58 : BitVec 32 := 0#32
  let c1_i32_60 : BitVec 32 := 1#32
  let arg22 : BitVec 32 := Scf.iv c0_i32_58 c1_i32_60 k0_t13
  let c16_i32_143 : BitVec 32 := 16#32
  let v253 : BitVec 32 := Scalar.muli arg22 c16_i32_143
  let v254 : BitVec 32 := Scalar.addi v110 v253
  v254
def k0_off138 (k0_t11 : Fin k0_t11_loop.trips) (k0_t12 : Fin k0_t12_loop.trips) (k0_t13 : Fin k0_t13_loop.trips) : Fin 2 → Nat :=
  let c0_i32_43 : BitVec 32 := 0#32
  let c1_i32_45 : BitVec 32 := 1#32
  let arg20 : BitVec 32 := Scf.iv c0_i32_43 c1_i32_45 k0_t11
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t12
  let v108 : BitVec 32 := Scalar.addi v107 arg21
  let c256_i32_57 : BitVec 32 := 256#32
  let v109 : BitVec 32 := Scalar.muli v108 c256_i32_57
  let v110 : BitVec 32 := v109
  let c0_i32_58 : BitVec 32 := 0#32
  let c1_i32_60 : BitVec 32 := 1#32
  let arg22 : BitVec 32 := Scf.iv c0_i32_58 c1_i32_60 k0_t13
  let c16_i32_143 : BitVec 32 := 16#32
  let v253 : BitVec 32 := Scalar.muli arg22 c16_i32_143
  let v254 : BitVec 32 := Scalar.addi v110 v253
  let v255 : BitVec 32 := v254
  let v258 : Index := Scalar.indexCast v255
  let c0_145 : Index := 0#32
  ![v258.toNat, 0]
def k0_off139 (k0_t11 : Fin k0_t11_loop.trips) (k0_t12 : Fin k0_t12_loop.trips) (k0_t13 : Fin k0_t13_loop.trips) : Fin 4 → Nat :=
  let c3 : Index := 3#32
  let c0_146 : Index := 0#32
  let c0_i32_43 : BitVec 32 := 0#32
  let c1_i32_45 : BitVec 32 := 1#32
  let arg20 : BitVec 32 := Scf.iv c0_i32_43 c1_i32_45 k0_t11
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t12
  let v108 : BitVec 32 := Scalar.addi v107 arg21
  let c16_i32_144 : BitVec 32 := 16#32
  let v256 : BitVec 32 := Scalar.muli v108 c16_i32_144
  let c0_i32_58 : BitVec 32 := 0#32
  let c1_i32_60 : BitVec 32 := 1#32
  let arg22 : BitVec 32 := Scf.iv c0_i32_58 c1_i32_60 k0_t13
  let v257 : BitVec 32 := Scalar.addi v256 arg22
  let v262 : Index := Scalar.indexCast v257
  let c0_147 : Index := 0#32
  ![3, 0, v262.toNat, 0]
def k0_off140 (k0_t11 : Fin k0_t11_loop.trips) (k0_t12 : Fin k0_t12_loop.trips) (k0_t13 : Fin k0_t13_loop.trips) : Fin 4 → Nat :=
  let c5 : Index := 5#32
  let c0_149 : Index := 0#32
  let c0_i32_43 : BitVec 32 := 0#32
  let c1_i32_45 : BitVec 32 := 1#32
  let arg20 : BitVec 32 := Scf.iv c0_i32_43 c1_i32_45 k0_t11
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t12
  let v108 : BitVec 32 := Scalar.addi v107 arg21
  let c16_i32_144 : BitVec 32 := 16#32
  let v256 : BitVec 32 := Scalar.muli v108 c16_i32_144
  let c0_i32_58 : BitVec 32 := 0#32
  let c1_i32_60 : BitVec 32 := 1#32
  let arg22 : BitVec 32 := Scf.iv c0_i32_58 c1_i32_60 k0_t13
  let v257 : BitVec 32 := Scalar.addi v256 arg22
  let v269 : Index := Scalar.indexCast v257
  let c0_150 : Index := 0#32
  ![5, 0, v269.toNat, 0]
def k0_off141 (k0_t11 : Fin k0_t11_loop.trips) (k0_t12 : Fin k0_t12_loop.trips) (k0_t13 : Fin k0_t13_loop.trips) : Fin 4 → Nat :=
  let c1_151 : Index := 1#32
  let c0_152 : Index := 0#32
  let c0_i32_43 : BitVec 32 := 0#32
  let c1_i32_45 : BitVec 32 := 1#32
  let arg20 : BitVec 32 := Scf.iv c0_i32_43 c1_i32_45 k0_t11
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t12
  let v108 : BitVec 32 := Scalar.addi v107 arg21
  let c16_i32_144 : BitVec 32 := 16#32
  let v256 : BitVec 32 := Scalar.muli v108 c16_i32_144
  let c0_i32_58 : BitVec 32 := 0#32
  let c1_i32_60 : BitVec 32 := 1#32
  let arg22 : BitVec 32 := Scf.iv c0_i32_58 c1_i32_60 k0_t13
  let v257 : BitVec 32 := Scalar.addi v256 arg22
  let v272 : Index := Scalar.indexCast v257
  let c0_153 : Index := 0#32
  ![1, 0, v272.toNat, 0]
def k0_off142 (k0_t11 : Fin k0_t11_loop.trips) (k0_t12 : Fin k0_t12_loop.trips) (k0_t13 : Fin k0_t13_loop.trips) : Fin 4 → Nat :=
  let c6 : Index := 6#32
  let c0_155 : Index := 0#32
  let c0_i32_43 : BitVec 32 := 0#32
  let c1_i32_45 : BitVec 32 := 1#32
  let arg20 : BitVec 32 := Scf.iv c0_i32_43 c1_i32_45 k0_t11
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t12
  let v108 : BitVec 32 := Scalar.addi v107 arg21
  let c16_i32_144 : BitVec 32 := 16#32
  let v256 : BitVec 32 := Scalar.muli v108 c16_i32_144
  let c0_i32_58 : BitVec 32 := 0#32
  let c1_i32_60 : BitVec 32 := 1#32
  let arg22 : BitVec 32 := Scf.iv c0_i32_58 c1_i32_60 k0_t13
  let v257 : BitVec 32 := Scalar.addi v256 arg22
  let v280 : Index := Scalar.indexCast v257
  let c0_156 : Index := 0#32
  ![6, 0, v280.toNat, 0]
def k0_off143 (k0_t11 : Fin k0_t11_loop.trips) (k0_t12 : Fin k0_t12_loop.trips) (k0_t13 : Fin k0_t13_loop.trips) : Fin 4 → Nat :=
  let c4 : Index := 4#32
  let c0_157 : Index := 0#32
  let c0_i32_43 : BitVec 32 := 0#32
  let c1_i32_45 : BitVec 32 := 1#32
  let arg20 : BitVec 32 := Scf.iv c0_i32_43 c1_i32_45 k0_t11
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t12
  let v108 : BitVec 32 := Scalar.addi v107 arg21
  let c16_i32_144 : BitVec 32 := 16#32
  let v256 : BitVec 32 := Scalar.muli v108 c16_i32_144
  let c0_i32_58 : BitVec 32 := 0#32
  let c1_i32_60 : BitVec 32 := 1#32
  let arg22 : BitVec 32 := Scf.iv c0_i32_58 c1_i32_60 k0_t13
  let v257 : BitVec 32 := Scalar.addi v256 arg22
  let v283 : Index := Scalar.indexCast v257
  let c0_158 : Index := 0#32
  ![4, 0, v283.toNat, 0]
def k0_off144 (k0_t11 : Fin k0_t11_loop.trips) (k0_t12 : Fin k0_t12_loop.trips) (k0_t13 : Fin k0_t13_loop.trips) : Fin 4 → Nat :=
  let c2 : Index := 2#32
  let c0_159 : Index := 0#32
  let c0_i32_43 : BitVec 32 := 0#32
  let c1_i32_45 : BitVec 32 := 1#32
  let arg20 : BitVec 32 := Scf.iv c0_i32_43 c1_i32_45 k0_t11
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t12
  let v108 : BitVec 32 := Scalar.addi v107 arg21
  let c16_i32_144 : BitVec 32 := 16#32
  let v256 : BitVec 32 := Scalar.muli v108 c16_i32_144
  let c0_i32_58 : BitVec 32 := 0#32
  let c1_i32_60 : BitVec 32 := 1#32
  let arg22 : BitVec 32 := Scf.iv c0_i32_58 c1_i32_60 k0_t13
  let v257 : BitVec 32 := Scalar.addi v256 arg22
  let v287 : Index := Scalar.indexCast v257
  let c0_160 : Index := 0#32
  ![2, 0, v287.toNat, 0]
def k0_off145 (k0_t11 : Fin k0_t11_loop.trips) (k0_t12 : Fin k0_t12_loop.trips) (k0_t13 : Fin k0_t13_loop.trips) : Fin 4 → Nat :=
  let c0_161 : Index := 0#32
  let c0_162 : Index := 0#32
  let c0_i32_43 : BitVec 32 := 0#32
  let c1_i32_45 : BitVec 32 := 1#32
  let arg20 : BitVec 32 := Scf.iv c0_i32_43 c1_i32_45 k0_t11
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t12
  let v108 : BitVec 32 := Scalar.addi v107 arg21
  let c16_i32_144 : BitVec 32 := 16#32
  let v256 : BitVec 32 := Scalar.muli v108 c16_i32_144
  let c0_i32_58 : BitVec 32 := 0#32
  let c1_i32_60 : BitVec 32 := 1#32
  let arg22 : BitVec 32 := Scf.iv c0_i32_58 c1_i32_60 k0_t13
  let v257 : BitVec 32 := Scalar.addi v256 arg22
  let v290 : Index := Scalar.indexCast v257
  let c0_163 : Index := 0#32
  ![0, 0, v290.toNat, 0]
def k0_off146 (k0_t11 : Fin k0_t11_loop.trips) (k0_t12 : Fin k0_t12_loop.trips) (k0_t13 : Fin k0_t13_loop.trips) : Fin 4 → Nat :=
  let c7 : Index := 7#32
  let c0_164 : Index := 0#32
  let c0_i32_43 : BitVec 32 := 0#32
  let c1_i32_45 : BitVec 32 := 1#32
  let arg20 : BitVec 32 := Scf.iv c0_i32_43 c1_i32_45 k0_t11
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t12
  let v108 : BitVec 32 := Scalar.addi v107 arg21
  let c16_i32_144 : BitVec 32 := 16#32
  let v256 : BitVec 32 := Scalar.muli v108 c16_i32_144
  let c0_i32_58 : BitVec 32 := 0#32
  let c1_i32_60 : BitVec 32 := 1#32
  let arg22 : BitVec 32 := Scf.iv c0_i32_58 c1_i32_60 k0_t13
  let v257 : BitVec 32 := Scalar.addi v256 arg22
  let v297 : Index := Scalar.indexCast v257
  let c0_165 : Index := 0#32
  ![7, 0, v297.toNat, 0]
def k0_off147 (k0_t11 : Fin k0_t11_loop.trips) (k0_t12 : Fin k0_t12_loop.trips) (k0_t13 : Fin k0_t13_loop.trips) : Fin 4 → Nat :=
  let c9 : Index := 9#32
  let c0_172 : Index := 0#32
  let c0_i32_43 : BitVec 32 := 0#32
  let c1_i32_45 : BitVec 32 := 1#32
  let arg20 : BitVec 32 := Scf.iv c0_i32_43 c1_i32_45 k0_t11
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t12
  let v108 : BitVec 32 := Scalar.addi v107 arg21
  let c16_i32_144 : BitVec 32 := 16#32
  let v256 : BitVec 32 := Scalar.muli v108 c16_i32_144
  let c0_i32_58 : BitVec 32 := 0#32
  let c1_i32_60 : BitVec 32 := 1#32
  let arg22 : BitVec 32 := Scf.iv c0_i32_58 c1_i32_60 k0_t13
  let v257 : BitVec 32 := Scalar.addi v256 arg22
  let v327 : Index := Scalar.indexCast v257
  let c0_173 : Index := 0#32
  ![9, 0, v327.toNat, 0]
def k0_off148 (k0_t11 : Fin k0_t11_loop.trips) (k0_t12 : Fin k0_t12_loop.trips) (k0_t13 : Fin k0_t13_loop.trips) : Fin 4 → Nat :=
  let c8 : Index := 8#32
  let c0_174 : Index := 0#32
  let c0_i32_43 : BitVec 32 := 0#32
  let c1_i32_45 : BitVec 32 := 1#32
  let arg20 : BitVec 32 := Scf.iv c0_i32_43 c1_i32_45 k0_t11
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t12
  let v108 : BitVec 32 := Scalar.addi v107 arg21
  let c16_i32_144 : BitVec 32 := 16#32
  let v256 : BitVec 32 := Scalar.muli v108 c16_i32_144
  let c0_i32_58 : BitVec 32 := 0#32
  let c1_i32_60 : BitVec 32 := 1#32
  let arg22 : BitVec 32 := Scf.iv c0_i32_58 c1_i32_60 k0_t13
  let v257 : BitVec 32 := Scalar.addi v256 arg22
  let v330 : Index := Scalar.indexCast v257
  let c0_175 : Index := 0#32
  ![8, 0, v330.toNat, 0]
def k0_mult29 (k0_t13 : Fin k0_t13_loop.trips) : BitVec 32 :=
  let c0_i32_58 : BitVec 32 := 0#32
  let c1_i32_60 : BitVec 32 := 1#32
  let arg22 : BitVec 32 := Scf.iv c0_i32_58 c1_i32_60 k0_t13
  let c8_i32_182 : BitVec 32 := 8#32
  let v347 : BitVec 32 := Scalar.muli arg22 c8_i32_182
  v347
def k0_off149 (k0_t11 : Fin k0_t11_loop.trips) (k0_t12 : Fin k0_t12_loop.trips) (k0_t13 : Fin k0_t13_loop.trips) : Fin 4 → Nat :=
  let c0_i32_43 : BitVec 32 := 0#32
  let c1_i32_45 : BitVec 32 := 1#32
  let arg20 : BitVec 32 := Scf.iv c0_i32_43 c1_i32_45 k0_t11
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t12
  let v108 : BitVec 32 := Scalar.addi v107 arg21
  let c2_i32_176 : BitVec 32 := 2#32
  let c0_i32_177 : BitVec 32 := 0#32
  let v337 : BitVec 1 := Scalar.cmpi .eq c2_i32_176 c0_i32_177
  let c1_i32_178 : BitVec 32 := 1#32
  let v338 : BitVec 32 := Scalar.select v337 c1_i32_178 c2_i32_176
  let v339 : BitVec 32 := Scalar.remsi v108 v338
  let c0_i32_180 : BitVec 32 := 0#32
  let v341 : BitVec 1 := Scalar.cmpi .slt v339 c0_i32_180
  let c0_i32_181 : BitVec 32 := 0#32
  let v342 : BitVec 1 := Scalar.cmpi .slt v338 c0_i32_181
  let v343 : BitVec 1 := Scalar.xori v341 v342
  let c0_i32_179 : BitVec 32 := 0#32
  let v340 : BitVec 1 := Scalar.cmpi .ne v339 c0_i32_179
  let v344 : BitVec 1 := Scalar.andi v343 v340
  let v345 : BitVec 32 := Scalar.addi v339 v338
  let v346 : BitVec 32 := Scalar.select v344 v345 v339
  let v349 : Index := Scalar.indexCast v346
  let c0_183 : Index := 0#32
  let c0_i32_58 : BitVec 32 := 0#32
  let c1_i32_60 : BitVec 32 := 1#32
  let arg22 : BitVec 32 := Scf.iv c0_i32_58 c1_i32_60 k0_t13
  let c8_i32_182 : BitVec 32 := 8#32
  let v347 : BitVec 32 := Scalar.muli arg22 c8_i32_182
  let v348 : BitVec 32 := v347
  let v350 : Index := Scalar.indexCast v348
  let c0_184 : Index := 0#32
  ![v349.toNat, 0, v350.toNat, 0]
def k0_off150 (k0_t11 : Fin k0_t11_loop.trips) (k0_t12 : Fin k0_t12_loop.trips) : Fin 4 → Nat :=
  let c0_i32_43 : BitVec 32 := 0#32
  let c1_i32_45 : BitVec 32 := 1#32
  let arg20 : BitVec 32 := Scf.iv c0_i32_43 c1_i32_45 k0_t11
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t12
  let v108 : BitVec 32 := Scalar.addi v107 arg21
  let c2_i32_62 : BitVec 32 := 2#32
  let c0_i32_63 : BitVec 32 := 0#32
  let v112 : BitVec 1 := Scalar.cmpi .eq c2_i32_62 c0_i32_63
  let c1_i32_64 : BitVec 32 := 1#32
  let v113 : BitVec 32 := Scalar.select v112 c1_i32_64 c2_i32_62
  let v114 : BitVec 32 := Scalar.remsi v108 v113
  let c0_i32_66 : BitVec 32 := 0#32
  let v116 : BitVec 1 := Scalar.cmpi .slt v114 c0_i32_66
  let c0_i32_67 : BitVec 32 := 0#32
  let v117 : BitVec 1 := Scalar.cmpi .slt v113 c0_i32_67
  let v118 : BitVec 1 := Scalar.xori v116 v117
  let c0_i32_65 : BitVec 32 := 0#32
  let v115 : BitVec 1 := Scalar.cmpi .ne v114 c0_i32_65
  let v119 : BitVec 1 := Scalar.andi v118 v115
  let v120 : BitVec 32 := Scalar.addi v114 v113
  let v121 : BitVec 32 := Scalar.select v119 v120 v114
  let v122 : Index := Scalar.indexCast v121
  let c0_68 : Index := 0#32
  let c0_69 : Index := 0#32
  let c0_70 : Index := 0#32
  ![v122.toNat, 0, 0, 0]
def k0_mult30 (k0_t11 : Fin k0_t11_loop.trips) (k0_t12 : Fin k0_t12_loop.trips) : BitVec 32 :=
  let c0_i32_43 : BitVec 32 := 0#32
  let c1_i32_45 : BitVec 32 := 1#32
  let arg20 : BitVec 32 := Scf.iv c0_i32_43 c1_i32_45 k0_t11
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t12
  let v108 : BitVec 32 := Scalar.addi v107 arg21
  let c128_i32 : BitVec 32 := 128#32
  let v132 : BitVec 32 := Scalar.muli v108 c128_i32
  v132
def k0_off151 (k0_t11 : Fin k0_t11_loop.trips) (k0_t12 : Fin k0_t12_loop.trips) : Fin 2 → Nat :=
  let c0_71 : Index := 0#32
  let c0_i32_43 : BitVec 32 := 0#32
  let c1_i32_45 : BitVec 32 := 1#32
  let arg20 : BitVec 32 := Scf.iv c0_i32_43 c1_i32_45 k0_t11
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t12
  let v108 : BitVec 32 := Scalar.addi v107 arg21
  let c128_i32 : BitVec 32 := 128#32
  let v132 : BitVec 32 := Scalar.muli v108 c128_i32
  let v133 : BitVec 32 := v132
  let v134 : Index := Scalar.indexCast v133
  ![0, v134.toNat]
def k0_off152 (k0_t11 : Fin k0_t11_loop.trips) (k0_t12 : Fin k0_t12_loop.trips) : Fin 4 → Nat :=
  let c0_i32_43 : BitVec 32 := 0#32
  let c1_i32_45 : BitVec 32 := 1#32
  let arg20 : BitVec 32 := Scf.iv c0_i32_43 c1_i32_45 k0_t11
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t12
  let v108 : BitVec 32 := Scalar.addi v107 arg21
  let c2_i32_81 : BitVec 32 := 2#32
  let c0_i32_82 : BitVec 32 := 0#32
  let v150 : BitVec 1 := Scalar.cmpi .eq c2_i32_81 c0_i32_82
  let c1_i32_83 : BitVec 32 := 1#32
  let v151 : BitVec 32 := Scalar.select v150 c1_i32_83 c2_i32_81
  let v152 : BitVec 32 := Scalar.remsi v108 v151
  let c0_i32_85 : BitVec 32 := 0#32
  let v154 : BitVec 1 := Scalar.cmpi .slt v152 c0_i32_85
  let c0_i32_86 : BitVec 32 := 0#32
  let v155 : BitVec 1 := Scalar.cmpi .slt v151 c0_i32_86
  let v156 : BitVec 1 := Scalar.xori v154 v155
  let c0_i32_84 : BitVec 32 := 0#32
  let v153 : BitVec 1 := Scalar.cmpi .ne v152 c0_i32_84
  let v157 : BitVec 1 := Scalar.andi v156 v153
  let v158 : BitVec 32 := Scalar.addi v152 v151
  let v159 : BitVec 32 := Scalar.select v157 v158 v152
  let v160 : Index := Scalar.indexCast v159
  let c0_87 : Index := 0#32
  let c0_88 : Index := 0#32
  let c0_89 : Index := 0#32
  ![v160.toNat, 0, 0, 0]
def k0_off153 (k0_t11 : Fin k0_t11_loop.trips) (k0_t12 : Fin k0_t12_loop.trips) : Fin 4 → Nat :=
  let c0_i32_43 : BitVec 32 := 0#32
  let c1_i32_45 : BitVec 32 := 1#32
  let arg20 : BitVec 32 := Scf.iv c0_i32_43 c1_i32_45 k0_t11
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t12
  let v108 : BitVec 32 := Scalar.addi v107 arg21
  let c2_i32_90 : BitVec 32 := 2#32
  let c0_i32_91 : BitVec 32 := 0#32
  let v163 : BitVec 1 := Scalar.cmpi .eq c2_i32_90 c0_i32_91
  let c1_i32_92 : BitVec 32 := 1#32
  let v164 : BitVec 32 := Scalar.select v163 c1_i32_92 c2_i32_90
  let v165 : BitVec 32 := Scalar.remsi v108 v164
  let c0_i32_94 : BitVec 32 := 0#32
  let v167 : BitVec 1 := Scalar.cmpi .slt v165 c0_i32_94
  let c0_i32_95 : BitVec 32 := 0#32
  let v168 : BitVec 1 := Scalar.cmpi .slt v164 c0_i32_95
  let v169 : BitVec 1 := Scalar.xori v167 v168
  let c0_i32_93 : BitVec 32 := 0#32
  let v166 : BitVec 1 := Scalar.cmpi .ne v165 c0_i32_93
  let v170 : BitVec 1 := Scalar.andi v169 v166
  let v171 : BitVec 32 := Scalar.addi v165 v164
  let v172 : BitVec 32 := Scalar.select v170 v171 v165
  let v173 : Index := Scalar.indexCast v172
  let c0_96 : Index := 0#32
  let c1 : Index := 1#32
  let c0_97 : Index := 0#32
  ![v173.toNat, 0, 1, 0]
@[reducible] def k0_t14_loop : Scf.Loop 32 :=
  let c0_i32_98 : BitVec 32 := 0#32
  let c16_i32_99 : BitVec 32 := 16#32
  let v179 : BitVec 32 := Scalar.addi c0_i32_98 c16_i32_99
  let c1_i32_100 : BitVec 32 := 1#32
  ⟨c0_i32_98, v179, c1_i32_100⟩
def k0_mult31 (k0_t11 : Fin k0_t11_loop.trips) (k0_t12 : Fin k0_t12_loop.trips) (k0_t14 : Fin k0_t14_loop.trips) : BitVec 32 :=
  let c0_i32_43 : BitVec 32 := 0#32
  let c1_i32_45 : BitVec 32 := 1#32
  let arg20 : BitVec 32 := Scf.iv c0_i32_43 c1_i32_45 k0_t11
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t12
  let v108 : BitVec 32 := Scalar.addi v107 arg21
  let c256_i32_57 : BitVec 32 := 256#32
  let v109 : BitVec 32 := Scalar.muli v108 c256_i32_57
  let v110 : BitVec 32 := v109
  let c0_i32_98 : BitVec 32 := 0#32
  let c1_i32_100 : BitVec 32 := 1#32
  let arg22 : BitVec 32 := Scf.iv c0_i32_98 c1_i32_100 k0_t14
  let c16_i32_143 : BitVec 32 := 16#32
  let v253 : BitVec 32 := Scalar.muli arg22 c16_i32_143
  let v254 : BitVec 32 := Scalar.addi v110 v253
  v254
def k0_off154 (k0_t11 : Fin k0_t11_loop.trips) (k0_t12 : Fin k0_t12_loop.trips) (k0_t14 : Fin k0_t14_loop.trips) : Fin 2 → Nat :=
  let c0_i32_43 : BitVec 32 := 0#32
  let c1_i32_45 : BitVec 32 := 1#32
  let arg20 : BitVec 32 := Scf.iv c0_i32_43 c1_i32_45 k0_t11
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t12
  let v108 : BitVec 32 := Scalar.addi v107 arg21
  let c256_i32_57 : BitVec 32 := 256#32
  let v109 : BitVec 32 := Scalar.muli v108 c256_i32_57
  let v110 : BitVec 32 := v109
  let c0_i32_98 : BitVec 32 := 0#32
  let c1_i32_100 : BitVec 32 := 1#32
  let arg22 : BitVec 32 := Scf.iv c0_i32_98 c1_i32_100 k0_t14
  let c16_i32_143 : BitVec 32 := 16#32
  let v253 : BitVec 32 := Scalar.muli arg22 c16_i32_143
  let v254 : BitVec 32 := Scalar.addi v110 v253
  let v255 : BitVec 32 := v254
  let v258 : Index := Scalar.indexCast v255
  let c128_145 : Index := 128#32
  ![v258.toNat, 128]
def k0_off155 (k0_t11 : Fin k0_t11_loop.trips) (k0_t12 : Fin k0_t12_loop.trips) (k0_t14 : Fin k0_t14_loop.trips) : Fin 4 → Nat :=
  let c3 : Index := 3#32
  let c1_146 : Index := 1#32
  let c0_i32_43 : BitVec 32 := 0#32
  let c1_i32_45 : BitVec 32 := 1#32
  let arg20 : BitVec 32 := Scf.iv c0_i32_43 c1_i32_45 k0_t11
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t12
  let v108 : BitVec 32 := Scalar.addi v107 arg21
  let c16_i32_144 : BitVec 32 := 16#32
  let v256 : BitVec 32 := Scalar.muli v108 c16_i32_144
  let c0_i32_98 : BitVec 32 := 0#32
  let c1_i32_100 : BitVec 32 := 1#32
  let arg22 : BitVec 32 := Scf.iv c0_i32_98 c1_i32_100 k0_t14
  let v257 : BitVec 32 := Scalar.addi v256 arg22
  let v262 : Index := Scalar.indexCast v257
  let c0_147 : Index := 0#32
  ![3, 1, v262.toNat, 0]
def k0_off156 (k0_t11 : Fin k0_t11_loop.trips) (k0_t12 : Fin k0_t12_loop.trips) (k0_t14 : Fin k0_t14_loop.trips) : Fin 4 → Nat :=
  let c5 : Index := 5#32
  let c1_149 : Index := 1#32
  let c0_i32_43 : BitVec 32 := 0#32
  let c1_i32_45 : BitVec 32 := 1#32
  let arg20 : BitVec 32 := Scf.iv c0_i32_43 c1_i32_45 k0_t11
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t12
  let v108 : BitVec 32 := Scalar.addi v107 arg21
  let c16_i32_144 : BitVec 32 := 16#32
  let v256 : BitVec 32 := Scalar.muli v108 c16_i32_144
  let c0_i32_98 : BitVec 32 := 0#32
  let c1_i32_100 : BitVec 32 := 1#32
  let arg22 : BitVec 32 := Scf.iv c0_i32_98 c1_i32_100 k0_t14
  let v257 : BitVec 32 := Scalar.addi v256 arg22
  let v269 : Index := Scalar.indexCast v257
  let c0_150 : Index := 0#32
  ![5, 1, v269.toNat, 0]
def k0_off157 (k0_t11 : Fin k0_t11_loop.trips) (k0_t12 : Fin k0_t12_loop.trips) (k0_t14 : Fin k0_t14_loop.trips) : Fin 4 → Nat :=
  let c1_151 : Index := 1#32
  let c1_152 : Index := 1#32
  let c0_i32_43 : BitVec 32 := 0#32
  let c1_i32_45 : BitVec 32 := 1#32
  let arg20 : BitVec 32 := Scf.iv c0_i32_43 c1_i32_45 k0_t11
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t12
  let v108 : BitVec 32 := Scalar.addi v107 arg21
  let c16_i32_144 : BitVec 32 := 16#32
  let v256 : BitVec 32 := Scalar.muli v108 c16_i32_144
  let c0_i32_98 : BitVec 32 := 0#32
  let c1_i32_100 : BitVec 32 := 1#32
  let arg22 : BitVec 32 := Scf.iv c0_i32_98 c1_i32_100 k0_t14
  let v257 : BitVec 32 := Scalar.addi v256 arg22
  let v272 : Index := Scalar.indexCast v257
  let c0_153 : Index := 0#32
  ![1, 1, v272.toNat, 0]
def k0_off158 (k0_t11 : Fin k0_t11_loop.trips) (k0_t12 : Fin k0_t12_loop.trips) (k0_t14 : Fin k0_t14_loop.trips) : Fin 4 → Nat :=
  let c6 : Index := 6#32
  let c1_155 : Index := 1#32
  let c0_i32_43 : BitVec 32 := 0#32
  let c1_i32_45 : BitVec 32 := 1#32
  let arg20 : BitVec 32 := Scf.iv c0_i32_43 c1_i32_45 k0_t11
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t12
  let v108 : BitVec 32 := Scalar.addi v107 arg21
  let c16_i32_144 : BitVec 32 := 16#32
  let v256 : BitVec 32 := Scalar.muli v108 c16_i32_144
  let c0_i32_98 : BitVec 32 := 0#32
  let c1_i32_100 : BitVec 32 := 1#32
  let arg22 : BitVec 32 := Scf.iv c0_i32_98 c1_i32_100 k0_t14
  let v257 : BitVec 32 := Scalar.addi v256 arg22
  let v280 : Index := Scalar.indexCast v257
  let c0_156 : Index := 0#32
  ![6, 1, v280.toNat, 0]
def k0_off159 (k0_t11 : Fin k0_t11_loop.trips) (k0_t12 : Fin k0_t12_loop.trips) (k0_t14 : Fin k0_t14_loop.trips) : Fin 4 → Nat :=
  let c4 : Index := 4#32
  let c1_157 : Index := 1#32
  let c0_i32_43 : BitVec 32 := 0#32
  let c1_i32_45 : BitVec 32 := 1#32
  let arg20 : BitVec 32 := Scf.iv c0_i32_43 c1_i32_45 k0_t11
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t12
  let v108 : BitVec 32 := Scalar.addi v107 arg21
  let c16_i32_144 : BitVec 32 := 16#32
  let v256 : BitVec 32 := Scalar.muli v108 c16_i32_144
  let c0_i32_98 : BitVec 32 := 0#32
  let c1_i32_100 : BitVec 32 := 1#32
  let arg22 : BitVec 32 := Scf.iv c0_i32_98 c1_i32_100 k0_t14
  let v257 : BitVec 32 := Scalar.addi v256 arg22
  let v283 : Index := Scalar.indexCast v257
  let c0_158 : Index := 0#32
  ![4, 1, v283.toNat, 0]
def k0_off160 (k0_t11 : Fin k0_t11_loop.trips) (k0_t12 : Fin k0_t12_loop.trips) (k0_t14 : Fin k0_t14_loop.trips) : Fin 4 → Nat :=
  let c2 : Index := 2#32
  let c1_159 : Index := 1#32
  let c0_i32_43 : BitVec 32 := 0#32
  let c1_i32_45 : BitVec 32 := 1#32
  let arg20 : BitVec 32 := Scf.iv c0_i32_43 c1_i32_45 k0_t11
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t12
  let v108 : BitVec 32 := Scalar.addi v107 arg21
  let c16_i32_144 : BitVec 32 := 16#32
  let v256 : BitVec 32 := Scalar.muli v108 c16_i32_144
  let c0_i32_98 : BitVec 32 := 0#32
  let c1_i32_100 : BitVec 32 := 1#32
  let arg22 : BitVec 32 := Scf.iv c0_i32_98 c1_i32_100 k0_t14
  let v257 : BitVec 32 := Scalar.addi v256 arg22
  let v287 : Index := Scalar.indexCast v257
  let c0_160 : Index := 0#32
  ![2, 1, v287.toNat, 0]
def k0_off161 (k0_t11 : Fin k0_t11_loop.trips) (k0_t12 : Fin k0_t12_loop.trips) (k0_t14 : Fin k0_t14_loop.trips) : Fin 4 → Nat :=
  let c0_161 : Index := 0#32
  let c1_162 : Index := 1#32
  let c0_i32_43 : BitVec 32 := 0#32
  let c1_i32_45 : BitVec 32 := 1#32
  let arg20 : BitVec 32 := Scf.iv c0_i32_43 c1_i32_45 k0_t11
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t12
  let v108 : BitVec 32 := Scalar.addi v107 arg21
  let c16_i32_144 : BitVec 32 := 16#32
  let v256 : BitVec 32 := Scalar.muli v108 c16_i32_144
  let c0_i32_98 : BitVec 32 := 0#32
  let c1_i32_100 : BitVec 32 := 1#32
  let arg22 : BitVec 32 := Scf.iv c0_i32_98 c1_i32_100 k0_t14
  let v257 : BitVec 32 := Scalar.addi v256 arg22
  let v290 : Index := Scalar.indexCast v257
  let c0_163 : Index := 0#32
  ![0, 1, v290.toNat, 0]
def k0_off162 (k0_t11 : Fin k0_t11_loop.trips) (k0_t12 : Fin k0_t12_loop.trips) (k0_t14 : Fin k0_t14_loop.trips) : Fin 4 → Nat :=
  let c7 : Index := 7#32
  let c1_164 : Index := 1#32
  let c0_i32_43 : BitVec 32 := 0#32
  let c1_i32_45 : BitVec 32 := 1#32
  let arg20 : BitVec 32 := Scf.iv c0_i32_43 c1_i32_45 k0_t11
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t12
  let v108 : BitVec 32 := Scalar.addi v107 arg21
  let c16_i32_144 : BitVec 32 := 16#32
  let v256 : BitVec 32 := Scalar.muli v108 c16_i32_144
  let c0_i32_98 : BitVec 32 := 0#32
  let c1_i32_100 : BitVec 32 := 1#32
  let arg22 : BitVec 32 := Scf.iv c0_i32_98 c1_i32_100 k0_t14
  let v257 : BitVec 32 := Scalar.addi v256 arg22
  let v297 : Index := Scalar.indexCast v257
  let c0_165 : Index := 0#32
  ![7, 1, v297.toNat, 0]
def k0_off163 (k0_t11 : Fin k0_t11_loop.trips) (k0_t12 : Fin k0_t12_loop.trips) (k0_t14 : Fin k0_t14_loop.trips) : Fin 4 → Nat :=
  let c9 : Index := 9#32
  let c1_172 : Index := 1#32
  let c0_i32_43 : BitVec 32 := 0#32
  let c1_i32_45 : BitVec 32 := 1#32
  let arg20 : BitVec 32 := Scf.iv c0_i32_43 c1_i32_45 k0_t11
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t12
  let v108 : BitVec 32 := Scalar.addi v107 arg21
  let c16_i32_144 : BitVec 32 := 16#32
  let v256 : BitVec 32 := Scalar.muli v108 c16_i32_144
  let c0_i32_98 : BitVec 32 := 0#32
  let c1_i32_100 : BitVec 32 := 1#32
  let arg22 : BitVec 32 := Scf.iv c0_i32_98 c1_i32_100 k0_t14
  let v257 : BitVec 32 := Scalar.addi v256 arg22
  let v327 : Index := Scalar.indexCast v257
  let c0_173 : Index := 0#32
  ![9, 1, v327.toNat, 0]
def k0_off164 (k0_t11 : Fin k0_t11_loop.trips) (k0_t12 : Fin k0_t12_loop.trips) (k0_t14 : Fin k0_t14_loop.trips) : Fin 4 → Nat :=
  let c8 : Index := 8#32
  let c1_174 : Index := 1#32
  let c0_i32_43 : BitVec 32 := 0#32
  let c1_i32_45 : BitVec 32 := 1#32
  let arg20 : BitVec 32 := Scf.iv c0_i32_43 c1_i32_45 k0_t11
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t12
  let v108 : BitVec 32 := Scalar.addi v107 arg21
  let c16_i32_144 : BitVec 32 := 16#32
  let v256 : BitVec 32 := Scalar.muli v108 c16_i32_144
  let c0_i32_98 : BitVec 32 := 0#32
  let c1_i32_100 : BitVec 32 := 1#32
  let arg22 : BitVec 32 := Scf.iv c0_i32_98 c1_i32_100 k0_t14
  let v257 : BitVec 32 := Scalar.addi v256 arg22
  let v330 : Index := Scalar.indexCast v257
  let c0_175 : Index := 0#32
  ![8, 1, v330.toNat, 0]
def k0_mult32 (k0_t14 : Fin k0_t14_loop.trips) : BitVec 32 :=
  let c0_i32_98 : BitVec 32 := 0#32
  let c1_i32_100 : BitVec 32 := 1#32
  let arg22 : BitVec 32 := Scf.iv c0_i32_98 c1_i32_100 k0_t14
  let c8_i32_182 : BitVec 32 := 8#32
  let v347 : BitVec 32 := Scalar.muli arg22 c8_i32_182
  v347
def k0_off165 (k0_t11 : Fin k0_t11_loop.trips) (k0_t12 : Fin k0_t12_loop.trips) (k0_t14 : Fin k0_t14_loop.trips) : Fin 4 → Nat :=
  let c0_i32_43 : BitVec 32 := 0#32
  let c1_i32_45 : BitVec 32 := 1#32
  let arg20 : BitVec 32 := Scf.iv c0_i32_43 c1_i32_45 k0_t11
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t12
  let v108 : BitVec 32 := Scalar.addi v107 arg21
  let c2_i32_176 : BitVec 32 := 2#32
  let c0_i32_177 : BitVec 32 := 0#32
  let v337 : BitVec 1 := Scalar.cmpi .eq c2_i32_176 c0_i32_177
  let c1_i32_178 : BitVec 32 := 1#32
  let v338 : BitVec 32 := Scalar.select v337 c1_i32_178 c2_i32_176
  let v339 : BitVec 32 := Scalar.remsi v108 v338
  let c0_i32_180 : BitVec 32 := 0#32
  let v341 : BitVec 1 := Scalar.cmpi .slt v339 c0_i32_180
  let c0_i32_181 : BitVec 32 := 0#32
  let v342 : BitVec 1 := Scalar.cmpi .slt v338 c0_i32_181
  let v343 : BitVec 1 := Scalar.xori v341 v342
  let c0_i32_179 : BitVec 32 := 0#32
  let v340 : BitVec 1 := Scalar.cmpi .ne v339 c0_i32_179
  let v344 : BitVec 1 := Scalar.andi v343 v340
  let v345 : BitVec 32 := Scalar.addi v339 v338
  let v346 : BitVec 32 := Scalar.select v344 v345 v339
  let v349 : Index := Scalar.indexCast v346
  let c1_183 : Index := 1#32
  let c0_i32_98 : BitVec 32 := 0#32
  let c1_i32_100 : BitVec 32 := 1#32
  let arg22 : BitVec 32 := Scf.iv c0_i32_98 c1_i32_100 k0_t14
  let c8_i32_182 : BitVec 32 := 8#32
  let v347 : BitVec 32 := Scalar.muli arg22 c8_i32_182
  let v348 : BitVec 32 := v347
  let v350 : Index := Scalar.indexCast v348
  let c0_184 : Index := 0#32
  ![v349.toNat, 1, v350.toNat, 0]
def k0_off166 (k0_t11 : Fin k0_t11_loop.trips) (k0_t12 : Fin k0_t12_loop.trips) : Fin 4 → Nat :=
  let c0_i32_43 : BitVec 32 := 0#32
  let c1_i32_45 : BitVec 32 := 1#32
  let arg20 : BitVec 32 := Scf.iv c0_i32_43 c1_i32_45 k0_t11
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t12
  let v108 : BitVec 32 := Scalar.addi v107 arg21
  let c2_i32_102 : BitVec 32 := 2#32
  let c0_i32_103 : BitVec 32 := 0#32
  let v180 : BitVec 1 := Scalar.cmpi .eq c2_i32_102 c0_i32_103
  let c1_i32_104 : BitVec 32 := 1#32
  let v181 : BitVec 32 := Scalar.select v180 c1_i32_104 c2_i32_102
  let v182 : BitVec 32 := Scalar.remsi v108 v181
  let c0_i32_106 : BitVec 32 := 0#32
  let v184 : BitVec 1 := Scalar.cmpi .slt v182 c0_i32_106
  let c0_i32_107 : BitVec 32 := 0#32
  let v185 : BitVec 1 := Scalar.cmpi .slt v181 c0_i32_107
  let v186 : BitVec 1 := Scalar.xori v184 v185
  let c0_i32_105 : BitVec 32 := 0#32
  let v183 : BitVec 1 := Scalar.cmpi .ne v182 c0_i32_105
  let v187 : BitVec 1 := Scalar.andi v186 v183
  let v188 : BitVec 32 := Scalar.addi v182 v181
  let v189 : BitVec 32 := Scalar.select v187 v188 v182
  let v190 : Index := Scalar.indexCast v189
  let c1_108 : Index := 1#32
  let c0_109 : Index := 0#32
  let c0_110 : Index := 0#32
  ![v190.toNat, 1, 0, 0]
def k0_mult33 (k0_t11 : Fin k0_t11_loop.trips) (k0_t12 : Fin k0_t12_loop.trips) : BitVec 32 :=
  let c0_i32_43 : BitVec 32 := 0#32
  let c1_i32_45 : BitVec 32 := 1#32
  let arg20 : BitVec 32 := Scf.iv c0_i32_43 c1_i32_45 k0_t11
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t12
  let v108 : BitVec 32 := Scalar.addi v107 arg21
  let c128_i32_113 : BitVec 32 := 128#32
  let v200 : BitVec 32 := Scalar.muli v108 c128_i32_113
  v200
def k0_off167 (k0_t11 : Fin k0_t11_loop.trips) (k0_t12 : Fin k0_t12_loop.trips) : Fin 2 → Nat :=
  let c128 : Index := 128#32
  let c0_i32_43 : BitVec 32 := 0#32
  let c1_i32_45 : BitVec 32 := 1#32
  let arg20 : BitVec 32 := Scf.iv c0_i32_43 c1_i32_45 k0_t11
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t12
  let v108 : BitVec 32 := Scalar.addi v107 arg21
  let c128_i32_113 : BitVec 32 := 128#32
  let v200 : BitVec 32 := Scalar.muli v108 c128_i32_113
  let v201 : BitVec 32 := v200
  let v202 : Index := Scalar.indexCast v201
  ![128, v202.toNat]
def k0_off168 (k0_t11 : Fin k0_t11_loop.trips) (k0_t12 : Fin k0_t12_loop.trips) : Fin 4 → Nat :=
  let c0_i32_43 : BitVec 32 := 0#32
  let c1_i32_45 : BitVec 32 := 1#32
  let arg20 : BitVec 32 := Scf.iv c0_i32_43 c1_i32_45 k0_t11
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t12
  let v108 : BitVec 32 := Scalar.addi v107 arg21
  let c2_i32_123 : BitVec 32 := 2#32
  let c0_i32_124 : BitVec 32 := 0#32
  let v218 : BitVec 1 := Scalar.cmpi .eq c2_i32_123 c0_i32_124
  let c1_i32_125 : BitVec 32 := 1#32
  let v219 : BitVec 32 := Scalar.select v218 c1_i32_125 c2_i32_123
  let v220 : BitVec 32 := Scalar.remsi v108 v219
  let c0_i32_127 : BitVec 32 := 0#32
  let v222 : BitVec 1 := Scalar.cmpi .slt v220 c0_i32_127
  let c0_i32_128 : BitVec 32 := 0#32
  let v223 : BitVec 1 := Scalar.cmpi .slt v219 c0_i32_128
  let v224 : BitVec 1 := Scalar.xori v222 v223
  let c0_i32_126 : BitVec 32 := 0#32
  let v221 : BitVec 1 := Scalar.cmpi .ne v220 c0_i32_126
  let v225 : BitVec 1 := Scalar.andi v224 v221
  let v226 : BitVec 32 := Scalar.addi v220 v219
  let v227 : BitVec 32 := Scalar.select v225 v226 v220
  let v228 : Index := Scalar.indexCast v227
  let c1_129 : Index := 1#32
  let c0_130 : Index := 0#32
  let c0_131 : Index := 0#32
  ![v228.toNat, 1, 0, 0]
def k0_off169 (k0_t11 : Fin k0_t11_loop.trips) (k0_t12 : Fin k0_t12_loop.trips) : Fin 4 → Nat :=
  let c0_i32_43 : BitVec 32 := 0#32
  let c1_i32_45 : BitVec 32 := 1#32
  let arg20 : BitVec 32 := Scf.iv c0_i32_43 c1_i32_45 k0_t11
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t12
  let v108 : BitVec 32 := Scalar.addi v107 arg21
  let c2_i32_132 : BitVec 32 := 2#32
  let c0_i32_133 : BitVec 32 := 0#32
  let v231 : BitVec 1 := Scalar.cmpi .eq c2_i32_132 c0_i32_133
  let c1_i32_134 : BitVec 32 := 1#32
  let v232 : BitVec 32 := Scalar.select v231 c1_i32_134 c2_i32_132
  let v233 : BitVec 32 := Scalar.remsi v108 v232
  let c0_i32_136 : BitVec 32 := 0#32
  let v235 : BitVec 1 := Scalar.cmpi .slt v233 c0_i32_136
  let c0_i32_137 : BitVec 32 := 0#32
  let v236 : BitVec 1 := Scalar.cmpi .slt v232 c0_i32_137
  let v237 : BitVec 1 := Scalar.xori v235 v236
  let c0_i32_135 : BitVec 32 := 0#32
  let v234 : BitVec 1 := Scalar.cmpi .ne v233 c0_i32_135
  let v238 : BitVec 1 := Scalar.andi v237 v234
  let v239 : BitVec 32 := Scalar.addi v233 v232
  let v240 : BitVec 32 := Scalar.select v238 v239 v233
  let v241 : Index := Scalar.indexCast v240
  let c1_138 : Index := 1#32
  let c1_139 : Index := 1#32
  let c0_140 : Index := 0#32
  ![v241.toNat, 1, 1, 0]
def k0_off170 (k0_t11 : Fin k0_t11_loop.trips) (k0_t12 : Fin k0_t12_loop.trips) : Fin 2 → Nat :=
  let c0_i32_43 : BitVec 32 := 0#32
  let c1_i32_45 : BitVec 32 := 1#32
  let arg20 : BitVec 32 := Scf.iv c0_i32_43 c1_i32_45 k0_t11
  let c2_i32_56 : BitVec 32 := 2#32
  let v107 : BitVec 32 := Scalar.muli arg20 c2_i32_56
  let c0_i32_52 : BitVec 32 := 0#32
  let c1_i32_54 : BitVec 32 := 1#32
  let arg21 : BitVec 32 := Scf.iv c0_i32_52 c1_i32_54 k0_t12
  let v108 : BitVec 32 := Scalar.addi v107 arg21
  let c256_i32_57 : BitVec 32 := 256#32
  let v109 : BitVec 32 := Scalar.muli v108 c256_i32_57
  let v110 : BitVec 32 := v109
  let v251 : Index := Scalar.indexCast v110
  let c0_142 : Index := 0#32
  ![v251.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![c0_i32_4.toNat, v17.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_5 (i : grid0.Coords) : Fin 2 → Nat :=
  let arg0 : BitVec 32 := BitVec.ofNat 32 (i 0).val
  let c55_i32 : BitVec 32 := 55#32
  let v0 : BitVec 32 := Scalar.minsi arg0 c55_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c55_i32 : BitVec 32 := 55#32
  let v0 : BitVec 32 := Scalar.minsi arg0 c55_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c55_i32 : BitVec 32 := 55#32
  let v0 : BitVec 32 := Scalar.minsi arg0 c55_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![c0_i32_4.toNat, v17.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S256x896 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1920x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S256x896 : Shape := ⟨2, ![256, 896]⟩
abbrev S1920x4096 : Shape := ⟨2, ![1920, 4096]⟩
abbrev S4096x14336 : Shape := ⟨2, ![4096, 14336]⟩
abbrev S1920x14336 : Shape := ⟨2, ![1920, 14336]⟩
abbrev S4096x7168 : Shape := ⟨2, ![4096, 7168]⟩
abbrev S14336x2048 : Shape := ⟨2, ![14336, 2048]⟩
abbrev S1 : Shape := ⟨1, ![1]⟩
abbrev S1x256x896 : Shape := ⟨3, ![1, 256, 896]⟩
abbrev S1x1x1 : Shape := ⟨3, ![1, 1, 1]⟩
abbrev S256x1x896x1 : Shape := ⟨4, ![256, 1, 896, 1]⟩
abbrev S256x16x896x16 : Shape := ⟨4, ![256, 16, 896, 16]⟩
abbrev S4096x7168x2 : Shape := ⟨3, ![4096, 7168, 2]⟩
abbrev S4096x7168x1 : Shape := ⟨3, ![4096, 7168, 1]⟩
abbrev S2048x2x14336 : Shape := ⟨3, ![2048, 2, 14336]⟩
abbrev S2048x1x14336 : Shape := ⟨3, ![2048, 1, 14336]⟩
abbrev S2048x14336 : Shape := ⟨2, ![2048, 14336]⟩

abbrev nBuf : Space → Nat
  | .hbm => 8
  | .vmem => 7
  | .smem => 1
  | _ => 0

abbrev bufTy : (tb : Table) → Fin (tcTables nBuf tb) → BufTy
  | .hbm, ⟨0, _⟩ => ⟨S256x896, .f32⟩
  | .hbm, ⟨1, _⟩ => ⟨S1920x4096, .bf16⟩
  | .hbm, ⟨2, _⟩ => ⟨S4096x14336, .bf16⟩
  | .hbm, ⟨3, _⟩ => ⟨S1920x14336, .bf16⟩
  | .hbm, ⟨4, _⟩ => ⟨S4096x7168, .i8⟩
  | .hbm, ⟨5, _⟩ => ⟨S14336x2048, .i8⟩
  | .hbm, ⟨6, _⟩ => ⟨S256x896, .fp8e4m3⟩
  | .hbm, ⟨7, _⟩ => ⟨S1, .f32⟩
  | .local _ .vmem, ⟨0, _⟩ => ⟨S256x896, .f32⟩
  | .local _ .vmem, ⟨1, _⟩ => ⟨S1920x4096, .bf16⟩
  | .local _ .vmem, ⟨2, _⟩ => ⟨S4096x14336, .bf16⟩
  | .local _ .vmem, ⟨3, _⟩ => ⟨S1920x14336, .bf16⟩
  | .local _ .vmem, ⟨4, _⟩ => ⟨S4096x7168, .i8⟩
  | .local _ .vmem, ⟨5, _⟩ => ⟨S14336x2048, .i8⟩
  | .local _ .vmem, ⟨6, _⟩ => ⟨S256x896, .fp8e4m3⟩
  | .local _ .smem, ⟨0, _⟩ => ⟨S1, .f32⟩
  | _, _ => ⟨S256x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S256x896 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x14336 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1920x14336 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x7168 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S14336x2048 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x896 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .smem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Amax.lean ====
abbrev S4096x14336 : Shape := ⟨2, ![4096, 14336]⟩
abbrev S256x896 : Shape := ⟨2, ![256, 896]⟩
abbrev S512x2048 : Shape := ⟨2, ![512, 2048]⟩
abbrev S32x128 : Shape := ⟨2, ![32, 128]⟩
abbrev S8x128 : Shape := ⟨2, ![8, 128]⟩
abbrev S16x128 : Shape := ⟨2, ![16, 128]⟩
abbrev S8x128x1 : Shape := ⟨3, ![8, 128, 1]⟩

abbrev nBuf : Space → Nat
  | .hbm => 2
  | .vmem => 4
  | .smem => 0
  | _ => 0

abbrev bufTy : (tb : Table) → Fin (tcTables nBuf tb) → BufTy
  | .hbm, ⟨0, _⟩ => ⟨S4096x14336, .bf16⟩
  | .hbm, ⟨1, _⟩ => ⟨S256x896, .f32⟩
  | .local _ .vmem, ⟨0, _⟩ => ⟨S512x2048, .bf16⟩
  | .local _ .vmem, ⟨1, _⟩ => ⟨S512x2048, .bf16⟩
  | .local _ .vmem, ⟨2, _⟩ => ⟨S32x128, .f32⟩
  | .local _ .vmem, ⟨3, _⟩ => ⟨S32x128, .f32⟩
  | _, _ => ⟨S4096x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [BitOps F]

abbrev grid0 : Pipeline.Grid := ⟨2, ![8, 7], ![false, false]⟩

@[reducible] def k0_t1_loop : Scf.Loop 32 :=
  let c0_i32_7 : BitVec 32 := 0#32
  let c16_i32_8 : BitVec 32 := 16#32
  let v33 : BitVec 32 := Scalar.addi c0_i32_7 c16_i32_8
  let c1_i32_9 : BitVec 32 := 1#32
  ⟨c0_i32_7, v33, c1_i32_9⟩
def k0_mult1 (k0_t1 : Fin k0_t1_loop.trips) : BitVec 32 :=
  let c0_i32_7 : BitVec 32 := 0#32
  let c1_i32_9 : BitVec 32 := 1#32
  let arg4 : BitVec 32 := Scf.iv c0_i32_7 c1_i32_9 k0_t1
  let c128_i32 : BitVec 32 := 128#32
  let v48 : BitVec 32 := Scalar.muli arg4 c128_i32
  v48
def k0_off1 (k0_t1 : Fin k0_t1_loop.trips) : Fin 2 → Nat :=
  let c0_30 : Index := 0#32
  let c0_i32_7 : BitVec 32 := 0#32
  let c1_i32_9 : BitVec 32 := 1#32
  let arg4 : BitVec 32 := Scf.iv c0_i32_7 c1_i32_9 k0_t1
  let c128_i32 : BitVec 32 := 128#32
  let v48 : BitVec 32 := Scalar.muli arg4 c128_i32
  let v49 : BitVec 32 := v48
  let v50 : Index := Scalar.indexCast v49
  ![0, v50.toNat]
def k0_mult2 (k0_t1 : Fin k0_t1_loop.trips) : BitVec 32 :=
  let c0_i32_7 : BitVec 32 := 0#32
  let c1_i32_9 : BitVec 32 := 1#32
  let arg4 : BitVec 32 := Scf.iv c0_i32_7 c1_i32_9 k0_t1
  let c128_i32_31 : BitVec 32 := 128#32
  let v54 : BitVec 32 := Scalar.muli arg4 c128_i32_31
  v54
def k0_off2 (k0_t1 : Fin k0_t1_loop.trips) : Fin 2 → Nat :=
  let c16_32 : Index := 16#32
  let c0_i32_7 : BitVec 32 := 0#32
  let c1_i32_9 : BitVec 32 := 1#32
  let arg4 : BitVec 32 := Scf.iv c0_i32_7 c1_i32_9 k0_t1
  let c128_i32_31 : BitVec 32 := 128#32
  let v54 : BitVec 32 := Scalar.muli arg4 c128_i32_31
  let v55 : BitVec 32 := v54
  let v56 : Index := Scalar.indexCast v55
  ![16, v56.toNat]
def k0_mult3 (k0_t1 : Fin k0_t1_loop.trips) : BitVec 32 :=
  let c0_i32_7 : BitVec 32 := 0#32
  let c1_i32_9 : BitVec 32 := 1#32
  let arg4 : BitVec 32 := Scf.iv c0_i32_7 c1_i32_9 k0_t1
  let c128_i32_33 : BitVec 32 := 128#32
  let v60 : BitVec 32 := Scalar.muli arg4 c128_i32_33
  v60
def k0_off3 (k0_t1 : Fin k0_t1_loop.trips) : Fin 2 → Nat :=
  let c32 : Index := 32#32
  let c0_i32_7 : BitVec 32 := 0#32
  let c1_i32_9 : BitVec 32 := 1#32
  let arg4 : BitVec 32 := Scf.iv c0_i32_7 c1_i32_9 k0_t1
  let c128_i32_33 : BitVec 32 := 128#32
  let v60 : BitVec 32 := Scalar.muli arg4 c128_i32_33
  let v61 : BitVec 32 := v60
  let v62 : Index := Scalar.indexCast v61
  ![32, v62.toNat]
def k0_mult4 (k0_t1 : Fin k0_t1_loop.trips) : BitVec 32 :=
  let c0_i32_7 : BitVec 32 := 0#32
  let c1_i32_9 : BitVec 32 := 1#32
  let arg4 : BitVec 32 := Scf.iv c0_i32_7 c1_i32_9 k0_t1
  let c128_i32_34 : BitVec 32 := 128#32
  let v66 : BitVec 32 := Scalar.muli arg4 c128_i32_34
  v66
def k0_off4 (k0_t1 : Fin k0_t1_loop.trips) : Fin 2 → Nat :=
  let c48 : Index := 48#32
  let c0_i32_7 : BitVec 32 := 0#32
  let c1_i32_9 : BitVec 32 := 1#32
  let arg4 : BitVec 32 := Scf.iv c0_i32_7 c1_i32_9 k0_t1
  let c128_i32_34 : BitVec 32 := 128#32
  let v66 : BitVec 32 := Scalar.muli arg4 c128_i32_34
  let v67 : BitVec 32 := v66
  let v68 : Index := Scalar.indexCast v67
  ![48, v68.toNat]
def k0_mult5 (k0_t1 : Fin k0_t1_loop.trips) : BitVec 32 :=
  let c0_i32_7 : BitVec 32 := 0#32
  let c1_i32_9 : BitVec 32 := 1#32
  let arg4 : BitVec 32 := Scf.iv c0_i32_7 c1_i32_9 k0_t1
  let c128_i32_35 : BitVec 32 := 128#32
  let v72 : BitVec 32 := Scalar.muli arg4 c128_i32_35
  v72
def k0_off5 (k0_t1 : Fin k0_t1_loop.trips) : Fin 2 → Nat :=
  let c64 : Index := 64#32
  let c0_i32_7 : BitVec 32 := 0#32
  let c1_i32_9 : BitVec 32 := 1#32
  let arg4 : BitVec 32 := Scf.iv c0_i32_7 c1_i32_9 k0_t1
  let c128_i32_35 : BitVec 32 := 128#32
  let v72 : BitVec 32 := Scalar.muli arg4 c128_i32_35
  let v73 : BitVec 32 := v72
  let v74 : Index := Scalar.indexCast v73
  ![64, v74.toNat]
def k0_mult6 (k0_t1 : Fin k0_t1_loop.trips) : BitVec 32 :=
  let c0_i32_7 : BitVec 32 := 0#32
  let c1_i32_9 : BitVec 32 := 1#32
  let arg4 : BitVec 32 := Scf.iv c0_i32_7 c1_i32_9 k0_t1
  let c128_i32_36 : BitVec 32 := 128#32
  let v78 : BitVec 32 := Scalar.muli arg4 c128_i32_36
  v78
def k0_off6 (k0_t1 : Fin k0_t1_loop.trips) : Fin 2 → Nat :=
  let c80 : Index := 80#32
  let c0_i32_7 : BitVec 32 := 0#32
  let c1_i32_9 : BitVec 32 := 1#32
  let arg4 : BitVec 32 := Scf.iv c0_i32_7 c1_i32_9 k0_t1
  let c128_i32_36 : BitVec 32 := 128#32
  let v78 : BitVec 32 := Scalar.muli arg4 c128_i32_36
  let v79 : BitVec 32 := v78
  let v80 : Index := Scalar.indexCast v79
  ![80, v80.toNat]
def k0_mult7 (k0_t1 : Fin k0_t1_loop.trips) : BitVec 32 :=
  let c0_i32_7 : BitVec 32 := 0#32
  let c1_i32_9 : BitVec 32 := 1#32
  let arg4 : BitVec 32 := Scf.iv c0_i32_7 c1_i32_9 k0_t1
  let c128_i32_37 : BitVec 32 := 128#32
  let v84 : BitVec 32 := Scalar.muli arg4 c128_i32_37
  v84
def k0_off7 (k0_t1 : Fin k0_t1_loop.trips) : Fin 2 → Nat :=
  let c96 : Index := 96#32
  let c0_i32_7 : BitVec 32 := 0#32
  let c1_i32_9 : BitVec 32 := 1#32
  let arg4 : BitVec 32 := Scf.iv c0_i32_7 c1_i32_9 k0_t1
  let c128_i32_37 : BitVec 32 := 128#32
  let v84 : BitVec 32 := Scalar.muli arg4 c128_i32_37
  let v85 : BitVec 32 := v84
  let v86 : Index := Scalar.indexCast v85
  ![96, v86.toNat]
def k0_mult8 (k0_t1 : Fin k0_t1_loop.trips) : BitVec 32 :=
  let c0_i32_7 : BitVec 32 := 0#32
  let c1_i32_9 : BitVec 32 := 1#32
  let arg4 : BitVec 32 := Scf.iv c0_i32_7 c1_i32_9 k0_t1
  let c128_i32_38 : BitVec 32 := 128#32
  let v90 : BitVec 32 := Scalar.muli arg4 c128_i32_38
  v90
def k0_off8 (k0_t1 : Fin k0_t1_loop.trips) : Fin 2 → Nat :=
  let c112 : Index := 112#32
  let c0_i32_7 : BitVec 32 := 0#32
  let c1_i32_9 : BitVec 32 := 1#32
  let arg4 : BitVec 32 := Scf.iv c0_i32_7 c1_i32_9 k0_t1
  let c128_i32_38 : BitVec 32 := 128#32
  let v90 : BitVec 32 := Scalar.muli arg4 c128_i32_38
  let v91 : BitVec 32 := v90
  let v92 : Index := Scalar.indexCast v91
  ![112, v92.toNat]
@[reducible] def k0_t2_loop : Scf.Loop 32 :=
  let c0_i32_13 : BitVec 32 := 0#32
  let c16_i32_14 : BitVec 32 := 16#32
  let v37 : BitVec 32 := Scalar.addi c0_i32_13 c16_i32_14
  let c1_i32_15 : BitVec 32 := 1#32
  ⟨c0_i32_13, v37, c1_i32_15⟩
def k0_mult9 (k0_t2 : Fin k0_t2_loop.trips) : BitVec 32 :=
  let c0_i32_13 : BitVec 32 := 0#32
  let c1_i32_15 : BitVec 32 := 1#32
  let arg4 : BitVec 32 := Scf.iv c0_i32_13 c1_i32_15 k0_t2
  let c128_i32 : BitVec 32 := 128#32
  let v48 : BitVec 32 := Scalar.muli arg4 c128_i32
  v48
def k0_off9 (k0_t2 : Fin k0_t2_loop.trips) : Fin 2 → Nat :=
  let c128 : Index := 128#32
  let c0_i32_13 : BitVec 32 := 0#32
  let c1_i32_15 : BitVec 32 := 1#32
  let arg4 : BitVec 32 := Scf.iv c0_i32_13 c1_i32_15 k0_t2
  let c128_i32 : BitVec 32 := 128#32
  let v48 : BitVec 32 := Scalar.muli arg4 c128_i32
  let v49 : BitVec 32 := v48
  let v50 : Index := Scalar.indexCast v49
  ![128, v50.toNat]
def k0_mult10 (k0_t2 : Fin k0_t2_loop.trips) : BitVec 32 :=
  let c0_i32_13 : BitVec 32 := 0#32
  let c1_i32_15 : BitVec 32 := 1#32
  let arg4 : BitVec 32 := Scf.iv c0_i32_13 c1_i32_15 k0_t2
  let c128_i32_30 : BitVec 32 := 128#32
  let v54 : BitVec 32 := Scalar.muli arg4 c128_i32_30
  v54
def k0_off10 (k0_t2 : Fin k0_t2_loop.trips) : Fin 2 → Nat :=
  let c144 : Index := 144#32
  let c0_i32_13 : BitVec 32 := 0#32
  let c1_i32_15 : BitVec 32 := 1#32
  let arg4 : BitVec 32 := Scf.iv c0_i32_13 c1_i32_15 k0_t2
  let c128_i32_30 : BitVec 32 := 128#32
  let v54 : BitVec 32 := Scalar.muli arg4 c128_i32_30
  let v55 : BitVec 32 := v54
  let v56 : Index := Scalar.indexCast v55
  ![144, v56.toNat]
def k0_mult11 (k0_t2 : Fin k0_t2_loop.trips) : BitVec 32 :=
  let c0_i32_13 : BitVec 32 := 0#32
  let c1_i32_15 : BitVec 32 := 1#32
  let arg4 : BitVec 32 := Scf.iv c0_i32_13 c1_i32_15 k0_t2
  let c128_i32_31 : BitVec 32 := 128#32
  let v60 : BitVec 32 := Scalar.muli arg4 c128_i32_31
  v60
def k0_off11 (k0_t2 : Fin k0_t2_loop.trips) : Fin 2 → Nat :=
  let c160 : Index := 160#32
  let c0_i32_13 : BitVec 32 := 0#32
  let c1_i32_15 : BitVec 32 := 1#32
  let arg4 : BitVec 32 := Scf.iv c0_i32_13 c1_i32_15 k0_t2
  let c128_i32_31 : BitVec 32 := 128#32
  let v60 : BitVec 32 := Scalar.muli arg4 c128_i32_31
  let v61 : BitVec 32 := v60
  let v62 : Index := Scalar.indexCast v61
  ![160, v62.toNat]
def k0_mult12 (k0_t2 : Fin k0_t2_loop.trips) : BitVec 32 :=
  let c0_i32_13 : BitVec 32 := 0#32
  let c1_i32_15 : BitVec 32 := 1#32
  let arg4 : BitVec 32 := Scf.iv c0_i32_13 c1_i32_15 k0_t2
  let c128_i32_32 : BitVec 32 := 128#32
  let v66 : BitVec 32 := Scalar.muli arg4 c128_i32_32
  v66
def k0_off12 (k0_t2 : Fin k0_t2_loop.trips) : Fin 2 → Nat :=
  let c176 : Index := 176#32
  let c0_i32_13 : BitVec 32 := 0#32
  let c1_i32_15 : BitVec 32 := 1#32
  let arg4 : BitVec 32 := Scf.iv c0_i32_13 c1_i32_15 k0_t2
  let c128_i32_32 : BitVec 32 := 128#32
  let v66 : BitVec 32 := Scalar.muli arg4 c128_i32_32
  let v67 : BitVec 32 := v66
  let v68 : Index := Scalar.indexCast v67
  ![176, v68.toNat]
def k0_mult13 (k0_t2 : Fin k0_t2_loop.trips) : BitVec 32 :=
  let c0_i32_13 : BitVec 32 := 0#32
  let c1_i32_15 : BitVec 32 := 1#32
  let arg4 : BitVec 32 := Scf.iv c0_i32_13 c1_i32_15 k0_t2
  let c128_i32_33 : BitVec 32 := 128#32
  let v72 : BitVec 32 := Scalar.muli arg4 c128_i32_33
  v72
def k0_off13 (k0_t2 : Fin k0_t2_loop.trips) : Fin 2 → Nat :=
  let c192 : Index := 192#32
  let c0_i32_13 : BitVec 32 := 0#32
  let c1_i32_15 : BitVec 32 := 1#32
  let arg4 : BitVec 32 := Scf.iv c0_i32_13 c1_i32_15 k0_t2
  let c128_i32_33 : BitVec 32 := 128#32
  let v72 : BitVec 32 := Scalar.muli arg4 c128_i32_33
  let v73 : BitVec 32 := v72
  let v74 : Index := Scalar.indexCast v73
  ![192, v74.toNat]
def k0_mult14 (k0_t2 : Fin k0_t2_loop.trips) : BitVec 32 :=
  let c0_i32_13 : BitVec 32 := 0#32
  let c1_i32_15 : BitVec 32 := 1#32
  let arg4 : BitVec 32 := Scf.iv c0_i32_13 c1_i32_15 k0_t2
  let c128_i32_34 : BitVec 32 := 128#32
  let v78 : BitVec 32 := Scalar.muli arg4 c128_i32_34
  v78
def k0_off14 (k0_t2 : Fin k0_t2_loop.trips) : Fin 2 → Nat :=
  let c208 : Index := 208#32
  let c0_i32_13 : BitVec 32 := 0#32
  let c1_i32_15 : BitVec 32 := 1#32
  let arg4 : BitVec 32 := Scf.iv c0_i32_13 c1_i32_15 k0_t2
  let c128_i32_34 : BitVec 32 := 128#32
  let v78 : BitVec 32 := Scalar.muli arg4 c128_i32_34
  let v79 : BitVec 32 := v78
  let v80 : Index := Scalar.indexCast v79
  ![208, v80.toNat]
def k0_mult15 (k0_t2 : Fin k0_t2_loop.trips) : BitVec 32 :=
  let c0_i32_13 : BitVec 32 := 0#32
  let c1_i32_15 : BitVec 32 := 1#32
  let arg4 : BitVec 32 := Scf.iv c0_i32_13 c1_i32_15 k0_t2
  let c128_i32_35 : BitVec 32 := 128#32
  let v84 : BitVec 32 := Scalar.muli arg4 c128_i32_35
  v84
def k0_off15 (k0_t2 : Fin k0_t2_loop.trips) : Fin 2 → Nat :=
  let c224 : Index := 224#32
  let c0_i32_13 : BitVec 32 := 0#32
  let c1_i32_15 : BitVec 32 := 1#32
  let arg4 : BitVec 32 := Scf.iv c0_i32_13 c1_i32_15 k0_t2
  let c128_i32_35 : BitVec 32 := 128#32
  let v84 : BitVec 32 := Scalar.muli arg4 c128_i32_35
  let v85 : BitVec 32 := v84
  let v86 : Index := Scalar.indexCast v85
  ![224, v86.toNat]
def k0_mult16 (k0_t2 : Fin k0_t2_loop.trips) : BitVec 32 :=
  let c0_i32_13 : BitVec 32 := 0#32
  let c1_i32_15 : BitVec 32 := 1#32
  let arg4 : BitVec 32 := Scf.iv c0_i32_13 c1_i32_15 k0_t2
  let c128_i32_36 : BitVec 32 := 128#32
  let v90 : BitVec 32 := Scalar.muli arg4 c128_i32_36
  v90
def k0_off16 (k0_t2 : Fin k0_t2_loop.trips) : Fin 2 → Nat :=
  let c240 : Index := 240#32
  let c0_i32_13 : BitVec 32 := 0#32
  let c1_i32_15 : BitVec 32 := 1#32
  let arg4 : BitVec 32 := Scf.iv c0_i32_13 c1_i32_15 k0_t2
  let c128_i32_36 : BitVec 32 := 128#32
  let v90 : BitVec 32 := Scalar.muli arg4 c128_i32_36
  let v91 : BitVec 32 := v90
  let v92 : Index := Scalar.indexCast v91
  ![240, v92.toNat]
@[reducible] def k0_t3_loop : Scf.Loop 32 :=
  let c0_i32_19 : BitVec 32 := 0#32
  let c16_i32_20 : BitVec 32 := 16#32
  let v41 : BitVec 32 := Scalar.addi c0_i32_19 c16_i32_20
  let c1_i32_21 : BitVec 32 := 1#32
  ⟨c0_i32_19, v41, c1_i32_21⟩
def k0_mult17 (k0_t3 : Fin k0_t3_loop.trips) : BitVec 32 :=
  let c0_i32_19 : BitVec 32 := 0#32
  let c1_i32_21 : BitVec 32 := 1#32
  let arg4 : BitVec 32 := Scf.iv c0_i32_19 c1_i32_21 k0_t3
  let c128_i32 : BitVec 32 := 128#32
  let v48 : BitVec 32 := Scalar.muli arg4 c128_i32
  v48
def k0_off17 (k0_t3 : Fin k0_t3_loop.trips) : Fin 2 → Nat :=
  let c256 : Index := 256#32
  let c0_i32_19 : BitVec 32 := 0#32
  let c1_i32_21 : BitVec 32 := 1#32
  let arg4 : BitVec 32 := Scf.iv c0_i32_19 c1_i32_21 k0_t3
  let c128_i32 : BitVec 32 := 128#32
  let v48 : BitVec 32 := Scalar.muli arg4 c128_i32
  let v49 : BitVec 32 := v48
  let v50 : Index := Scalar.indexCast v49
  ![256, v50.toNat]
def k0_mult18 (k0_t3 : Fin k0_t3_loop.trips) : BitVec 32 :=
  let c0_i32_19 : BitVec 32 := 0#32
  let c1_i32_21 : BitVec 32 := 1#32
  let arg4 : BitVec 32 := Scf.iv c0_i32_19 c1_i32_21 k0_t3
  let c128_i32_30 : BitVec 32 := 128#32
  let v54 : BitVec 32 := Scalar.muli arg4 c128_i32_30
  v54
def k0_off18 (k0_t3 : Fin k0_t3_loop.trips) : Fin 2 → Nat :=
  let c272 : Index := 272#32
  let c0_i32_19 : BitVec 32 := 0#32
  let c1_i32_21 : BitVec 32 := 1#32
  let arg4 : BitVec 32 := Scf.iv c0_i32_19 c1_i32_21 k0_t3
  let c128_i32_30 : BitVec 32 := 128#32
  let v54 : BitVec 32 := Scalar.muli arg4 c128_i32_30
  let v55 : BitVec 32 := v54
  let v56 : Index := Scalar.indexCast v55
  ![272, v56.toNat]
def k0_mult19 (k0_t3 : Fin k0_t3_loop.trips) : BitVec 32 :=
  let c0_i32_19 : BitVec 32 := 0#32
  let c1_i32_21 : BitVec 32 := 1#32
  let arg4 : BitVec 32 := Scf.iv c0_i32_19 c1_i32_21 k0_t3
  let c128_i32_31 : BitVec 32 := 128#32
  let v60 : BitVec 32 := Scalar.muli arg4 c128_i32_31
  v60
def k0_off19 (k0_t3 : Fin k0_t3_loop.trips) : Fin 2 → Nat :=
  let c288 : Index := 288#32
  let c0_i32_19 : BitVec 32 := 0#32
  let c1_i32_21 : BitVec 32 := 1#32
  let arg4 : BitVec 32 := Scf.iv c0_i32_19 c1_i32_21 k0_t3
  let c128_i32_31 : BitVec 32 := 128#32
  let v60 : BitVec 32 := Scalar.muli arg4 c128_i32_31
  let v61 : BitVec 32 := v60
  let v62 : Index := Scalar.indexCast v61
  ![288, v62.toNat]
def k0_mult20 (k0_t3 : Fin k0_t3_loop.trips) : BitVec 32 :=
  let c0_i32_19 : BitVec 32 := 0#32
  let c1_i32_21 : BitVec 32 := 1#32
  let arg4 : BitVec 32 := Scf.iv c0_i32_19 c1_i32_21 k0_t3
  let c128_i32_32 : BitVec 32 := 128#32
  let v66 : BitVec 32 := Scalar.muli arg4 c128_i32_32
  v66
def k0_off20 (k0_t3 : Fin k0_t3_loop.trips) : Fin 2 → Nat :=
  let c304 : Index := 304#32
  let c0_i32_19 : BitVec 32 := 0#32
  let c1_i32_21 : BitVec 32 := 1#32
  let arg4 : BitVec 32 := Scf.iv c0_i32_19 c1_i32_21 k0_t3
  let c128_i32_32 : BitVec 32 := 128#32
  let v66 : BitVec 32 := Scalar.muli arg4 c128_i32_32
  let v67 : BitVec 32 := v66
  let v68 : Index := Scalar.indexCast v67
  ![304, v68.toNat]
def k0_mult21 (k0_t3 : Fin k0_t3_loop.trips) : BitVec 32 :=
  let c0_i32_19 : BitVec 32 := 0#32
  let c1_i32_21 : BitVec 32 := 1#32
  let arg4 : BitVec 32 := Scf.iv c0_i32_19 c1_i32_21 k0_t3
  let c128_i32_33 : BitVec 32 := 128#32
  let v72 : BitVec 32 := Scalar.muli arg4 c128_i32_33
  v72
def k0_off21 (k0_t3 : Fin k0_t3_loop.trips) : Fin 2 → Nat :=
  let c320 : Index := 320#32
  let c0_i32_19 : BitVec 32 := 0#32
  let c1_i32_21 : BitVec 32 := 1#32
  let arg4 : BitVec 32 := Scf.iv c0_i32_19 c1_i32_21 k0_t3
  let c128_i32_33 : BitVec 32 := 128#32
  let v72 : BitVec 32 := Scalar.muli arg4 c128_i32_33
  let v73 : BitVec 32 := v72
  let v74 : Index := Scalar.indexCast v73
  ![320, v74.toNat]
def k0_mult22 (k0_t3 : Fin k0_t3_loop.trips) : BitVec 32 :=
  let c0_i32_19 : BitVec 32 := 0#32
  let c1_i32_21 : BitVec 32 := 1#32
  let arg4 : BitVec 32 := Scf.iv c0_i32_19 c1_i32_21 k0_t3
  let c128_i32_34 : BitVec 32 := 128#32
  let v78 : BitVec 32 := Scalar.muli arg4 c128_i32_34
  v78
def k0_off22 (k0_t3 : Fin k0_t3_loop.trips) : Fin 2 → Nat :=
  let c336 : Index := 336#32
  let c0_i32_19 : BitVec 32 := 0#32
  let c1_i32_21 : BitVec 32 := 1#32
  let arg4 : BitVec 32 := Scf.iv c0_i32_19 c1_i32_21 k0_t3
  let c128_i32_34 : BitVec 32 := 128#32
  let v78 : BitVec 32 := Scalar.muli arg4 c128_i32_34
  let v79 : BitVec 32 := v78
  let v80 : Index := Scalar.indexCast v79
  ![336, v80.toNat]
def k0_mult23 (k0_t3 : Fin k0_t3_loop.trips) : BitVec 32 :=
  let c0_i32_19 : BitVec 32 := 0#32
  let c1_i32_21 : BitVec 32 := 1#32
  let arg4 : BitVec 32 := Scf.iv c0_i32_19 c1_i32_21 k0_t3
  let c128_i32_35 : BitVec 32 := 128#32
  let v84 : BitVec 32 := Scalar.muli arg4 c128_i32_35
  v84
def k0_off23 (k0_t3 : Fin k0_t3_loop.trips) : Fin 2 → Nat :=
  let c352 : Index := 352#32
  let c0_i32_19 : BitVec 32 := 0#32
  let c1_i32_21 : BitVec 32 := 1#32
  let arg4 : BitVec 32 := Scf.iv c0_i32_19 c1_i32_21 k0_t3
  let c128_i32_35 : BitVec 32 := 128#32
  let v84 : BitVec 32 := Scalar.muli arg4 c128_i32_35
  let v85 : BitVec 32 := v84
  let v86 : Index := Scalar.indexCast v85
  ![352, v86.toNat]
def k0_mult24 (k0_t3 : Fin k0_t3_loop.trips) : BitVec 32 :=
  let c0_i32_19 : BitVec 32 := 0#32
  let c1_i32_21 : BitVec 32 := 1#32
  let arg4 : BitVec 32 := Scf.iv c0_i32_19 c1_i32_21 k0_t3
  let c128_i32_36 : BitVec 32 := 128#32
  let v90 : BitVec 32 := Scalar.muli arg4 c128_i32_36
  v90
def k0_off24 (k0_t3 : Fin k0_t3_loop.trips) : Fin 2 → Nat :=
  let c368 : Index := 368#32
  let c0_i32_19 : BitVec 32 := 0#32
  let c1_i32_21 : BitVec 32 := 1#32
  let arg4 : BitVec 32 := Scf.iv c0_i32_19 c1_i32_21 k0_t3
  let c128_i32_36 : BitVec 32 := 128#32
  let v90 : BitVec 32 := Scalar.muli arg4 c128_i32_36
  let v91 : BitVec 32 := v90
  let v92 : Index := Scalar.indexCast v91
  ![368, v92.toNat]
@[reducible] def k0_t4_loop : Scf.Loop 32 :=
  let c0_i32_25 : BitVec 32 := 0#32
  let c16_i32_26 : BitVec 32 := 16#32
  let v45 : BitVec 32 := Scalar.addi c0_i32_25 c16_i32_26
  let c1_i32_27 : BitVec 32 := 1#32
  ⟨c0_i32_25, v45, c1_i32_27⟩
def k0_mult25 (k0_t4 : Fin k0_t4_loop.trips) : BitVec 32 :=
  let c0_i32_25 : BitVec 32 := 0#32
  let c1_i32_27 : BitVec 32 := 1#32
  let arg4 : BitVec 32 := Scf.iv c0_i32_25 c1_i32_27 k0_t4
  let c128_i32 : BitVec 32 := 128#32
  let v48 : BitVec 32 := Scalar.muli arg4 c128_i32
  v48
def k0_off25 (k0_t4 : Fin k0_t4_loop.trips) : Fin 2 → Nat :=
  let c384 : Index := 384#32
  let c0_i32_25 : BitVec 32 := 0#32
  let c1_i32_27 : BitVec 32 := 1#32
  let arg4 : BitVec 32 := Scf.iv c0_i32_25 c1_i32_27 k0_t4
  let c128_i32 : BitVec 32 := 128#32
  let v48 : BitVec 32 := Scalar.muli arg4 c128_i32
  let v49 : BitVec 32 := v48
  let v50 : Index := Scalar.indexCast v49
  ![384, v50.toNat]
def k0_mult26 (k0_t4 : Fin k0_t4_loop.trips) : BitVec 32 :=
  let c0_i32_25 : BitVec 32 := 0#32
  let c1_i32_27 : BitVec 32 := 1#32
  let arg4 : BitVec 32 := Scf.iv c0_i32_25 c1_i32_27 k0_t4
  let c128_i32_30 : BitVec 32 := 128#32
  let v54 : BitVec 32 := Scalar.muli arg4 c128_i32_30
  v54
def k0_off26 (k0_t4 : Fin k0_t4_loop.trips) : Fin 2 → Nat :=
  let c400 : Index := 400#32
  let c0_i32_25 : BitVec 32 := 0#32
  let c1_i32_27 : BitVec 32 := 1#32
  let arg4 : BitVec 32 := Scf.iv c0_i32_25 c1_i32_27 k0_t4
  let c128_i32_30 : BitVec 32 := 128#32
  let v54 : BitVec 32 := Scalar.muli arg4 c128_i32_30
  let v55 : BitVec 32 := v54
  let v56 : Index := Scalar.indexCast v55
  ![400, v56.toNat]
def k0_mult27 (k0_t4 : Fin k0_t4_loop.trips) : BitVec 32 :=
  let c0_i32_25 : BitVec 32 := 0#32
  let c1_i32_27 : BitVec 32 := 1#32
  let arg4 : BitVec 32 := Scf.iv c0_i32_25 c1_i32_27 k0_t4
  let c128_i32_31 : BitVec 32 := 128#32
  let v60 : BitVec 32 := Scalar.muli arg4 c128_i32_31
  v60
def k0_off27 (k0_t4 : Fin k0_t4_loop.trips) : Fin 2 → Nat :=
  let c416 : Index := 416#32
  let c0_i32_25 : BitVec 32 := 0#32
  let c1_i32_27 : BitVec 32 := 1#32
  let arg4 : BitVec 32 := Scf.iv c0_i32_25 c1_i32_27 k0_t4
  let c128_i32_31 : BitVec 32 := 128#32
  let v60 : BitVec 32 := Scalar.muli arg4 c128_i32_31
  let v61 : BitVec 32 := v60
  let v62 : Index := Scalar.indexCast v61
  ![416, v62.toNat]
def k0_mult28 (k0_t4 : Fin k0_t4_loop.trips) : BitVec 32 :=
  let c0_i32_25 : BitVec 32 := 0#32
  let c1_i32_27 : BitVec 32 := 1#32
  let arg4 : BitVec 32 := Scf.iv c0_i32_25 c1_i32_27 k0_t4
  let c128_i32_32 : BitVec 32 := 128#32
  let v66 : BitVec 32 := Scalar.muli arg4 c128_i32_32
  v66
def k0_off28 (k0_t4 : Fin k0_t4_loop.trips) : Fin 2 → Nat :=
  let c432 : Index := 432#32
  let c0_i32_25 : BitVec 32 := 0#32
  let c1_i32_27 : BitVec 32 := 1#32
  let arg4 : BitVec 32 := Scf.iv c0_i32_25 c1_i32_27 k0_t4
  let c128_i32_32 : BitVec 32 := 128#32
  let v66 : BitVec 32 := Scalar.muli arg4 c128_i32_32
  let v67 : BitVec 32 := v66
  let v68 : Index := Scalar.indexCast v67
  ![432, v68.toNat]
def k0_mult29 (k0_t4 : Fin k0_t4_loop.trips) : BitVec 32 :=
  let c0_i32_25 : BitVec 32 := 0#32
  let c1_i32_27 : BitVec 32 := 1#32
  let arg4 : BitVec 32 := Scf.iv c0_i32_25 c1_i32_27 k0_t4
  let c128_i32_33 : BitVec 32 := 128#32
  let v72 : BitVec 32 := Scalar.muli arg4 c128_i32_33
  v72
def k0_off29 (k0_t4 : Fin k0_t4_loop.trips) : Fin 2 → Nat :=
  let c448 : Index := 448#32
  let c0_i32_25 : BitVec 32 := 0#32
  let c1_i32_27 : BitVec 32 := 1#32
  let arg4 : BitVec 32 := Scf.iv c0_i32_25 c1_i32_27 k0_t4
  let c128_i32_33 : BitVec 32 := 128#32
  let v72 : BitVec 32 := Scalar.muli arg4 c128_i32_33
  let v73 : BitVec 32 := v72
  let v74 : Index := Scalar.indexCast v73
  ![448, v74.toNat]
def k0_mult30 (k0_t4 : Fin k0_t4_loop.trips) : BitVec 32 :=
  let c0_i32_25 : BitVec 32 := 0#32
  let c1_i32_27 : BitVec 32 := 1#32
  let arg4 : BitVec 32 := Scf.iv c0_i32_25 c1_i32_27 k0_t4
  let c128_i32_34 : BitVec 32 := 128#32
  let v78 : BitVec 32 := Scalar.muli arg4 c128_i32_34
  v78
def k0_off30 (k0_t4 : Fin k0_t4_loop.trips) : Fin 2 → Nat :=
  let c464 : Index := 464#32
  let c0_i32_25 : BitVec 32 := 0#32
  let c1_i32_27 : BitVec 32 := 1#32
  let arg4 : BitVec 32 := Scf.iv c0_i32_25 c1_i32_27 k0_t4
  let c128_i32_34 : BitVec 32 := 128#32
  let v78 : BitVec 32 := Scalar.muli arg4 c128_i32_34
  let v79 : BitVec 32 := v78
  let v80 : Index := Scalar.indexCast v79
  ![464, v80.toNat]
def k0_mult31 (k0_t4 : Fin k0_t4_loop.trips) : BitVec 32 :=
  let c0_i32_25 : BitVec 32 := 0#32
  let c1_i32_27 : BitVec 32 := 1#32
  let arg4 : BitVec 32 := Scf.iv c0_i32_25 c1_i32_27 k0_t4
  let c128_i32_35 : BitVec 32 := 128#32
  let v84 : BitVec 32 := Scalar.muli arg4 c128_i32_35
  v84
def k0_off31 (k0_t4 : Fin k0_t4_loop.trips) : Fin 2 → Nat :=
  let c480 : Index := 480#32
  let c0_i32_25 : BitVec 32 := 0#32
  let c1_i32_27 : BitVec 32 := 1#32
  let arg4 : BitVec 32 := Scf.iv c0_i32_25 c1_i32_27 k0_t4
  let c128_i32_35 : BitVec 32 := 128#32
  let v84 : BitVec 32 := Scalar.muli arg4 c128_i32_35
  let v85 : BitVec 32 := v84
  let v86 : Index := Scalar.indexCast v85
  ![480, v86.toNat]
def k0_mult32 (k0_t4 : Fin k0_t4_loop.trips) : BitVec 32 :=
  let c0_i32_25 : BitVec 32 := 0#32
  let c1_i32_27 : BitVec 32 := 1#32
  let arg4 : BitVec 32 := Scf.iv c0_i32_25 c1_i32_27 k0_t4
  let c128_i32_36 : BitVec 32 := 128#32
  let v90 : BitVec 32 := Scalar.muli arg4 c128_i32_36
  v90
def k0_off32 (k0_t4 : Fin k0_t4_loop.trips) : Fin 2 → Nat :=
  let c496 : Index := 496#32
  let c0_i32_25 : BitVec 32 := 0#32
  let c1_i32_27 : BitVec 32 := 1#32
  let arg4 : BitVec 32 := Scf.iv c0_i32_25 c1_i32_27 k0_t4
  let c128_i32_36 : BitVec 32 := 128#32
  let v90 : BitVec 32 := Scalar.muli arg4 c128_i32_36
  let v91 : BitVec 32 := v90
  let v92 : Index := Scalar.indexCast v91
  ![496, v92.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== AmaxIdeal.lean ====
variable {F : FTy → Type} [FloatOps F]
-- ==== AmaxReferenceIdeal.lean ====
abbrev S4096x14336 : Shape := ⟨2, ![4096, 14336]⟩
abbrev S256x896 : Shape := ⟨2, ![256, 896]⟩
abbrev S256x16x896x16 : Shape := ⟨4, ![256, 16, 896, 16]⟩

abbrev nBuf : Space → Nat
  | .hbm => 2
  | .vmem => 2
  | .smem => 0
  | _ => 0

abbrev bufTy : (tb : Table) → Fin (tcTables nBuf tb) → BufTy
  | .hbm, ⟨0, _⟩ => ⟨S4096x14336, .bf16⟩
  | .hbm, ⟨1, _⟩ => ⟨S256x896, .f32⟩
  | .local _ .vmem, ⟨0, _⟩ => ⟨S4096x14336, .bf16⟩
  | .local _ .vmem, ⟨1, _⟩ => ⟨S256x896, .f32⟩
  | _, _ => ⟨S4096x14336, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4096x14336 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x896 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Body.Rules.lean ====
/-
  A buffer known in part (`Known`): held whole, its elements in a set `P` holding those of `X`. The rules of a load and
  of a store for it, and of a loop at the head of a program.
-/
module

public import proofs.«01_k».proof.Proof.Gen.Kernel.Skeleton
public import Idealize.ShloMosaic.Lib.Pipeline.FrameBody
public import Idealize.ShloMosaic.Lib.VecWindow
public import Idealize.ShloMosaic.Lib.Tactic

@[expose] public section

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The assertions' algebra: the pipeline library's user algebra with the transfers' counters. -/
local notation "𝕄" => MT nD τ sig Unit (Elt F) ℕ (Pipeline.UD sig nD τ) ℕ

variable (𝒱 : Variants) (c : Dev nD) (bd : Option 𝒱.V) (E : Set ℕ)

/-- A program's weakest precondition on the device's core. -/
abbrev wpk {α : Type} (p : Prog (TpuEff nD τ sig (Elt F) Λ₀ .tc) α) (Q : α → sProp 𝕄) : sProp 𝕄 :=
  wp frame (wpE (defs₀ (F := F)) 𝒱 (c : Thread nD τ) bd) E p Q

/-- Held whole, the elements in `P` holding `X`'s. -/
def Known {sp : Space} {s : Shape} {e : EltTy} (m : Memref sig .tc sp s e) (P : s.Idx → Prop) (X : s.Idx → Elt F e) : sProp 𝕄 :=
  iprop(∃ f, ⌜∀ i, P i → m.view.read (Elt F) f i = X i⌝ ∗ (m.view.loc (c : Thread nD τ) ↦[m.view.set]{fullShare} f))

section
variable {sp : Space} {s : Shape} {e : EltTy} {m : Memref sig .tc sp s e}

theorem known_of_owns (X : s.Idx → Elt F e) : (owns (c : Thread nD τ) m fullShare X : sProp 𝕄) ⊢ Known c m (fun _ => True) X := by
  unfold owns Known
  iintro ⟨%f, %hf, H⟩
  iexists f
  isplitr
  · ipureintro; intro i _; rw [hf]
  · iexact H

theorem owns_of_known (X : s.Idx → Elt F e) (P : s.Idx → Prop) (hP : ∀ i, P i) : Known c m P X ⊢ (owns (c : Thread nD τ) m fullShare X : sProp 𝕄) := by
  unfold owns Known
  iintro ⟨%f, %hf, H⟩
  iexists f
  isplitr
  · ipureintro; exact funext fun i => hf i (hP i)
  · iexact H

theorem owns_any_of_known (X : s.Idx → Elt F e) (P : s.Idx → Prop) : Known c m P X ⊢ (iprop(∃ d, owns (c : Thread nD τ) m fullShare d) : sProp 𝕄) := by
  unfold owns Known
  iintro ⟨%f, %hf, H⟩
  iexists (m.view.read (Elt F) f), f
  isplitr
  · ipureintro; rfl
  · iexact H

theorem known_mono {P P' : s.Idx → Prop} {X X' : s.Idx → Elt F e} (h : ∀ i, P' i → P i ∧ X i = X' i) : Known c m P X ⊢ (Known c m P' X' : sProp 𝕄) := by
  unfold Known
  iintro ⟨%f, %hf, H⟩
  iexists f
  isplitr
  · ipureintro; intro i hi; rw [hf i (h i hi).1]; exact (h i hi).2
  · iexact H

theorem known_none (X : s.Idx → Elt F e) (d : s.Idx → Elt F e) : (owns (c : Thread nD τ) m fullShare d : sProp 𝕄) ⊢ Known c m (fun _ => False) X :=
  (known_of_owns c d).trans (known_mono c fun _ h => h.elim)

/-- A load whose value matters: every element read is known. -/
theorem wp_load_known {α : Type} {Q : α → sProp 𝕄} {cs : CoreSpace} {m : Memref sig .tc cs s e} {r : LoadRect s} {hl : m.view.LoadsAt r} {k : (r.shape.Idx → Elt F e) → Prog (TpuEff nD τ sig (Elt F) Λ₀ .tc) α}
    {P : s.Idx → Prop} {X : s.Idx → Elt F e} (v : r.shape.Idx → Elt F e) (hv : ∀ y, P (r.idx y) ∧ X (r.idx y) = v y) :
    Known c m P X ⊢ iprop((Known c m P X -∗ wpk 𝒱 c bd E (k v) Q) -∗ wpk 𝒱 c bd E (.op (.load m r hl) k) Q) := by
  unfold Known
  iintro ⟨%f, %hf, H⟩ Hk
  iapply (wp_load 𝒱 (c : Thread nD τ) bd E (m.view.setOn_subset_set _)) $$ H
  iintro H
  have e : m.view.readAt (Elt F) r f = v := funext fun y => by rw [View.readAt_apply, hf _ (hv y).1, (hv y).2]
  rw [e]
  iapply Hk
  iexists f
  isplitr
  · ipureintro; exact hf
  · iexact H

/-- A load whose value is not used. -/
theorem wp_load_any {α : Type} {Q : α → sProp 𝕄} {cs : CoreSpace} {m : Memref sig .tc cs s e} {r : LoadRect s} {hl : m.view.LoadsAt r} {k : (r.shape.Idx → Elt F e) → Prog (TpuEff nD τ sig (Elt F) Λ₀ .tc) α}
    {P : s.Idx → Prop} {X : s.Idx → Elt F e} :
    Known c m P X ⊢ iprop((∀ v, Known c m P X -∗ wpk 𝒱 c bd E (k v) Q) -∗ wpk 𝒱 c bd E (.op (.load m r hl) k) Q) := by
  unfold Known
  iintro ⟨%f, %hf, H⟩ Hk
  iapply (wp_load 𝒱 (c : Thread nD τ) bd E (m.view.setOn_subset_set _)) $$ H
  iintro H
  iapply Hk
  iexists f
  isplitr
  · ipureintro; exact hf
  · iexact H

/-- A store of a box that holds `X`'s elements: what was known before and the box are known after. -/
theorem wp_store_known {α : Type} {Q : α → sProp 𝕄} {cs : CoreSpace} {m : Memref sig .tc cs s e} {off off' size : Fin s.rank → ℕ} {inb : ∀ a, off a + size a ≤ s.size a}
    {w : (Rect.unit (s := s) off size inb).shape.Idx → Elt F e} {hx : (m.access (Rect.unit (s := s) off size inb)).Stores Finset.univ}
    {hm : Finset.univ = Finset.univ ∨ ∀ a, (Rect.unit (s := s) off size inb).stride a = 1}
    {k : PUnit → Prog (TpuEff nD τ sig (Elt F) Λ₀ .tc) α}
    {P : s.Idx → Prop} {X : s.Idx → Elt F e} (P' : s.Idx → Prop) (ho : off = off')
    (hw : ∀ (y : (Rect.unit (s := s) off size inb).shape.Idx) (i : s.Idx), (∀ a, (i a).val = off' a + (y a).val) → w y = X i)
    (hP : ∀ i, P' i → P i ∨ ∀ a, off' a ≤ (i a).val ∧ (i a).val < off' a + size a) :
    Known c m P X ⊢ iprop((Known c m P' X -∗ wpk 𝒱 c bd E (k ⟨⟩) Q) -∗ wpk 𝒱 c bd E (.op (.store m (Rect.unit (s := s) off size inb) w Finset.univ hx hm) k) Q) := by
  subst ho
  unfold Known
  iintro ⟨%f, %hf, H⟩ Hk
  iapply (wp_store_writes₀ 𝒱 (c : Thread nD τ) bd E (m.view.set_slice_subset _)) $$ H
  iintro H
  iapply Hk
  iexists (m.view.writes (Elt F) f [⟨Rect.unit off size inb, w⟩])
  isplitr
  · ipureintro
    intro i hi
    rw [View.read_writes_cons_put m.view f inb w [] rfl]
    unfold VecWindow.put
    by_cases h : ∀ a, off a ≤ (i a).val ∧ (i a).val < off a + size a
    · rw [dif_pos h]
      exact hw (Rect.unitLocal (s := s) (off := off) (size := size) i h) i fun a => by
        show (i a).val = off a + ((i a).val - off a)
        have := (h a).1; omega
    · rw [dif_neg h]
      show m.view.read (Elt F) (m.view.writes (Elt F) f []) i = X i
      rw [View.writes_nil]
      exact hf i ((hP i hi).resolve_right h)
  · iexact H

/-- The end of a program. -/
theorem wpk_pure {Q : Unit → sProp 𝕄} : Q ⟨⟩ ⊢ wpk 𝒱 c bd E (.ret ⟨⟩) Q := le_wp_ret _ _ _ _ Q

/-- A loop without carried values at the head of a program. -/
theorem wp_loop {α : Type} {Q : α → sProp 𝕄} {L : Scf.Loop 32} {ok : L.OK} {body : Fin L.trips → Unit → Prog (TpuEff nD τ sig (Elt F) Λ₀ .tc) Unit} {k : Unit → Prog (TpuEff nD τ sig (Elt F) Λ₀ .tc) α}
    (I : ℕ → sProp 𝕄) (hbody : ∀ t : Fin L.trips, I t.val ⊢ wpk 𝒱 c bd E (body t ⟨⟩) (fun _ => I (t.val + 1))) :
    I 0 ⊢ iprop((I L.trips -∗ wpk 𝒱 c bd E (k ⟨⟩) Q) -∗ wpk 𝒱 c bd E (Scf.Loop.for L ok ⟨⟩ body >>= k) Q) := by
  iintro HI Hk
  iapply (Scf.wp_for_bind frame (wpE (defs₀ (F := F)) 𝒱 (c : Thread nD τ) bd) E L.lb L.ub L.st ok ⟨⟩ body (fun n _ => I n) (fun t _ => hbody t)) $$ HI
  iintro %acc HI
  iapply Hk
  iexact HI

end

end Cert.Kernel.Body

end
-- ==== Proof.Body.Prog.lean ====
/-
  The kernel's four repeated pieces of work as programs of their own: one 16 by 128 piece of a strip quantised
  (`blockP`), one 256 row tile of a strip (`ktileP`), one group of eight table rows (`tableP`), one 240 row chunk of
  the product (`chunkP`). Each takes its buffers, its offsets and the evidence of its accesses as arguments, so that
  every place the kernel repeats the piece is an instance of it by definitional unfolding.
-/
module

public import proofs.«01_k».proof.Proof.Gen.Kernel.Skeleton

@[expose] public section

set_option maxRecDepth 16384

noncomputable section

namespace Cert.Kernel.Body

open Cert.Kernel Cert.Kernel.Gen
open Idealize.ShloMosaic Idealize.SL.Sem

variable {F : FTy → Type} [FloatOps F]

/-- The rows of one table read with stride zero: one row for all sixteen. -/
abbrev rowRect (o : Fin 4 → Nat) (h : ∀ a, S1x1x16x128.size a = 0 ∨ o a + (![1, 1, 0, 1] : Fin 4 → Nat) a * (S1x1x16x128.size a - 1) < S10x2x256x128.size a) : LoadRect S10x2x256x128 :=
  ⟨o, S1x1x16x128.size, ![1, 1, 0, 1], h⟩

/-- Every second row of a tile's code words. -/
abbrev halfRect (o : Fin 4 → Nat) (h : ∀ a, S1x1x64x128.size a = 0 ∨ o a + (![1, 1, 2, 1] : Fin 4 → Nat) a * (S1x1x64x128.size a - 1) < S2x2x128x128.size a) : LoadRect S2x2x128x128 :=
  ⟨o, S1x1x64x128.size, ![1, 1, 2, 1], h⟩

/-- In bounds, as the sixteenfold row read asks for it. -/
abbrev RowIn (o : Fin 4 → Nat) : Prop := ∀ a, S1x1x16x128.size a = 0 ∨ o a + (![1, 1, 0, 1] : Fin 4 → Nat) a * (S1x1x16x128.size a - 1) < S10x2x256x128.size a

/-! ## One piece of sixteen rows -/

/-- The upper code bit: the magnitude reaches threshold 3. -/
abbrev m2P (w : Vec F S16x128 .bf16) (t3 : Vec F S1x1x16x128 .f32) : IVec S16x128 1 := k0_pay45 w t3
/-- The middle code bit. -/
abbrev m1P (w : Vec F S16x128 .bf16) (t3 t5 t1 : Vec F S1x1x16x128 .f32) : IVec S16x128 1 := k0_pay46 w t3 t5 t1

/-- The four bit codes of one piece. -/
def codeP (w : Vec F S16x128 .bf16) (t3 t5 t1 t6 t4 t2 t0 t7 : Vec F S1x1x16x128 .f32) : IVec S16x128 16 :=
  k0_pay52 w (k0_pay44 w) (k0_pay45 w t3) (k0_pay46 w t3 t5 t1) (k0_pay47 w t3 t5 t1 t6 t4) t2 t0 t7

/-- The dequantised weights of one piece. -/
def deqP (w : Vec F S16x128 .bf16) (t3 t5 t1 t6 t4 t2 t0 t7 t9 t8 : Vec F S1x1x16x128 .f32) : FVec F S16x128 .bf16 :=
  k0_pay65 (k0_pay49 w t7) (k0_pay53 (k0_pay44 w) (k0_pay45 w t3) (k0_pay46 w t3 t5 t1) (k0_pay47 w t3 t5 t1 t6 t4) t2 t0) t9 t8

/-- Sixteen rows of one half of a strip: codes to the code words, dequantised weights to the weight buffer. -/
def blockP (w wd : Memref sig .tc .vmem S4096x256 .bf16) (tab : Memref sig .tc .vmem S10x2x256x128 .f32) (e : Memref sig .tc .vmem S2x2x128x128 .i32)
    (oW : Fin 2 → Nat) (hW : ∀ a, oW a + S16x128.size a ≤ S4096x256.size a) (hst : (wd.access (Rect.unit (s := S4096x256) oW S16x128.size hW)).Stores Finset.univ)
    (o3 o5 o1 o6 o4 o2 o0 o7 o9 o8 : Fin 4 → Nat)
    (h3 : RowIn o3) (h5 : RowIn o5) (h1 : RowIn o1) (h6 : RowIn o6) (h4 : RowIn o4) (h2 : RowIn o2) (h0 : RowIn o0) (h7 : RowIn o7) (h9 : RowIn o9) (h8 : RowIn o8)
    (oE : Fin 4 → Nat) (hE : ∀ a, oE a + S1x1x8x128.size a ≤ S2x2x128x128.size a) : Prog (TpuEff nD τ sig (Elt F) Λ₀ .tc) Unit := do
  let v243 : Vec F S16x128 .bf16 ← Prog.lift (.load w (Rect.unit (s := S4096x256) oW S16x128.size hW).toLoadRect (View.loadsAt_vmem h_S16x128))
  let v247 : Vec F S1x1x16x128 .f32 ← Prog.lift (.load tab (rowRect o3 h3) (View.loadsAt_vmem h_S1x1x16x128))
  let v254 : Vec F S1x1x16x128 .f32 ← Prog.lift (.load tab (rowRect o5 h5) (View.loadsAt_vmem h_S1x1x16x128))
  let v257 : Vec F S1x1x16x128 .f32 ← Prog.lift (.load tab (rowRect o1 h1) (View.loadsAt_vmem h_S1x1x16x128))
  let v265 : Vec F S1x1x16x128 .f32 ← Prog.lift (.load tab (rowRect o6 h6) (View.loadsAt_vmem h_S1x1x16x128))
  let v268 : Vec F S1x1x16x128 .f32 ← Prog.lift (.load tab (rowRect o4 h4) (View.loadsAt_vmem h_S1x1x16x128))
  let v272 : Vec F S1x1x16x128 .f32 ← Prog.lift (.load tab (rowRect o2 h2) (View.loadsAt_vmem h_S1x1x16x128))
  let v275 : Vec F S1x1x16x128 .f32 ← Prog.lift (.load tab (rowRect o0 h0) (View.loadsAt_vmem h_S1x1x16x128))
  let v282 : Vec F S1x1x16x128 .f32 ← Prog.lift (.load tab (rowRect o7 h7) (View.loadsAt_vmem h_S1x1x16x128))
  let v312 : Vec F S1x1x16x128 .f32 ← Prog.lift (.load tab (rowRect o9 h9) (View.loadsAt_vmem h_S1x1x16x128))
  let v315 : Vec F S1x1x16x128 .f32 ← Prog.lift (.load tab (rowRect o8 h8) (View.loadsAt_vmem h_S1x1x16x128))
  let _v335 : Vec F S1x1x8x128 .i32 ← Prog.lift (.load e (Rect.unit (s := S2x2x128x128) oE S1x1x8x128.size hE).toLoadRect (View.loadsAt_vmem h_S1x1x8x128))
  Prog.lift (.store e (Rect.unit (s := S2x2x128x128) oE S1x1x8x128.size hE) (k0_pay64 (codeP v243 v247 v254 v257 v265 v268 v272 v275 v282)) Finset.univ (View.stores_vmem_bits_univ h_S1x1x8x128 rfl) (.inl rfl))
  let _v339 : Vec F S16x128 .bf16 ← Prog.lift (.load wd (Rect.unit (s := S4096x256) oW S16x128.size hW).toLoadRect (View.loadsAt_vmem h_S16x128))
  Prog.lift (.store wd (Rect.unit (s := S4096x256) oW S16x128.size hW) (deqP v243 v247 v254 v257 v265 v268 v272 v275 v282 v312 v315) Finset.univ hst (.inl rfl))
  pure ⟨⟩

/-! ## One tile of 256 rows -/

/-- The two halves' code words of even and odd columns together, as the packed columns of the tile. -/
def cnP (e0 o0 e1 o1 : Vec F S1x1x64x128 .i32) : IVec S256x128 8 := k0_pay75 (k0_pay69 e0 o0) e1 o1

/-- A tile of 256 rows, both halves of the strip: `B0` and `B1` are the sixteen pieces of each half. -/
def ktileP (e : Memref sig .tc .vmem S2x2x128x128 .i32) (ck : Memref sig .tc .vmem S256x2048 .i8) (cn : Memref sig .tc .vmem S4096x128 .i8)
    (L0 : Scf.Loop 32) (ok0 : L0.OK) (B0 : Fin L0.trips → Unit → Prog (TpuEff nD τ sig (Elt F) Λ₀ .tc) Unit)
    (L1 : Scf.Loop 32) (ok1 : L1.OK) (B1 : Fin L1.trips → Unit → Prog (TpuEff nD τ sig (Elt F) Λ₀ .tc) Unit)
    (oX0 oX1 : Fin 4 → Nat) (hX0 : ∀ a, oX0 a + S1x1x128x128.size a ≤ S2x2x128x128.size a) (hX1 : ∀ a, oX1 a + S1x1x128x128.size a ≤ S2x2x128x128.size a)
    (oK0 oK1 : Fin 2 → Nat) (hK0 : ∀ a, oK0 a + S128x128.size a ≤ S256x2048.size a) (hK1 : ∀ a, oK1 a + S128x128.size a ≤ S256x2048.size a)
    (sK0 : (ck.access (Rect.unit (s := S256x2048) oK0 S128x128.size hK0)).Stores Finset.univ) (sK1 : (ck.access (Rect.unit (s := S256x2048) oK1 S128x128.size hK1)).Stores Finset.univ)
    (oE0 oO0 oE1 oO1 : Fin 4 → Nat) (hE0 : ∀ a, S1x1x64x128.size a = 0 ∨ oE0 a + (![1, 1, 2, 1] : Fin 4 → Nat) a * (S1x1x64x128.size a - 1) < S2x2x128x128.size a)
    (hO0 : ∀ a, S1x1x64x128.size a = 0 ∨ oO0 a + (![1, 1, 2, 1] : Fin 4 → Nat) a * (S1x1x64x128.size a - 1) < S2x2x128x128.size a)
    (hE1 : ∀ a, S1x1x64x128.size a = 0 ∨ oE1 a + (![1, 1, 2, 1] : Fin 4 → Nat) a * (S1x1x64x128.size a - 1) < S2x2x128x128.size a)
    (hO1 : ∀ a, S1x1x64x128.size a = 0 ∨ oO1 a + (![1, 1, 2, 1] : Fin 4 → Nat) a * (S1x1x64x128.size a - 1) < S2x2x128x128.size a)
    (oN : Fin 2 → Nat) (hN : ∀ a, oN a + S256x128.size a ≤ S4096x128.size a) (sN : (cn.access (Rect.unit (s := S4096x128) oN S256x128.size hN)).Stores Finset.univ) :
    Prog (TpuEff nD τ sig (Elt F) Λ₀ .tc) Unit := do
  Scf.Loop.for L0 ok0 ⟨⟩ B0
  let v107 : Vec F S1x1x128x128 .i32 ← Prog.lift (.load e (Rect.unit (s := S2x2x128x128) oX0 S1x1x128x128.size hX0).toLoadRect (View.loadsAt_vmem h_S1x1x128x128))
  let _v119 : Vec F S128x128 .i8 ← Prog.lift (.load ck (Rect.unit (s := S256x2048) oK0 S128x128.size hK0).toLoadRect (View.loadsAt_vmem h_S128x128))
  Prog.lift (.store ck (Rect.unit (s := S256x2048) oK0 S128x128.size hK0) (k0_pay67 v107) Finset.univ sK0 (.inl rfl))
  let _v131 : Vec F S1x1x128x128 .i32 ← Prog.lift (.load e (Rect.unit (s := S2x2x128x128) oX0 S1x1x128x128.size hX0).toLoadRect (View.loadsAt_vmem h_S1x1x128x128))
  Prog.lift (.store e (Rect.unit (s := S2x2x128x128) oX0 S1x1x128x128.size hX0) (k0_pay68 (k0_pay66 v107)) Finset.univ (View.stores_vmem_bits_univ h_S1x1x128x128 rfl) (.inl rfl))
  let v145 : Vec F S1x1x64x128 .i32 ← Prog.lift (.load e (halfRect oE0 hE0) (View.loadsAt_vmem h_S1x1x64x128))
  let v158 : Vec F S1x1x64x128 .i32 ← Prog.lift (.load e (halfRect oO0 hO0) (View.loadsAt_vmem h_S1x1x64x128))
  Scf.Loop.for L1 ok1 ⟨⟩ B1
  let v175 : Vec F S1x1x128x128 .i32 ← Prog.lift (.load e (Rect.unit (s := S2x2x128x128) oX1 S1x1x128x128.size hX1).toLoadRect (View.loadsAt_vmem h_S1x1x128x128))
  let _v187 : Vec F S128x128 .i8 ← Prog.lift (.load ck (Rect.unit (s := S256x2048) oK1 S128x128.size hK1).toLoadRect (View.loadsAt_vmem h_S128x128))
  Prog.lift (.store ck (Rect.unit (s := S256x2048) oK1 S128x128.size hK1) (k0_pay67 v175) Finset.univ sK1 (.inl rfl))
  let _v199 : Vec F S1x1x128x128 .i32 ← Prog.lift (.load e (Rect.unit (s := S2x2x128x128) oX1 S1x1x128x128.size hX1).toLoadRect (View.loadsAt_vmem h_S1x1x128x128))
  Prog.lift (.store e (Rect.unit (s := S2x2x128x128) oX1 S1x1x128x128.size hX1) (k0_pay68 (k0_pay66 v175)) Finset.univ (View.stores_vmem_bits_univ h_S1x1x128x128 rfl) (.inl rfl))
  let v213 : Vec F S1x1x64x128 .i32 ← Prog.lift (.load e (halfRect oE1 hE1) (View.loadsAt_vmem h_S1x1x64x128))
  let v226 : Vec F S1x1x64x128 .i32 ← Prog.lift (.load e (halfRect oO1 hO1) (View.loadsAt_vmem h_S1x1x64x128))
  let _v236 : Vec F S256x128 .i8 ← Prog.lift (.load cn (Rect.unit (s := S4096x128) oN S256x128.size hN).toLoadRect (View.loadsAt_vmem h_S256x128))
  Prog.lift (.store cn (Rect.unit (s := S4096x128) oN S256x128.size hN) (cnP v145 v158 v213 v226) Finset.univ sN (.inl rfl))
  pure ⟨⟩

/-! ## One group of eight table rows -/

/-- The lanes a table's half `c` reads: `base` moved by eight for the second half. -/
def laneP (base : IVec S8x128 32) (c : BitVec 32) : IVec S8x128 32 := addi base (broadcast S8x128 c)

/-- One row group of one table: the values `f` read at the lanes `idx`. -/
def gatherP (f : FVec F S8x128 .f32) (idx : IVec S8x128 32) : FVec F S1x1x8x128 .f32 :=
  shapeCast S1x1x8x128 (dynamicGather 1 f (shapeCast S8x128 (shapeCast S8x128x1 (select (cmpi .slt idx (broadcast S8x128 0#32)) (addi idx (broadcast S8x128 128#32)) idx) shapeCasts_S8x128_S8x128x1) shapeCasts_S8x128x1_S8x128)) shapeCasts_S8x128_S1x1x8x128

/-- The block scale as a float: the quantised ratio of block maximum and six times the tensor scale. -/
def sbP (st : Elt F .f32) (bm : Vec F S8x128 .f32) : FVec F S8x128 .f32 := k0_pay5 st bm

/-- The block step: block scale times tensor scale. -/
def dP (st : Elt F .f32) (bm : Vec F S8x128 .f32) : FVec F S8x128 .f32 := k0_pay6 st bm

/-- A threshold row: the step times `point`, infinite where the step is not positive. -/
def thrP (st : Elt F .f32) (bm : Vec F S8x128 .f32) (point : BitVec 32) : FVec F S8x128 .f32 :=
  select (k0_pay7 st bm) (mulf (k0_pay6 st bm) (broadcast S8x128 (Scalar.ofBits .f32 point))) (broadcast S8x128 (Scalar.ofBits .f32 0x7F800000#32))

/-- The ten rows a group writes to each half. -/
def rowsP (st : Elt F .f32) (bm : Vec F S8x128 .f32) : Fin 10 → FVec F S8x128 .f32
  | 0 => thrP st bm 0x3E800000#32
  | 1 => thrP st bm 0x3F400000#32
  | 2 => thrP st bm 0x3FA00000#32
  | 3 => thrP st bm 0x3FE00000#32
  | 4 => thrP st bm 0x40200000#32
  | 5 => thrP st bm 0x40600000#32
  | 6 => thrP st bm 0x40A00000#32
  | 7 => k0_pay16 (F := F) (k0_pay7 st bm)
  | 8 => k0_pay5 st bm
  | 9 => k0_pay17 (k0_pay5 st bm)

/-- One row group stored to a table's half. -/
def putP (tab : Memref sig .tc .vmem S10x2x256x128 .f32) (o : Fin 4 → Nat) (h : ∀ a, o a + S1x1x8x128.size a ≤ S10x2x256x128.size a) (x : FVec F S1x1x8x128 .f32) :
    Prog (TpuEff nD τ sig (Elt F) Λ₀ .tc) Unit := do
  let _v : Vec F S1x1x8x128 .f32 ← Prog.lift (.load tab (Rect.unit (s := S10x2x256x128) o S1x1x8x128.size h).toLoadRect (View.loadsAt_vmem h_S1x1x8x128))
  Prog.lift (.store tab (Rect.unit (s := S10x2x256x128) o S1x1x8x128.size h) x Finset.univ (View.stores_vmem_bits_univ h_S1x1x8x128 rfl) (.inl rfl))

/-- In bounds, as a row group's store asks for it. -/
abbrev GrpIn (o : Fin 4 → Nat) : Prop := ∀ a, o a + S1x1x8x128.size a ≤ S10x2x256x128.size a

/-- Eight rows of block maxima turned into eight rows of every table, both halves. -/
def tableP (bm : Memref sig .tc .vmem S256x128 .f32) (tab : Memref sig .tc .vmem S10x2x256x128 .f32) (st : Elt F .f32) (base : IVec S8x128 32)
    (oB : Fin 2 → Nat) (hB : ∀ a, oB a + S8x128.size a ≤ S256x128.size a) (o : Fin 2 → Fin 10 → Fin 4 → Nat) (h : ∀ c t, GrpIn (o c t)) : Prog (TpuEff nD τ sig (Elt F) Λ₀ .tc) Unit := do
  let b : Vec F S8x128 .f32 ← Prog.lift (.load bm (Rect.unit (s := S256x128) oB S8x128.size hB).toLoadRect (View.loadsAt_vmem h_S8x128))
  putP tab (o 0 0) (h 0 0) (gatherP (rowsP st b 0) (laneP base 0#32))
  putP tab (o 0 1) (h 0 1) (gatherP (rowsP st b 1) (laneP base 0#32))
  putP tab (o 0 2) (h 0 2) (gatherP (rowsP st b 2) (laneP base 0#32))
  putP tab (o 0 3) (h 0 3) (gatherP (rowsP st b 3) (laneP base 0#32))
  putP tab (o 0 4) (h 0 4) (gatherP (rowsP st b 4) (laneP base 0#32))
  putP tab (o 0 5) (h 0 5) (gatherP (rowsP st b 5) (laneP base 0#32))
  putP tab (o 0 6) (h 0 6) (gatherP (rowsP st b 6) (laneP base 0#32))
  putP tab (o 0 7) (h 0 7) (gatherP (rowsP st b 7) (laneP base 0#32))
  putP tab (o 0 8) (h 0 8) (gatherP (rowsP st b 8) (laneP base 0#32))
  putP tab (o 0 9) (h 0 9) (gatherP (rowsP st b 9) (laneP base 0#32))
  putP tab (o 1 0) (h 1 0) (gatherP (rowsP st b 0) (laneP base 8#32))
  putP tab (o 1 1) (h 1 1) (gatherP (rowsP st b 1) (laneP base 8#32))
  putP tab (o 1 2) (h 1 2) (gatherP (rowsP st b 2) (laneP base 8#32))
  putP tab (o 1 3) (h 1 3) (gatherP (rowsP st b 3) (laneP base 8#32))
  putP tab (o 1 4) (h 1 4) (gatherP (rowsP st b 4) (laneP base 8#32))
  putP tab (o 1 5) (h 1 5) (gatherP (rowsP st b 5) (laneP base 8#32))
  putP tab (o 1 6) (h 1 6) (gatherP (rowsP st b 6) (laneP base 8#32))
  putP tab (o 1 7) (h 1 7) (gatherP (rowsP st b 7) (laneP base 8#32))
  putP tab (o 1 8) (h 1 8) (gatherP (rowsP st b 8) (laneP base 8#32))
  putP tab (o 1 9) (h 1 9) (gatherP (rowsP st b 9) (laneP base 8#32))
  pure ⟨⟩

/-! ## One chunk of 240 rows of the product -/

/-- 240 rows of the product, then `K`, the tiles quantised beside it. -/
def chunkP (x : Memref sig .tc .vmem S1920x4096 .bf16) (wd : Memref sig .tc .vmem S4096x256 .bf16) (y : Memref sig .tc .vmem S1920x256 .bf16) (st : Elt F .f32)
    (oX : Fin 2 → Nat) (hX : ∀ a, oX a + S240x4096.size a ≤ S1920x4096.size a)
    (oY : Fin 2 → Nat) (hY : ∀ a, oY a + S240x256.size a ≤ S1920x256.size a) (sY : (y.access (Rect.unit (s := S1920x256) oY S240x256.size hY)).Stores Finset.univ)
    (L : Scf.Loop 32) (ok : L.OK) (K : Fin L.trips → Unit → Prog (TpuEff nD τ sig (Elt F) Λ₀ .tc) Unit) : Prog (TpuEff nD τ sig (Elt F) Λ₀ .tc) Unit := do
  let v98 : Vec F S240x4096 .bf16 ← Prog.lift (.load x (Rect.unit (s := S1920x4096) oX S240x4096.size hX).toLoadRect (View.loadsAt_vmem h_S240x4096))
  let v99 : Vec F S4096x256 .bf16 ← Prog.lift (.load wd (Rect.unit (s := S4096x256) ![0, 0] S4096x256.size inb_S4096x256_S4096x256_0_0).toLoadRect (View.loadsAt_vmem h_S4096x256))
  let _v105 : Vec F S240x256 .bf16 ← Prog.lift (.load y (Rect.unit (s := S1920x256) oY S240x256.size hY).toLoadRect (View.loadsAt_vmem h_S240x256))
  Prog.lift (.store y (Rect.unit (s := S1920x256) oY S240x256.size hY) (k0_pay3 st v98 v99) Finset.univ sY (.inl rfl))
  Scf.Loop.for L ok ⟨⟩ K
  pure ⟨⟩

end Cert.Kernel.Body

end
-- ==== Proof.Body.Spec.lean ====
/-
  What the kernel's buffers hold, piece by piece, as functions of a strip `W` of the weights and of the tables `T` of
  its blocks: the dequantised strip, the code words, and the two packings of the codes.
-/
module

public import proofs.«01_k».proof.Proof.Body.Prog

@[expose] public section

noncomputable section

namespace Cert.Kernel.Body

open Cert.Kernel Cert.Kernel.Gen
open Idealize.ShloMosaic

variable {F : FTy → Type} [FloatOps F]

/-- The index of the given coordinates, each taken modulo its extent. -/
def at' (s : Shape) (f : Fin s.rank → ℕ) (h : ∀ a, 0 < s.size a := by decide) : s.Idx := fun a => ⟨f a % s.size a, Nat.mod_lt _ (h a)⟩

theorem at'_eq {s : Shape} {h : ∀ a, 0 < s.size a} (f : Fin s.rank → ℕ) (i : s.Idx) (e : ∀ a, f a = (i a).val) : at' s f h = i :=
  funext fun a => Fin.ext (by show f a % s.size a = _; rw [e a, Nat.mod_eq_of_lt (i a).isLt])

/-- Rows `16 k` to `16 k + 15` of half `c` of a strip. -/
def blkIn (W : S4096x256.Idx → Elt F .bf16) (k c : ℕ) : Vec F S16x128 .bf16 := fun y => W (at' S4096x256 ![16 * k + (y 0).val, 128 * c + (y 1).val])

/-- Row `k` of table `t`, half `c`, for all sixteen rows. -/
def rowIn (T : S10x2x256x128.Idx → Elt F .f32) (t c k : ℕ) : Vec F S1x1x16x128 .f32 := fun y => T (at' S10x2x256x128 ![t, c, k, (y 3).val])

/-- The codes of one piece. -/
def codeB (W : S4096x256.Idx → Elt F .bf16) (T : S10x2x256x128.Idx → Elt F .f32) (k c : ℕ) : IVec S16x128 16 :=
  codeP (blkIn W k c) (rowIn T 3 c k) (rowIn T 5 c k) (rowIn T 1 c k) (rowIn T 6 c k) (rowIn T 4 c k) (rowIn T 2 c k) (rowIn T 0 c k) (rowIn T 7 c k)

/-- The dequantised weights of one piece. -/
def deqB (W : S4096x256.Idx → Elt F .bf16) (T : S10x2x256x128.Idx → Elt F .f32) (k c : ℕ) : FVec F S16x128 .bf16 :=
  deqP (blkIn W k c) (rowIn T 3 c k) (rowIn T 5 c k) (rowIn T 1 c k) (rowIn T 6 c k) (rowIn T 4 c k) (rowIn T 2 c k) (rowIn T 0 c k) (rowIn T 7 c k) (rowIn T 9 c k) (rowIn T 8 c k)

/-- The dequantised strip. -/
def deqS (W : S4096x256.Idx → Elt F .bf16) (T : S10x2x256x128.Idx → Elt F .f32) : S4096x256.Idx → Elt F .bf16 :=
  fun i => deqB W T ((i 0).val / 16) ((i 1).val / 128) (at' S16x128 ![(i 0).val, (i 1).val])

/-- The code words of one piece: two rows of codes to a row of words. -/
def wordB (W : S4096x256.Idx → Elt F .bf16) (T : S10x2x256x128.Idx → Elt F .f32) (k c : ℕ) : IVec S1x1x8x128 32 := k0_pay64 (codeB W T k c)

/-- The code words of tile `kt`, half `c`, where the word buffer keeps them. -/
def wordE (W : S4096x256.Idx → Elt F .bf16) (T : S10x2x256x128.Idx → Elt F .f32) (kt c : ℕ) : S2x2x128x128.Idx → Elt F .i32 :=
  fun i => wordB W T (16 * kt + (i 2).val / 8) c (at' S1x1x8x128 ![0, 0, (i 2).val, (i 3).val])

/-- The code words of tile `kt`, half `c`, as one array. -/
def wordV (W : S4096x256.Idx → Elt F .bf16) (T : S10x2x256x128.Idx → Elt F .f32) (kt c : ℕ) : Vec F S1x1x128x128 .i32 :=
  fun y => wordB W T (16 * kt + (y 2).val / 8) c (at' S1x1x8x128 ![0, 0, (y 2).val, (y 3).val])

/-- Every second row, from row `p`, of a tile's words transposed. -/
def halfV (v : Vec F S1x1x128x128 .i32) (p : ℕ) : Vec F S1x1x64x128 .i32 := fun y => k0_pay68 (k0_pay66 v) (at' S1x1x128x128 ![0, 0, p + 2 * (y 2).val, (y 3).val])

/-- The columns' packing of tile `kt`. -/
def cnB (W : S4096x256.Idx → Elt F .bf16) (T : S10x2x256x128.Idx → Elt F .f32) (kt : ℕ) : IVec S256x128 8 :=
  cnP (F := F) (halfV (wordV W T kt 0) 0) (halfV (wordV W T kt 0) 1) (halfV (wordV W T kt 1) 0) (halfV (wordV W T kt 1) 1)

/-- The columns' packing of the strip. -/
def cnS (W : S4096x256.Idx → Elt F .bf16) (T : S10x2x256x128.Idx → Elt F .f32) : S4096x128.Idx → Elt F .i8 :=
  fun i => cnB W T ((i 0).val / 256) (at' S256x128 ![(i 0).val, (i 1).val])

/-- The rows' packing of the strip. -/
def ckS (W : S4096x256.Idx → Elt F .bf16) (T : S10x2x256x128.Idx → Elt F .f32) : S256x2048.Idx → Elt F .i8 :=
  fun i => k0_pay67 (wordV W T ((i 1).val / 128) ((i 0).val / 128)) (at' S128x128 ![(i 0).val, (i 1).val])

/-- The tables of a strip, from the block maxima `bm` of 128 columns, the tensor scale and the lanes of its first row
    of blocks. -/
def tabS (st : Elt F .f32) (base : IVec S8x128 32) (bm : S256x128.Idx → Elt F .f32) : S10x2x256x128.Idx → Elt F .f32 :=
  fun i => gatherP (rowsP st (fun y => bm (at' S256x128 ![8 * ((i 2).val / 8) + (y 0).val, (y 1).val])) (i 0)) (laneP base (BitVec.ofNat 32 (8 * (i 1).val))) (at' S1x1x8x128 ![0, 0, (i 2).val, (i 3).val])

/-- The strip's product, by chunks of 240 rows. -/
def yS (st : Elt F .f32) (x : S1920x4096.Idx → Elt F .bf16) (D : S4096x256.Idx → Elt F .bf16) : S1920x256.Idx → Elt F .bf16 :=
  fun i => k0_pay3 st (fun y => x (at' S1920x4096 ![240 * ((i 0).val / 240) + (y 0).val, (y 1).val])) D (at' S240x256 ![(i 0).val, (i 1).val])

end Cert.Kernel.Body

end
-- ==== Proof.Body.Table.lean ====
/-
  One group of eight table rows, run: the tables are known for eight rows more.
-/
module

public import proofs.«01_k».proof.Proof.Body.Rules
public import proofs.«01_k».proof.Proof.Body.Spec

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (𝒱 : Variants) (c : Dev nD) (bd : Option 𝒱.V) (E : Set ℕ)

/-- What a table loop holds before group `g`. -/
def tableInv (bm : Memref sig .tc .vmem S256x128 .f32) (tab : Memref sig .tc .vmem S10x2x256x128 .f32) (st : Elt F .f32) (base : IVec S8x128 32)
    (B : S256x128.Idx → Elt F .f32) (g : ℕ) : sProp 𝕄 :=
  iprop(Known c bm (fun _ => True) B ∗ Known c tab (fun i => (i 2).val < 8 * g) (tabS st base B))

/-- The part of the tables written before row group `n` (of twenty) of group `g`. -/
def doneT (g n : ℕ) (i : S10x2x256x128.Idx) : Prop := (i 2).val < 8 * g ∨ (i 2).val < 8 * g + 8 ∧ 10 * (i 1).val + (i 0).val < n

/-- Rows `8 g` to `8 g + 7` of the block maxima. -/
def grpIn (B : S256x128.Idx → Elt F .f32) (g : ℕ) : Vec F S8x128 .f32 := fun y => B (at' S256x128 ![8 * g + (y 0).val, (y 1).val])

theorem put_run {tab : Memref sig .tc .vmem S10x2x256x128 .f32} {o : Fin 4 → Nat} {h : ∀ a, o a + S1x1x8x128.size a ≤ S10x2x256x128.size a}
    {α : Type} {Q : α → sProp 𝕄} {k : Unit → Prog (TpuEff nD τ sig (Elt F) Λ₀ .tc) α}
    (st : Elt F .f32) (base : IVec S8x128 32) (B : S256x128.Idx → Elt F .f32) (g : ℕ) (hh : Fin 2) (t : Fin 10) (eo : o = ![t.val, hh.val, 8 * g, 0]) :
    Known c tab (doneT g (10 * hh.val + t.val)) (tabS st base B)
      ⊢ iprop((Known c tab (doneT g (10 * hh.val + t.val + 1)) (tabS st base B) -∗ wpk 𝒱 c bd E (k ⟨⟩) Q)
          -∗ wpk 𝒱 c bd E (putP tab o h (gatherP (rowsP st (grpIn B g) t) (laneP base (BitVec.ofNat 32 (8 * hh.val)))) >>= k) Q) := by
  unfold putP
  iintro Ht Hk
  iapply (wp_load_any 𝒱 c bd E) $$ Ht
  iintro %_ Ht
  iapply (wp_store_known 𝒱 c bd E (doneT g (10 * hh.val + t.val + 1)) eo (fun y i hi => by
      have i0 : (i 0).val = t.val + (y 0).val := hi 0
      have i1 : (i 1).val = hh.val + (y 1).val := hi 1
      have i2 : (i 2).val = 8 * g + (y 2).val := hi 2
      have i3 : (i 3).val = 0 + (y 3).val := hi 3
      have y0 : (y 0).val < 1 := (y 0).isLt
      have y1 : (y 1).val < 1 := (y 1).isLt
      have y2 : (y 2).val < 8 := (y 2).isLt
      have y3 : (y 3).val < 128 := (y 3).isLt
      have e0 : i 0 = t := Fin.ext (by omega)
      have e1 : (i 1).val = hh.val := by omega
      have e2 : (i 2).val / 8 = g := by omega
      unfold tabS
      rw [e0, e1, e2]
      show gatherP (rowsP st (grpIn B g) t) (laneP base (BitVec.ofNat 32 (8 * hh.val))) y = _
      refine congrArg (gatherP (rowsP st (grpIn B g) t) (laneP base (BitVec.ofNat 32 (8 * hh.val)))) (funext fun a => Fin.ext ?_)
      fin_cases a
      · show (y 0).val = 0 % 1; omega
      · show (y 1).val = 0 % 1; omega
      · show (y 2).val = (i 2).val % 8; omega
      · show (y 3).val = (i 3).val % 128; omega)
    (fun i hi => by
      unfold doneT at hi ⊢
      by_cases hb : 8 * g ≤ (i 2).val ∧ (i 2).val < 8 * g + 8 ∧ 10 * (i 1).val + (i 0).val = 10 * hh.val + t.val
      · refine .inr fun a => ?_
        have l0 : (i 0).val < 10 := (i 0).isLt
        have l3 : (i 3).val < 128 := (i 3).isLt
        have lt := t.isLt
        fin_cases a
        · show t.val ≤ (i 0).val ∧ (i 0).val < t.val + 1; omega
        · show hh.val ≤ (i 1).val ∧ (i 1).val < hh.val + 1; omega
        · exact ⟨hb.1, hb.2.1⟩
        · show 0 ≤ (i 3).val ∧ (i 3).val < 0 + 128; omega
      · left; omega)) $$ Ht
  iintro Ht
  iapply Hk
  iexact Ht

theorem table_run (bm : Memref sig .tc .vmem S256x128 .f32) (tab : Memref sig .tc .vmem S10x2x256x128 .f32) (st : Elt F .f32) (base : IVec S8x128 32)
    {oB : Fin 2 → Nat} {hB : ∀ a, oB a + S8x128.size a ≤ S256x128.size a} {o : Fin 2 → Fin 10 → Fin 4 → Nat} {h : ∀ hh t, GrpIn (o hh t)}
    (B : S256x128.Idx → Elt F .f32) (g : ℕ) (eB : oB = ![8 * g, 0]) (eo : ∀ hh t, o hh t = ![t.val, hh.val, 8 * g, 0]) :
    tableInv c bm tab st base B g ⊢ wpk 𝒱 c bd E (tableP (F := F) bm tab st base oB hB o h) (fun _ => tableInv c bm tab st base B (g + 1)) := by
  unfold tableP tableInv
  iintro ⟨Hb, Ht⟩
  iapply (wp_load_known 𝒱 c bd E (grpIn B g) (fun y => ⟨trivial, by
    unfold grpIn
    refine congrArg B (at'_eq _ _ fun a => ?_).symm
    subst eB
    fin_cases a
    · show 8 * g + (y 0).val = 8 * g + 1 * (y 0).val; omega
    · show (y 1).val = 0 + 1 * (y 1).val; omega⟩)) $$ Hb
  iintro Hb
  ihave Ht := (known_mono (P' := doneT g 0) (X' := tabS st base B) c (fun i hi => ⟨by unfold doneT at hi; omega, rfl⟩)) $$ Ht
  iapply (put_run 𝒱 c bd E st base B g 0 0 (eo 0 0)) $$ Ht
  iintro Ht
  iapply (put_run 𝒱 c bd E st base B g 0 1 (eo 0 1)) $$ Ht
  iintro Ht
  iapply (put_run 𝒱 c bd E st base B g 0 2 (eo 0 2)) $$ Ht
  iintro Ht
  iapply (put_run 𝒱 c bd E st base B g 0 3 (eo 0 3)) $$ Ht
  iintro Ht
  iapply (put_run 𝒱 c bd E st base B g 0 4 (eo 0 4)) $$ Ht
  iintro Ht
  iapply (put_run 𝒱 c bd E st base B g 0 5 (eo 0 5)) $$ Ht
  iintro Ht
  iapply (put_run 𝒱 c bd E st base B g 0 6 (eo 0 6)) $$ Ht
  iintro Ht
  iapply (put_run 𝒱 c bd E st base B g 0 7 (eo 0 7)) $$ Ht
  iintro Ht
  iapply (put_run 𝒱 c bd E st base B g 0 8 (eo 0 8)) $$ Ht
  iintro Ht
  iapply (put_run 𝒱 c bd E st base B g 0 9 (eo 0 9)) $$ Ht
  iintro Ht
  iapply (put_run 𝒱 c bd E st base B g 1 0 (eo 1 0)) $$ Ht
  iintro Ht
  iapply (put_run 𝒱 c bd E st base B g 1 1 (eo 1 1)) $$ Ht
  iintro Ht
  iapply (put_run 𝒱 c bd E st base B g 1 2 (eo 1 2)) $$ Ht
  iintro Ht
  iapply (put_run 𝒱 c bd E st base B g 1 3 (eo 1 3)) $$ Ht
  iintro Ht
  iapply (put_run 𝒱 c bd E st base B g 1 4 (eo 1 4)) $$ Ht
  iintro Ht
  iapply (put_run 𝒱 c bd E st base B g 1 5 (eo 1 5)) $$ Ht
  iintro Ht
  iapply (put_run 𝒱 c bd E st base B g 1 6 (eo 1 6)) $$ Ht
  iintro Ht
  iapply (put_run 𝒱 c bd E st base B g 1 7 (eo 1 7)) $$ Ht
  iintro Ht
  iapply (put_run 𝒱 c bd E st base B g 1 8 (eo 1 8)) $$ Ht
  iintro Ht
  iapply (put_run 𝒱 c bd E st base B g 1 9 (eo 1 9)) $$ Ht
  iintro Ht
  iapply (wpk_pure 𝒱 c bd E)
  isplitl [Hb]; · iexact Hb
  iapply (known_mono c (fun i hi => ⟨by
    have l0 : (i 0).val < 10 := (i 0).isLt
    have l1 : (i 1).val < 2 := (i 1).isLt
    show doneT g 20 i
    unfold doneT; omega, rfl⟩)) $$ Ht

end Cert.Kernel.Body

end
-- ==== Proof.Body.Block.lean ====
/-
  One piece of sixteen rows, run: the dequantised strip and the tile's code words are known for one piece more.
-/
module

public import proofs.«01_k».proof.Proof.Body.Rules
public import proofs.«01_k».proof.Proof.Body.Spec

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (𝒱 : Variants) (c : Dev nD) (bd : Option 𝒱.V) (E : Set ℕ)

/-- The part of a strip quantised before piece `b` of half `h` of tile `kt`. -/
def doneW (kt h b : ℕ) (i : S4096x256.Idx) : Prop :=
  (i 0).val < 256 * kt ∨ (i 0).val < 256 * kt + 256 ∧ ((i 1).val < 128 * h ∨ (i 1).val < 128 * h + 128 ∧ (i 0).val < 256 * kt + 16 * b)

/-- The part of the word buffer filled before piece `b` of half `h`, in the tile's plane `u`. -/
def doneE (u h b : ℕ) (i : S2x2x128x128.Idx) : Prop := (i 0).val = u ∧ (i 1).val = h ∧ (i 2).val < 8 * b

/-- The sixteenfold row read, as a value. -/
theorem row_idx {o : Fin 4 → ℕ} {h : RowIn o} (T : S10x2x256x128.Idx → Elt F .f32) (t hh k : ℕ) (e : o = ![t, hh, k, 0]) (y : (rowRect o h).shape.Idx) :
    True ∧ T ((rowRect o h).idx y) = rowIn T t hh k y := by
  refine ⟨trivial, ?_⟩
  unfold rowIn
  refine congrArg T (at'_eq _ _ fun a => ?_).symm
  subst e
  have h1 : (y 0).val < 1 := (y 0).isLt
  have h2 : (y 1).val < 1 := (y 1).isLt
  fin_cases a
  · show t = t + 1 * (y 0).val; omega
  · show hh = hh + 1 * (y 1).val; omega
  · show k = k + 0 * (y 2).val; omega
  · show (y 3).val = 0 + 1 * (y 3).val; omega

theorem block_run (w wd : Memref sig .tc .vmem S4096x256 .bf16) (tab : Memref sig .tc .vmem S10x2x256x128 .f32) (e : Memref sig .tc .vmem S2x2x128x128 .i32)
    {oW : Fin 2 → Nat} {hW : ∀ a, oW a + S16x128.size a ≤ S4096x256.size a} {hst : (wd.access (Rect.unit (s := S4096x256) oW S16x128.size hW)).Stores Finset.univ}
    {o3 o5 o1 o6 o4 o2 o0 o7 o9 o8 : Fin 4 → Nat}
    {h3 : RowIn o3} {h5 : RowIn o5} {h1 : RowIn o1} {h6 : RowIn o6} {h4 : RowIn o4} {h2 : RowIn o2} {h0 : RowIn o0} {h7 : RowIn o7} {h9 : RowIn o9} {h8 : RowIn o8}
    {oE : Fin 4 → Nat} {hE : ∀ a, oE a + S1x1x8x128.size a ≤ S2x2x128x128.size a}
    (W : S4096x256.Idx → Elt F .bf16) (T : S10x2x256x128.Idx → Elt F .f32) (kt h b u : ℕ) (hb : b < 16)
    (eW : oW = ![256 * kt + 16 * b, 128 * h])
    (e3 : o3 = ![3, h, 16 * kt + b, 0]) (e5 : o5 = ![5, h, 16 * kt + b, 0]) (e1 : o1 = ![1, h, 16 * kt + b, 0]) (e6 : o6 = ![6, h, 16 * kt + b, 0])
    (e4 : o4 = ![4, h, 16 * kt + b, 0]) (e2 : o2 = ![2, h, 16 * kt + b, 0]) (e0 : o0 = ![0, h, 16 * kt + b, 0]) (e7 : o7 = ![7, h, 16 * kt + b, 0])
    (e9 : o9 = ![9, h, 16 * kt + b, 0]) (e8 : o8 = ![8, h, 16 * kt + b, 0]) (eE : oE = ![u, h, 8 * b, 0]) :
    iprop(Known c w (fun _ => True) W ∗ Known c tab (fun _ => True) T ∗ Known c wd (doneW kt h b) (deqS W T) ∗ Known c e (doneE u h b) (wordE W T kt h))
      ⊢ wpk 𝒱 c bd E (blockP (F := F) w wd tab e oW hW hst o3 o5 o1 o6 o4 o2 o0 o7 o9 o8 h3 h5 h1 h6 h4 h2 h0 h7 h9 h8 oE hE)
          (fun _ => iprop(Known c w (fun _ => True) W ∗ Known c tab (fun _ => True) T ∗ Known c wd (doneW kt h (b + 1)) (deqS W T) ∗ Known c e (doneE u h (b + 1)) (wordE W T kt h)) : Unit → sProp 𝕄) := by
  unfold blockP
  iintro ⟨Hw, Ht, Hd, He⟩
  iapply (wp_load_known 𝒱 c bd E (blkIn W (16 * kt + b) h) (fun y => ⟨trivial, by
    unfold blkIn
    refine congrArg W (at'_eq _ _ fun a => ?_).symm
    subst eW
    fin_cases a
    · show 16 * (16 * kt + b) + (y 0).val = (256 * kt + 16 * b) + 1 * (y 0).val; omega
    · show 128 * h + (y 1).val = 128 * h + 1 * (y 1).val; omega⟩)) $$ Hw
  iintro Hw
  iapply (wp_load_known 𝒱 c bd E (rowIn T 3 h (16 * kt + b)) (row_idx T _ _ _ e3)) $$ Ht
  iintro Ht
  iapply (wp_load_known 𝒱 c bd E (rowIn T 5 h (16 * kt + b)) (row_idx T _ _ _ e5)) $$ Ht
  iintro Ht
  iapply (wp_load_known 𝒱 c bd E (rowIn T 1 h (16 * kt + b)) (row_idx T _ _ _ e1)) $$ Ht
  iintro Ht
  iapply (wp_load_known 𝒱 c bd E (rowIn T 6 h (16 * kt + b)) (row_idx T _ _ _ e6)) $$ Ht
  iintro Ht
  iapply (wp_load_known 𝒱 c bd E (rowIn T 4 h (16 * kt + b)) (row_idx T _ _ _ e4)) $$ Ht
  iintro Ht
  iapply (wp_load_known 𝒱 c bd E (rowIn T 2 h (16 * kt + b)) (row_idx T _ _ _ e2)) $$ Ht
  iintro Ht
  iapply (wp_load_known 𝒱 c bd E (rowIn T 0 h (16 * kt + b)) (row_idx T _ _ _ e0)) $$ Ht
  iintro Ht
  iapply (wp_load_known 𝒱 c bd E (rowIn T 7 h (16 * kt + b)) (row_idx T _ _ _ e7)) $$ Ht
  iintro Ht
  iapply (wp_load_known 𝒱 c bd E (rowIn T 9 h (16 * kt + b)) (row_idx T _ _ _ e9)) $$ Ht
  iintro Ht
  iapply (wp_load_known 𝒱 c bd E (rowIn T 8 h (16 * kt + b)) (row_idx T _ _ _ e8)) $$ Ht
  iintro Ht
  iapply (wp_load_any 𝒱 c bd E) $$ He
  iintro %_ He
  iapply (wp_store_known 𝒱 c bd E (doneE u h (b + 1)) eE (fun y i hi => by
      have i2 : (i 2).val = 8 * b + (y 2).val := hi 2
      have i3 : (i 3).val = 0 + (y 3).val := hi 3
      have y0 : (y 0).val < 1 := (y 0).isLt
      have y1 : (y 1).val < 1 := (y 1).isLt
      have y2 : (y 2).val < 8 := (y 2).isLt
      have y3 : (y 3).val < 128 := (y 3).isLt
      have ek : 16 * kt + (i 2).val / 8 = 16 * kt + b := by omega
      unfold wordE
      rw [ek]
      show wordB W T (16 * kt + b) h y = _
      refine congrArg (wordB W T (16 * kt + b) h) (funext fun a => Fin.ext ?_)
      fin_cases a
      · show (y 0).val = 0 % 1; omega
      · show (y 1).val = 0 % 1; omega
      · show (y 2).val = (i 2).val % 8; omega
      · show (y 3).val = (i 3).val % 128; omega)
    (fun i hi => by
      unfold doneE at hi ⊢
      by_cases hlt : (i 2).val < 8 * b
      · exact .inl ⟨hi.1, hi.2.1, hlt⟩
      · refine .inr fun a => ?_
        have l3 : (i 3).val < 128 := (i 3).isLt
        fin_cases a
        · show u ≤ (i 0).val ∧ (i 0).val < u + 1; omega
        · show h ≤ (i 1).val ∧ (i 1).val < h + 1; omega
        · show 8 * b ≤ (i 2).val ∧ (i 2).val < 8 * b + 8; omega
        · show 0 ≤ (i 3).val ∧ (i 3).val < 0 + 128; omega)) $$ He
  iintro He
  iapply (wp_load_any 𝒱 c bd E) $$ Hd
  iintro %_ Hd
  iapply (wp_store_known 𝒱 c bd E (doneW kt h (b + 1)) eW (fun y i hi => by
      have i0 : (i 0).val = 256 * kt + 16 * b + (y 0).val := hi 0
      have i1 : (i 1).val = 128 * h + (y 1).val := hi 1
      have y0 : (y 0).val < 16 := (y 0).isLt
      have y1 : (y 1).val < 128 := (y 1).isLt
      have ek : (i 0).val / 16 = 16 * kt + b := by omega
      have eh : (i 1).val / 128 = h := by omega
      unfold deqS
      rw [ek, eh]
      show deqB W T (16 * kt + b) h y = _
      refine congrArg (deqB W T (16 * kt + b) h) (funext fun a => Fin.ext ?_)
      fin_cases a
      · show (y 0).val = (i 0).val % 16; omega
      · show (y 1).val = (i 1).val % 128; omega)
    (fun i hi => by
      unfold doneW at hi ⊢
      by_cases hb : 256 * kt + 16 * b ≤ (i 0).val ∧ (i 0).val < 256 * kt + 16 * b + 16 ∧ 128 * h ≤ (i 1).val ∧ (i 1).val < 128 * h + 128
      · refine .inr fun a => ?_
        fin_cases a
        · exact ⟨hb.1, hb.2.1⟩
        · exact ⟨hb.2.2.1, hb.2.2.2⟩
      · left; omega)) $$ Hd
  iintro Hd
  iapply (wpk_pure 𝒱 c bd E)
  isplitl [Hw]; · iexact Hw
  isplitl [Ht]; · iexact Ht
  isplitl [Hd]; · iexact Hd
  iexact He

end Cert.Kernel.Body

end
-- ==== Proof.Body.Tile.lean ====
/-
  One tile of 256 rows, run: sixteen pieces of either half, then the two packings of the tile's codes.
-/
module

public import proofs.«01_k».proof.Proof.Body.Block

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (𝒱 : Variants) (c : Dev nD) (bd : Option 𝒱.V) (E : Set ℕ)

/-- What a half's loop holds before piece `b`. -/
def blockInv (w wd : Memref sig .tc .vmem S4096x256 .bf16) (tab : Memref sig .tc .vmem S10x2x256x128 .f32) (e : Memref sig .tc .vmem S2x2x128x128 .i32)
    (W : S4096x256.Idx → Elt F .bf16) (T : S10x2x256x128.Idx → Elt F .f32) (kt h u b : ℕ) : sProp 𝕄 :=
  iprop(Known c w (fun _ => True) W ∗ Known c tab (fun _ => True) T ∗ Known c wd (doneW kt h b) (deqS W T) ∗ Known c e (doneE u h b) (wordE W T kt h))

/-- What a strip's tile loop holds before tile `kt`. -/
def tileInv (w wd : Memref sig .tc .vmem S4096x256 .bf16) (tab : Memref sig .tc .vmem S10x2x256x128 .f32) (e : Memref sig .tc .vmem S2x2x128x128 .i32)
    (ck : Memref sig .tc .vmem S256x2048 .i8) (cn : Memref sig .tc .vmem S4096x128 .i8)
    (W : S4096x256.Idx → Elt F .bf16) (T : S10x2x256x128.Idx → Elt F .f32) (kt : ℕ) : sProp 𝕄 :=
  iprop(Known c w (fun _ => True) W ∗ Known c tab (fun _ => True) T ∗ Known c wd (fun i => (i 0).val < 256 * kt) (deqS W T)
    ∗ (∃ d, owns (c : Thread nD τ) e fullShare d)
    ∗ Known c ck (fun i => (i 1).val < 128 * kt) (ckS W T) ∗ Known c cn (fun i => (i 0).val < 256 * kt) (cnS W T))

/-- A tile's words of one half, read back. -/
theorem words_idx {oX : Fin 4 → Nat} {hX : ∀ a, oX a + S1x1x128x128.size a ≤ S2x2x128x128.size a}
    (W : S4096x256.Idx → Elt F .bf16) (T : S10x2x256x128.Idx → Elt F .f32) (kt h u : ℕ) (e : oX = ![u, h, 0, 0])
    (y : (Rect.unit (s := S2x2x128x128) oX S1x1x128x128.size hX).toLoadRect.shape.Idx) :
    doneE u h 16 ((Rect.unit (s := S2x2x128x128) oX S1x1x128x128.size hX).toLoadRect.idx y)
      ∧ wordE W T kt h ((Rect.unit (s := S2x2x128x128) oX S1x1x128x128.size hX).toLoadRect.idx y) = wordV W T kt h y := by
  subst e
  have y0 : (y 0).val < 1 := (y 0).isLt
  have y1 : (y 1).val < 1 := (y 1).isLt
  have y2 : (y 2).val < 128 := (y 2).isLt
  have e2 : 0 + 1 * (y 2).val = (y 2).val := by omega
  have e3 : 0 + 1 * (y 3).val = (y 3).val := by omega
  refine ⟨⟨?_, ?_, ?_⟩, ?_⟩
  · show u + 1 * (y 0).val = u; omega
  · show h + 1 * (y 1).val = h; omega
  · show 0 + 1 * (y 2).val < 8 * 16; omega
  · show wordB W T (16 * kt + (0 + 1 * (y 2).val) / 8) h (at' S1x1x8x128 ![0, 0, 0 + 1 * (y 2).val, 0 + 1 * (y 3).val]) = _
    rw [e2, e3]; rfl

/-- The transposed words of plane `u`, half `h`. -/
def turned (v : Vec F S1x1x128x128 .i32) : S2x2x128x128.Idx → Elt F .i32 := fun i => k0_pay68 (k0_pay66 v) (at' S1x1x128x128 ![0, 0, (i 2).val, (i 3).val])

/-- Every second row of the transposed words. -/
theorem half_idx {o : Fin 4 → Nat} {ho : ∀ a, S1x1x64x128.size a = 0 ∨ o a + (![1, 1, 2, 1] : Fin 4 → Nat) a * (S1x1x64x128.size a - 1) < S2x2x128x128.size a}
    (v : Vec F S1x1x128x128 .i32) (u h p : ℕ) (e : o = ![u, h, p, 0]) (y : (halfRect o ho).shape.Idx) :
    (((halfRect o ho).idx y 0).val = u ∧ ((halfRect o ho).idx y 1).val = h) ∧ turned v ((halfRect o ho).idx y) = halfV v p y := by
  subst e
  have y0 : (y 0).val < 1 := (y 0).isLt
  have y1 : (y 1).val < 1 := (y 1).isLt
  refine ⟨⟨?_, ?_⟩, ?_⟩
  · show u + 1 * (y 0).val = u; omega
  · show h + 1 * (y 1).val = h; omega
  · have e3 : 0 + 1 * (y 3).val = (y 3).val := by omega
    show k0_pay68 (k0_pay66 v) (at' S1x1x128x128 ![0, 0, p + 2 * (y 2).val, 0 + 1 * (y 3).val]) = _
    rw [e3]; rfl

theorem turned_store {oX : Fin 4 → Nat} {hX : ∀ a, oX a + S1x1x128x128.size a ≤ S2x2x128x128.size a} (v : Vec F S1x1x128x128 .i32) (u h : ℕ)
    (y : (Rect.unit (s := S2x2x128x128) oX S1x1x128x128.size hX).shape.Idx) (i : S2x2x128x128.Idx) (hi : ∀ a, (i a).val = (![u, h, 0, 0] : Fin 4 → ℕ) a + (y a).val) :
    k0_pay68 (k0_pay66 v) y = turned v i := by
  unfold turned
  refine congrArg (k0_pay68 (k0_pay66 v)) (funext fun a => Fin.ext ?_)
  have i2 : (i 2).val = 0 + (y 2).val := hi 2
  have i3 : (i 3).val = 0 + (y 3).val := hi 3
  have y0 : (y 0).val < 1 := (y 0).isLt
  have y1 : (y 1).val < 1 := (y 1).isLt
  have y2 : (y 2).val < 128 := (y 2).isLt
  have y3 : (y 3).val < 128 := (y 3).isLt
  fin_cases a
  · show (y 0).val = 0 % 1; omega
  · show (y 1).val = 0 % 1; omega
  · show (y 2).val = (i 2).val % 128; omega
  · show (y 3).val = (i 3).val % 128; omega

theorem turned_box (u h : ℕ) (i : S2x2x128x128.Idx) (hi : (i 0).val = u ∧ (i 1).val = h) :
    False ∨ ∀ a, (![u, h, 0, 0] : Fin 4 → ℕ) a ≤ (i a).val ∧ (i a).val < (![u, h, 0, 0] : Fin 4 → ℕ) a + S1x1x128x128.size a := by
  refine .inr fun a => ?_
  have l2 : (i 2).val < 128 := (i 2).isLt
  have l3 : (i 3).val < 128 := (i 3).isLt
  fin_cases a
  · show u ≤ (i 0).val ∧ (i 0).val < u + 1; omega
  · show h ≤ (i 1).val ∧ (i 1).val < h + 1; omega
  · show 0 ≤ (i 2).val ∧ (i 2).val < 0 + 128; omega
  · show 0 ≤ (i 3).val ∧ (i 3).val < 0 + 128; omega

/-- The part of the rows' packing written before half `h` of tile `kt`. -/
def doneK (kt h : ℕ) (i : S256x2048.Idx) : Prop := (i 1).val < 128 * kt ∨ (i 1).val < 128 * kt + 128 ∧ (i 0).val < 128 * h

theorem ck_store {o : Fin 2 → Nat} {hK : ∀ a, o a + S128x128.size a ≤ S256x2048.size a} (W : S4096x256.Idx → Elt F .bf16) (T : S10x2x256x128.Idx → Elt F .f32) (kt h : ℕ)
    (y : (Rect.unit (s := S256x2048) o S128x128.size hK).shape.Idx) (i : S256x2048.Idx) (hi : ∀ a, (i a).val = (![128 * h, 128 * kt] : Fin 2 → ℕ) a + (y a).val) :
    (k0_pay67 (wordV W T kt h) y : Elt F .i8) = ckS W T i := by
  have i0 : (i 0).val = 128 * h + (y 0).val := hi 0
  have i1 : (i 1).val = 128 * kt + (y 1).val := hi 1
  have y0 : (y 0).val < 128 := (y 0).isLt
  have y1 : (y 1).val < 128 := (y 1).isLt
  unfold ckS
  have e0 : (i 0).val / 128 = h := by omega
  have e1 : (i 1).val / 128 = kt := by omega
  rw [e0, e1]
  refine congrArg (k0_pay67 (wordV W T kt h)) (funext fun a => Fin.ext ?_)
  fin_cases a
  · show (y 0).val = (i 0).val % 128; omega
  · show (y 1).val = (i 1).val % 128; omega

theorem ck_box (kt h : ℕ) (i : S256x2048.Idx) (hi : doneK kt (h + 1) i) :
    doneK kt h i ∨ ∀ a, (![128 * h, 128 * kt] : Fin 2 → ℕ) a ≤ (i a).val ∧ (i a).val < (![128 * h, 128 * kt] : Fin 2 → ℕ) a + S128x128.size a := by
  unfold doneK at hi ⊢
  by_cases hb : 128 * h ≤ (i 0).val ∧ (i 0).val < 128 * h + 128 ∧ 128 * kt ≤ (i 1).val ∧ (i 1).val < 128 * kt + 128
  · refine .inr fun a => ?_
    fin_cases a
    · exact ⟨hb.1, hb.2.1⟩
    · exact ⟨hb.2.2.1, hb.2.2.2⟩
  · left; omega

theorem tile_run (w wd : Memref sig .tc .vmem S4096x256 .bf16) (tab : Memref sig .tc .vmem S10x2x256x128 .f32) (e : Memref sig .tc .vmem S2x2x128x128 .i32)
    (ck : Memref sig .tc .vmem S256x2048 .i8) (cn : Memref sig .tc .vmem S4096x128 .i8)
    {L0 : Scf.Loop 32} {ok0 : L0.OK} {B0 : Fin L0.trips → Unit → Prog (TpuEff nD τ sig (Elt F) Λ₀ .tc) Unit}
    {L1 : Scf.Loop 32} {ok1 : L1.OK} {B1 : Fin L1.trips → Unit → Prog (TpuEff nD τ sig (Elt F) Λ₀ .tc) Unit}
    {oX0 oX1 : Fin 4 → Nat} {hX0 : ∀ a, oX0 a + S1x1x128x128.size a ≤ S2x2x128x128.size a} {hX1 : ∀ a, oX1 a + S1x1x128x128.size a ≤ S2x2x128x128.size a}
    {oK0 oK1 : Fin 2 → Nat} {hK0 : ∀ a, oK0 a + S128x128.size a ≤ S256x2048.size a} {hK1 : ∀ a, oK1 a + S128x128.size a ≤ S256x2048.size a}
    {sK0 : (ck.access (Rect.unit (s := S256x2048) oK0 S128x128.size hK0)).Stores Finset.univ} {sK1 : (ck.access (Rect.unit (s := S256x2048) oK1 S128x128.size hK1)).Stores Finset.univ}
    {oE0 oO0 oE1 oO1 : Fin 4 → Nat} {hE0 : ∀ a, S1x1x64x128.size a = 0 ∨ oE0 a + (![1, 1, 2, 1] : Fin 4 → Nat) a * (S1x1x64x128.size a - 1) < S2x2x128x128.size a}
    {hO0 : ∀ a, S1x1x64x128.size a = 0 ∨ oO0 a + (![1, 1, 2, 1] : Fin 4 → Nat) a * (S1x1x64x128.size a - 1) < S2x2x128x128.size a}
    {hE1 : ∀ a, S1x1x64x128.size a = 0 ∨ oE1 a + (![1, 1, 2, 1] : Fin 4 → Nat) a * (S1x1x64x128.size a - 1) < S2x2x128x128.size a}
    {hO1 : ∀ a, S1x1x64x128.size a = 0 ∨ oO1 a + (![1, 1, 2, 1] : Fin 4 → Nat) a * (S1x1x64x128.size a - 1) < S2x2x128x128.size a}
    {oN : Fin 2 → Nat} {hN : ∀ a, oN a + S256x128.size a ≤ S4096x128.size a} {sN : (cn.access (Rect.unit (s := S4096x128) oN S256x128.size hN)).Stores Finset.univ}
    (W : S4096x256.Idx → Elt F .bf16) (T : S10x2x256x128.Idx → Elt F .f32) (kt u : ℕ)
    (n0 : L0.trips = 16) (n1 : L1.trips = 16)
    (hB0 : ∀ t : Fin L0.trips, blockInv c w wd tab e W T kt 0 u t.val ⊢ wpk 𝒱 c bd E (B0 t ⟨⟩) (fun _ => blockInv c w wd tab e W T kt 0 u (t.val + 1)))
    (hB1 : ∀ t : Fin L1.trips, blockInv c w wd tab e W T kt 1 u t.val ⊢ wpk 𝒱 c bd E (B1 t ⟨⟩) (fun _ => blockInv c w wd tab e W T kt 1 u (t.val + 1)))
    (eX0 : oX0 = ![u, 0, 0, 0]) (eX1 : oX1 = ![u, 1, 0, 0]) (eK0 : oK0 = ![0, 128 * kt]) (eK1 : oK1 = ![128, 128 * kt])
    (eE0 : oE0 = ![u, 0, 0, 0]) (eO0 : oO0 = ![u, 0, 1, 0]) (eE1 : oE1 = ![u, 1, 0, 0]) (eO1 : oO1 = ![u, 1, 1, 0]) (eN : oN = ![256 * kt, 0]) :
    tileInv c w wd tab e ck cn W T kt
      ⊢ wpk 𝒱 c bd E (ktileP (F := F) e ck cn L0 ok0 B0 L1 ok1 B1 oX0 oX1 hX0 hX1 oK0 oK1 hK0 hK1 sK0 sK1 oE0 oO0 oE1 oO1 hE0 hO0 hE1 hO1 oN hN sN)
          (fun _ => tileInv c w wd tab e ck cn W T (kt + 1)) := by
  unfold ktileP
  unfold tileInv
  iintro ⟨Hw, Ht, Hd, ⟨%d, He⟩, Hk, Hn⟩
  ihave Hd := (known_mono (P' := doneW kt 0 0) (X' := deqS W T) c (fun i hi => ⟨by unfold doneW at hi; omega, rfl⟩)) $$ Hd
  ihave He := (known_none c (turned (wordV W T kt 0)) d) $$ He
  ihave He := (known_mono (P' := doneE u 0 0) (X' := wordE W T kt 0) c (fun i hi => by unfold doneE at hi; omega)) $$ He
  ihave Hk := (known_mono (P' := doneK kt 0) (X' := ckS W T) c (fun i hi => ⟨by unfold doneK at hi; omega, rfl⟩)) $$ Hk
  iapply (wp_loop 𝒱 c bd E (blockInv c w wd tab e W T kt 0 u) hB0) $$ [Hw Ht Hd He]
  · unfold blockInv
    isplitl [Hw]; · iexact Hw
    isplitl [Ht]; · iexact Ht
    isplitl [Hd]; · iexact Hd
    iexact He
  rw [n0]
  unfold blockInv
  iintro ⟨Hw, Ht, Hd, He⟩
  iapply (wp_load_known 𝒱 c bd E (wordV W T kt 0) (words_idx W T kt 0 u eX0)) $$ He
  iintro He
  iapply (wp_load_any 𝒱 c bd E) $$ Hk
  iintro %_ Hk
  iapply (wp_store_known 𝒱 c bd E (doneK kt 1) eK0 (ck_store W T kt 0) (ck_box kt 0)) $$ Hk
  iintro Hk
  iapply (wp_load_any 𝒱 c bd E) $$ He
  iintro %_ He
  ihave He := (known_mono (P' := fun _ => False) (X' := turned (wordV W T kt 0)) c (fun i hi => hi.elim)) $$ He
  iapply (wp_store_known 𝒱 c bd E (fun i => (i 0).val = u ∧ (i 1).val = 0) eX0 (turned_store _ u 0) (turned_box u 0)) $$ He
  iintro He
  iapply (wp_load_known 𝒱 c bd E (halfV (wordV W T kt 0) 0) (half_idx _ u 0 0 eE0)) $$ He
  iintro He
  iapply (wp_load_known 𝒱 c bd E (halfV (wordV W T kt 0) 1) (half_idx _ u 0 1 eO0)) $$ He
  iintro He
  ihave Hd := (known_mono (P' := doneW kt 1 0) (X' := deqS W T) c (fun i hi => ⟨by have := (i 1).isLt; unfold doneW at hi ⊢; omega, rfl⟩)) $$ Hd
  ihave He := (known_mono (P' := doneE u 1 0) (X' := wordE W T kt 1) c (fun i hi => by unfold doneE at hi; omega)) $$ He
  iapply (wp_loop 𝒱 c bd E (blockInv c w wd tab e W T kt 1 u) hB1) $$ [Hw Ht Hd He]
  · unfold blockInv
    isplitl [Hw]; · iexact Hw
    isplitl [Ht]; · iexact Ht
    isplitl [Hd]; · iexact Hd
    iexact He
  rw [n1]
  unfold blockInv
  iintro ⟨Hw, Ht, Hd, He⟩
  iapply (wp_load_known 𝒱 c bd E (wordV W T kt 1) (words_idx W T kt 1 u eX1)) $$ He
  iintro He
  iapply (wp_load_any 𝒱 c bd E) $$ Hk
  iintro %_ Hk
  iapply (wp_store_known 𝒱 c bd E (doneK kt 2) eK1 (ck_store W T kt 1) (ck_box kt 1)) $$ Hk
  iintro Hk
  iapply (wp_load_any 𝒱 c bd E) $$ He
  iintro %_ He
  ihave He := (known_mono (P' := fun _ => False) (X' := turned (wordV W T kt 1)) c (fun i hi => hi.elim)) $$ He
  iapply (wp_store_known 𝒱 c bd E (fun i => (i 0).val = u ∧ (i 1).val = 1) eX1 (turned_store _ u 1) (turned_box u 1)) $$ He
  iintro He
  iapply (wp_load_known 𝒱 c bd E (halfV (wordV W T kt 1) 0) (half_idx _ u 1 0 eE1)) $$ He
  iintro He
  iapply (wp_load_known 𝒱 c bd E (halfV (wordV W T kt 1) 1) (half_idx _ u 1 1 eO1)) $$ He
  iintro He
  iapply (wp_load_any 𝒱 c bd E) $$ Hn
  iintro %_ Hn
  iapply (wp_store_known 𝒱 c bd E (fun i => (i 0).val < 256 * (kt + 1)) eN (fun y i hi => by
      have i0 : (i 0).val = 256 * kt + (y 0).val := hi 0
      have i1 : (i 1).val = 0 + (y 1).val := hi 1
      have y0 : (y 0).val < 256 := (y 0).isLt
      have y1 : (y 1).val < 128 := (y 1).isLt
      have ek : (i 0).val / 256 = kt := by omega
      unfold cnS
      rw [ek]
      show cnB W T kt y = _
      refine congrArg (cnB W T kt) (funext fun a => Fin.ext ?_)
      fin_cases a
      · show (y 0).val = (i 0).val % 256; omega
      · show (y 1).val = (i 1).val % 128; omega)
    (fun i hi => by
      by_cases hlt : (i 0).val < 256 * kt
      · exact .inl hlt
      · refine .inr fun a => ?_
        have l1 : (i 1).val < 128 := (i 1).isLt
        fin_cases a
        · show 256 * kt ≤ (i 0).val ∧ (i 0).val < 256 * kt + 256; omega
        · show 0 ≤ (i 1).val ∧ (i 1).val < 0 + 128; omega)) $$ Hn
  iintro Hn
  iapply (wpk_pure 𝒱 c bd E)
  ihave He := (owns_any_of_known c _ _) $$ He
  isplitl [Hw]; · iexact Hw
  isplitl [Ht]; · iexact Ht
  isplitl [Hd]
  · iapply (known_mono c (fun i hi => ⟨by have l1 : (i 1).val < 256 := (i 1).isLt; unfold doneW; omega, rfl⟩)) $$ Hd
  isplitl [He]; · iexact He
  isplitl [Hk]
  · iapply (known_mono c (fun i hi => ⟨by have l0 : (i 0).val < 256 := (i 0).isLt; unfold doneK; omega, rfl⟩)) $$ Hk
  iexact Hn

end Cert.Kernel.Body

end
-- ==== Proof.Body.Chunk.lean ====
/-
  One chunk of 240 rows of the product, run, with the tiles quantised beside it.
-/
module

public import proofs.«01_k».proof.Proof.Body.Tile

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (𝒱 : Variants) (c : Dev nD) (bd : Option 𝒱.V) (E : Set ℕ)

/-- What a chunk loop holds before chunk `n`: the product for the chunks before, and the tiles quantised beside them. -/
def chunkInv (x : Memref sig .tc .vmem S1920x4096 .bf16) (wdP : Memref sig .tc .vmem S4096x256 .bf16) (y : Memref sig .tc .vmem S1920x256 .bf16) (st : Elt F .f32)
    (w wd : Memref sig .tc .vmem S4096x256 .bf16) (tab : Memref sig .tc .vmem S10x2x256x128 .f32) (e : Memref sig .tc .vmem S2x2x128x128 .i32)
    (ck : Memref sig .tc .vmem S256x2048 .i8) (cn : Memref sig .tc .vmem S4096x128 .i8)
    (X : S1920x4096.Idx → Elt F .bf16) (D : S4096x256.Idx → Elt F .bf16)
    (W : S4096x256.Idx → Elt F .bf16) (T : S10x2x256x128.Idx → Elt F .f32) (n : ℕ) : sProp 𝕄 :=
  iprop(Known c x (fun _ => True) X ∗ Known c wdP (fun _ => True) D ∗ Known c y (fun i => (i 0).val < 240 * n) (yS st X D) ∗ tileInv c w wd tab e ck cn W T (2 * n))

theorem chunk_run (x : Memref sig .tc .vmem S1920x4096 .bf16) (wdP : Memref sig .tc .vmem S4096x256 .bf16) (y : Memref sig .tc .vmem S1920x256 .bf16) (st : Elt F .f32)
    (w wd : Memref sig .tc .vmem S4096x256 .bf16) (tab : Memref sig .tc .vmem S10x2x256x128 .f32) (e : Memref sig .tc .vmem S2x2x128x128 .i32)
    (ck : Memref sig .tc .vmem S256x2048 .i8) (cn : Memref sig .tc .vmem S4096x128 .i8)
    {oX : Fin 2 → Nat} {hX : ∀ a, oX a + S240x4096.size a ≤ S1920x4096.size a}
    {oY : Fin 2 → Nat} {hY : ∀ a, oY a + S240x256.size a ≤ S1920x256.size a} {sY : (y.access (Rect.unit (s := S1920x256) oY S240x256.size hY)).Stores Finset.univ}
    {L : Scf.Loop 32} {ok : L.OK} {K : Fin L.trips → Unit → Prog (TpuEff nD τ sig (Elt F) Λ₀ .tc) Unit}
    (X : S1920x4096.Idx → Elt F .bf16) (D : S4096x256.Idx → Elt F .bf16)
    (W : S4096x256.Idx → Elt F .bf16) (T : S10x2x256x128.Idx → Elt F .f32) (n : ℕ) (eX : oX = ![240 * n, 0]) (eY : oY = ![240 * n, 0]) (nL : L.trips = 2)
    (hK : ∀ t : Fin L.trips, tileInv c w wd tab e ck cn W T (2 * n + t.val) ⊢ wpk 𝒱 c bd E (K t ⟨⟩) (fun _ => tileInv c w wd tab e ck cn W T (2 * n + t.val + 1))) :
    chunkInv c x wdP y st w wd tab e ck cn X D W T n
      ⊢ wpk 𝒱 c bd E (chunkP (F := F) x wdP y st oX hX oY hY sY L ok K) (fun _ => chunkInv c x wdP y st w wd tab e ck cn X D W T (n + 1)) := by
  unfold chunkP chunkInv
  iintro ⟨Hx, Hp, Hy, HK⟩
  iapply (wp_load_known 𝒱 c bd E (fun y => X (at' S1920x4096 ![240 * n + (y 0).val, (y 1).val])) (fun y => ⟨trivial, by
    refine congrArg X (at'_eq _ _ fun a => ?_).symm
    subst eX
    fin_cases a
    · show 240 * n + (y 0).val = 240 * n + 1 * (y 0).val; omega
    · show (y 1).val = 0 + 1 * (y 1).val; omega⟩)) $$ Hx
  iintro Hx
  iapply (wp_load_known 𝒱 c bd E D (fun y => ⟨trivial, congrArg D (funext fun a => Fin.ext (by
    fin_cases a
    · show 0 + 1 * (y 0).val = (y 0).val; omega
    · show 0 + 1 * (y 1).val = (y 1).val; omega))⟩)) $$ Hp
  iintro Hp
  iapply (wp_load_any 𝒱 c bd E) $$ Hy
  iintro %_ Hy
  iapply (wp_store_known 𝒱 c bd E (fun i => (i 0).val < 240 * (n + 1)) eY (fun y i hi => by
      have i0 : (i 0).val = 240 * n + (y 0).val := hi 0
      have i1 : (i 1).val = 0 + (y 1).val := hi 1
      have y0 : (y 0).val < 240 := (y 0).isLt
      have y1 : (y 1).val < 256 := (y 1).isLt
      have ek : (i 0).val / 240 = n := by omega
      unfold yS
      rw [ek]
      refine congrArg (k0_pay3 st _ D) (funext fun a => Fin.ext ?_)
      fin_cases a
      · show (y 0).val = (i 0).val % 240; omega
      · show (y 1).val = (i 1).val % 256; omega)
    (fun i hi => by
      by_cases hlt : (i 0).val < 240 * n
      · exact .inl hlt
      · refine .inr fun a => ?_
        have l1 : (i 1).val < 256 := (i 1).isLt
        fin_cases a
        · show 240 * n ≤ (i 0).val ∧ (i 0).val < 240 * n + 240; omega
        · show 0 ≤ (i 1).val ∧ (i 1).val < 0 + 256; omega)) $$ Hy
  iintro Hy
  iapply (wp_loop 𝒱 c bd E (fun t => tileInv c w wd tab e ck cn W T (2 * n + t)) hK) $$ HK
  rw [nL]
  iintro HK
  iapply (wpk_pure 𝒱 c bd E)
  isplitl [Hx]; · iexact Hx
  isplitl [Hp]; · iexact Hp
  isplitl [Hy]; · iexact Hy
  iexact HK

end Cert.Kernel.Body

end
-- ==== Proof.Body.Match.lean ====
/-
  The kernel's printed regions are the pieces of `Body.Prog`: each of its loops' bodies equals one of them, by
  definitional unfolding.
-/
module

public import proofs.«01_k».proof.Proof.Body.Prog

@[expose] public section

set_option maxRecDepth 65536

noncomputable section

namespace Cert.Kernel.Body

open Cert.Kernel Cert.Kernel.Gen
open Idealize.ShloMosaic Idealize.SL.Sem

variable {F : FTy → Type} [FloatOps F]

/-- The buffers and semaphores the kernel's body is given. -/
structure Bufs where
  bmAll : Memref sig .tc .vmem S256x896 .f32
  bmAllW : bmAll.IsWhole
  bm : Memref sig .tc .vmem S256x128 .f32
  bmW : bm.IsWhole
  xHbm : Memref sig .tc .hbm S1920x4096 .bf16
  xHbmW : xHbm.IsWhole
  wHbm : Memref sig .tc .hbm S4096x14336 .bf16
  wHbmW : wHbm.IsWhole
  y : Memref sig .tc .vmem S1920x256 .bf16
  yW : y.IsWhole
  cn : Memref sig .tc .vmem S4096x128 .i8
  cnW : cn.IsWhole
  ck : Memref sig .tc .vmem S256x2048 .i8
  ckW : ck.IsWhole
  sb : Memref sig .tc .vmem S256x128 .fp8e4m3
  sbW : sb.IsWhole
  st : Memref sig .tc .smem S1 .f32
  stW : st.IsWhole
  x : Memref sig .tc .vmem S1920x4096 .bf16
  xW : x.IsWhole
  w0 : Memref sig .tc .vmem S4096x256 .bf16
  w0W : w0.IsWhole
  w1 : Memref sig .tc .vmem S4096x256 .bf16
  w1W : w1.IsWhole
  wd0 : Memref sig .tc .vmem S4096x256 .bf16
  wd0W : wd0.IsWhole
  wd1 : Memref sig .tc .vmem S4096x256 .bf16
  wd1W : wd1.IsWhole
  tab : Memref sig .tc .vmem S10x2x256x128 .f32
  tabW : tab.IsWhole
  e : Memref sig .tc .vmem S2x2x128x128 .i32
  eW : e.IsWhole
  stS : Memref sig .tc .smem S1 .f32
  stSW : stS.IsWhole
  xSem : DmaSems sig S_
  wSem : DmaSems sig S2

/-- The tile of loop `t2`. -/
def t2_tile (i : grid0.Coords) (A : Bufs) (h : k0_cond2 i = 1#1)  (t2 : Fin k0_t2_loop.trips) : Prog (TpuEff nD τ sig (Elt F) Λ₀ .tc) Unit :=
  ktileP A.e A.ck A.cn k0_t3_loop (k0_t3_ok i h)
      (fun t3 _ => blockP A.w0 A.wd0 A.tab A.e (k0_off22 t2 t3) (k0_off22_inb i t2 t3 h) (View.stores_vmem h_S16x128 (A.wd0W.storeExact_slice rfl _ (k0_off22_packedbf16 i t2 t3 h)) (fun _ => rfl))
          (k0_off23 t2 t3) (k0_off24 t2 t3) (k0_off25 t2 t3) (k0_off26 t2 t3) (k0_off27 t2 t3) (k0_off28 t2 t3) (k0_off29 t2 t3) (k0_off30 t2 t3) (k0_off31 t2 t3) (k0_off32 t2 t3)
          (k0_off23_inb i t2 t3 h) (k0_off24_inb i t2 t3 h) (k0_off25_inb i t2 t3 h) (k0_off26_inb i t2 t3 h) (k0_off27_inb i t2 t3 h) (k0_off28_inb i t2 t3 h) (k0_off29_inb i t2 t3 h) (k0_off30_inb i t2 t3 h) (k0_off31_inb i t2 t3 h) (k0_off32_inb i t2 t3 h) (k0_off33 t2 t3) (k0_off33_inb i t2 t3 h))
    k0_t4_loop (k0_t4_ok i h)
      (fun t4 _ => blockP A.w0 A.wd0 A.tab A.e (k0_off38 t2 t4) (k0_off38_inb i t2 t4 h) (View.stores_vmem h_S16x128 (A.wd0W.storeExact_slice rfl _ (k0_off38_packedbf16 i t2 t4 h)) (fun _ => rfl))
          (k0_off39 t2 t4) (k0_off40 t2 t4) (k0_off41 t2 t4) (k0_off42 t2 t4) (k0_off43 t2 t4) (k0_off44 t2 t4) (k0_off45 t2 t4) (k0_off46 t2 t4) (k0_off47 t2 t4) (k0_off48 t2 t4)
          (k0_off39_inb i t2 t4 h) (k0_off40_inb i t2 t4 h) (k0_off41_inb i t2 t4 h) (k0_off42_inb i t2 t4 h) (k0_off43_inb i t2 t4 h) (k0_off44_inb i t2 t4 h) (k0_off45_inb i t2 t4 h) (k0_off46_inb i t2 t4 h) (k0_off47_inb i t2 t4 h) (k0_off48_inb i t2 t4 h) (k0_off49 t2 t4) (k0_off49_inb i t2 t4 h))
    (k0_off34 t2) (k0_off50 t2) (k0_off34_inb i t2 h) (k0_off50_inb i t2 h) (k0_off35 t2) (k0_off51 t2) (k0_off35_inb i t2 h) (k0_off51_inb i t2 h)
    (View.stores_vmem h_S128x128 (A.ckW.storeExact_slice rfl _ (k0_off35_packedi8 i t2 h)) (fun _ => rfl)) (View.stores_vmem h_S128x128 (A.ckW.storeExact_slice rfl _ (k0_off51_packedi8 i t2 h)) (fun _ => rfl))
    (k0_off36 t2) (k0_off37 t2) (k0_off52 t2) (k0_off53 t2) (k0_off36_inb i t2 h) (k0_off37_inb i t2 h) (k0_off52_inb i t2 h) (k0_off53_inb i t2 h) (k0_off54 t2) (k0_off54_inb i t2 h)
    (View.stores_vmem h_S256x128 (A.cnW.storeExact_slice rfl _ (k0_off54_packedi8 i t2 h)) (fun _ => rfl))

theorem t2_eq (i : grid0.Coords) (A : Bufs) (h : k0_cond2 i = 1#1)   (t2 : Fin k0_t2_loop.trips) :
    k0_t2_body (F := F) i A.bmAll A.bmAllW A.bm A.bmW A.xHbm A.xHbmW A.wHbm A.wHbmW A.y A.yW A.cn A.cnW A.ck A.ckW A.sb A.sbW A.st A.stW A.x A.xW A.w0 A.w0W A.w1 A.w1W A.wd0 A.wd0W A.wd1 A.wd1W A.tab A.tabW A.e A.eW A.stS A.stSW A.xSem A.wSem h  t2 ⟨⟩ = t2_tile i A h t2 := by
  unfold k0_t2_body t2_tile ktileP
  simp only [k0_part12_eq_skeleton, k0_part12_skel, k0_part13_eq_skeleton, k0_part13_skel, k0_part14_eq_skeleton, k0_part14_skel, k0_part15_eq_skeleton, k0_part15_skel, bind_assoc]
  rfl

/-- The tile of loop `t7`. -/
def t7_tile (i : grid0.Coords) (A : Bufs) (h : k0_cond3 i = 1#1) (t6 : Fin k0_t6_loop.trips) (t7 : Fin k0_t7_loop.trips) : Prog (TpuEff nD τ sig (Elt F) Λ₀ .tc) Unit :=
  ktileP A.e A.ck A.cn k0_t8_loop (k0_t8_ok i h)
      (fun t8 _ => blockP A.w0 A.wd0 A.tab A.e (k0_off80 t6 t7 t8) (k0_off80_inb i t6 t7 t8 h) (View.stores_vmem h_S16x128 (A.wd0W.storeExact_slice rfl _ (k0_off80_packedbf16 i t6 t7 t8 h)) (fun _ => rfl))
          (k0_off81 t6 t7 t8) (k0_off82 t6 t7 t8) (k0_off83 t6 t7 t8) (k0_off84 t6 t7 t8) (k0_off85 t6 t7 t8) (k0_off86 t6 t7 t8) (k0_off87 t6 t7 t8) (k0_off88 t6 t7 t8) (k0_off89 t6 t7 t8) (k0_off90 t6 t7 t8)
          (k0_off81_inb i t6 t7 t8 h) (k0_off82_inb i t6 t7 t8 h) (k0_off83_inb i t6 t7 t8 h) (k0_off84_inb i t6 t7 t8 h) (k0_off85_inb i t6 t7 t8 h) (k0_off86_inb i t6 t7 t8 h) (k0_off87_inb i t6 t7 t8 h) (k0_off88_inb i t6 t7 t8 h) (k0_off89_inb i t6 t7 t8 h) (k0_off90_inb i t6 t7 t8 h) (k0_off91 t6 t7 t8) (k0_off91_inb i t6 t7 t8 h))
    k0_t9_loop (k0_t9_ok i h)
      (fun t9 _ => blockP A.w0 A.wd0 A.tab A.e (k0_off96 t6 t7 t9) (k0_off96_inb i t6 t7 t9 h) (View.stores_vmem h_S16x128 (A.wd0W.storeExact_slice rfl _ (k0_off96_packedbf16 i t6 t7 t9 h)) (fun _ => rfl))
          (k0_off97 t6 t7 t9) (k0_off98 t6 t7 t9) (k0_off99 t6 t7 t9) (k0_off100 t6 t7 t9) (k0_off101 t6 t7 t9) (k0_off102 t6 t7 t9) (k0_off103 t6 t7 t9) (k0_off104 t6 t7 t9) (k0_off105 t6 t7 t9) (k0_off106 t6 t7 t9)
          (k0_off97_inb i t6 t7 t9 h) (k0_off98_inb i t6 t7 t9 h) (k0_off99_inb i t6 t7 t9 h) (k0_off100_inb i t6 t7 t9 h) (k0_off101_inb i t6 t7 t9 h) (k0_off102_inb i t6 t7 t9 h) (k0_off103_inb i t6 t7 t9 h) (k0_off104_inb i t6 t7 t9 h) (k0_off105_inb i t6 t7 t9 h) (k0_off106_inb i t6 t7 t9 h) (k0_off107 t6 t7 t9) (k0_off107_inb i t6 t7 t9 h))
    (k0_off92 t6 t7) (k0_off108 t6 t7) (k0_off92_inb i t6 t7 h) (k0_off108_inb i t6 t7 h) (k0_off93 t6 t7) (k0_off109 t6 t7) (k0_off93_inb i t6 t7 h) (k0_off109_inb i t6 t7 h)
    (View.stores_vmem h_S128x128 (A.ckW.storeExact_slice rfl _ (k0_off93_packedi8 i t6 t7 h)) (fun _ => rfl)) (View.stores_vmem h_S128x128 (A.ckW.storeExact_slice rfl _ (k0_off109_packedi8 i t6 t7 h)) (fun _ => rfl))
    (k0_off94 t6 t7) (k0_off95 t6 t7) (k0_off110 t6 t7) (k0_off111 t6 t7) (k0_off94_inb i t6 t7 h) (k0_off95_inb i t6 t7 h) (k0_off110_inb i t6 t7 h) (k0_off111_inb i t6 t7 h) (k0_off112 t6 t7) (k0_off112_inb i t6 t7 h)
    (View.stores_vmem h_S256x128 (A.cnW.storeExact_slice rfl _ (k0_off112_packedi8 i t6 t7 h)) (fun _ => rfl))

theorem t7_eq (i : grid0.Coords) (A : Bufs) (h : k0_cond3 i = 1#1) (t6 : Fin k0_t6_loop.trips) (x : BitVec 32) (t7 : Fin k0_t7_loop.trips) :
    k0_t7_body (F := F) i A.bmAll A.bmAllW A.bm A.bmW A.xHbm A.xHbmW A.wHbm A.wHbmW A.y A.yW A.cn A.cnW A.ck A.ckW A.sb A.sbW A.st A.stW A.x A.xW A.w0 A.w0W A.w1 A.w1W A.wd0 A.wd0W A.wd1 A.wd1W A.tab A.tabW A.e A.eW A.stS A.stSW A.xSem A.wSem h t6 x t7 ⟨⟩ = t7_tile i A h t6 t7 := by
  unfold k0_t7_body t7_tile ktileP
  simp only [k0_part28_eq_skeleton, k0_part28_skel, k0_part29_eq_skeleton, k0_part29_skel, k0_part30_eq_skeleton, k0_part30_skel, k0_part31_eq_skeleton, k0_part31_skel, bind_assoc]
  rfl

/-- The tile of loop `t12`. -/
def t12_tile (i : grid0.Coords) (A : Bufs) (h : k0_cond5 i = 1#1) (t11 : Fin k0_t11_loop.trips) (t12 : Fin k0_t12_loop.trips) : Prog (TpuEff nD τ sig (Elt F) Λ₀ .tc) Unit :=
  ktileP A.e A.ck A.cn k0_t13_loop (k0_t13_ok i h)
      (fun t13 _ => blockP A.w1 A.wd1 A.tab A.e (k0_off138 t11 t12 t13) (k0_off138_inb i t11 t12 t13 h) (View.stores_vmem h_S16x128 (A.wd1W.storeExact_slice rfl _ (k0_off138_packedbf16 i t11 t12 t13 h)) (fun _ => rfl))
          (k0_off139 t11 t12 t13) (k0_off140 t11 t12 t13) (k0_off141 t11 t12 t13) (k0_off142 t11 t12 t13) (k0_off143 t11 t12 t13) (k0_off144 t11 t12 t13) (k0_off145 t11 t12 t13) (k0_off146 t11 t12 t13) (k0_off147 t11 t12 t13) (k0_off148 t11 t12 t13)
          (k0_off139_inb i t11 t12 t13 h) (k0_off140_inb i t11 t12 t13 h) (k0_off141_inb i t11 t12 t13 h) (k0_off142_inb i t11 t12 t13 h) (k0_off143_inb i t11 t12 t13 h) (k0_off144_inb i t11 t12 t13 h) (k0_off145_inb i t11 t12 t13 h) (k0_off146_inb i t11 t12 t13 h) (k0_off147_inb i t11 t12 t13 h) (k0_off148_inb i t11 t12 t13 h) (k0_off149 t11 t12 t13) (k0_off149_inb i t11 t12 t13 h))
    k0_t14_loop (k0_t14_ok i h)
      (fun t14 _ => blockP A.w1 A.wd1 A.tab A.e (k0_off154 t11 t12 t14) (k0_off154_inb i t11 t12 t14 h) (View.stores_vmem h_S16x128 (A.wd1W.storeExact_slice rfl _ (k0_off154_packedbf16 i t11 t12 t14 h)) (fun _ => rfl))
          (k0_off155 t11 t12 t14) (k0_off156 t11 t12 t14) (k0_off157 t11 t12 t14) (k0_off158 t11 t12 t14) (k0_off159 t11 t12 t14) (k0_off160 t11 t12 t14) (k0_off161 t11 t12 t14) (k0_off162 t11 t12 t14) (k0_off163 t11 t12 t14) (k0_off164 t11 t12 t14)
          (k0_off155_inb i t11 t12 t14 h) (k0_off156_inb i t11 t12 t14 h) (k0_off157_inb i t11 t12 t14 h) (k0_off158_inb i t11 t12 t14 h) (k0_off159_inb i t11 t12 t14 h) (k0_off160_inb i t11 t12 t14 h) (k0_off161_inb i t11 t12 t14 h) (k0_off162_inb i t11 t12 t14 h) (k0_off163_inb i t11 t12 t14 h) (k0_off164_inb i t11 t12 t14 h) (k0_off165 t11 t12 t14) (k0_off165_inb i t11 t12 t14 h))
    (k0_off150 t11 t12) (k0_off166 t11 t12) (k0_off150_inb i t11 t12 h) (k0_off166_inb i t11 t12 h) (k0_off151 t11 t12) (k0_off167 t11 t12) (k0_off151_inb i t11 t12 h) (k0_off167_inb i t11 t12 h)
    (View.stores_vmem h_S128x128 (A.ckW.storeExact_slice rfl _ (k0_off151_packedi8 i t11 t12 h)) (fun _ => rfl)) (View.stores_vmem h_S128x128 (A.ckW.storeExact_slice rfl _ (k0_off167_packedi8 i t11 t12 h)) (fun _ => rfl))
    (k0_off152 t11 t12) (k0_off153 t11 t12) (k0_off168 t11 t12) (k0_off169 t11 t12) (k0_off152_inb i t11 t12 h) (k0_off153_inb i t11 t12 h) (k0_off168_inb i t11 t12 h) (k0_off169_inb i t11 t12 h) (k0_off170 t11 t12) (k0_off170_inb i t11 t12 h)
    (View.stores_vmem h_S256x128 (A.cnW.storeExact_slice rfl _ (k0_off170_packedi8 i t11 t12 h)) (fun _ => rfl))

theorem t12_eq (i : grid0.Coords) (A : Bufs) (h : k0_cond5 i = 1#1) (t11 : Fin k0_t11_loop.trips) (x : BitVec 32) (t12 : Fin k0_t12_loop.trips) :
    k0_t12_body (F := F) i A.bmAll A.bmAllW A.bm A.bmW A.xHbm A.xHbmW A.wHbm A.wHbmW A.y A.yW A.cn A.cnW A.ck A.ckW A.sb A.sbW A.st A.stW A.x A.xW A.w0 A.w0W A.w1 A.w1W A.wd0 A.wd0W A.wd1 A.wd1W A.tab A.tabW A.e A.eW A.stS A.stSW A.xSem A.wSem h t11 x t12 ⟨⟩ = t12_tile i A h t11 t12 := by
  unfold k0_t12_body t12_tile ktileP
  simp only [k0_part44_eq_skeleton, k0_part44_skel, k0_part45_eq_skeleton, k0_part45_skel, k0_part46_eq_skeleton, k0_part46_skel, k0_part47_eq_skeleton, k0_part47_skel, bind_assoc]
  rfl

/-- The places the group's rows go to. -/
def t1_rows (t1 : Fin k0_t1_loop.trips) : Fin 2 → Fin 10 → Fin 4 → Nat := ![![k0_off2 t1, k0_off3 t1, k0_off4 t1, k0_off5 t1, k0_off6 t1, k0_off7 t1, k0_off8 t1, k0_off9 t1, k0_off10 t1, k0_off11 t1],
  ![k0_off12 t1, k0_off13 t1, k0_off14 t1, k0_off15 t1, k0_off16 t1, k0_off17 t1, k0_off18 t1, k0_off19 t1, k0_off20 t1, k0_off21 t1]]

theorem t1_rows_eq (t1 : Fin k0_t1_loop.trips) (c : Fin 2) (t : Fin 10) : t1_rows t1 c t = ![t.val, c.val, 8 * t1.val, 0] := by
  fin_cases c <;> fin_cases t
  · exact k0_off2_eq t1
  · exact k0_off3_eq t1
  · exact k0_off4_eq t1
  · exact k0_off5_eq t1
  · exact k0_off6_eq t1
  · exact k0_off7_eq t1
  · exact k0_off8_eq t1
  · exact k0_off9_eq t1
  · exact k0_off10_eq t1
  · exact k0_off11_eq t1
  · exact k0_off12_eq t1
  · exact k0_off13_eq t1
  · exact k0_off14_eq t1
  · exact k0_off15_eq t1
  · exact k0_off16_eq t1
  · exact k0_off17_eq t1
  · exact k0_off18_eq t1
  · exact k0_off19_eq t1
  · exact k0_off20_eq t1
  · exact k0_off21_eq t1

theorem t1_rows_in (i : grid0.Coords) (A : Bufs) (h : k0_cond2 i = 1#1) (t1 : Fin k0_t1_loop.trips) : ∀ c t, GrpIn (t1_rows t1 c t) := by
  intro c t
  fin_cases c <;> fin_cases t
  · exact k0_off2_inb i t1 h
  · exact k0_off3_inb i t1 h
  · exact k0_off4_inb i t1 h
  · exact k0_off5_inb i t1 h
  · exact k0_off6_inb i t1 h
  · exact k0_off7_inb i t1 h
  · exact k0_off8_inb i t1 h
  · exact k0_off9_inb i t1 h
  · exact k0_off10_inb i t1 h
  · exact k0_off11_inb i t1 h
  · exact k0_off12_inb i t1 h
  · exact k0_off13_inb i t1 h
  · exact k0_off14_inb i t1 h
  · exact k0_off15_inb i t1 h
  · exact k0_off16_inb i t1 h
  · exact k0_off17_inb i t1 h
  · exact k0_off18_inb i t1 h
  · exact k0_off19_inb i t1 h
  · exact k0_off20_inb i t1 h
  · exact k0_off21_inb i t1 h

/-- The table group of loop `t1`. -/
theorem t1_eq (i : grid0.Coords) (A : Bufs) (st : Elt F .f32) (h : k0_cond2 i = 1#1) (v53 : IVec S8x128 32) (v64 c16 : BitVec 32) (v66 v69 : IVec S8x128 32) (v71 : IVec S8x128 1) (t1 : Fin k0_t1_loop.trips) :
    k0_t1_body (F := F) i A.bmAll A.bmAllW A.bm A.bmW A.xHbm A.xHbmW A.wHbm A.wHbmW A.y A.yW A.cn A.cnW A.ck A.ckW A.sb A.sbW A.st A.stW A.x A.xW A.w0 A.w0W A.w1 A.w1W A.wd0 A.wd0W A.wd1 A.wd1W A.tab A.tabW A.e A.eW A.stS A.stSW A.xSem A.wSem st h v53 v64 c16 v66 v69 v71 t1 ⟨⟩ =
      tableP A.bm A.tab st (k0_pay233 v53 v64 c16 v66 v69 v71) (k0_off1 t1) (k0_off1_inb i t1 h) (t1_rows t1) (t1_rows_in i A h t1) := rfl

/-- The places the group's rows go to. -/
def t5_rows (t5 : Fin k0_t5_loop.trips) : Fin 2 → Fin 10 → Fin 4 → Nat := ![![k0_off58 t5, k0_off59 t5, k0_off60 t5, k0_off61 t5, k0_off62 t5, k0_off63 t5, k0_off64 t5, k0_off65 t5, k0_off66 t5, k0_off67 t5],
  ![k0_off68 t5, k0_off69 t5, k0_off70 t5, k0_off71 t5, k0_off72 t5, k0_off73 t5, k0_off74 t5, k0_off75 t5, k0_off76 t5, k0_off77 t5]]

theorem t5_rows_eq (t5 : Fin k0_t5_loop.trips) (c : Fin 2) (t : Fin 10) : t5_rows t5 c t = ![t.val, c.val, 8 * t5.val, 0] := by
  fin_cases c <;> fin_cases t
  · exact k0_off58_eq t5
  · exact k0_off59_eq t5
  · exact k0_off60_eq t5
  · exact k0_off61_eq t5
  · exact k0_off62_eq t5
  · exact k0_off63_eq t5
  · exact k0_off64_eq t5
  · exact k0_off65_eq t5
  · exact k0_off66_eq t5
  · exact k0_off67_eq t5
  · exact k0_off68_eq t5
  · exact k0_off69_eq t5
  · exact k0_off70_eq t5
  · exact k0_off71_eq t5
  · exact k0_off72_eq t5
  · exact k0_off73_eq t5
  · exact k0_off74_eq t5
  · exact k0_off75_eq t5
  · exact k0_off76_eq t5
  · exact k0_off77_eq t5

theorem t5_rows_in (i : grid0.Coords) (A : Bufs) (h : k0_cond3 i = 1#1) (t5 : Fin k0_t5_loop.trips) : ∀ c t, GrpIn (t5_rows t5 c t) := by
  intro c t
  fin_cases c <;> fin_cases t
  · exact k0_off58_inb i t5 h
  · exact k0_off59_inb i t5 h
  · exact k0_off60_inb i t5 h
  · exact k0_off61_inb i t5 h
  · exact k0_off62_inb i t5 h
  · exact k0_off63_inb i t5 h
  · exact k0_off64_inb i t5 h
  · exact k0_off65_inb i t5 h
  · exact k0_off66_inb i t5 h
  · exact k0_off67_inb i t5 h
  · exact k0_off68_inb i t5 h
  · exact k0_off69_inb i t5 h
  · exact k0_off70_inb i t5 h
  · exact k0_off71_inb i t5 h
  · exact k0_off72_inb i t5 h
  · exact k0_off73_inb i t5 h
  · exact k0_off74_inb i t5 h
  · exact k0_off75_inb i t5 h
  · exact k0_off76_inb i t5 h
  · exact k0_off77_inb i t5 h

/-- The table group of loop `t5`. -/
theorem t5_eq (i : grid0.Coords) (A : Bufs) (st : Elt F .f32) (h : k0_cond3 i = 1#1) (v55 : IVec S8x128 32) (v66 c16 : BitVec 32) (v68 v71 : IVec S8x128 32) (t5 : Fin k0_t5_loop.trips) :
    k0_t5_body (F := F) i A.bmAll A.bmAllW A.bm A.bmW A.xHbm A.xHbmW A.wHbm A.wHbmW A.y A.yW A.cn A.cnW A.ck A.ckW A.sb A.sbW A.st A.stW A.x A.xW A.w0 A.w0W A.w1 A.w1W A.wd0 A.wd0W A.wd1 A.wd1W A.tab A.tabW A.e A.eW A.stS A.stSW A.xSem A.wSem st h v55 v66 c16 v68 v71 t5 ⟨⟩ =
      tableP A.bm A.tab st (k0_pay235 v55 v66 c16 v68 v71) (k0_off57 t5) (k0_off57_inb i t5 h) (t5_rows t5) (t5_rows_in i A h t5) := rfl

/-- The places the group's rows go to. -/
def t10_rows (t10 : Fin k0_t10_loop.trips) : Fin 2 → Fin 10 → Fin 4 → Nat := ![![k0_off116 t10, k0_off117 t10, k0_off118 t10, k0_off119 t10, k0_off120 t10, k0_off121 t10, k0_off122 t10, k0_off123 t10, k0_off124 t10, k0_off125 t10],
  ![k0_off126 t10, k0_off127 t10, k0_off128 t10, k0_off129 t10, k0_off130 t10, k0_off131 t10, k0_off132 t10, k0_off133 t10, k0_off134 t10, k0_off135 t10]]

theorem t10_rows_eq (t10 : Fin k0_t10_loop.trips) (c : Fin 2) (t : Fin 10) : t10_rows t10 c t = ![t.val, c.val, 8 * t10.val, 0] := by
  fin_cases c <;> fin_cases t
  · exact k0_off116_eq t10
  · exact k0_off117_eq t10
  · exact k0_off118_eq t10
  · exact k0_off119_eq t10
  · exact k0_off120_eq t10
  · exact k0_off121_eq t10
  · exact k0_off122_eq t10
  · exact k0_off123_eq t10
  · exact k0_off124_eq t10
  · exact k0_off125_eq t10
  · exact k0_off126_eq t10
  · exact k0_off127_eq t10
  · exact k0_off128_eq t10
  · exact k0_off129_eq t10
  · exact k0_off130_eq t10
  · exact k0_off131_eq t10
  · exact k0_off132_eq t10
  · exact k0_off133_eq t10
  · exact k0_off134_eq t10
  · exact k0_off135_eq t10

theorem t10_rows_in (i : grid0.Coords) (A : Bufs) (h : k0_cond5 i = 1#1) (t10 : Fin k0_t10_loop.trips) : ∀ c t, GrpIn (t10_rows t10 c t) := by
  intro c t
  fin_cases c <;> fin_cases t
  · exact k0_off116_inb i t10 h
  · exact k0_off117_inb i t10 h
  · exact k0_off118_inb i t10 h
  · exact k0_off119_inb i t10 h
  · exact k0_off120_inb i t10 h
  · exact k0_off121_inb i t10 h
  · exact k0_off122_inb i t10 h
  · exact k0_off123_inb i t10 h
  · exact k0_off124_inb i t10 h
  · exact k0_off125_inb i t10 h
  · exact k0_off126_inb i t10 h
  · exact k0_off127_inb i t10 h
  · exact k0_off128_inb i t10 h
  · exact k0_off129_inb i t10 h
  · exact k0_off130_inb i t10 h
  · exact k0_off131_inb i t10 h
  · exact k0_off132_inb i t10 h
  · exact k0_off133_inb i t10 h
  · exact k0_off134_inb i t10 h
  · exact k0_off135_inb i t10 h

/-- The table group of loop `t10`. -/
theorem t10_eq (i : grid0.Coords) (A : Bufs) (st : Elt F .f32) (h : k0_cond5 i = 1#1) (v55 : IVec S8x128 32) (v66 c16 : BitVec 32) (v68 v71 : IVec S8x128 32) (t10 : Fin k0_t10_loop.trips) :
    k0_t10_body (F := F) i A.bmAll A.bmAllW A.bm A.bmW A.xHbm A.xHbmW A.wHbm A.wHbmW A.y A.yW A.cn A.cnW A.ck A.ckW A.sb A.sbW A.st A.stW A.x A.xW A.w0 A.w0W A.w1 A.w1W A.wd0 A.wd0W A.wd1 A.wd1W A.tab A.tabW A.e A.eW A.stS A.stSW A.xSem A.wSem st h v55 v66 c16 v68 v71 t10 ⟨⟩ =
      tableP A.bm A.tab st (k0_pay1 v55 v66 c16 v68 v71) (k0_off115 t10) (k0_off115_inb i t10 h) (t10_rows t10) (t10_rows_in i A h t10) := rfl

/-- The chunk of loop `t6`. -/
theorem t6_eq (i : grid0.Coords) (A : Bufs) (st : Elt F .f32) (h : k0_cond3 i = 1#1) (t6 : Fin k0_t6_loop.trips) :
    k0_t6_body (F := F) i A.bmAll A.bmAllW A.bm A.bmW A.xHbm A.xHbmW A.wHbm A.wHbmW A.y A.yW A.cn A.cnW A.ck A.ckW A.sb A.sbW A.st A.stW A.x A.xW A.w0 A.w0W A.w1 A.w1W A.wd0 A.wd0W A.wd1 A.wd1W A.tab A.tabW A.e A.eW A.stS A.stSW A.xSem A.wSem st h t6 ⟨⟩ =
      chunkP A.x A.wd1 A.y st (k0_off78 t6) (k0_off78_inb i t6 h) (k0_off79 t6) (k0_off79_inb i t6 h)
        (View.stores_vmem h_S240x256 (A.yW.storeExact_slice rfl _ (k0_off79_packedbf16 i t6 h)) (fun _ => rfl))
        k0_t7_loop (k0_t7_ok i h) (fun t7 _ => t7_tile i A h t6 t7) := by
  have e : k0_t7_body (F := F) i A.bmAll A.bmAllW A.bm A.bmW A.xHbm A.xHbmW A.wHbm A.wHbmW A.y A.yW A.cn A.cnW A.ck A.ckW A.sb A.sbW A.st A.stW A.x A.xW A.w0 A.w0W A.w1 A.w1W A.wd0 A.wd0W A.wd1 A.wd1W A.tab A.tabW A.e A.eW A.stS A.stSW A.xSem A.wSem h t6 (Scf.iv 0#32 1#32 t6) = fun t7 _ => t7_tile i A h t6 t7 := funext fun _ => funext fun _ => t7_eq ..
  rw [← e]; rfl

/-- The chunk of loop `t11`. -/
theorem t11_eq (i : grid0.Coords) (A : Bufs) (st : Elt F .f32) (h : k0_cond5 i = 1#1) (t11 : Fin k0_t11_loop.trips) :
    k0_t11_body (F := F) i A.bmAll A.bmAllW A.bm A.bmW A.xHbm A.xHbmW A.wHbm A.wHbmW A.y A.yW A.cn A.cnW A.ck A.ckW A.sb A.sbW A.st A.stW A.x A.xW A.w0 A.w0W A.w1 A.w1W A.wd0 A.wd0W A.wd1 A.wd1W A.tab A.tabW A.e A.eW A.stS A.stSW A.xSem A.wSem st h t11 ⟨⟩ =
      chunkP A.x A.wd0 A.y st (k0_off136 t11) (k0_off136_inb i t11 h) (k0_off137 t11) (k0_off137_inb i t11 h)
        (View.stores_vmem h_S240x256 (A.yW.storeExact_slice rfl _ (k0_off137_packedbf16 i t11 h)) (fun _ => rfl))
        k0_t12_loop (k0_t12_ok i h) (fun t12 _ => t12_tile i A h t11 t12) := by
  have e : k0_t12_body (F := F) i A.bmAll A.bmAllW A.bm A.bmW A.xHbm A.xHbmW A.wHbm A.wHbmW A.y A.yW A.cn A.cnW A.ck A.ckW A.sb A.sbW A.st A.stW A.x A.xW A.w0 A.w0W A.w1 A.w1W A.wd0 A.wd0W A.wd1 A.wd1W A.tab A.tabW A.e A.eW A.stS A.stSW A.xSem A.wSem h t11 (Scf.iv 0#32 1#32 t11) = fun t12 _ => t12_tile i A h t11 t12 := funext fun _ => funext fun _ => t12_eq ..
  rw [← e]; rfl

end Cert.Kernel.Body

end
-- ==== Proof.Body.Tiles.lean ====
/-
  The tiles of the kernel's three loops over tiles, run: each is an instance of `tile_run`.
-/
module

public import proofs.«01_k».proof.Proof.Body.Tile
public import proofs.«01_k».proof.Proof.Body.Match
public import proofs.«01_k».proof.Proof.Gen.Kernel.Loops

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (𝒱 : Variants) (c : Dev nD) (bd : Option 𝒱.V) (E : Set ℕ)

theorem vec2 {a b a' b' : ℕ} (h : a = a') (h' : b = b') : (![a, b] : Fin 2 → ℕ) = ![a', b'] := by rw [h, h']

theorem vec4 {a b d e a' b' d' e' : ℕ} (ha : a = a') (hb : b = b') (hd : d = d') (he : e = e') : (![a, b, d, e] : Fin 4 → ℕ) = ![a', b', d', e'] := by
  rw [ha, hb, hd, he]

/-! ### The planes of the word buffer in loop `t2` -/

theorem off33_plane : ∀ t2 : Fin k0_t2_loop.trips, ∀ t3 : Fin k0_t3_loop.trips, k0_off33 t2 t3 = ![t2.val % 2, 0, 8 * t3.val, 0] := by decide +kernel
theorem off34_plane : ∀ t2 : Fin k0_t2_loop.trips, k0_off34 t2 = ![t2.val % 2, 0, 0, 0] := by decide +kernel
theorem off36_plane : ∀ t2 : Fin k0_t2_loop.trips, k0_off36 t2 = ![t2.val % 2, 0, 0, 0] := by decide +kernel
theorem off37_plane : ∀ t2 : Fin k0_t2_loop.trips, k0_off37 t2 = ![t2.val % 2, 0, 1, 0] := by decide +kernel
theorem off49_plane : ∀ t2 : Fin k0_t2_loop.trips, ∀ t4 : Fin k0_t4_loop.trips, k0_off49 t2 t4 = ![t2.val % 2, 1, 8 * t4.val, 0] := by decide +kernel
theorem off50_plane : ∀ t2 : Fin k0_t2_loop.trips, k0_off50 t2 = ![t2.val % 2, 1, 0, 0] := by decide +kernel
theorem off52_plane : ∀ t2 : Fin k0_t2_loop.trips, k0_off52 t2 = ![t2.val % 2, 1, 0, 0] := by decide +kernel
theorem off53_plane : ∀ t2 : Fin k0_t2_loop.trips, k0_off53 t2 = ![t2.val % 2, 1, 1, 0] := by decide +kernel

/-- One tile of loop `t2`. -/
theorem t2_run (i : grid0.Coords) (A : Bufs) (h : k0_cond2 i = 1#1) (W : S4096x256.Idx → Elt F .bf16) (T : S10x2x256x128.Idx → Elt F .f32) (t2 : Fin k0_t2_loop.trips) :
    tileInv c A.w0 A.wd0 A.tab A.e A.ck A.cn W T t2.val ⊢ wpk 𝒱 c bd E (t2_tile i A h t2) (fun _ => tileInv c A.w0 A.wd0 A.tab A.e A.ck A.cn W T (t2.val + 1)) := by
  exact tile_run 𝒱 c bd E A.w0 A.wd0 A.tab A.e A.ck A.cn W T t2.val (t2.val % 2) rfl rfl
    (fun t3 => by
      unfold blockInv
      exact block_run 𝒱 c bd E A.w0 A.wd0 A.tab A.e W T t2.val 0 t3.val (t2.val % 2) t3.isLt
        (k0_off22_eq t2 t3)
        (k0_off23_eq t2 t3)
        (k0_off24_eq t2 t3)
        (k0_off25_eq t2 t3)
        (k0_off26_eq t2 t3)
        (k0_off27_eq t2 t3)
        (k0_off28_eq t2 t3)
        (k0_off29_eq t2 t3)
        (k0_off30_eq t2 t3)
        (k0_off31_eq t2 t3)
        (k0_off32_eq t2 t3)
        (off33_plane t2 t3))
    (fun t4 => by
      unfold blockInv
      exact block_run 𝒱 c bd E A.w0 A.wd0 A.tab A.e W T t2.val 1 t4.val (t2.val % 2) t4.isLt
        (k0_off38_eq t2 t4)
        (k0_off39_eq t2 t4)
        (k0_off40_eq t2 t4)
        (k0_off41_eq t2 t4)
        (k0_off42_eq t2 t4)
        (k0_off43_eq t2 t4)
        (k0_off44_eq t2 t4)
        (k0_off45_eq t2 t4)
        (k0_off46_eq t2 t4)
        (k0_off47_eq t2 t4)
        (k0_off48_eq t2 t4)
        (off49_plane t2 t4))
    (off34_plane t2) (off50_plane t2) (k0_off35_eq t2) (k0_off51_eq t2)
    (off36_plane t2) (off37_plane t2) (off52_plane t2) (off53_plane t2) (k0_off54_eq t2)

/-! ### The planes of the word buffer in loop `t7` -/

theorem off91_plane : ∀ t6 : Fin k0_t6_loop.trips, ∀ t7 : Fin k0_t7_loop.trips, ∀ t8 : Fin k0_t8_loop.trips, k0_off91 t6 t7 t8 = ![t7.val % 2, 0, 8 * t8.val, 0] := by decide +kernel
theorem off92_plane : ∀ t6 : Fin k0_t6_loop.trips, ∀ t7 : Fin k0_t7_loop.trips, k0_off92 t6 t7 = ![t7.val % 2, 0, 0, 0] := by decide +kernel
theorem off94_plane : ∀ t6 : Fin k0_t6_loop.trips, ∀ t7 : Fin k0_t7_loop.trips, k0_off94 t6 t7 = ![t7.val % 2, 0, 0, 0] := by decide +kernel
theorem off95_plane : ∀ t6 : Fin k0_t6_loop.trips, ∀ t7 : Fin k0_t7_loop.trips, k0_off95 t6 t7 = ![t7.val % 2, 0, 1, 0] := by decide +kernel
theorem off107_plane : ∀ t6 : Fin k0_t6_loop.trips, ∀ t7 : Fin k0_t7_loop.trips, ∀ t9 : Fin k0_t9_loop.trips, k0_off107 t6 t7 t9 = ![t7.val % 2, 1, 8 * t9.val, 0] := by decide +kernel
theorem off108_plane : ∀ t6 : Fin k0_t6_loop.trips, ∀ t7 : Fin k0_t7_loop.trips, k0_off108 t6 t7 = ![t7.val % 2, 1, 0, 0] := by decide +kernel
theorem off110_plane : ∀ t6 : Fin k0_t6_loop.trips, ∀ t7 : Fin k0_t7_loop.trips, k0_off110 t6 t7 = ![t7.val % 2, 1, 0, 0] := by decide +kernel
theorem off111_plane : ∀ t6 : Fin k0_t6_loop.trips, ∀ t7 : Fin k0_t7_loop.trips, k0_off111 t6 t7 = ![t7.val % 2, 1, 1, 0] := by decide +kernel

/-- One tile of loop `t7`. -/
theorem t7_run (i : grid0.Coords) (A : Bufs) (h : k0_cond3 i = 1#1) (W : S4096x256.Idx → Elt F .bf16) (T : S10x2x256x128.Idx → Elt F .f32) (t6 : Fin k0_t6_loop.trips) (t7 : Fin k0_t7_loop.trips) :
    tileInv c A.w0 A.wd0 A.tab A.e A.ck A.cn W T (2 * t6.val + t7.val) ⊢ wpk 𝒱 c bd E (t7_tile i A h t6 t7) (fun _ => tileInv c A.w0 A.wd0 A.tab A.e A.ck A.cn W T ((2 * t6.val + t7.val) + 1)) := by
  have lt6 : t6.val < 8 := t6.isLt
  have lt7 : t7.val < 2 := t7.isLt
  exact tile_run 𝒱 c bd E A.w0 A.wd0 A.tab A.e A.ck A.cn W T (2 * t6.val + t7.val) (t7.val % 2) rfl rfl
    (fun t8 => by
      unfold blockInv
      exact block_run 𝒱 c bd E A.w0 A.wd0 A.tab A.e W T (2 * t6.val + t7.val) 0 t8.val (t7.val % 2) t8.isLt
        ((k0_off80_eq t6 t7 t8).trans (vec2 (by omega) (by omega)))
        ((k0_off81_eq t6 t7 t8).trans (vec4 rfl rfl (by omega) rfl))
        ((k0_off82_eq t6 t7 t8).trans (vec4 rfl rfl (by omega) rfl))
        ((k0_off83_eq t6 t7 t8).trans (vec4 rfl rfl (by omega) rfl))
        ((k0_off84_eq t6 t7 t8).trans (vec4 rfl rfl (by omega) rfl))
        ((k0_off85_eq t6 t7 t8).trans (vec4 rfl rfl (by omega) rfl))
        ((k0_off86_eq t6 t7 t8).trans (vec4 rfl rfl (by omega) rfl))
        ((k0_off87_eq t6 t7 t8).trans (vec4 rfl rfl (by omega) rfl))
        ((k0_off88_eq t6 t7 t8).trans (vec4 rfl rfl (by omega) rfl))
        ((k0_off89_eq t6 t7 t8).trans (vec4 rfl rfl (by omega) rfl))
        ((k0_off90_eq t6 t7 t8).trans (vec4 rfl rfl (by omega) rfl))
        (off91_plane t6 t7 t8))
    (fun t9 => by
      unfold blockInv
      exact block_run 𝒱 c bd E A.w0 A.wd0 A.tab A.e W T (2 * t6.val + t7.val) 1 t9.val (t7.val % 2) t9.isLt
        ((k0_off96_eq t6 t7 t9).trans (vec2 (by omega) (by omega)))
        ((k0_off97_eq t6 t7 t9).trans (vec4 rfl rfl (by omega) rfl))
        ((k0_off98_eq t6 t7 t9).trans (vec4 rfl rfl (by omega) rfl))
        ((k0_off99_eq t6 t7 t9).trans (vec4 rfl rfl (by omega) rfl))
        ((k0_off100_eq t6 t7 t9).trans (vec4 rfl rfl (by omega) rfl))
        ((k0_off101_eq t6 t7 t9).trans (vec4 rfl rfl (by omega) rfl))
        ((k0_off102_eq t6 t7 t9).trans (vec4 rfl rfl (by omega) rfl))
        ((k0_off103_eq t6 t7 t9).trans (vec4 rfl rfl (by omega) rfl))
        ((k0_off104_eq t6 t7 t9).trans (vec4 rfl rfl (by omega) rfl))
        ((k0_off105_eq t6 t7 t9).trans (vec4 rfl rfl (by omega) rfl))
        ((k0_off106_eq t6 t7 t9).trans (vec4 rfl rfl (by omega) rfl))
        (off107_plane t6 t7 t9))
    (off92_plane t6 t7) (off108_plane t6 t7) ((k0_off93_eq t6 t7).trans (vec2 (by omega) (by omega))) ((k0_off109_eq t6 t7).trans (vec2 (by omega) (by omega)))
    (off94_plane t6 t7) (off95_plane t6 t7) (off110_plane t6 t7) (off111_plane t6 t7) ((k0_off112_eq t6 t7).trans (vec2 (by omega) (by omega)))

/-! ### The planes of the word buffer in loop `t12` -/

theorem off149_plane : ∀ t11 : Fin k0_t11_loop.trips, ∀ t12 : Fin k0_t12_loop.trips, ∀ t13 : Fin k0_t13_loop.trips, k0_off149 t11 t12 t13 = ![t12.val % 2, 0, 8 * t13.val, 0] := by decide +kernel
theorem off150_plane : ∀ t11 : Fin k0_t11_loop.trips, ∀ t12 : Fin k0_t12_loop.trips, k0_off150 t11 t12 = ![t12.val % 2, 0, 0, 0] := by decide +kernel
theorem off152_plane : ∀ t11 : Fin k0_t11_loop.trips, ∀ t12 : Fin k0_t12_loop.trips, k0_off152 t11 t12 = ![t12.val % 2, 0, 0, 0] := by decide +kernel
theorem off153_plane : ∀ t11 : Fin k0_t11_loop.trips, ∀ t12 : Fin k0_t12_loop.trips, k0_off153 t11 t12 = ![t12.val % 2, 0, 1, 0] := by decide +kernel
theorem off165_plane : ∀ t11 : Fin k0_t11_loop.trips, ∀ t12 : Fin k0_t12_loop.trips, ∀ t14 : Fin k0_t14_loop.trips, k0_off165 t11 t12 t14 = ![t12.val % 2, 1, 8 * t14.val, 0] := by decide +kernel
theorem off166_plane : ∀ t11 : Fin k0_t11_loop.trips, ∀ t12 : Fin k0_t12_loop.trips, k0_off166 t11 t12 = ![t12.val % 2, 1, 0, 0] := by decide +kernel
theorem off168_plane : ∀ t11 : Fin k0_t11_loop.trips, ∀ t12 : Fin k0_t12_loop.trips, k0_off168 t11 t12 = ![t12.val % 2, 1, 0, 0] := by decide +kernel
theorem off169_plane : ∀ t11 : Fin k0_t11_loop.trips, ∀ t12 : Fin k0_t12_loop.trips, k0_off169 t11 t12 = ![t12.val % 2, 1, 1, 0] := by decide +kernel

/-- One tile of loop `t12`. -/
theorem t12_run (i : grid0.Coords) (A : Bufs) (h : k0_cond5 i = 1#1) (W : S4096x256.Idx → Elt F .bf16) (T : S10x2x256x128.Idx → Elt F .f32) (t11 : Fin k0_t11_loop.trips) (t12 : Fin k0_t12_loop.trips) :
    tileInv c A.w1 A.wd1 A.tab A.e A.ck A.cn W T (2 * t11.val + t12.val) ⊢ wpk 𝒱 c bd E (t12_tile i A h t11 t12) (fun _ => tileInv c A.w1 A.wd1 A.tab A.e A.ck A.cn W T ((2 * t11.val + t12.val) + 1)) := by
  have lt11 : t11.val < 8 := t11.isLt
  have lt12 : t12.val < 2 := t12.isLt
  exact tile_run 𝒱 c bd E A.w1 A.wd1 A.tab A.e A.ck A.cn W T (2 * t11.val + t12.val) (t12.val % 2) rfl rfl
    (fun t13 => by
      unfold blockInv
      exact block_run 𝒱 c bd E A.w1 A.wd1 A.tab A.e W T (2 * t11.val + t12.val) 0 t13.val (t12.val % 2) t13.isLt
        ((k0_off138_eq t11 t12 t13).trans (vec2 (by omega) (by omega)))
        ((k0_off139_eq t11 t12 t13).trans (vec4 rfl rfl (by omega) rfl))
        ((k0_off140_eq t11 t12 t13).trans (vec4 rfl rfl (by omega) rfl))
        ((k0_off141_eq t11 t12 t13).trans (vec4 rfl rfl (by omega) rfl))
        ((k0_off142_eq t11 t12 t13).trans (vec4 rfl rfl (by omega) rfl))
        ((k0_off143_eq t11 t12 t13).trans (vec4 rfl rfl (by omega) rfl))
        ((k0_off144_eq t11 t12 t13).trans (vec4 rfl rfl (by omega) rfl))
        ((k0_off145_eq t11 t12 t13).trans (vec4 rfl rfl (by omega) rfl))
        ((k0_off146_eq t11 t12 t13).trans (vec4 rfl rfl (by omega) rfl))
        ((k0_off147_eq t11 t12 t13).trans (vec4 rfl rfl (by omega) rfl))
        ((k0_off148_eq t11 t12 t13).trans (vec4 rfl rfl (by omega) rfl))
        (off149_plane t11 t12 t13))
    (fun t14 => by
      unfold blockInv
      exact block_run 𝒱 c bd E A.w1 A.wd1 A.tab A.e W T (2 * t11.val + t12.val) 1 t14.val (t12.val % 2) t14.isLt
        ((k0_off154_eq t11 t12 t14).trans (vec2 (by omega) (by omega)))
        ((k0_off155_eq t11 t12 t14).trans (vec4 rfl rfl (by omega) rfl))
        ((k0_off156_eq t11 t12 t14).trans (vec4 rfl rfl (by omega) rfl))
        ((k0_off157_eq t11 t12 t14).trans (vec4 rfl rfl (by omega) rfl))
        ((k0_off158_eq t11 t12 t14).trans (vec4 rfl rfl (by omega) rfl))
        ((k0_off159_eq t11 t12 t14).trans (vec4 rfl rfl (by omega) rfl))
        ((k0_off160_eq t11 t12 t14).trans (vec4 rfl rfl (by omega) rfl))
        ((k0_off161_eq t11 t12 t14).trans (vec4 rfl rfl (by omega) rfl))
        ((k0_off162_eq t11 t12 t14).trans (vec4 rfl rfl (by omega) rfl))
        ((k0_off163_eq t11 t12 t14).trans (vec4 rfl rfl (by omega) rfl))
        ((k0_off164_eq t11 t12 t14).trans (vec4 rfl rfl (by omega) rfl))
        (off165_plane t11 t12 t14))
    (off150_plane t11 t12) (off166_plane t11 t12) ((k0_off151_eq t11 t12).trans (vec2 (by omega) (by omega))) ((k0_off167_eq t11 t12).trans (vec2 (by omega) (by omega)))
    (off152_plane t11 t12) (off153_plane t11 t12) (off168_plane t11 t12) (off169_plane t11 t12) ((k0_off170_eq t11 t12).trans (vec2 (by omega) (by omega)))

end Cert.Kernel.Body

end
-- ==== Proof.Body.Strip.lean ====
/-
  The trips of the kernel's table loops and chunk loops, run.
-/
module

public import proofs.«01_k».proof.Proof.Body.Table
public import proofs.«01_k».proof.Proof.Body.Chunk
public import proofs.«01_k».proof.Proof.Body.Tiles

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (𝒱 : Variants) (c : Dev nD) (bd : Option 𝒱.V) (E : Set ℕ)

/-- One group of the table loop `t1`. -/
theorem t1_run (i : grid0.Coords) (A : Bufs) (st : Elt F .f32) (h : k0_cond2 i = 1#1) (v53 : IVec S8x128 32) (v64 c16 : BitVec 32) (v66 v69 : IVec S8x128 32) (v71 : IVec S8x128 1) (B : S256x128.Idx → Elt F .f32) (t1 : Fin k0_t1_loop.trips) :
    tableInv c A.bm A.tab st (k0_pay233 v53 v64 c16 v66 v69 v71) B t1.val ⊢ wpk 𝒱 c bd E
      (k0_t1_body (F := F) i A.bmAll A.bmAllW A.bm A.bmW A.xHbm A.xHbmW A.wHbm A.wHbmW A.y A.yW A.cn A.cnW A.ck A.ckW A.sb A.sbW A.st A.stW A.x A.xW A.w0 A.w0W A.w1 A.w1W A.wd0 A.wd0W A.wd1 A.wd1W A.tab A.tabW A.e A.eW A.stS A.stSW A.xSem A.wSem st h v53 v64 c16 v66 v69 v71 t1 ⟨⟩)
      (fun _ => tableInv c A.bm A.tab st (k0_pay233 v53 v64 c16 v66 v69 v71) B (t1.val + 1)) := by
  rw [t1_eq]
  exact table_run 𝒱 c bd E A.bm A.tab st (k0_pay233 v53 v64 c16 v66 v69 v71) B t1.val (k0_off1_eq t1) (t1_rows_eq t1)

/-- One group of the table loop `t5`. -/
theorem t5_run (i : grid0.Coords) (A : Bufs) (st : Elt F .f32) (h : k0_cond3 i = 1#1) (v55 : IVec S8x128 32) (v66 c16 : BitVec 32) (v68 v71 : IVec S8x128 32) (B : S256x128.Idx → Elt F .f32) (t5 : Fin k0_t5_loop.trips) :
    tableInv c A.bm A.tab st (k0_pay235 v55 v66 c16 v68 v71) B t5.val ⊢ wpk 𝒱 c bd E
      (k0_t5_body (F := F) i A.bmAll A.bmAllW A.bm A.bmW A.xHbm A.xHbmW A.wHbm A.wHbmW A.y A.yW A.cn A.cnW A.ck A.ckW A.sb A.sbW A.st A.stW A.x A.xW A.w0 A.w0W A.w1 A.w1W A.wd0 A.wd0W A.wd1 A.wd1W A.tab A.tabW A.e A.eW A.stS A.stSW A.xSem A.wSem st h v55 v66 c16 v68 v71 t5 ⟨⟩)
      (fun _ => tableInv c A.bm A.tab st (k0_pay235 v55 v66 c16 v68 v71) B (t5.val + 1)) := by
  rw [t5_eq]
  exact table_run 𝒱 c bd E A.bm A.tab st (k0_pay235 v55 v66 c16 v68 v71) B t5.val (k0_off57_eq t5) (t5_rows_eq t5)

/-- One group of the table loop `t10`. -/
theorem t10_run (i : grid0.Coords) (A : Bufs) (st : Elt F .f32) (h : k0_cond5 i = 1#1) (v55 : IVec S8x128 32) (v66 c16 : BitVec 32) (v68 v71 : IVec S8x128 32) (B : S256x128.Idx → Elt F .f32) (t10 : Fin k0_t10_loop.trips) :
    tableInv c A.bm A.tab st (k0_pay1 v55 v66 c16 v68 v71) B t10.val ⊢ wpk 𝒱 c bd E
      (k0_t10_body (F := F) i A.bmAll A.bmAllW A.bm A.bmW A.xHbm A.xHbmW A.wHbm A.wHbmW A.y A.yW A.cn A.cnW A.ck A.ckW A.sb A.sbW A.st A.stW A.x A.xW A.w0 A.w0W A.w1 A.w1W A.wd0 A.wd0W A.wd1 A.wd1W A.tab A.tabW A.e A.eW A.stS A.stSW A.xSem A.wSem st h v55 v66 c16 v68 v71 t10 ⟨⟩)
      (fun _ => tableInv c A.bm A.tab st (k0_pay1 v55 v66 c16 v68 v71) B (t10.val + 1)) := by
  rw [t10_eq]
  exact table_run 𝒱 c bd E A.bm A.tab st (k0_pay1 v55 v66 c16 v68 v71) B t10.val (k0_off115_eq t10) (t10_rows_eq t10)

/-- One chunk of loop `t6`. -/
theorem t6_run (i : grid0.Coords) (A : Bufs) (st : Elt F .f32) (h : k0_cond3 i = 1#1) (X : S1920x4096.Idx → Elt F .bf16) (D W : S4096x256.Idx → Elt F .bf16)
    (T : S10x2x256x128.Idx → Elt F .f32) (t6 : Fin k0_t6_loop.trips) :
    chunkInv c A.x A.wd1 A.y st A.w0 A.wd0 A.tab A.e A.ck A.cn X D W T t6.val ⊢ wpk 𝒱 c bd E
      (k0_t6_body (F := F) i A.bmAll A.bmAllW A.bm A.bmW A.xHbm A.xHbmW A.wHbm A.wHbmW A.y A.yW A.cn A.cnW A.ck A.ckW A.sb A.sbW A.st A.stW A.x A.xW A.w0 A.w0W A.w1 A.w1W A.wd0 A.wd0W A.wd1 A.wd1W A.tab A.tabW A.e A.eW A.stS A.stSW A.xSem A.wSem st h t6 ⟨⟩)
      (fun _ => chunkInv c A.x A.wd1 A.y st A.w0 A.wd0 A.tab A.e A.ck A.cn X D W T (t6.val + 1)) := by
  rw [t6_eq]
  exact chunk_run 𝒱 c bd E A.x A.wd1 A.y st A.w0 A.wd0 A.tab A.e A.ck A.cn X D W T t6.val (k0_off78_eq t6) (k0_off79_eq t6) rfl (t7_run 𝒱 c bd E i A h W T t6)

/-- One chunk of loop `t11`. -/
theorem t11_run (i : grid0.Coords) (A : Bufs) (st : Elt F .f32) (h : k0_cond5 i = 1#1) (X : S1920x4096.Idx → Elt F .bf16) (D W : S4096x256.Idx → Elt F .bf16)
    (T : S10x2x256x128.Idx → Elt F .f32) (t11 : Fin k0_t11_loop.trips) :
    chunkInv c A.x A.wd0 A.y st A.w1 A.wd1 A.tab A.e A.ck A.cn X D W T t11.val ⊢ wpk 𝒱 c bd E
      (k0_t11_body (F := F) i A.bmAll A.bmAllW A.bm A.bmW A.xHbm A.xHbmW A.wHbm A.wHbmW A.y A.yW A.cn A.cnW A.ck A.ckW A.sb A.sbW A.st A.stW A.x A.xW A.w0 A.w0W A.w1 A.w1W A.wd0 A.wd0W A.wd1 A.wd1W A.tab A.tabW A.e A.eW A.stS A.stSW A.xSem A.wSem st h t11 ⟨⟩)
      (fun _ => chunkInv c A.x A.wd0 A.y st A.w1 A.wd1 A.tab A.e A.ck A.cn X D W T (t11.val + 1)) := by
  rw [t11_eq]
  exact chunk_run 𝒱 c bd E A.x A.wd0 A.y st A.w1 A.wd1 A.tab A.e A.ck A.cn X D W T t11.val (k0_off136_eq t11) (k0_off137_eq t11) rfl (t12_run 𝒱 c bd E i A h W T t11)

end Cert.Kernel.Body

end
-- ==== Proof.Body.Copies.lean ====
/-
  The kernel's own copies into VMEM: started at one grid point and waited for at the same or the next.
-/
module

public import proofs.«01_k».proof.Proof.Body.Rules
public import proofs.«01_k».proof.Proof.Body.Spec
public import Idealize.ShloMosaic.Lib.Transfers

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (𝒱 : Variants) (c : Dev nD) (bd : Option 𝒱.V) (E : Set ℕ)

/-- A copy into a whole buffer, started and not waited for: it brings `X` to `dst` and gives `R` back. -/
def Flying {sp : Space} {s : Shape} {e : EltTy} (sm : DmaSem sig) (dst : Memref sig .tc sp s e) (X : s.Idx → Elt F e) (R : sProp 𝕄) : sProp 𝕄 :=
  Transfers.Flight countersEmb (c : Thread nD τ) (.dma sm) () dst.view.dmaCredit iprop(Known c dst (fun _ => True) X ∗ R)

/-- The core owes nothing, whatever it waited for. -/
def Quiet : sProp 𝕄 := iprop(∃ W, owes (c : Thread nD τ) 0 W)

/-- A copy's start: the destination whole, the source's elements and the semaphore at zero go into the flight. -/
theorem copy_start {α : Type} {Q : α → sProp 𝕄} {sp sp' : Space} {s : Shape} {e : EltTy} {src : Memref sig .tc sp s e} {dst : Memref sig .tc sp' s e} {sm : DmaSem sig}
    {hsrc : src.view.WordExact} {hdst : (DmaTarget.here (nD := nD) (τ := τ) (p := .tc) dst).view.WordExact}
    {hsem : DmaTarget.Typed (nD := nD) (τ := τ) (p := .tc) sp (.dma sm) (.here dst)}
    {k : PUnit → Prog (TpuEff nD τ sig (Elt F) Λ₀ .tc) α} {P : s.Idx → Prop} {X : s.Idx → Elt F e} {fs : Buf (Elt F) (src.view.loc (c : Thread nD τ))}
    (X' : s.Idx → Elt F e) (hX : src.view.read (Elt F) fs = X') (hN : 0 < dst.view.dmaCredit) :
    iprop(Known c dst P X ∗ (src.view.loc (c : Thread nD τ) ↦[src.view.set]{fullShare} fs) ∗ semVal ((c : Thread nD τ), SemLoc.dma sm) 0)
      ⊢ iprop((Flying c sm dst X' (src.view.loc (c : Thread nD τ) ↦[src.view.set]{fullShare} fs) -∗ wpk 𝒱 c bd Set.univ (k ⟨⟩) Q)
          -∗ wpk 𝒱 c bd Set.univ (.op (.enqueueDmaAs src (.here dst) .same (.dma sm) hsrc hdst hsem) k) Q) := by
  unfold Known
  iintro ⟨⟨%fd, %hf, Hd⟩, Hs, Hv⟩ Hk
  iapply (Transfers.wp_dmaLocal countersEmb 𝒱 (c : Thread nD τ) bd () dst.view.dmaCredit rfl hN (Finset.Subset.refl _)) $$ [Hs Hd Hv]
  · isplitl [Hs]; · iexact Hs
    isplitl [Hd]; · iexact Hd
    iexact Hv
  iintro Hf
  iapply Hk
  unfold Flying
  iapply (Transfers.Flight_mono countersEmb (c : Thread nD τ) ?_) $$ Hf
  iintro ⟨Hd, Hs⟩
  isplitl [Hd]
  · unfold Known
    iexists _
    isplitr; swap; · iexact Hd
    ipureintro
    intro i _
    rw [View.read_write_univ]
    exact congrFun hX i
  · iexact Hs

/-- A copy's wait. -/
theorem copy_wait {α : Type} {Q : α → sProp 𝕄} {sp sp' : Space} {s s' : Shape} {e e' : EltTy} {srcw : Memref sig .tc sp' s' e'} {dst : Memref sig .tc sp s e} {sm : DmaSem sig}
    {hsrc : srcw.view.WordExact} {hdst : dst.view.WordExact} {k : PUnit → Prog (TpuEff nD τ sig (Elt F) Λ₀ .tc) α} {X : s.Idx → Elt F e} {R : sProp 𝕄} :
    iprop(Flying c sm dst X R ∗ Quiet c)
      ⊢ iprop((iprop(Known c dst (fun _ => True) X ∗ R ∗ semVal ((c : Thread nD τ), SemLoc.dma sm) 0 ∗ Quiet c) -∗ wpk 𝒱 c bd Set.univ (k ⟨⟩) Q)
          -∗ wpk 𝒱 c bd Set.univ (.op (.waitDma2 sm srcw dst hsrc hdst) k) Q) := by
  unfold Flying Quiet
  iintro ⟨Hf, ⟨%W, HW⟩⟩ Hk
  iapply (Transfers.wp_waitLocal countersEmb 𝒱 (c : Thread nD τ) bd () rfl (W := W)) $$ [Hf HW]
  · isplitl [Hf]; · iexact Hf
    iexact HW
  iintro ⟨⟨Hd, HR⟩, Hv, HW⟩
  iapply Hk
  isplitl [Hd]; · iexact Hd
  isplitl [HR]; · iexact HR
  isplitl [Hv]; · iexact Hv
  iexists _
  iexact HW

/-! ### Strips of the weights -/

/-- Strip `j` of the weights: columns `256 j` to `256 j + 255`. -/
def stripV (Wb : S4096x14336.Idx → Elt F .bf16) (j : ℕ) : S4096x256.Idx → Elt F .bf16 := fun i => Wb (at' S4096x14336 ![(i 0).val, 256 * j + (i 1).val])

/-- The weights in HBM, held whole. -/
def HbmW (wHbm : Memref sig .tc .hbm S4096x14336 .bf16) (fs : Buf (Elt F) (wHbm.view.loc (c : Thread nD τ))) : sProp 𝕄 :=
  iprop(wHbm.view.loc (c : Thread nD τ) ↦[wHbm.view.set]{fullShare} fs)

/-- Strip `j` on its way to `w`. -/
def StripFlying (sm : DmaSem sig) (w : Memref sig .tc .vmem S4096x256 .bf16) (wHbm : Memref sig .tc .hbm S4096x14336 .bf16)
    (fs : Buf (Elt F) (wHbm.view.loc (c : Thread nD τ))) (j : ℕ) : sProp 𝕄 :=
  iprop(∃ S : Finset (Idx (wHbm.view.loc (c : Thread nD τ))), ⌜S ⊆ wHbm.view.set⌝
    ∗ Flying c sm w (stripV (wHbm.view.read (Elt F) fs) j) (wHbm.view.loc (c : Thread nD τ) ↦[S]{fullShare} fs)
    ∗ (wHbm.view.loc (c : Thread nD τ) ↦[wHbm.view.set \ S]{fullShare} fs))

theorem strip_start {α : Type} {Q : α → sProp 𝕄} {wHbm : Memref sig .tc .hbm S4096x14336 .bf16} {w : Memref sig .tc .vmem S4096x256 .bf16} {sm : DmaSem sig}
    {o : Fin 2 → ℕ} {h : ∀ a, o a + S4096x256.size a ≤ S4096x14336.size a}
    {hsrc : (wHbm.slice (Rect.unit (s := S4096x14336) o S4096x256.size h) (fun _ => rfl)).view.WordExact} {hdst : (DmaTarget.here (nD := nD) (τ := τ) (p := .tc) w).view.WordExact}
    {hsem : DmaTarget.Typed (nD := nD) (τ := τ) (p := .tc) .hbm (.dma sm) (.here w)}
    {k : PUnit → Prog (TpuEff nD τ sig (Elt F) Λ₀ .tc) α} {P : S4096x256.Idx → Prop} {X : S4096x256.Idx → Elt F .bf16} {fs : Buf (Elt F) (wHbm.view.loc (c : Thread nD τ))}
    (j : ℕ) (ho : o = ![0, 256 * j]) (hN : 0 < w.view.dmaCredit) :
    iprop(Known c w P X ∗ HbmW c wHbm fs ∗ semVal ((c : Thread nD τ), SemLoc.dma sm) 0)
      ⊢ iprop((StripFlying c sm w wHbm fs j -∗ wpk 𝒱 c bd Set.univ (k ⟨⟩) Q)
          -∗ wpk 𝒱 c bd Set.univ (.op (.enqueueDmaAs (wHbm.slice (Rect.unit (s := S4096x14336) o S4096x256.size h) (fun _ => rfl)) (.here w) .same (.dma sm) hsrc hdst hsem) k) Q) := by
  unfold HbmW
  iintro ⟨Hw, Hh, Hv⟩ Hk
  ihave Hh' := (pointsTo_split_subset (wHbm.view.set_slice_subset (Rect.unit (s := S4096x14336) o S4096x256.size h))).1 $$ Hh
  icases Hh' with ⟨Hs, Hr⟩
  iapply (copy_start 𝒱 c bd (src := wHbm.slice (Rect.unit (s := S4096x14336) o S4096x256.size h) (fun _ => rfl)) (fs := fs) (stripV (wHbm.view.read (Elt F) fs) j) (by
    funext i
    unfold stripV
    show wHbm.view.read (Elt F) fs ((Rect.unit (s := S4096x14336) o S4096x256.size h).idx i) = _
    refine congrArg (wHbm.view.read (Elt F) fs) (at'_eq _ _ fun a => ?_).symm
    subst ho
    fin_cases a
    · show (i 0).val = 0 + 1 * (i 0).val; omega
    · show 256 * j + (i 1).val = 256 * j + 1 * (i 1).val; omega) hN) $$ [Hw Hs Hv]
  · isplitl [Hw]; · iexact Hw
    isplitl [Hs]; · iexact Hs
    iexact Hv
  iintro Hf
  iapply Hk
  unfold StripFlying
  iexists _
  isplitr; swap
  · isplitl [Hf]; · iexact Hf
    iexact Hr
  ipureintro
  exact wHbm.view.set_slice_subset _

theorem strip_wait {α : Type} {Q : α → sProp 𝕄} {wHbm : Memref sig .tc .hbm S4096x14336 .bf16} {w : Memref sig .tc .vmem S4096x256 .bf16} {sm : DmaSem sig}
    {sp' : Space} {s' : Shape} {e' : EltTy} {srcw : Memref sig .tc sp' s' e'} {hsrc : srcw.view.WordExact} {hdst : w.view.WordExact}
    {k : PUnit → Prog (TpuEff nD τ sig (Elt F) Λ₀ .tc) α} {fs : Buf (Elt F) (wHbm.view.loc (c : Thread nD τ))} {j : ℕ} :
    iprop(StripFlying c sm w wHbm fs j ∗ Quiet c)
      ⊢ iprop((iprop(Known c w (fun _ => True) (stripV (wHbm.view.read (Elt F) fs) j) ∗ HbmW c wHbm fs ∗ semVal ((c : Thread nD τ), SemLoc.dma sm) 0 ∗ Quiet c)
            -∗ wpk 𝒱 c bd Set.univ (k ⟨⟩) Q)
          -∗ wpk 𝒱 c bd Set.univ (.op (.waitDma2 sm srcw w hsrc hdst) k) Q) := by
  unfold StripFlying HbmW
  iintro ⟨⟨%S, %hS, Hf, Hr⟩, HW⟩ Hk
  iapply (copy_wait 𝒱 c bd) $$ [Hf HW]
  · isplitl [Hf]; · iexact Hf
    iexact HW
  iintro ⟨Hw, Hs, Hv, HW⟩
  iapply Hk
  isplitl [Hw]; · iexact Hw
  isplitl [Hs Hr]
  · iapply (pointsTo_split_subset hS).2
    isplitl [Hs]; · iexact Hs
    iexact Hr
  isplitl [Hv]; · iexact Hv
  iexact HW

end Cert.Kernel.Body

end
-- ==== Proof.Body.Point.lean ====
/-
  The body at a grid point past the first, first steps

  What a run of the body is in terms of the buffers: the semaphores of the two strip buffers, the lane each threshold is
  gathered from, the codes' scales, and the step that starts the next strip when there is one.
-/
module

public import proofs.«01_k».proof.Proof.Body.Strip
public import proofs.«01_k».proof.Proof.Body.Copies

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (𝒱 : Variants) (c : Dev nD) (bd : Option 𝒱.V) (E : Set ℕ)

/-- The body over the buffers `A`. -/
def bodyP (i : grid0.Coords) (A : Bufs) : Prog (TpuEff nD τ sig (Elt F) Λ₀ .tc) Unit :=
  cc0_quant_matmul (F := F) i A.bmAll A.bmAllW A.bm A.bmW A.xHbm A.xHbmW A.wHbm A.wHbmW A.y A.yW A.cn A.cnW A.ck A.ckW A.sb A.sbW A.st A.stW A.x A.xW A.w0 A.w0W A.w1 A.w1W A.wd0 A.wd0W A.wd1 A.wd1W A.tab A.tabW A.e A.eW A.stS A.stSW A.xSem A.wSem

/-- The semaphore of the first strip buffer. -/
def Bufs.sem0 (A : Bufs) : DmaSem sig := ((A.wSem.slice (Rect.unit (s := S2) ![0] S1.size inb_S2_S1_0)).squeeze S_ squeezes_S1_S_).sem
/-- The semaphore of the second strip buffer. -/
def Bufs.sem1 (A : Bufs) : DmaSem sig := ((A.wSem.slice (Rect.unit (s := S2) ![1] S1.size inb_S2_S1_1)).squeeze S_ squeezes_S1_S_).sem

/-- Strip `a`'s first column of block maxima within its group of eight strips: sixteen times the remainder of `a` by eight. -/
def colW (a : BitVec 32) : BitVec 32 :=
  let v9 : BitVec 32 := Scalar.select (Scalar.cmpi .eq 8#32 0#32) 1#32 8#32
  let v10 : BitVec 32 := Scalar.remsi a v9
  Scalar.muli (Scalar.select (Scalar.andi (Scalar.xori (Scalar.cmpi .slt v10 0#32) (Scalar.cmpi .slt v9 0#32)) (Scalar.cmpi .ne v10 0#32)) (Scalar.addi v10 v9) v10) 16#32

/-- The lane each threshold of strip `a` is gathered from, before the half's offset. -/
def baseV (a : BitVec 32) : IVec S8x128 32 := k0_pay1 (iota .tc S8x128 32 [1] iota_S8x128_d1_w32) (colW a) 16#32 k0_pay230 k0_pay231

/-- The scales as they are written out. -/
def sbS (st : Elt F .f32) (B : S256x128.Idx → Elt F .f32) : S256x128.Idx → Elt F .fp8e4m3 := k0_pay229 st B

/-- A buffer of some contents. -/
abbrev Some' {sp : Space} {s : Shape} {e : EltTy} (m : Memref sig .tc sp s e) : sProp 𝕄 := iprop(∃ d, owns (c : Thread nD τ) m fullShare d)

/-- A semaphore at zero. -/
abbrev Zero' (sm : DmaSem sig) : sProp 𝕄 := iprop(semVal ((c : Thread nD τ), SemLoc.dma sm) 0)

theorem some_known {sp : Space} {s : Shape} {e : EltTy} (m : Memref sig .tc sp s e) (X : s.Idx → Elt F e) : Some' c m ⊢ (Known c m (fun _ => False) X : sProp 𝕄) := by
  iintro ⟨%d, H⟩
  iapply (known_none c X d) $$ H

/-- What holds once the next strip has been started, where there is one. -/
def Started (b : Prop) [Decidable b] (sm : DmaSem sig) (w : Memref sig .tc .vmem S4096x256 .bf16) (wHbm : Memref sig .tc .hbm S4096x14336 .bf16)
    (fs : Buf (Elt F) (wHbm.view.loc (c : Thread nD τ))) (j : ℕ) : sProp 𝕄 :=
  if b then StripFlying c sm w wHbm fs j else iprop(Some' c w ∗ HbmW c wHbm fs ∗ Zero' c sm)

/-- The start of the next strip, where there is one. -/
theorem maybe_start {α : Type} {Q : α → sProp 𝕄} (b : Prop) [Decidable b] {sm : DmaSem sig} {w : Memref sig .tc .vmem S4096x256 .bf16} {wHbm : Memref sig .tc .hbm S4096x14336 .bf16}
    {o : Fin 2 → ℕ} {h : b → ∀ a, o a + S4096x256.size a ≤ S4096x14336.size a}
    {hsrc : ∀ hb : b, (wHbm.slice (Rect.unit (s := S4096x14336) o S4096x256.size (h hb)) (fun _ => rfl)).view.WordExact} {hdst : b → (DmaTarget.here (nD := nD) (τ := τ) (p := .tc) w).view.WordExact}
    {hsem : b → DmaTarget.Typed (nD := nD) (τ := τ) (p := .tc) .hbm (.dma sm) (.here w)}
    {β : Type} {K : Prog (TpuEff nD τ sig (Elt F) Λ₀ .tc) β} {k : β → Prog (TpuEff nD τ sig (Elt F) Λ₀ .tc) α} {fs : Buf (Elt F) (wHbm.view.loc (c : Thread nD τ))}
    (j : ℕ) (ho : b → o = ![0, 256 * j]) (hN : 0 < w.view.dmaCredit) :
    iprop(Some' c w ∗ HbmW c wHbm fs ∗ Zero' c sm)
      ⊢ iprop((Started c b sm w wHbm fs j -∗ wpk 𝒱 c bd Set.univ (K >>= k) Q)
          -∗ wpk 𝒱 c bd Set.univ ((if hb : b then (.op (.enqueueDmaAs (wHbm.slice (Rect.unit (s := S4096x14336) o S4096x256.size (h hb)) (fun _ => rfl)) (.here w) .same (.dma sm) (hsrc hb) (hdst hb) (hsem hb)) fun _ => K) else K) >>= k) Q) := by
  by_cases hb : b
  · rw [dif_pos hb]
    unfold Started
    rw [if_pos hb]
    iintro ⟨Hw, Hh, Hv⟩ Hk
    ihave Hw' := (some_known c w (stripV (wHbm.view.read (Elt F) fs) j)) $$ Hw
    iapply (strip_start 𝒱 c bd j (ho hb) hN) $$ [Hw' Hh Hv]
    · isplitl [Hw']; · iexact Hw'
      isplitl [Hh]; · iexact Hh
      iexact Hv
    iintro Hf
    iapply Hk $$ Hf
  · rw [dif_neg hb]
    unfold Started
    rw [if_neg hb]
    iintro H Hk
    iapply Hk $$ H

/-- A scalar read back. -/
theorem first_known {m : Memref sig .tc .smem S1 .f32} (st : Elt F .f32) (h1 : _) (h2 : _) {α : Type} {Q : α → sProp 𝕄} {k : Elt F .f32 → Prog (TpuEff nD τ sig (Elt F) Λ₀ .tc) α} :
    Known c m (fun _ => True) (fun _ => st) ⊢ iprop((Known c m (fun _ => True) (fun _ => st) -∗ wpk 𝒱 c bd E (k st) Q)
      -∗ wpk 𝒱 c bd E (smemLoad m (Rect.unit (s := S1) ![0] S1.size inb_S1_S1_0) h1 h2 >>= k) Q) := by
  iintro H Hk
  iapply (wp_load_known 𝒱 c bd E (fun _ => st) (fun _ => ⟨trivial, rfl⟩)) $$ H
  iintro H
  iapply Hk $$ H

/-- A strip before its first tile. -/
theorem tile_start (w wd : Memref sig .tc .vmem S4096x256 .bf16) (tab : Memref sig .tc .vmem S10x2x256x128 .f32) (e : Memref sig .tc .vmem S2x2x128x128 .i32)
    (ck : Memref sig .tc .vmem S256x2048 .i8) (cn : Memref sig .tc .vmem S4096x128 .i8) (W : S4096x256.Idx → Elt F .bf16) (T : S10x2x256x128.Idx → Elt F .f32) :
    iprop(Known c w (fun _ => True) W ∗ Known c tab (fun _ => True) T ∗ Some' c wd ∗ Some' c e ∗ Some' c ck ∗ Some' c cn) ⊢ (tileInv c w wd tab e ck cn W T 0 : sProp 𝕄) := by
  unfold tileInv
  iintro ⟨Hw, Ht, Hwd, He, Hck, Hcn⟩
  isplitl [Hw]; · iexact Hw
  isplitl [Ht]; · iexact Ht
  isplitl [Hwd]
  · iapply ((some_known c wd (deqS W T)).trans (known_mono c fun i hi => absurd hi (by omega))) $$ Hwd
  isplitl [He]; · iexact He
  isplitl [Hck]
  · iapply ((some_known c ck (ckS W T)).trans (known_mono c fun i hi => absurd hi (by omega))) $$ Hck
  · iapply ((some_known c cn (cnS W T)).trans (known_mono c fun i hi => absurd hi (by omega))) $$ Hcn

/-- A strip after its last tile. -/
theorem tile_end (w wd : Memref sig .tc .vmem S4096x256 .bf16) (tab : Memref sig .tc .vmem S10x2x256x128 .f32) (e : Memref sig .tc .vmem S2x2x128x128 .i32)
    (ck : Memref sig .tc .vmem S256x2048 .i8) (cn : Memref sig .tc .vmem S4096x128 .i8) (W : S4096x256.Idx → Elt F .bf16) (T : S10x2x256x128.Idx → Elt F .f32) {n : ℕ} (hn : n = 16) :
    (tileInv c w wd tab e ck cn W T n : sProp 𝕄) ⊢ iprop(Some' c w ∗ Some' c tab ∗ Known c wd (fun _ => True) (deqS W T) ∗ Some' c e
      ∗ owns (c : Thread nD τ) ck fullShare (ckS W T) ∗ owns (c : Thread nD τ) cn fullShare (cnS W T)) := by
  subst hn
  unfold tileInv
  iintro ⟨Hw, Ht, Hwd, He, Hck, Hcn⟩
  isplitl [Hw]; · iapply (owns_any_of_known c _ _) $$ Hw
  isplitl [Ht]; · iapply (owns_any_of_known c _ _) $$ Ht
  isplitl [Hwd]
  · iapply (known_mono c (P := fun i : S4096x256.Idx => (i 0).val < 256 * 16) fun i _ => ⟨(i 0).isLt, rfl⟩) $$ Hwd
  isplitl [He]; · iexact He
  isplitl [Hck]
  · iapply (owns_of_known c _ (fun i : S256x2048.Idx => (i 1).val < 128 * 16) fun i => (i 1).isLt) $$ Hck
  · iapply (owns_of_known c _ (fun i : S4096x128.Idx => (i 0).val < 256 * 16) fun i => (i 0).isLt) $$ Hcn

/-- All the block maxima read. -/
theorem bm_read (B : S256x128.Idx → Elt F .f32) (y : S256x128.Idx) : B ((Rect.unit (s := S256x128) ![0, 0] S256x128.size inb_S256x128_S256x128_0_0).toLoadRect.idx y) = B y := by
  refine congrArg B (funext fun a => Fin.ext ?_)
  fin_cases a
  · show 0 + 1 * (y 0).val = (y 0).val; omega
  · show 0 + 1 * (y 1).val = (y 1).val; omega

/-- The scales stored are the scales. -/
theorem sb_store (st : Elt F .f32) (B : S256x128.Idx → Elt F .f32) (y i : S256x128.Idx) (hi : ∀ a, (i a).val = (![0, 0] : Fin 2 → ℕ) a + (y a).val) : sbS st B y = sbS st B i := by
  refine congrArg (sbS st B) (funext fun a => Fin.ext ?_)
  have := hi a
  fin_cases a
  · have h : (i 0).val = 0 + (y 0).val := this
    show (y 0).val = (i 0).val; omega
  · have h : (i 1).val = 0 + (y 1).val := this
    show (y 1).val = (i 1).val; omega

theorem sb_all (i : S256x128.Idx) (a : Fin 2) : (![0, 0] : Fin 2 → ℕ) a ≤ (i a).val ∧ (i a).val < (![0, 0] : Fin 2 → ℕ) a + S256x128.size a := by
  fin_cases a
  · exact ⟨Nat.zero_le _, by have h : (i 0).val < 256 := (i 0).isLt; show (i 0).val < 0 + 256; omega⟩
  · exact ⟨Nat.zero_le _, by have h : (i 1).val < 128 := (i 1).isLt; show (i 1).val < 0 + 128; omega⟩

end Cert.Kernel.Body

end
-- ==== Proof.Body.First.lean ====
/-
  The body at the first grid point

  The activations and the first two strips are started, the global scale is taken, and the first strip is quantised.
-/
module

public import proofs.«01_k».proof.Proof.Body.Point

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (𝒱 : Variants) (c : Dev nD) (bd : Option 𝒱.V) (E : Set ℕ)

/-- All the block maxima of every group read. -/
theorem bmAll_read (B : S256x896.Idx → Elt F .f32) (y : S256x896.Idx) : B ((Rect.unit (s := S256x896) ![0, 0] S256x896.size inb_S256x896_S256x896_0_0).toLoadRect.idx y) = B y := by
  refine congrArg B (funext fun a => Fin.ext ?_)
  fin_cases a
  · show 0 + 1 * (y 0).val = (y 0).val; omega
  · show 0 + 1 * (y 1).val = (y 1).val; omega

theorem one_all (i : S1.Idx) (a : Fin 1) : (![0] : Fin 1 → ℕ) a ≤ (i a).val ∧ (i a).val < (![0] : Fin 1 → ℕ) a + S1.size a := by
  fin_cases a
  exact ⟨Nat.zero_le _, by have h : (i 0).val < 1 := (i 0).isLt; show (i 0).val < 0 + 1; omega⟩

/-- The body at the first grid point. -/
theorem first_run (i : grid0.Coords) (A : Bufs) (h1 : k0_cond1 i = 1#1) (h2 : k0_cond2 i = 1#1) (h3 : ¬ k0_cond3 i = 1#1) (h5 : ¬ k0_cond5 i = 1#1)
    (M : S256x896.Idx → Elt F .f32) (B : S256x128.Idx → Elt F .f32) (fx : Buf (Elt F) (A.xHbm.view.loc (c : Thread nD τ))) (fs : Buf (Elt F) (A.wHbm.view.loc (c : Thread nD τ)))
    (hN0 : 0 < A.w0.view.dmaCredit) (hN1 : 0 < A.w1.view.dmaCredit) (hNx : 0 < A.x.view.dmaCredit) :
    iprop(Known c A.bmAll (fun _ => True) M ∗ Known c A.bm (fun _ => True) B ∗ Some' c A.cn ∗ Some' c A.ck ∗ Some' c A.sb ∗ Some' c A.st ∗ Some' c A.x ∗ Some' c A.w0 ∗ Some' c A.w1 ∗ Some' c A.wd0
        ∗ Some' c A.tab ∗ Some' c A.e ∗ Some' c A.stS ∗ (A.xHbm.view.loc (c : Thread nD τ) ↦[A.xHbm.view.set]{fullShare} fx) ∗ HbmW c A.wHbm fs
        ∗ Zero' c A.xSem.sem ∗ Zero' c A.sem0 ∗ Zero' c A.sem1 ∗ Quiet c)
      ⊢ wpk 𝒱 c bd Set.univ (bodyP (F := F) i A) (fun _ =>
        iprop(Known c A.bmAll (fun _ => True) M ∗ Known c A.bm (fun _ => True) B
          ∗ owns (c : Thread nD τ) A.cn fullShare (cnS (stripV (A.wHbm.view.read (Elt F) fs) 0) (tabS (k0_pay232 M) (baseV (BitVec.ofNat 32 (i 0).val)) B)) ∗ owns (c : Thread nD τ) A.ck fullShare (ckS (stripV (A.wHbm.view.read (Elt F) fs) 0) (tabS (k0_pay232 M) (baseV (BitVec.ofNat 32 (i 0).val)) B)) ∗ owns (c : Thread nD τ) A.sb fullShare (sbS (k0_pay232 M) B)
          ∗ owns (c : Thread nD τ) A.st fullShare (fun _ => k0_pay232 M)
          ∗ Known c A.x (fun _ => True) (A.xHbm.view.read (Elt F) fx) ∗ Some' c A.w0 ∗ StripFlying c A.sem1 A.w1 A.wHbm fs 1 ∗ Known c A.wd0 (fun _ => True) (deqS (stripV (A.wHbm.view.read (Elt F) fs) 0) (tabS (k0_pay232 M) (baseV (BitVec.ofNat 32 (i 0).val)) B))
          ∗ Some' c A.tab ∗ Some' c A.e ∗ Known c A.stS (fun _ => True) (fun _ => k0_pay232 M)
          ∗ (A.xHbm.view.loc (c : Thread nD τ) ↦[A.xHbm.view.set]{fullShare} fx) ∗ Zero' c A.xSem.sem ∗ Zero' c A.sem0 ∗ Quiet c)) := by
  unfold bodyP
  simp only [cc0_quant_matmul_eq_skeleton, cc0_quant_matmul_skel, k0_part49_eq_skeleton, k0_part49_skel, k0_part16_eq_skeleton, k0_part16_skel, dif_pos h1, dif_pos h2, dif_neg h3, dif_neg h5, bind_assoc, pure_bind]
  iintro ⟨HM, Hbm, Hcn, Hck, Hsb, Hst, Hx, Hw0, Hw1, Hwd, Htab, He, HstS, Hhx, Hh, Hsx, Hs0, Hs1, HQ⟩
  ihave Hw0 := (some_known c A.w0 (stripV (A.wHbm.view.read (Elt F) fs) 0)) $$ Hw0
  ihave Hw1 := (some_known c A.w1 (stripV (A.wHbm.view.read (Elt F) fs) 0)) $$ Hw1
  ihave Hx := (some_known c A.x (A.xHbm.view.read (Elt F) fx)) $$ Hx
  iapply (strip_start 𝒱 c bd 0 rfl hN0) $$ [Hw0 Hh Hs0]
  · isplitl [Hw0]; · iexact Hw0
    isplitl [Hh]; · iexact Hh
    iexact Hs0
  iintro Hfly0
  iapply (copy_start 𝒱 c bd _ rfl hNx) $$ [Hx Hhx Hsx]
  · isplitl [Hx]; · iexact Hx
    isplitl [Hhx]; · iexact Hhx
    iexact Hsx
  iintro Hflyx
  iapply (wp_load_known 𝒱 c bd Set.univ M (fun y => ⟨trivial, bmAll_read M y⟩)) $$ HM
  iintro HM
  ihave HstS := (some_known c A.stS (fun _ => k0_pay232 M)) $$ HstS
  iapply (wp_load_any 𝒱 c bd Set.univ) $$ HstS
  iintro %v1 HstS
  iapply (wp_store_known 𝒱 c bd Set.univ (fun _ => True) (off' := ![0]) rfl (fun y i hi => rfl) (fun i _ => Or.inr (one_all i))) $$ HstS
  iintro HstS
  ihave Hst := (some_known c A.st (fun _ => k0_pay232 M)) $$ Hst
  iapply (wp_load_any 𝒱 c bd Set.univ) $$ Hst
  iintro %v2 Hst
  iapply (wp_store_known 𝒱 c bd Set.univ (fun _ => True) (off' := ![0]) rfl (fun y i hi => rfl) (fun i _ => Or.inr (one_all i))) $$ Hst
  iintro Hst
  iapply (first_known 𝒱 c bd Set.univ (k0_pay232 M) numel1_S1 rfl) $$ HstS
  iintro HstS
  iapply (strip_wait 𝒱 c bd) $$ [Hfly0 HQ]
  · isplitl [Hfly0]; · iexact Hfly0
    iexact HQ
  iintro ⟨Hw0, Hh, Hs0, HQ⟩
  iapply (strip_start 𝒱 c bd 1 rfl hN1) $$ [Hw1 Hh Hs1]
  · isplitl [Hw1]; · iexact Hw1
    isplitl [Hh]; · iexact Hh
    iexact Hs1
  iintro Hfly1
  iapply (wp_load_known 𝒱 c bd Set.univ B (fun y => ⟨trivial, bm_read B y⟩)) $$ Hbm
  iintro Hbm
  ihave Hsb := (some_known c A.sb (sbS (k0_pay232 M) B)) $$ Hsb
  iapply (wp_load_any 𝒱 c bd Set.univ) $$ Hsb
  iintro %vsb Hsb
  iapply (wp_store_known 𝒱 c bd Set.univ (fun _ => True) (off' := ![0, 0]) rfl (fun y i hi => sb_store (k0_pay232 M) B y i hi) (fun i _ => Or.inr (sb_all i))) $$ Hsb
  iintro Hsb
  ihave Htab := (some_known c A.tab (tabS (k0_pay232 M) (baseV (BitVec.ofNat 32 (i 0).val)) B)) $$ Htab
  ihave Htab := (known_mono c (P' := fun i : S10x2x256x128.Idx => (i 2).val < 8 * 0) fun i hi => absurd hi (by omega)) $$ Htab
  iapply (wp_loop 𝒱 c bd Set.univ (tableInv c A.bm A.tab (k0_pay232 M) (baseV (BitVec.ofNat 32 (i 0).val)) B) (fun t => t1_run 𝒱 c bd Set.univ i A (k0_pay232 M) h2 _ _ _ _ _ _ B t)) $$ [Hbm Htab]
  · unfold tableInv
    isplitl [Hbm]; · iexact Hbm
    iexact Htab
  iintro HT
  unfold tableInv
  icases HT with ⟨Hbm, Htab⟩
  ihave Htab := (known_mono c (P := fun i : S10x2x256x128.Idx => (i 2).val < 8 * k0_t1_loop.trips) (P' := fun _ => True) fun i _ => ⟨by rw [show k0_t1_loop.trips = 32 by decide]; exact (i 2).isLt, rfl⟩) $$ Htab
  ihave HI := (tile_start c A.w0 A.wd0 A.tab A.e A.ck A.cn (stripV (A.wHbm.view.read (Elt F) fs) 0) (tabS (k0_pay232 M) (baseV (BitVec.ofNat 32 (i 0).val)) B)) $$ [Hw0 Htab Hwd He Hck Hcn]
  · isplitl [Hw0]; · iexact Hw0
    isplitl [Htab]; · iexact Htab
    isplitl [Hwd]; · iexact Hwd
    isplitl [He]; · iexact He
    isplitl [Hck]; · iexact Hck
    iexact Hcn
  iapply (wp_loop 𝒱 c bd Set.univ (tileInv c A.w0 A.wd0 A.tab A.e A.ck A.cn (stripV (A.wHbm.view.read (Elt F) fs) 0) (tabS (k0_pay232 M) (baseV (BitVec.ofNat 32 (i 0).val)) B)) (fun t => by rw [t2_eq]; exact t2_run 𝒱 c bd Set.univ i A h2 _ _ t)) $$ HI
  iintro HI
  ihave HI' := (tile_end c A.w0 A.wd0 A.tab A.e A.ck A.cn (stripV (A.wHbm.view.read (Elt F) fs) 0) (tabS (k0_pay232 M) (baseV (BitVec.ofNat 32 (i 0).val)) B) (show k0_t2_loop.trips = 16 by decide)) $$ HI
  icases HI' with ⟨Hw0, Htab, Hwd, He, Hck, Hcn⟩
  iapply (copy_wait 𝒱 c bd) $$ [Hflyx HQ]
  · isplitl [Hflyx]; · iexact Hflyx
    iexact HQ
  iintro ⟨Hx, Hhx, Hsx, HQ⟩
  iapply (wpk_pure 𝒱 c bd Set.univ)
  isplitl [HM]; · iexact HM
  isplitl [Hbm]; · iexact Hbm
  isplitl [Hcn]; · iexact Hcn
  isplitl [Hck]; · iexact Hck
  isplitl [Hsb]; · iapply (owns_of_known c _ (fun _ => True) fun _ => trivial) $$ Hsb
  isplitl [Hst]; · iapply (owns_of_known c _ (fun _ => True) fun _ => trivial) $$ Hst
  isplitl [Hx]; · iexact Hx
  isplitl [Hw0]; · iexact Hw0
  isplitl [Hfly1]; · iexact Hfly1
  isplitl [Hwd]; · iexact Hwd
  isplitl [Htab]; · iexact Htab
  isplitl [He]; · iexact He
  isplitl [HstS]; · iexact HstS
  isplitl [Hhx]; · iexact Hhx
  isplitl [Hsx]; · iexact Hsx
  isplitl [Hs0]; · iexact Hs0
  iexact HQ

end Cert.Kernel.Body

end
-- ==== Proof.Body.Even.lean ====
/-
  The body at a later even grid point

  The strip in the first buffer is quantised while the product of the strip before is taken.
-/
module

public import proofs.«01_k».proof.Proof.Body.Point

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (𝒱 : Variants) (c : Dev nD) (bd : Option 𝒱.V) (E : Set ℕ)

/-- The body at a later even grid point. -/
theorem even_run (i : grid0.Coords) (A : Bufs) (h1 : ¬ k0_cond1 i = 1#1) (h2 : ¬ k0_cond2 i = 1#1) (h3 : k0_cond3 i = 1#1) (h5 : ¬ k0_cond5 i = 1#1)
    (st : Elt F .f32) (B : S256x128.Idx → Elt F .f32) (X : S1920x4096.Idx → Elt F .bf16) (D : S4096x256.Idx → Elt F .bf16) (fs : Buf (Elt F) (A.wHbm.view.loc (c : Thread nD τ)))
    (j n : ℕ) (ho : k0_cond4 i = 1#1 → k0_off56 i = ![0, 256 * n]) (hN : 0 < A.w1.view.dmaCredit) :
    iprop(Known c A.bm (fun _ => True) B ∗ Known c A.stS (fun _ => True) (fun _ => st) ∗ Known c A.x (fun _ => True) X ∗ Known c A.wd1 (fun _ => True) D
        ∗ StripFlying c A.sem0 A.w0 A.wHbm fs j ∗ Some' c A.w1 ∗ Some' c A.wd0 ∗ Some' c A.tab ∗ Some' c A.e ∗ Some' c A.y ∗ Some' c A.cn ∗ Some' c A.ck ∗ Some' c A.sb
        ∗ Zero' c A.sem1 ∗ Quiet c)
      ⊢ wpk 𝒱 c bd Set.univ (bodyP (F := F) i A) (fun _ =>
        iprop(Known c A.bm (fun _ => True) B ∗ Known c A.stS (fun _ => True) (fun _ => st) ∗ Known c A.x (fun _ => True) X ∗ Some' c A.wd1
          ∗ Started c (k0_cond4 i = 1#1) A.sem1 A.w1 A.wHbm fs n ∗ Some' c A.w0
          ∗ Known c A.wd0 (fun _ => True) (deqS (stripV (A.wHbm.view.read (Elt F) fs) j) (tabS st (baseV (Scalar.minsi (BitVec.ofNat 32 (i 0).val) 55#32)) B))
          ∗ Some' c A.tab ∗ Some' c A.e ∗ owns (c : Thread nD τ) A.y fullShare (yS st X D)
          ∗ owns (c : Thread nD τ) A.cn fullShare (cnS (stripV (A.wHbm.view.read (Elt F) fs) j) (tabS st (baseV (Scalar.minsi (BitVec.ofNat 32 (i 0).val) 55#32)) B))
          ∗ owns (c : Thread nD τ) A.ck fullShare (ckS (stripV (A.wHbm.view.read (Elt F) fs) j) (tabS st (baseV (Scalar.minsi (BitVec.ofNat 32 (i 0).val) 55#32)) B))
          ∗ owns (c : Thread nD τ) A.sb fullShare (sbS st B) ∗ Zero' c A.sem0 ∗ Quiet c)) := by
  unfold bodyP
  simp only [cc0_quant_matmul_eq_skeleton, cc0_quant_matmul_skel, k0_part49_eq_skeleton, k0_part49_skel, k0_part32_eq_skeleton, k0_part32_skel, dif_neg h1, dif_neg h2, dif_pos h3, dif_neg h5, bind_assoc, pure_bind]
  iintro ⟨Hbm, Hst, Hx, HD, Hfly, Hwb, Hda, Htab, He, Hy, Hcn, Hck, Hsb, Hsem, HQ⟩
  iapply (first_known 𝒱 c bd Set.univ st) $$ Hst
  iintro Hst
  iapply (strip_wait 𝒱 c bd) $$ [Hfly HQ]
  · isplitl [Hfly]; · iexact Hfly
    iexact HQ
  iintro ⟨Hwa, Hh, Hsem', HQ⟩
  iapply (maybe_start 𝒱 c bd (k0_cond4 i = 1#1) n ho hN) $$ [Hwb Hh Hsem]
  · isplitl [Hwb]; · iexact Hwb
    isplitl [Hh]; · iexact Hh
    iexact Hsem
  iintro Hnext
  iapply (wp_load_known 𝒱 c bd Set.univ B (fun y => ⟨trivial, bm_read B y⟩)) $$ Hbm
  iintro Hbm
  ihave Hsb := (some_known c A.sb (sbS st B)) $$ Hsb
  iapply (wp_load_any 𝒱 c bd Set.univ) $$ Hsb
  iintro %vsb Hsb
  iapply (wp_store_known 𝒱 c bd Set.univ (fun _ => True) (off' := ![0, 0]) rfl (fun y i hi => sb_store st B y i hi) (fun i _ => Or.inr (sb_all i))) $$ Hsb
  iintro Hsb
  ihave Htab := (some_known c A.tab (tabS st (baseV (Scalar.minsi (BitVec.ofNat 32 (i 0).val) 55#32)) B)) $$ Htab
  ihave Htab := (known_mono c (P' := fun i : S10x2x256x128.Idx => (i 2).val < 8 * 0) fun i hi => absurd hi (by omega)) $$ Htab
  iapply (wp_loop 𝒱 c bd Set.univ (tableInv c A.bm A.tab st (baseV (Scalar.minsi (BitVec.ofNat 32 (i 0).val) 55#32)) B) (fun t => t5_run 𝒱 c bd Set.univ i A st _ _ _ _ _ _ B t)) $$ [Hbm Htab]
  · unfold tableInv
    isplitl [Hbm]; · iexact Hbm
    iexact Htab
  iintro HT
  unfold tableInv
  icases HT with ⟨Hbm, Htab⟩
  ihave Htab := (known_mono c (P := fun i : S10x2x256x128.Idx => (i 2).val < 8 * k0_t5_loop.trips) (P' := fun _ => True) fun i _ => ⟨by rw [show k0_t5_loop.trips = 32 by decide]; exact (i 2).isLt, rfl⟩) $$ Htab
  ihave Hy := (some_known c A.y (yS st X D)) $$ Hy
  ihave Hy := (known_mono c (P' := fun i : S1920x256.Idx => (i 0).val < 240 * 0) fun i hi => absurd hi (by omega)) $$ Hy
  ihave HI := (tile_start c A.w0 A.wd0 A.tab A.e A.ck A.cn (stripV (A.wHbm.view.read (Elt F) fs) j) (tabS st (baseV (Scalar.minsi (BitVec.ofNat 32 (i 0).val) 55#32)) B)) $$ [Hwa Htab Hda He Hck Hcn]
  · isplitl [Hwa]; · iexact Hwa
    isplitl [Htab]; · iexact Htab
    isplitl [Hda]; · iexact Hda
    isplitl [He]; · iexact He
    isplitl [Hck]; · iexact Hck
    iexact Hcn
  iapply (wp_loop 𝒱 c bd Set.univ (chunkInv c A.x A.wd1 A.y st A.w0 A.wd0 A.tab A.e A.ck A.cn X D (stripV (A.wHbm.view.read (Elt F) fs) j) (tabS st (baseV (Scalar.minsi (BitVec.ofNat 32 (i 0).val) 55#32)) B)) (fun t => t6_run 𝒱 c bd Set.univ i A st _ X D _ _ t)) $$ [Hx HD Hy HI]
  · unfold chunkInv
    isplitl [Hx]; · iexact Hx
    isplitl [HD]; · iexact HD
    isplitl [Hy]; · iexact Hy
    iexact HI
  iintro HC
  unfold chunkInv
  icases HC with ⟨Hx, HD, Hy, HI⟩
  ihave HI' := (tile_end c A.w0 A.wd0 A.tab A.e A.ck A.cn (stripV (A.wHbm.view.read (Elt F) fs) j) (tabS st (baseV (Scalar.minsi (BitVec.ofNat 32 (i 0).val) 55#32)) B) (show 2 * k0_t6_loop.trips = 16 by decide)) $$ HI
  icases HI' with ⟨Hwa, Htab, Hda, He, Hck, Hcn⟩
  iapply (wpk_pure 𝒱 c bd Set.univ)
  isplitl [Hbm]; · iexact Hbm
  isplitl [Hst]; · iexact Hst
  isplitl [Hx]; · iexact Hx
  isplitl [HD]; · iapply (owns_any_of_known c _ _) $$ HD
  isplitl [Hnext]; · iexact Hnext
  isplitl [Hwa]; · iexact Hwa
  isplitl [Hda]; · iexact Hda
  isplitl [Htab]; · iexact Htab
  isplitl [He]; · iexact He
  isplitl [Hy]; · iapply (owns_of_known c _ (fun i : S1920x256.Idx => (i 0).val < 240 * k0_t6_loop.trips) fun i => by rw [show k0_t6_loop.trips = 8 by decide]; exact (i 0).isLt) $$ Hy
  isplitl [Hcn]; · iexact Hcn
  isplitl [Hck]; · iexact Hck
  isplitl [Hsb]; · iapply (owns_of_known c _ (fun _ => True) fun _ => trivial) $$ Hsb
  isplitl [Hsem']; · iexact Hsem'
  iexact HQ

end Cert.Kernel.Body

end
-- ==== Proof.Body.Odd.lean ====
/-
  The body at an odd grid point

  The strip in the second buffer is quantised while the product of the strip before is taken.
-/
module

public import proofs.«01_k».proof.Proof.Body.Point

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (𝒱 : Variants) (c : Dev nD) (bd : Option 𝒱.V) (E : Set ℕ)

/-- The body at an odd grid point. -/
theorem odd_run (i : grid0.Coords) (A : Bufs) (h1 : ¬ k0_cond1 i = 1#1) (h2 : ¬ k0_cond2 i = 1#1) (h3 : ¬ k0_cond3 i = 1#1) (h5 : k0_cond5 i = 1#1)
    (st : Elt F .f32) (B : S256x128.Idx → Elt F .f32) (X : S1920x4096.Idx → Elt F .bf16) (D : S4096x256.Idx → Elt F .bf16) (fs : Buf (Elt F) (A.wHbm.view.loc (c : Thread nD τ)))
    (j n : ℕ) (ho : k0_cond6 i = 1#1 → k0_off114 i = ![0, 256 * n]) (hN : 0 < A.w0.view.dmaCredit) :
    iprop(Known c A.bm (fun _ => True) B ∗ Known c A.stS (fun _ => True) (fun _ => st) ∗ Known c A.x (fun _ => True) X ∗ Known c A.wd0 (fun _ => True) D
        ∗ StripFlying c A.sem1 A.w1 A.wHbm fs j ∗ Some' c A.w0 ∗ Some' c A.wd1 ∗ Some' c A.tab ∗ Some' c A.e ∗ Some' c A.y ∗ Some' c A.cn ∗ Some' c A.ck ∗ Some' c A.sb
        ∗ Zero' c A.sem0 ∗ Quiet c)
      ⊢ wpk 𝒱 c bd Set.univ (bodyP (F := F) i A) (fun _ =>
        iprop(Known c A.bm (fun _ => True) B ∗ Known c A.stS (fun _ => True) (fun _ => st) ∗ Known c A.x (fun _ => True) X ∗ Some' c A.wd0
          ∗ Started c (k0_cond6 i = 1#1) A.sem0 A.w0 A.wHbm fs n ∗ Some' c A.w1
          ∗ Known c A.wd1 (fun _ => True) (deqS (stripV (A.wHbm.view.read (Elt F) fs) j) (tabS st (baseV (Scalar.minsi (BitVec.ofNat 32 (i 0).val) 55#32)) B))
          ∗ Some' c A.tab ∗ Some' c A.e ∗ owns (c : Thread nD τ) A.y fullShare (yS st X D)
          ∗ owns (c : Thread nD τ) A.cn fullShare (cnS (stripV (A.wHbm.view.read (Elt F) fs) j) (tabS st (baseV (Scalar.minsi (BitVec.ofNat 32 (i 0).val) 55#32)) B))
          ∗ owns (c : Thread nD τ) A.ck fullShare (ckS (stripV (A.wHbm.view.read (Elt F) fs) j) (tabS st (baseV (Scalar.minsi (BitVec.ofNat 32 (i 0).val) 55#32)) B))
          ∗ owns (c : Thread nD τ) A.sb fullShare (sbS st B) ∗ Zero' c A.sem1 ∗ Quiet c)) := by
  unfold bodyP
  simp only [cc0_quant_matmul_eq_skeleton, cc0_quant_matmul_skel, k0_part49_eq_skeleton, k0_part49_skel, k0_part48_eq_skeleton, k0_part48_skel, dif_neg h1, dif_neg h2, dif_neg h3, dif_pos h5, bind_assoc, pure_bind]
  iintro ⟨Hbm, Hst, Hx, HD, Hfly, Hwb, Hda, Htab, He, Hy, Hcn, Hck, Hsb, Hsem, HQ⟩
  iapply (first_known 𝒱 c bd Set.univ st) $$ Hst
  iintro Hst
  iapply (strip_wait 𝒱 c bd) $$ [Hfly HQ]
  · isplitl [Hfly]; · iexact Hfly
    iexact HQ
  iintro ⟨Hwa, Hh, Hsem', HQ⟩
  iapply (maybe_start 𝒱 c bd (k0_cond6 i = 1#1) n ho hN) $$ [Hwb Hh Hsem]
  · isplitl [Hwb]; · iexact Hwb
    isplitl [Hh]; · iexact Hh
    iexact Hsem
  iintro Hnext
  iapply (wp_load_known 𝒱 c bd Set.univ B (fun y => ⟨trivial, bm_read B y⟩)) $$ Hbm
  iintro Hbm
  ihave Hsb := (some_known c A.sb (sbS st B)) $$ Hsb
  iapply (wp_load_any 𝒱 c bd Set.univ) $$ Hsb
  iintro %vsb Hsb
  iapply (wp_store_known 𝒱 c bd Set.univ (fun _ => True) (off' := ![0, 0]) rfl (fun y i hi => sb_store st B y i hi) (fun i _ => Or.inr (sb_all i))) $$ Hsb
  iintro Hsb
  ihave Htab := (some_known c A.tab (tabS st (baseV (Scalar.minsi (BitVec.ofNat 32 (i 0).val) 55#32)) B)) $$ Htab
  ihave Htab := (known_mono c (P' := fun i : S10x2x256x128.Idx => (i 2).val < 8 * 0) fun i hi => absurd hi (by omega)) $$ Htab
  iapply (wp_loop 𝒱 c bd Set.univ (tableInv c A.bm A.tab st (baseV (Scalar.minsi (BitVec.ofNat 32 (i 0).val) 55#32)) B) (fun t => t10_run 𝒱 c bd Set.univ i A st _ _ _ _ _ _ B t)) $$ [Hbm Htab]
  · unfold tableInv
    isplitl [Hbm]; · iexact Hbm
    iexact Htab
  iintro HT
  unfold tableInv
  icases HT with ⟨Hbm, Htab⟩
  ihave Htab := (known_mono c (P := fun i : S10x2x256x128.Idx => (i 2).val < 8 * k0_t10_loop.trips) (P' := fun _ => True) fun i _ => ⟨by rw [show k0_t10_loop.trips = 32 by decide]; exact (i 2).isLt, rfl⟩) $$ Htab
  ihave Hy := (some_known c A.y (yS st X D)) $$ Hy
  ihave Hy := (known_mono c (P' := fun i : S1920x256.Idx => (i 0).val < 240 * 0) fun i hi => absurd hi (by omega)) $$ Hy
  ihave HI := (tile_start c A.w1 A.wd1 A.tab A.e A.ck A.cn (stripV (A.wHbm.view.read (Elt F) fs) j) (tabS st (baseV (Scalar.minsi (BitVec.ofNat 32 (i 0).val) 55#32)) B)) $$ [Hwa Htab Hda He Hck Hcn]
  · isplitl [Hwa]; · iexact Hwa
    isplitl [Htab]; · iexact Htab
    isplitl [Hda]; · iexact Hda
    isplitl [He]; · iexact He
    isplitl [Hck]; · iexact Hck
    iexact Hcn
  iapply (wp_loop 𝒱 c bd Set.univ (chunkInv c A.x A.wd0 A.y st A.w1 A.wd1 A.tab A.e A.ck A.cn X D (stripV (A.wHbm.view.read (Elt F) fs) j) (tabS st (baseV (Scalar.minsi (BitVec.ofNat 32 (i 0).val) 55#32)) B)) (fun t => t11_run 𝒱 c bd Set.univ i A st _ X D _ _ t)) $$ [Hx HD Hy HI]
  · unfold chunkInv
    isplitl [Hx]; · iexact Hx
    isplitl [HD]; · iexact HD
    isplitl [Hy]; · iexact Hy
    iexact HI
  iintro HC
  unfold chunkInv
  icases HC with ⟨Hx, HD, Hy, HI⟩
  ihave HI' := (tile_end c A.w1 A.wd1 A.tab A.e A.ck A.cn (stripV (A.wHbm.view.read (Elt F) fs) j) (tabS st (baseV (Scalar.minsi (BitVec.ofNat 32 (i 0).val) 55#32)) B) (show 2 * k0_t11_loop.trips = 16 by decide)) $$ HI
  icases HI' with ⟨Hwa, Htab, Hda, He, Hck, Hcn⟩
  iapply (wpk_pure 𝒱 c bd Set.univ)
  isplitl [Hbm]; · iexact Hbm
  isplitl [Hst]; · iexact Hst
  isplitl [Hx]; · iexact Hx
  isplitl [HD]; · iapply (owns_any_of_known c _ _) $$ HD
  isplitl [Hnext]; · iexact Hnext
  isplitl [Hwa]; · iexact Hwa
  isplitl [Hda]; · iexact Hda
  isplitl [Htab]; · iexact Htab
  isplitl [He]; · iexact He
  isplitl [Hy]; · iapply (owns_of_known c _ (fun i : S1920x256.Idx => (i 0).val < 240 * k0_t11_loop.trips) fun i => by rw [show k0_t11_loop.trips = 8 by decide]; exact (i 0).isLt) $$ Hy
  isplitl [Hcn]; · iexact Hcn
  isplitl [Hck]; · iexact Hck
  isplitl [Hsb]; · iapply (owns_of_known c _ (fun _ => True) fun _ => trivial) $$ Hsb
  isplitl [Hsem']; · iexact Hsem'
  iexact HQ

end Cert.Kernel.Body

end
-- ==== Proof.Body.Data.lean ====
/-
  The grid's schedule and what the buffers hold at each point

  Which branch the body takes at a point, which strip it starts, and, for every result window, what the body leaves in it.
-/
module

public import proofs.«01_k».proof.Proof.Body.First
public import proofs.«01_k».proof.Proof.Body.Even
public import proofs.«01_k».proof.Proof.Body.Odd
public import proofs.«01_k».proof.Proof.Gen.Kernel.Frame
public import Idealize.ShloMosaic.Lib.Pipeline.TableIdle

@[expose] public section

set_option maxRecDepth 16384

noncomputable section

namespace Cert.Kernel.Body

open Cert.Kernel Cert.Kernel.Gen
open Idealize.ShloMosaic Idealize.ShloMosaic.TcCoe Idealize.ShloMosaic.Tactic
open Idealize.ShloMosaic.Rounds
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ### The schedule -/

theorem coord_val : ∀ t : Fin grid0.N, (grid0.coords t 0).val = t.val := by decide +kernel
theorem cond1_iff : ∀ t : Fin grid0.N, k0_cond1 (grid0.coords t) = 1#1 ↔ t.val = 0 := by decide +kernel
theorem cond2_iff : ∀ t : Fin grid0.N, k0_cond2 (grid0.coords t) = 1#1 ↔ t.val = 0 := by decide +kernel
theorem cond3_iff : ∀ t : Fin grid0.N, k0_cond3 (grid0.coords t) = 1#1 ↔ t.val ≠ 0 ∧ t.val % 2 = 0 := by decide +kernel
theorem cond5_iff : ∀ t : Fin grid0.N, k0_cond5 (grid0.coords t) = 1#1 ↔ t.val % 2 = 1 := by decide +kernel
theorem cond4_iff : ∀ t : Fin grid0.N, k0_cond4 (grid0.coords t) = 1#1 ↔ t.val < 56 := by decide +kernel
theorem cond6_iff : ∀ t : Fin grid0.N, k0_cond6 (grid0.coords t) = 1#1 ↔ t.val < 56 := by decide +kernel
theorem off56_eq : ∀ t : Fin grid0.N, k0_off56 (grid0.coords t) = ![0, 256 * min (t.val + 1) 55] := by decide +kernel
theorem off114_eq : ∀ t : Fin grid0.N, k0_off114 (grid0.coords t) = ![0, 256 * min (t.val + 1) 55] := by decide +kernel

theorem idle2 : ∀ t : Fin grid0.N, idle0 2 (grid0.coords t) = decide (t.val = 0) := by decide +kernel
theorem idle3 : ∀ t : Fin grid0.N, idle0 3 (grid0.coords t) = false := by decide +kernel
theorem idle4 : ∀ t : Fin grid0.N, idle0 4 (grid0.coords t) = false := by decide +kernel
theorem idle5 : ∀ t : Fin grid0.N, idle0 5 (grid0.coords t) = false := by decide +kernel
theorem idle6 : ∀ t : Fin grid0.N, idle0 6 (grid0.coords t) = decide (t.val ≠ 0) := by decide +kernel
theorem flush2 : ∀ t : Fin grid0.N, (cfg0.win 2).flush t = decide (t.val ≠ 0) := by decide +kernel

/-! ### The buffers at a point -/

/-- The buffers and semaphores the body is given at point `t`. -/
def bufs (t : Fin cfg0.N) : Bufs :=
  ⟨win0_0.stage (cfg0.slots t 0), hstage0_0 ((cfg0.slots t 0).cast nbuf0_0), win0_1.stage (cfg0.slots t 1), hstage0_1 ((cfg0.slots t 1).cast nbuf0_1), Memref.whole main_arg1, Memref.isWhole_whole _, Memref.whole main_arg2, Memref.isWhole_whole _, win0_2.stage (cfg0.slots t 2), hstage0_2 ((cfg0.slots t 2).cast nbuf0_2), win0_3.stage (cfg0.slots t 3), hstage0_3 ((cfg0.slots t 3).cast nbuf0_3), win0_4.stage (cfg0.slots t 4), hstage0_4 ((cfg0.slots t 4).cast nbuf0_4), win0_5.stage (cfg0.slots t 5), hstage0_5 ((cfg0.slots t 5).cast nbuf0_5), win0_6.stage (cfg0.slots t 6), hstage0_6 ((cfg0.slots t 6).cast nbuf0_6), Memref.whole cc0_scratch0, Memref.isWhole_whole _, Memref.whole cc0_scratch1, Memref.isWhole_whole _, Memref.whole cc0_scratch2, Memref.isWhole_whole _, Memref.whole cc0_scratch3, Memref.isWhole_whole _, Memref.whole cc0_scratch4, Memref.isWhole_whole _, Memref.whole cc0_scratch5, Memref.isWhole_whole _, Memref.whole cc0_scratch6, Memref.isWhole_whole _, Memref.whole cc0_scratch7, Memref.isWhole_whole _, cc0_scratch8, cc0_scratch9⟩

theorem bodyAt_eq (t : Fin cfg0.N) : bodyAt0 (F := F) t = bodyP (F := F) (grid0.coords t) (bufs t) := rfl

abbrev mX : Memref sig .tc .vmem S1920x4096 .bf16 := Memref.whole cc0_scratch0
abbrev mW0 : Memref sig .tc .vmem S4096x256 .bf16 := Memref.whole cc0_scratch1
abbrev mW1 : Memref sig .tc .vmem S4096x256 .bf16 := Memref.whole cc0_scratch2
abbrev mD0 : Memref sig .tc .vmem S4096x256 .bf16 := Memref.whole cc0_scratch3
abbrev mD1 : Memref sig .tc .vmem S4096x256 .bf16 := Memref.whole cc0_scratch4
abbrev mTab : Memref sig .tc .vmem S10x2x256x128 .f32 := Memref.whole cc0_scratch5
abbrev mE : Memref sig .tc .vmem S2x2x128x128 .i32 := Memref.whole cc0_scratch6
abbrev mSt : Memref sig .tc .smem S1 .f32 := Memref.whole cc0_scratch7
abbrev hX : Memref sig .tc .hbm S1920x4096 .bf16 := Memref.whole main_arg1
abbrev hW : Memref sig .tc .hbm S4096x14336 .bf16 := Memref.whole main_arg2
/-- The semaphores of the activations and of the two strip buffers. -/
abbrev semX : DmaSem sig := (cc0_scratch8).sem
abbrev semA : DmaSem sig := ((cc0_scratch9.slice (Rect.unit (s := S2) ![0] S1.size inb_S2_S1_0)).squeeze S_ squeezes_S1_S_).sem
abbrev semB : DmaSem sig := ((cc0_scratch9.slice (Rect.unit (s := S2) ![1] S1.size inb_S2_S1_1)).squeeze S_ squeezes_S1_S_).sem

/-! ### What is held -/

/-- The global scale. -/
def stV (c : Dev nD) : Elt F .f32 := k0_pay232 (iblk m c 0 ⟨0, by decide⟩)
/-- The activations. -/
def xV (c : Dev nD) : S1920x4096.Idx → Elt F .bf16 := hX.view.read (Elt F) (V m c main_arg1)
/-- The strip of the weights quantised at point `t`. -/
def wV (c : Dev nD) (t : ℕ) : S4096x256.Idx → Elt F .bf16 := stripV (hW.view.read (Elt F) (V m c main_arg2)) (min t 55)
/-- The block maxima of the strip's group. -/
def bV (c : Dev nD) (t : Fin cfg0.N) : S256x128.Idx → Elt F .f32 := iblk m c 1 t
/-- The strip's tables. -/
def tV (c : Dev nD) (t : Fin cfg0.N) : S10x2x256x128.Idx → Elt F .f32 :=
  tabS (stV m c) (baseV (Scalar.minsi (BitVec.ofNat 32 (grid0.coords t 0).val) 55#32)) (bV m c t)
/-- The strip, quantised and decoded. -/
def dV (c : Dev nD) (t : Fin cfg0.N) : S4096x256.Idx → Elt F .bf16 := deqS (wV m c t.val) (tV m c t)

/-- The point before. -/
def prev (t : Fin cfg0.N) : Fin cfg0.N := ⟨t.val - 1, lt_of_le_of_lt (Nat.sub_le _ _) t.isLt⟩

/-- The product of the strip before. -/
def yV (c : Dev nD) (t : Fin cfg0.N) : S1920x256.Idx → Elt F .bf16 := yS (stV m c) (xV m c) (dV m c (prev t))

/-- What is held after point `k`, between two points. -/
def PhiAt (c : Dev nD) (k : Fin cfg0.N) : sProp 𝕄 :=
  iprop(Known c mX (fun _ => True) (xV m c) ∗ Known c mSt (fun _ => True) (fun _ => stV m c) ∗ Some' c mTab ∗ Some' c mE
    ∗ (if k.val % 2 = 0
        then iprop(Some' c mW0 ∗ Started c (k.val < 56) semB mW1 hW (V m c main_arg2) (min (k.val + 1) 55) ∗ Known c mD0 (fun _ => True) (dV m c k) ∗ Some' c mD1 ∗ Zero' c semA)
        else iprop(Some' c mW1 ∗ Started c (k.val < 56) semA mW0 hW (V m c main_arg2) (min (k.val + 1) 55) ∗ Known c mD1 (fun _ => True) (dV m c k) ∗ Some' c mD0 ∗ Zero' c semB))
    ∗ (∃ r, prngReg c r) ∗ Zero' c semX ∗ (hX.view.loc (c : Thread nD τ) ↦[hX.view.set]{fullShare} V m c main_arg1))

/-! ### Own semaphores and operands left in HBM -/

abbrev osem0 : Fin 3 → SemLoc sig := fun j => (![SemLoc.dma 12, SemLoc.dma 13, SemLoc.dma 14] : Fin 3 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(Zero' c semX ∗ Zero' c semA ∗ Zero' c semB) := by
  rw [Pipeline.ownSems0_eq_of_list c osem0 [0, 1, 2] (by decide) (by decide)]; rfl
def H0 : Finset (Ref sig .tc) := {main_arg1, main_arg2}
theorem H0_sub : H0 ⊆ Pipeline.restRefs sig spec0 := by decide
theorem hbmPts0_eq (c : Dev nD) :
    (bigSep H0 (fun b => ((c : Thread nD τ).loc b) ↦{fullShare} V m c b) : sProp 𝕄)
      = iprop((hX.view.loc (c : Thread nD τ) ↦[hX.view.set]{fullShare} V m c main_arg1) ∗ HbmW c hW (V m c main_arg2)) := by
  rw [BI.bigSep_eq_bigSepL_of_eq [main_arg1, main_arg2] (by decide) (by decide)]
  unfold HbmW
  rw [show hX.view.set = Finset.univ from View.set_whole _, show hW.view.set = Finset.univ from View.set_whole _]
  rfl

theorem PhiD0_eq (c : Dev nD) :
    (Pipeline.ΦD osem0 spec0 H0 (V m) c : sProp 𝕄)
      = iprop(iprop(Some' c mX ∗ Some' c mW0 ∗ Some' c mW1 ∗ Some' c mD0 ∗ Some' c mD1 ∗ Some' c mTab ∗ Some' c mE ∗ Some' c mSt)
          ∗ (∃ r, prngReg c r) ∗ iprop(Zero' c semX ∗ Zero' c semA ∗ Zero' c semB)
          ∗ iprop((hX.view.loc (c : Thread nD τ) ↦[hX.view.set]{fullShare} V m c main_arg1) ∗ HbmW c hW (V m c main_arg2))) := by
  unfold Pipeline.ΦD
  rw [scopedRest0_eq, ownSems00_eq, hbmPts0_eq]
  simp only [Some', owns_whole]; try rfl

/-! ### The proof data -/

/-- What is held before point `n`. -/
def PhiN (c : Dev nD) : (n : ℕ) → n ≤ cfg0.N → sProp 𝕄
  | 0, _ => Pipeline.ΦD osem0 spec0 H0 (V m) c
  | k + 1, h => PhiAt m c ⟨k, h⟩

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => yV m c t
    | ⟨3, _⟩ => cnS (wV m c t.val) (tV m c t)
    | ⟨4, _⟩ => ckS (wV m c t.val) (tV m c t)
    | ⟨5, _⟩ => sbS (stV m c) (bV m c t)
    | ⟨6, _⟩ => fun _ => stV m c
  Φ t := PhiN m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = yV m c t := by dsimp only [dats]
theorem after_3 (c : Dev nD) (t : Fin cfg0.N) : (dats m 0 c).after 3 t = cnS (wV m c t.val) (tV m c t) := by dsimp only [dats]
theorem after_4 (c : Dev nD) (t : Fin cfg0.N) : (dats m 0 c).after 4 t = ckS (wV m c t.val) (tV m c t) := by dsimp only [dats]
theorem after_5 (c : Dev nD) (t : Fin cfg0.N) : (dats m 0 c).after 5 t = sbS (stV m c) (bV m c t) := by dsimp only [dats]
theorem after_6 (c : Dev nD) (t : Fin cfg0.N) : (dats m 0 c).after 6 t = fun _ => stV m c := by dsimp only [dats]

theorem Phi_castSucc (c : Dev nD) (t : Fin cfg0.N) : (dats m 0 c).Φ t.castSucc = PhiN m c t.val (Nat.le_of_lt t.isLt) := by
  dsimp only [dats]; exact Pipeline.Dat.Φ_castSucc (PhiN m c) t
theorem Phi_succ (c : Dev nD) (t : Fin cfg0.N) : (dats m 0 c).Φ t.succ = PhiAt m c t := by dsimp only [dats]; rfl

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-- The global scale stays in its buffer after the first point. -/
theorem before_6 (c : Dev nD) (t : Fin cfg0.N) (ht : t.val ≠ 0) (d) : (dats m 0 c).before 6 t d = fun _ => stV m c := by
  have h1 : 1 < cfg0.N := by decide
  have e := (dats m 0 c).before_idle_run 6 (fun t => (cfg0.win 6).fetch_out rfl t) d (t.val - 1) t (Nat.sub_le _ _) (fun j h h' => by
    have hj : j.val ≠ 0 := by omega
    refine ⟨(idle6 j).trans (decide_eq_true hj), ?_⟩
    have hN : t.val < 57 := t.isLt
    cases hf : (cfg0.win 6).flush j
    · rfl
    · have := (flush0_6 j).mp hf
      omega)
  rw [e, show (⟨t.val - (t.val - 1), by omega⟩ : Fin cfg0.N) = ⟨1, h1⟩ from Fin.ext (by show t.val - (t.val - 1) = 1; omega)]
  unfold Dat.before
  rw [(cfg0.win 6).fetch_out rfl, if_neg Bool.false_ne_true, if_neg (show ¬ (⟨1, h1⟩ : Fin cfg0.N).val = 0 from Nat.one_ne_zero)]
  dsimp only
  rw [if_neg (show ¬ (win0 6).flush (⟨1 - 1, lt_of_le_of_lt (Nat.sub_le _ _) h1⟩ : Fin cfg0.N) = true from fun h => by
      have : (0 : ℕ) % 57 = 56 := (flush0_6 _).mp h
      omega),
    show idle0 6 (grid0.coords (⟨1 - 1, lt_of_le_of_lt (Nat.sub_le _ _) h1⟩ : Fin cfg0.N)) = false from (idle6 _).trans (decide_eq_false fun h => h rfl)]
  dsimp only
  unfold Dat.kept
  rw [after_6]
  try rfl

end Cert.Kernel.Body

end
-- ==== Proof.Body.Step.lean ====
/-
  The body's three kinds of step

  What the body does at the first point, at an odd point and at a later even point, over what is held between points.
-/
module

public import proofs.«01_k».proof.Proof.Body.Data

@[expose] public section

set_option maxRecDepth 16384

noncomputable section

namespace Cert.Kernel.Body

open Cert.Kernel Cert.Kernel.Gen
open Idealize.ShloMosaic Idealize.ShloMosaic.TcCoe Idealize.ShloMosaic.Tactic
open Idealize.ShloMosaic.Rounds
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
variable (𝒱 : Variants) (bd : Option 𝒱.V)

theorem started_congr {c : Dev nD} {b b' : Prop} [Decidable b] [Decidable b'] (h : b ↔ b') (sm : DmaSem sig) (w : Memref sig .tc .vmem S4096x256 .bf16) (wHbm : Memref sig .tc .hbm S4096x14336 .bf16)
    (fs : Buf (Elt F) (wHbm.view.loc (c : Thread nD τ))) (j : ℕ) : (Started c b sm w wHbm fs j : sProp 𝕄) = Started c b' sm w wHbm fs j := by
  unfold Started
  exact if_congr h rfl rfl

theorem started_true {c : Dev nD} {b : Prop} [Decidable b] (h : b) (sm : DmaSem sig) (w : Memref sig .tc .vmem S4096x256 .bf16) (wHbm : Memref sig .tc .hbm S4096x14336 .bf16)
    (fs : Buf (Elt F) (wHbm.view.loc (c : Thread nD τ))) (j : ℕ) : (Started c b sm w wHbm fs j : sProp 𝕄) = StripFlying c sm w wHbm fs j := by
  unfold Started
  exact if_pos h

theorem started_false {c : Dev nD} {b : Prop} [Decidable b] (h : ¬ b) (sm : DmaSem sig) (w : Memref sig .tc .vmem S4096x256 .bf16) (wHbm : Memref sig .tc .hbm S4096x14336 .bf16)
    (fs : Buf (Elt F) (wHbm.view.loc (c : Thread nD τ))) (j : ℕ) : (Started c b sm w wHbm fs j : sProp 𝕄) = iprop(Some' c w ∗ HbmW c wHbm fs ∗ Zero' c sm) := by
  unfold Started
  exact if_neg h

theorem base0 : ∀ t : Fin grid0.N, t.val = 0 → Scalar.minsi (BitVec.ofNat 32 (grid0.coords t 0).val) 55#32 = BitVec.ofNat 32 (grid0.coords t 0).val := by decide +kernel

/-- All the block maxima. -/
def mV (c : Dev nD) : S256x896.Idx → Elt F .f32 := iblk m c 0 ⟨0, by decide⟩

theorem credX : 0 < mX.view.dmaCredit := by decide +kernel
theorem credW0 : 0 < mW0.view.dmaCredit := by decide +kernel
theorem credW1 : 0 < mW1.view.dmaCredit := by decide +kernel

/-- What is held before an odd point. -/
theorem phi_before_odd (c : Dev nD) (t : Fin cfg0.N) (ht : t.val % 2 = 1) : PhiAt m c (prev t)
    = iprop(Known c mX (fun _ => True) (xV m c) ∗ Known c mSt (fun _ => True) (fun _ => stV m c) ∗ Some' c mTab ∗ Some' c mE ∗ iprop(Some' c mW0 ∗ StripFlying c semB mW1 hW (V m c main_arg2) (min t.val 55) ∗ Known c mD0 (fun _ => True) (dV m c (prev t)) ∗ Some' c mD1 ∗ Zero' c semA) ∗ (∃ r, prngReg c r) ∗ Zero' c semX ∗ (hX.view.loc (c : Thread nD τ) ↦[hX.view.set]{fullShare} V m c main_arg1)) := by
  have hN : t.val < 57 := t.isLt
  have e : (prev t).val + 1 = t.val := by show t.val - 1 + 1 = t.val; omega
  unfold PhiAt
  rw [if_pos (by omega), started_true (by omega), e]

/-- What is held after an odd point. -/
theorem phi_after_odd (c : Dev nD) (t : Fin cfg0.N) (ht : t.val % 2 = 1) : PhiAt m c t
    = iprop(Known c mX (fun _ => True) (xV m c) ∗ Known c mSt (fun _ => True) (fun _ => stV m c) ∗ Some' c mTab ∗ Some' c mE ∗ iprop(Some' c mW1 ∗ Started c (t.val < 56) semA mW0 hW (V m c main_arg2) (min (t.val + 1) 55) ∗ Known c mD1 (fun _ => True) (dV m c t) ∗ Some' c mD0 ∗ Zero' c semB) ∗ (∃ r, prngReg c r) ∗ Zero' c semX ∗ (hX.view.loc (c : Thread nD τ) ↦[hX.view.set]{fullShare} V m c main_arg1)) := by
  unfold PhiAt
  rw [if_neg (by omega)]

/-- What is held before a later even point. -/
theorem phi_before_even (c : Dev nD) (t : Fin cfg0.N) (h0 : t.val ≠ 0) (ht : t.val % 2 = 0) : PhiAt m c (prev t)
    = iprop(Known c mX (fun _ => True) (xV m c) ∗ Known c mSt (fun _ => True) (fun _ => stV m c) ∗ Some' c mTab ∗ Some' c mE ∗ iprop(Some' c mW1 ∗ StripFlying c semA mW0 hW (V m c main_arg2) (min t.val 55) ∗ Known c mD1 (fun _ => True) (dV m c (prev t)) ∗ Some' c mD0 ∗ Zero' c semB) ∗ (∃ r, prngReg c r) ∗ Zero' c semX ∗ (hX.view.loc (c : Thread nD τ) ↦[hX.view.set]{fullShare} V m c main_arg1)) := by
  have hN : t.val < 57 := t.isLt
  have e : (prev t).val + 1 = t.val := by show t.val - 1 + 1 = t.val; omega
  unfold PhiAt
  rw [if_neg (by omega), started_true (by omega), e]

/-- What is held after an even point. -/
theorem phi_after_even (c : Dev nD) (t : Fin cfg0.N) (ht : t.val % 2 = 0) : PhiAt m c t
    = iprop(Known c mX (fun _ => True) (xV m c) ∗ Known c mSt (fun _ => True) (fun _ => stV m c) ∗ Some' c mTab ∗ Some' c mE ∗ iprop(Some' c mW0 ∗ Started c (t.val < 56) semB mW1 hW (V m c main_arg2) (min (t.val + 1) 55) ∗ Known c mD0 (fun _ => True) (dV m c t) ∗ Some' c mD1 ∗ Zero' c semA) ∗ (∃ r, prngReg c r) ∗ Zero' c semX ∗ (hX.view.loc (c : Thread nD τ) ↦[hX.view.set]{fullShare} V m c main_arg1)) := by
  unfold PhiAt
  rw [if_pos (by omega)]

theorem odd_at (c : Dev nD) (t : Fin cfg0.N) (ht : t.val % 2 = 1) :
    iprop(Known c (bufs t).bm (fun _ => True) (bV m c t) ∗ Known c mSt (fun _ => True) (fun _ => stV m c) ∗ Known c mX (fun _ => True) (xV m c) ∗ Known c mD0 (fun _ => True) (dV m c (prev t)) ∗ StripFlying c semB mW1 hW (V m c main_arg2) (min t.val 55) ∗ Some' c mW0 ∗ Some' c mD1 ∗ Some' c mTab ∗ Some' c mE ∗ Some' c (bufs t).y ∗ Some' c (bufs t).cn ∗ Some' c (bufs t).ck ∗ Some' c (bufs t).sb ∗ Zero' c semA ∗ Quiet c)
      ⊢ wpk 𝒱 c bd Set.univ (bodyP (F := F) (grid0.coords t) (bufs t)) (fun _ => iprop(Known c (bufs t).bm (fun _ => True) (bV m c t) ∗ Known c mSt (fun _ => True) (fun _ => stV m c) ∗ Known c mX (fun _ => True) (xV m c) ∗ Some' c mD0 ∗ Started c (k0_cond6 (grid0.coords t) = 1#1) semA mW0 hW (V m c main_arg2) (min (t.val + 1) 55) ∗ Some' c mW1 ∗ Known c mD1 (fun _ => True) (dV m c t) ∗ Some' c mTab ∗ Some' c mE ∗ owns (c : Thread nD τ) (bufs t).y fullShare (yV m c t) ∗ owns (c : Thread nD τ) (bufs t).cn fullShare (cnS (wV m c t.val) (tV m c t)) ∗ owns (c : Thread nD τ) (bufs t).ck fullShare (ckS (wV m c t.val) (tV m c t)) ∗ owns (c : Thread nD τ) (bufs t).sb fullShare (sbS (stV m c) (bV m c t)) ∗ Zero' c semB ∗ Quiet c)) :=
  odd_run 𝒱 c bd (grid0.coords t) (bufs t) (fun h => absurd ((cond1_iff t).mp h) (by omega)) (fun h => absurd ((cond2_iff t).mp h) (by omega)) (fun h => absurd ((cond3_iff t).mp h).2 (by omega)) ((cond5_iff t).mpr ht)
    (stV m c) (bV m c t) (xV m c) (dV m c (prev t)) (V m c main_arg2) (min t.val 55) (min (t.val + 1) 55) (fun _ => off114_eq t) credW0

/-- An odd point. -/
theorem odd_step (c : Dev nD) (t : Fin cfg0.N) (ht : t.val % 2 = 1) :
    iprop(PhiAt m c (prev t) ∗ Quiet c ∗ owns (c : Thread nD τ) (bufs t).bm fullShare (bV m c t) ∗ Some' c (bufs t).y ∗ Some' c (bufs t).cn ∗ Some' c (bufs t).ck ∗ Some' c (bufs t).sb)
      ⊢ wpk 𝒱 c bd Set.univ (bodyP (F := F) (grid0.coords t) (bufs t)) (fun _ => iprop(PhiAt m c t ∗ Quiet c ∗ owns (c : Thread nD τ) (bufs t).bm fullShare (bV m c t)
        ∗ owns (c : Thread nD τ) (bufs t).y fullShare (yV m c t) ∗ owns (c : Thread nD τ) (bufs t).cn fullShare (cnS (wV m c t.val) (tV m c t)) ∗ owns (c : Thread nD τ) (bufs t).ck fullShare (ckS (wV m c t.val) (tV m c t)) ∗ owns (c : Thread nD τ) (bufs t).sb fullShare (sbS (stV m c) (bV m c t)))) := by
  rw [phi_before_odd m c t ht, phi_after_odd m c t ht, ← started_congr (cond6_iff t)]
  iintro ⟨⟨HX, HSt, HT, HE, ⟨Hw, Hf, Hd, Hd', Hz⟩, Hg, Hzx, Hhx⟩, HQ, Hbm, Hy, Hcn, Hck, Hsb⟩
  ihave Hbm := (known_of_owns c (bV m c t)) $$ Hbm
  ihave H := (odd_at m 𝒱 bd c t ht) $$ [HX HSt HT HE Hw Hf Hd Hd' Hz HQ Hbm Hy Hcn Hck Hsb]
  · isplitl [Hbm]; · iexact Hbm
    isplitl [HSt]; · iexact HSt
    isplitl [HX]; · iexact HX
    isplitl [Hd]; · iexact Hd
    isplitl [Hf]; · iexact Hf
    isplitl [Hw]; · iexact Hw
    isplitl [Hd']; · iexact Hd'
    isplitl [HT]; · iexact HT
    isplitl [HE]; · iexact HE
    isplitl [Hy]; · iexact Hy
    isplitl [Hcn]; · iexact Hcn
    isplitl [Hck]; · iexact Hck
    isplitl [Hsb]; · iexact Hsb
    isplitl [Hz]; · iexact Hz
    iexact HQ
  iapply (wp_wand _ _ _) $$ H
  iintro %_ ⟨Hbm, HSt, HX, Hd, Hf, Hw, Hd', HT, HE, Hy, Hcn, Hck, Hsb, Hz, HQ⟩
  ihave Hbm := (owns_of_known c (bV m c t) (fun _ => True) fun _ => trivial) $$ Hbm
  isplitl [HX HSt HT HE Hw Hf Hd Hd' Hz Hg Hzx Hhx]
  · isplitl [HX]; · iexact HX
    isplitl [HSt]; · iexact HSt
    isplitl [HT]; · iexact HT
    isplitl [HE]; · iexact HE
    isplitl [Hw Hf Hd Hd' Hz]
    · isplitl [Hw]; · iexact Hw
      isplitl [Hf]; · iexact Hf
      isplitl [Hd']; · iexact Hd'
      isplitl [Hd]; · iexact Hd
      iexact Hz
    isplitl [Hg]; · iexact Hg
    isplitl [Hzx]; · iexact Hzx
    iexact Hhx
  isplitl [HQ]; · iexact HQ
  isplitl [Hbm]; · iexact Hbm
  isplitl [Hy]; · iexact Hy
  isplitl [Hcn]; · iexact Hcn
  isplitl [Hck]; · iexact Hck
  iexact Hsb

theorem even_at (c : Dev nD) (t : Fin cfg0.N) (h0 : t.val ≠ 0) (ht : t.val % 2 = 0) :
    iprop(Known c (bufs t).bm (fun _ => True) (bV m c t) ∗ Known c mSt (fun _ => True) (fun _ => stV m c) ∗ Known c mX (fun _ => True) (xV m c) ∗ Known c mD1 (fun _ => True) (dV m c (prev t)) ∗ StripFlying c semA mW0 hW (V m c main_arg2) (min t.val 55) ∗ Some' c mW1 ∗ Some' c mD0 ∗ Some' c mTab ∗ Some' c mE ∗ Some' c (bufs t).y ∗ Some' c (bufs t).cn ∗ Some' c (bufs t).ck ∗ Some' c (bufs t).sb ∗ Zero' c semB ∗ Quiet c)
      ⊢ wpk 𝒱 c bd Set.univ (bodyP (F := F) (grid0.coords t) (bufs t)) (fun _ => iprop(Known c (bufs t).bm (fun _ => True) (bV m c t) ∗ Known c mSt (fun _ => True) (fun _ => stV m c) ∗ Known c mX (fun _ => True) (xV m c) ∗ Some' c mD1 ∗ Started c (k0_cond4 (grid0.coords t) = 1#1) semB mW1 hW (V m c main_arg2) (min (t.val + 1) 55) ∗ Some' c mW0 ∗ Known c mD0 (fun _ => True) (dV m c t) ∗ Some' c mTab ∗ Some' c mE ∗ owns (c : Thread nD τ) (bufs t).y fullShare (yV m c t) ∗ owns (c : Thread nD τ) (bufs t).cn fullShare (cnS (wV m c t.val) (tV m c t)) ∗ owns (c : Thread nD τ) (bufs t).ck fullShare (ckS (wV m c t.val) (tV m c t)) ∗ owns (c : Thread nD τ) (bufs t).sb fullShare (sbS (stV m c) (bV m c t)) ∗ Zero' c semA ∗ Quiet c)) :=
  even_run 𝒱 c bd (grid0.coords t) (bufs t) (fun h => absurd ((cond1_iff t).mp h) (by omega)) (fun h => absurd ((cond2_iff t).mp h) (by omega)) ((cond3_iff t).mpr ⟨h0, ht⟩) (fun h => absurd ((cond5_iff t).mp h) (by omega))
    (stV m c) (bV m c t) (xV m c) (dV m c (prev t)) (V m c main_arg2) (min t.val 55) (min (t.val + 1) 55) (fun _ => off56_eq t) credW1

/-- A later even point. -/
theorem even_step (c : Dev nD) (t : Fin cfg0.N) (h0 : t.val ≠ 0) (ht : t.val % 2 = 0) :
    iprop(PhiAt m c (prev t) ∗ Quiet c ∗ owns (c : Thread nD τ) (bufs t).bm fullShare (bV m c t) ∗ Some' c (bufs t).y ∗ Some' c (bufs t).cn ∗ Some' c (bufs t).ck ∗ Some' c (bufs t).sb)
      ⊢ wpk 𝒱 c bd Set.univ (bodyP (F := F) (grid0.coords t) (bufs t)) (fun _ => iprop(PhiAt m c t ∗ Quiet c ∗ owns (c : Thread nD τ) (bufs t).bm fullShare (bV m c t)
        ∗ owns (c : Thread nD τ) (bufs t).y fullShare (yV m c t) ∗ owns (c : Thread nD τ) (bufs t).cn fullShare (cnS (wV m c t.val) (tV m c t)) ∗ owns (c : Thread nD τ) (bufs t).ck fullShare (ckS (wV m c t.val) (tV m c t)) ∗ owns (c : Thread nD τ) (bufs t).sb fullShare (sbS (stV m c) (bV m c t)))) := by
  rw [phi_before_even m c t h0 ht, phi_after_even m c t ht, ← started_congr (cond4_iff t)]
  iintro ⟨⟨HX, HSt, HT, HE, ⟨Hw, Hf, Hd, Hd', Hz⟩, Hg, Hzx, Hhx⟩, HQ, Hbm, Hy, Hcn, Hck, Hsb⟩
  ihave Hbm := (known_of_owns c (bV m c t)) $$ Hbm
  ihave H := (even_at m 𝒱 bd c t h0 ht) $$ [HX HSt HT HE Hw Hf Hd Hd' Hz HQ Hbm Hy Hcn Hck Hsb]
  · isplitl [Hbm]; · iexact Hbm
    isplitl [HSt]; · iexact HSt
    isplitl [HX]; · iexact HX
    isplitl [Hd]; · iexact Hd
    isplitl [Hf]; · iexact Hf
    isplitl [Hw]; · iexact Hw
    isplitl [Hd']; · iexact Hd'
    isplitl [HT]; · iexact HT
    isplitl [HE]; · iexact HE
    isplitl [Hy]; · iexact Hy
    isplitl [Hcn]; · iexact Hcn
    isplitl [Hck]; · iexact Hck
    isplitl [Hsb]; · iexact Hsb
    isplitl [Hz]; · iexact Hz
    iexact HQ
  iapply (wp_wand _ _ _) $$ H
  iintro %_ ⟨Hbm, HSt, HX, Hd, Hf, Hw, Hd', HT, HE, Hy, Hcn, Hck, Hsb, Hz, HQ⟩
  ihave Hbm := (owns_of_known c (bV m c t) (fun _ => True) fun _ => trivial) $$ Hbm
  isplitl [HX HSt HT HE Hw Hf Hd Hd' Hz Hg Hzx Hhx]
  · isplitl [HX]; · iexact HX
    isplitl [HSt]; · iexact HSt
    isplitl [HT]; · iexact HT
    isplitl [HE]; · iexact HE
    isplitl [Hw Hf Hd Hd' Hz]
    · isplitl [Hw]; · iexact Hw
      isplitl [Hf]; · iexact Hf
      isplitl [Hd']; · iexact Hd'
      isplitl [Hd]; · iexact Hd
      iexact Hz
    isplitl [Hg]; · iexact Hg
    isplitl [Hzx]; · iexact Hzx
    iexact Hhx
  isplitl [HQ]; · iexact HQ
  isplitl [Hbm]; · iexact Hbm
  isplitl [Hy]; · iexact Hy
  isplitl [Hcn]; · iexact Hcn
  isplitl [Hck]; · iexact Hck
  iexact Hsb

theorem first_at (c : Dev nD) (t : Fin cfg0.N) (ht : t.val = 0) :
    iprop(Known c (bufs t).bmAll (fun _ => True) (mV m c) ∗ Known c (bufs t).bm (fun _ => True) (bV m c t) ∗ Some' c (bufs t).cn ∗ Some' c (bufs t).ck ∗ Some' c (bufs t).sb ∗ Some' c (bufs t).st ∗ Some' c mX ∗ Some' c mW0 ∗ Some' c mW1 ∗ Some' c mD0 ∗ Some' c mTab ∗ Some' c mE ∗ Some' c mSt ∗ (hX.view.loc (c : Thread nD τ) ↦[hX.view.set]{fullShare} V m c main_arg1) ∗ HbmW c hW (V m c main_arg2) ∗ Zero' c semX ∗ Zero' c semA ∗ Zero' c semB ∗ Quiet c)
      ⊢ wpk 𝒱 c bd Set.univ (bodyP (F := F) (grid0.coords t) (bufs t)) (fun _ => iprop(Known c (bufs t).bmAll (fun _ => True) (mV m c) ∗ Known c (bufs t).bm (fun _ => True) (bV m c t) ∗ owns (c : Thread nD τ) (bufs t).cn fullShare (cnS (wV m c 0) (tabS (stV m c) (baseV (BitVec.ofNat 32 (grid0.coords t 0).val)) (bV m c t))) ∗ owns (c : Thread nD τ) (bufs t).ck fullShare (ckS (wV m c 0) (tabS (stV m c) (baseV (BitVec.ofNat 32 (grid0.coords t 0).val)) (bV m c t))) ∗ owns (c : Thread nD τ) (bufs t).sb fullShare (sbS (stV m c) (bV m c t)) ∗ owns (c : Thread nD τ) (bufs t).st fullShare (fun _ => stV m c) ∗ Known c mX (fun _ => True) (xV m c) ∗ Some' c mW0 ∗ StripFlying c semB mW1 hW (V m c main_arg2) 1 ∗ Known c mD0 (fun _ => True) (deqS (wV m c 0) (tabS (stV m c) (baseV (BitVec.ofNat 32 (grid0.coords t 0).val)) (bV m c t))) ∗ Some' c mTab ∗ Some' c mE ∗ Known c mSt (fun _ => True) (fun _ => stV m c) ∗ (hX.view.loc (c : Thread nD τ) ↦[hX.view.set]{fullShare} V m c main_arg1) ∗ Zero' c semX ∗ Zero' c semA ∗ Quiet c)) :=
  first_run 𝒱 c bd (grid0.coords t) (bufs t) ((cond1_iff t).mpr ht) ((cond2_iff t).mpr ht) (fun h => absurd ((cond3_iff t).mp h).1 (by omega)) (fun h => absurd ((cond5_iff t).mp h) (by omega))
    (mV m c) (bV m c t) (V m c main_arg1) (V m c main_arg2) credW0 credW1 credX

theorem tab_first (c : Dev nD) (t : Fin cfg0.N) (ht : t.val = 0) : (tabS (stV m c) (baseV (BitVec.ofNat 32 (grid0.coords t 0).val)) (bV m c t)) = tV m c t := by
  unfold tV
  rw [base0 t ht]

/-- The first point. -/
theorem first_step (c : Dev nD) (t : Fin cfg0.N) (ht : t.val = 0) :
    iprop(Pipeline.ΦD osem0 spec0 H0 (V m) c ∗ Quiet c ∗ owns (c : Thread nD τ) (bufs t).bmAll fullShare (mV m c) ∗ owns (c : Thread nD τ) (bufs t).bm fullShare (bV m c t)
        ∗ Some' c (bufs t).cn ∗ Some' c (bufs t).ck ∗ Some' c (bufs t).sb ∗ Some' c (bufs t).st)
      ⊢ wpk 𝒱 c bd Set.univ (bodyP (F := F) (grid0.coords t) (bufs t)) (fun _ => iprop(PhiAt m c t ∗ Quiet c ∗ owns (c : Thread nD τ) (bufs t).bmAll fullShare (mV m c) ∗ owns (c : Thread nD τ) (bufs t).bm fullShare (bV m c t)
        ∗ owns (c : Thread nD τ) (bufs t).cn fullShare (cnS (wV m c t.val) (tV m c t)) ∗ owns (c : Thread nD τ) (bufs t).ck fullShare (ckS (wV m c t.val) (tV m c t)) ∗ owns (c : Thread nD τ) (bufs t).sb fullShare (sbS (stV m c) (bV m c t)) ∗ owns (c : Thread nD τ) (bufs t).st fullShare (fun _ => stV m c))) := by
  rw [PhiD0_eq, phi_after_even m c t (by omega), started_true (by omega)]
  iintro ⟨⟨⟨HX, Hw0, Hw1, Hd0, Hd1, HT, HE, HSt⟩, Hg, ⟨Hzx, Hza, Hzb⟩, Hhx, Hhw⟩, HQ, HbmA, Hbm, Hcn, Hck, Hsb, Hst⟩
  ihave HbmA := (known_of_owns c (mV m c)) $$ HbmA
  ihave Hbm := (known_of_owns c (bV m c t)) $$ Hbm
  ihave H := (first_at m 𝒱 bd c t ht) $$ [HX Hw0 Hw1 Hd0 HT HE HSt Hzx Hza Hzb Hhx Hhw HQ HbmA Hbm Hcn Hck Hsb Hst]
  · isplitl [HbmA]; · iexact HbmA
    isplitl [Hbm]; · iexact Hbm
    isplitl [Hcn]; · iexact Hcn
    isplitl [Hck]; · iexact Hck
    isplitl [Hsb]; · iexact Hsb
    isplitl [Hst]; · iexact Hst
    isplitl [HX]; · iexact HX
    isplitl [Hw0]; · iexact Hw0
    isplitl [Hw1]; · iexact Hw1
    isplitl [Hd0]; · iexact Hd0
    isplitl [HT]; · iexact HT
    isplitl [HE]; · iexact HE
    isplitl [HSt]; · iexact HSt
    isplitl [Hhx]; · iexact Hhx
    isplitl [Hhw]; · iexact Hhw
    isplitl [Hzx]; · iexact Hzx
    isplitl [Hza]; · iexact Hza
    isplitl [Hzb]; · iexact Hzb
    iexact HQ
  rw [tab_first m c t ht, show deqS (wV m c 0) (tV m c t) = dV m c t by unfold dV; rw [ht], show wV m c 0 = wV m c t.val by rw [ht], show min (t.val + 1) 55 = 1 by omega]
  iapply (wp_wand _ _ _) $$ H
  iintro %_ ⟨HbmA, Hbm, Hcn, Hck, Hsb, Hst, HX, Hw0, Hf, Hd0, HT, HE, HSt, Hhx, Hzx, Hza, HQ⟩
  ihave HbmA := (owns_of_known c (mV m c) (fun _ => True) fun _ => trivial) $$ HbmA
  ihave Hbm := (owns_of_known c (bV m c t) (fun _ => True) fun _ => trivial) $$ Hbm
  isplitl [HX HSt HT HE Hw0 Hf Hd0 Hd1 Hza Hg Hzx Hhx]
  · isplitl [HX]; · iexact HX
    isplitl [HSt]; · iexact HSt
    isplitl [HT]; · iexact HT
    isplitl [HE]; · iexact HE
    isplitl [Hw0 Hf Hd0 Hd1 Hza]
    · isplitl [Hw0]; · iexact Hw0
      isplitl [Hf]; · iexact Hf
      isplitl [Hd0]; · iexact Hd0
      isplitl [Hd1]; · iexact Hd1
      iexact Hza
    isplitl [Hg]; · iexact Hg
    isplitl [Hzx]; · iexact Hzx
    iexact Hhx
  isplitl [HQ]; · iexact HQ
  isplitl [HbmA]; · iexact HbmA
  isplitl [Hbm]; · iexact Hbm
  isplitl [Hcn]; · iexact Hcn
  isplitl [Hck]; · iexact Hck
  isplitl [Hsb]; · iexact Hsb
  iexact Hst

/-- After the last point everything is at rest. -/
theorem phi_end (c : Dev nD) (t : Fin cfg0.N) (ht : t.val = 56) : PhiAt m c t ⊢ Pipeline.ΦD osem0 spec0 H0 (V m) c := by
  rw [PhiD0_eq, phi_after_even m c t (by omega), started_false (by omega)]
  iintro ⟨HX, HSt, HT, HE, ⟨Hw, ⟨Hw', Hhw, Hzb⟩, Hd, Hd', Hza⟩, Hg, Hzx, Hhx⟩
  isplitl [HX HSt HT HE Hw Hw' Hd Hd']
  · isplitl [HX]; · iapply (owns_any_of_known c _ _) $$ HX
    isplitl [Hw]; · iexact Hw
    isplitl [Hw']; · iexact Hw'
    isplitl [Hd]; · iapply (owns_any_of_known c _ _) $$ Hd
    isplitl [Hd']; · iexact Hd'
    isplitl [HT]; · iexact HT
    isplitl [HE]; · iexact HE
    iapply (owns_any_of_known c _ _) $$ HSt
  isplitl [Hg]; · iexact Hg
  isplitl [Hzx Hza Hzb]
  · isplitl [Hzx]; · iexact Hzx
    isplitl [Hza]; · iexact Hza
    iexact Hzb
  isplitl [Hhx]; · iexact Hhx
  iexact Hhw

end Cert.Kernel.Body

end
-- ==== Proof.Body.Launch.lean ====
/-
  The kernel's run and its frame

  Each point's step joined to the pipeline's account of the windows, and the launch.
-/
module

public import proofs.«01_k».proof.Proof.Body.Step
public import Idealize.ShloMosaic.Lib.Pipeline.FrameBody

@[expose] public section

set_option maxRecDepth 16384

noncomputable section

namespace Cert.Kernel.Body

open Cert.Kernel Cert.Kernel.Gen
open Idealize.ShloMosaic Idealize.ShloMosaic.TcCoe Idealize.ShloMosaic.Tactic
open Idealize.ShloMosaic.Rounds
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The staging buffer of window `w` at point `t`. -/
abbrev stg (t : Fin cfg0.N) (w : Fin cfg0.W) := (cfg0.win w).stage (cfg0.slots t w)

/-- What a window's buffer holds before the body. -/
def preW (c : Dev nD) (t : Fin cfg0.N) (w : Fin cfg0.W) : sProp 𝕄 := iprop(∃ d, owns (c : Thread nD τ) (stg t w) fullShare ((dats m 0 c).before w t d))

/-- What a window's buffer holds after the body. -/
def postW (c : Dev nD) (t : Fin cfg0.N) (w : Fin cfg0.W) : sProp 𝕄 :=
  match cfg0.idle w (cfg0.grid.coords t) with
  | true => match (cfg0.win w).flush t with
    | false => iprop(∃ d, owns (c : Thread nD τ) (stg t w) fullShare ((dats m 0 c).before w t d))
    | true => owns (c : Thread nD τ) (stg t w) fullShare ((dats m 0 c).after w t)
  | false => owns (c : Thread nD τ) (stg t w) fullShare ((dats m 0 c).after w t)

theorem post_busy (c : Dev nD) (t : Fin cfg0.N) (w : Fin cfg0.W) (h : idle0 w (grid0.coords t) = false) :
    postW m c t w = owns (c : Thread nD τ) (stg t w) fullShare ((dats m 0 c).after w t) := by
  unfold postW
  rw [show cfg0.idle w (cfg0.grid.coords t) = false from h]

theorem post_idle (c : Dev nD) (t : Fin cfg0.N) (w : Fin cfg0.W) (h : idle0 w (grid0.coords t) = true) (hf : (cfg0.win w).flush t = false) : postW m c t w = preW m c t w := by
  unfold postW preW
  rw [show cfg0.idle w (cfg0.grid.coords t) = true from h, hf]

theorem post_flush (c : Dev nD) (t : Fin cfg0.N) (w : Fin cfg0.W) (h : idle0 w (grid0.coords t) = true) (hf : (cfg0.win w).flush t = true) :
    postW m c t w = owns (c : Thread nD τ) (stg t w) fullShare ((dats m 0 c).after w t) := by
  unfold postW
  rw [show cfg0.idle w (cfg0.grid.coords t) = true from h, hf]

theorem pre_some (c : Dev nD) (t : Fin cfg0.N) (w : Fin cfg0.W) : preW m c t w ⊢ Some' c (stg t w) := by
  unfold preW
  iintro ⟨%d, H⟩
  iexists _
  iexact H

theorem pre_0 (c : Dev nD) (t : Fin cfg0.N) : preW m c t 0 ⊢ owns (c : Thread nD τ) (stg t 0) fullShare (iblk m c 0 t) := by
  unfold preW
  iintro ⟨%d, H⟩
  rw [before_0]
  iexact H

theorem pre_1 (c : Dev nD) (t : Fin cfg0.N) : preW m c t 1 ⊢ owns (c : Thread nD τ) (stg t 1) fullShare (bV m c t) := by
  unfold preW
  iintro ⟨%d, H⟩
  rw [before_1]
  iexact H

theorem post_0 (c : Dev nD) (t : Fin cfg0.N) : owns (c : Thread nD τ) (bufs t).bmAll fullShare (iblk m c 0 t) ⊢ postW m c t 0 := by
  rw [post_busy m c t 0 rfl, after_0]
  exact .rfl

theorem post_1 (c : Dev nD) (t : Fin cfg0.N) : owns (c : Thread nD τ) (bufs t).bm fullShare (bV m c t) ⊢ postW m c t 1 := by
  rw [post_busy m c t 1 rfl, after_1]
  exact .rfl

/-- The product's buffer is left alone at the first point. -/
theorem keep_2 (c : Dev nD) (t : Fin cfg0.N) (ht : t.val = 0) : preW m c t 2 ⊢ postW m c t 2 := by
  rw [post_idle m c t 2 ((idle2 t).trans (decide_eq_true ht)) ((flush2 t).trans (decide_eq_false fun h => h ht))]

theorem post_2 (c : Dev nD) (t : Fin cfg0.N) (ht : t.val ≠ 0) : owns (c : Thread nD τ) (bufs t).y fullShare (yV m c t) ⊢ postW m c t 2 := by
  rw [post_busy m c t 2 ((idle2 t).trans (decide_eq_false ht)), after_2]
  exact .rfl

theorem post_3 (c : Dev nD) (t : Fin cfg0.N) : owns (c : Thread nD τ) (bufs t).cn fullShare (cnS (wV m c t.val) (tV m c t)) ⊢ postW m c t 3 := by
  rw [post_busy m c t 3 (idle3 t), after_3]
  exact .rfl

theorem post_4 (c : Dev nD) (t : Fin cfg0.N) : owns (c : Thread nD τ) (bufs t).ck fullShare (ckS (wV m c t.val) (tV m c t)) ⊢ postW m c t 4 := by
  rw [post_busy m c t 4 (idle4 t), after_4]
  exact .rfl

theorem post_5 (c : Dev nD) (t : Fin cfg0.N) : owns (c : Thread nD τ) (bufs t).sb fullShare (sbS (stV m c) (bV m c t)) ⊢ postW m c t 5 := by
  rw [post_busy m c t 5 (idle5 t), after_5]
  exact .rfl

theorem post_6 (c : Dev nD) (t : Fin cfg0.N) (ht : t.val = 0) : owns (c : Thread nD τ) (bufs t).st fullShare (fun _ => stV m c) ⊢ postW m c t 6 := by
  rw [post_busy m c t 6 ((idle6 t).trans (decide_eq_false fun h => h ht)), after_6]
  exact .rfl

/-- The global scale's buffer is left alone after the first point. -/
theorem keep_6 (c : Dev nD) (t : Fin cfg0.N) (ht : t.val ≠ 0) : preW m c t 6 ⊢ postW m c t 6 := by
  cases hf : (cfg0.win 6).flush t
  · rw [post_idle m c t 6 ((idle6 t).trans (decide_eq_true ht)) hf]
  · rw [post_flush m c t 6 ((idle6 t).trans (decide_eq_true ht)) hf, after_6]
    unfold preW
    iintro ⟨%d, H⟩
    rw [before_6 m c t ht]
    iexact H

theorem blk0 (c : Dev nD) (t : Fin cfg0.N) (ht : t.val = 0) : iblk m c 0 t = mV m c := by
  have : t = ⟨0, by decide⟩ := Fin.ext ht
  subst this
  rfl

theorem phi_first (c : Dev nD) (t : Fin cfg0.N) (ht : t.val = 0) : (dats m 0 c).Φ t.castSucc = Pipeline.ΦD osem0 spec0 H0 (V m) c := by
  rw [Phi_castSucc]
  obtain ⟨v, hv⟩ := t
  cases v with
  | zero => rfl
  | succ v => exact absurd ht (Nat.succ_ne_zero v)

theorem phi_later (c : Dev nD) (t : Fin cfg0.N) (ht : t.val ≠ 0) : (dats m 0 c).Φ t.castSucc = PhiAt m c (prev t) := by
  rw [Phi_castSucc]
  obtain ⟨v, hv⟩ := t
  cases v with
  | zero => exact absurd rfl ht
  | succ v => rfl

theorem owes_pre (c : Dev nD) (t : Fin (cfg0.N + 1)) : (dats m 0 c).owesAt () t ⊢ Quiet c := by
  unfold Dat.owesAt Pipeline.owesWithin Quiet
  rw [show (dats m 0 c).owed t = 0 from rfl]
  iintro ⟨%W, -, HW⟩
  iexists W
  iexact HW

theorem owes_post (c : Dev nD) (t : Fin (cfg0.N + 1)) : Quiet c ⊢ (dats m 0 c).owesAt () t := by
  unfold Dat.owesAt Pipeline.owesWithin Quiet
  rw [show (dats m 0 c).owed t = 0 from rfl]
  iintro ⟨%W, HW⟩
  iexists W
  isplitr
  · ipureintro
    exact fun _ _ => Or.inl trivial
  iexact HW

def bodyPre (c : Dev nD) (t : Fin cfg0.N) : sProp 𝕄 :=
  iprop((dats m 0 c).Φ t.castSucc ∗ (dats m 0 c).owesAt () t.castSucc ∗ preW m c t 0 ∗ preW m c t 1 ∗ preW m c t 2 ∗ preW m c t 3 ∗ preW m c t 4 ∗ preW m c t 5 ∗ preW m c t 6)
def bodyPost (c : Dev nD) (t : Fin cfg0.N) : sProp 𝕄 :=
  iprop((dats m 0 c).Φ t.succ ∗ (dats m 0 c).owesAt () t.succ ∗ postW m c t 0 ∗ postW m c t 1 ∗ postW m c t 2 ∗ postW m c t 3 ∗ postW m c t 4 ∗ postW m c t 5 ∗ postW m c t 6)

/-- The first point's body. -/
theorem sound_first (c : Dev nD) (t : Fin cfg0.N) (ht : t.val = 0) :
    bodyPre m c t ⊢ wpk Variants.none c none Set.univ (bodyP (F := F) (grid0.coords t) (bufs t)) (fun _ => bodyPost m c t) := by
  unfold bodyPre bodyPost
  rw [phi_first m c t ht, Phi_succ]
  iintro ⟨HP, HQ, H0, H1, H2, H3, H4, H5, H6⟩
  ihave HQ := (owes_pre m c t.castSucc) $$ HQ
  ihave H0 := (pre_0 m c t) $$ H0
  ihave H1 := (pre_1 m c t) $$ H1
  ihave H2 := (keep_2 m c t ht) $$ H2
  ihave H3 := (pre_some m c t 3) $$ H3
  ihave H4 := (pre_some m c t 4) $$ H4
  ihave H5 := (pre_some m c t 5) $$ H5
  ihave H6 := (pre_some m c t 6) $$ H6
  rw [blk0 m c t ht]
  ihave H := (first_step m Variants.none none c t ht) $$ [HP HQ H0 H1 H3 H4 H5 H6]
  · isplitl [HP]; · iexact HP
    isplitl [HQ]; · iexact HQ
    isplitl [H0]; · iexact H0
    isplitl [H1]; · iexact H1
    isplitl [H3]; · iexact H3
    isplitl [H4]; · iexact H4
    isplitl [H5]; · iexact H5
    iexact H6
  iapply (wp_wand _ _ _) $$ H
  iintro %_ ⟨HP, HQ, H0, H1, H3, H4, H5, H6⟩
  rw [← blk0 m c t ht]
  isplitl [HP]; · iexact HP
  isplitl [HQ]; · iapply (owes_post m c t.succ) $$ HQ
  isplitl [H0]; · iapply (post_0 m c t) $$ H0
  isplitl [H1]; · iapply (post_1 m c t) $$ H1
  isplitl [H2]; · iexact H2
  isplitl [H3]; · iapply (post_3 m c t) $$ H3
  isplitl [H4]; · iapply (post_4 m c t) $$ H4
  isplitl [H5]; · iapply (post_5 m c t) $$ H5
  iapply (post_6 m c t ht) $$ H6

/-- A later point's step. -/
theorem later_step (c : Dev nD) (t : Fin cfg0.N) (h0 : t.val ≠ 0) :
    iprop(PhiAt m c (prev t) ∗ Quiet c ∗ owns (c : Thread nD τ) (bufs t).bm fullShare (bV m c t) ∗ Some' c (bufs t).y ∗ Some' c (bufs t).cn ∗ Some' c (bufs t).ck ∗ Some' c (bufs t).sb)
      ⊢ wpk Variants.none c none Set.univ (bodyP (F := F) (grid0.coords t) (bufs t)) (fun _ => iprop(PhiAt m c t ∗ Quiet c ∗ owns (c : Thread nD τ) (bufs t).bm fullShare (bV m c t)
        ∗ owns (c : Thread nD τ) (bufs t).y fullShare (yV m c t) ∗ owns (c : Thread nD τ) (bufs t).cn fullShare (cnS (wV m c t.val) (tV m c t))
        ∗ owns (c : Thread nD τ) (bufs t).ck fullShare (ckS (wV m c t.val) (tV m c t)) ∗ owns (c : Thread nD τ) (bufs t).sb fullShare (sbS (stV m c) (bV m c t)))) := by
  rcases Nat.mod_two_eq_zero_or_one t.val with ht | ht
  · exact even_step m Variants.none none c t h0 ht
  · exact odd_step m Variants.none none c t ht

theorem sound_later (c : Dev nD) (t : Fin cfg0.N) (ht : t.val ≠ 0) :
    bodyPre m c t ⊢ wpk Variants.none c none Set.univ (bodyP (F := F) (grid0.coords t) (bufs t)) (fun _ => bodyPost m c t) := by
  unfold bodyPre bodyPost
  rw [phi_later m c t ht, Phi_succ]
  iintro ⟨HP, HQ, H0, H1, H2, H3, H4, H5, H6⟩
  ihave HQ := (owes_pre m c t.castSucc) $$ HQ
  ihave H0 := ((pre_0 m c t).trans (post_0 m c t)) $$ H0
  ihave H1 := (pre_1 m c t) $$ H1
  ihave H2 := (pre_some m c t 2) $$ H2
  ihave H3 := (pre_some m c t 3) $$ H3
  ihave H4 := (pre_some m c t 4) $$ H4
  ihave H5 := (pre_some m c t 5) $$ H5
  ihave H6 := (keep_6 m c t ht) $$ H6
  ihave H := (later_step m c t ht) $$ [HP HQ H1 H2 H3 H4 H5]
  · isplitl [HP]; · iexact HP
    isplitl [HQ]; · iexact HQ
    isplitl [H1]; · iexact H1
    isplitl [H2]; · iexact H2
    isplitl [H3]; · iexact H3
    isplitl [H4]; · iexact H4
    iexact H5
  iapply (wp_wand _ _ _) $$ H
  iintro %_ ⟨HP, HQ, H1, H2, H3, H4, H5⟩
  isplitl [HP]; · iexact HP
  isplitl [HQ]; · iapply (owes_post m c t.succ) $$ HQ
  isplitl [H0]; · iexact H0
  isplitl [H1]; · iapply (post_1 m c t) $$ H1
  isplitl [H2]; · iapply (post_2 m c t ht) $$ H2
  isplitl [H3]; · iapply (post_3 m c t) $$ H3
  isplitl [H4]; · iapply (post_4 m c t) $$ H4
  isplitl [H5]; · iapply (post_5 m c t) $$ H5
  iexact H6

theorem sound_body (c : Dev nD) (t : Fin cfg0.N) :
    bodyPre m c t ⊢ wp frame (wpE (defs₀ (F := F)) Variants.none c none) Set.univ (bodyAt0 t) (fun _ => bodyPost m c t) := by
  rw [bodyAt_eq]
  by_cases ht : t.val = 0
  · exact sound_first m c t ht
  · exact sound_later m c t ht

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ### The run and the frame -/

theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem phi_in (c : Dev nD) : Pipeline.ΦD osem0 spec0 H0 (V m) c ⊢ (dats m 0 c).Φ 0 := by dsimp only [dats]; exact .rfl

theorem phi_out (c : Dev nD) : (dats m 0 c).Φ (Fin.last cfg0.N) ⊢ Pipeline.ΦD osem0 spec0 H0 (V m) c :=
  (BI.BIBase.Entails.of_eq (Phi_succ m c ⟨56, by decide⟩)).trans (phi_end m c ⟨56, by decide⟩ rfl)

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma_shared (Q' := _) cfgs (dats m) (0 : Fin 1) launch₀0 osem0 defs₀ Variants.none ownSemFacts0 H0 H0_sub m ρ main
    (hbody := fun c => (body_obligation m c).loose) (hq := fun _ _ _ => rfl)
    (howed := fun _ _ => rfl) (V := V m) (hmain := hmain m Variants.none) (hA := A_eq m)
    (hin := phi_in m) (hout := phi_out m) (hQ' := fun _ h => h)

/-- The arguments end as they began. -/
theorem args_kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).1 1).trans (((dats m 0 c).arrAt_in 1 rfl _).trans (A_eq m c 1)),
    (h c).2 main_arg1 (Pipeline.mem_restRefs_of main_arg1 (by decide) (by decide)), (h c).2 main_arg2 (Pipeline.mem_restRefs_of main_arg2 (by decide) (by decide))⟩

/-- The kernel runs, leaves its arguments alone and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨args_kept m r h.1, h.2⟩) (run_main m ρ)

end Cert.Kernel.Body

end
-- ==== Proof.Same.lean ====
/-
  The kernel and its idealization print the same program: the two bodies, body tables and entry points are equal.
-/
module

public import proofs.«01_k».proof.Defs
public import proofs.«01_k».proof.Proof.Gen.Kernel
public import proofs.«01_k».proof.Proof.Gen.KernelIdeal

@[expose] public section

noncomputable section

namespace Cert.Proof

open Idealize.ShloMosaic Idealize.SL.Sem

theorem win_same : @Cert.Kernel.win0 Cert.Kernel.Gen.facts.toFacts₀ = @Cert.KernelIdeal.win0 Cert.KernelIdeal.Gen.facts.toFacts₀ := rfl

theorem cfgs_same : @Cert.Kernel.cfgs Cert.Kernel.Gen.facts = @Cert.KernelIdeal.cfgs Cert.KernelIdeal.Gen.facts := rfl

theorem defs₀_same : @Cert.Kernel.defs₀ Ideal _ Cert.Kernel.Gen.facts = @Cert.KernelIdeal.defs₀ Ideal _ Cert.KernelIdeal.Gen.facts := by
  unfold Cert.Kernel.defs₀ Cert.KernelIdeal.defs₀
  refine congrArg Defs.onTc (funext fun l => funext fun x => ?_)
  match l, x with
  | 0, (t, s) => exact rfl

theorem defs_same : @Cert.Kernel.defs Ideal _ Cert.Kernel.Gen.facts = @Cert.KernelIdeal.defs Ideal _ Cert.KernelIdeal.Gen.facts :=
  congrArg (Pipeline.defs (Cert.Kernel.pcfgs (F := Ideal))) defs₀_same

theorem main_same : @Cert.Kernel.main Ideal _ = @Cert.KernelIdeal.main Ideal _ := rfl

/-- What holds of the kernel's runs holds of the idealization's. -/
theorem run_same (m : (ℓ : Loc Cert.Kernel.nD Cert.Kernel.τ Cert.Kernel.sig) → Buf (Elt Ideal) ℓ) (g : Dev Cert.Kernel.nD → PrngReg)
    (Q : PUnit × MemSt Cert.Kernel.nD Cert.Kernel.τ Cert.Kernel.sig (Elt Ideal) → Prop)
    (h : θ_run (Cert.Kernel.defs (F := Ideal)) (onTc (τ := Cert.Kernel.τ) (Cert.Kernel.main (F := Ideal))) ⟨m, fun _ => 0, g⟩ Q) :
    θ_run (Cert.KernelIdeal.defs (F := Ideal)) (onTc (τ := Cert.KernelIdeal.τ) (Cert.KernelIdeal.main (F := Ideal))) ⟨m, fun _ => 0, g⟩ Q := by
  have e := defs_same
  rw [← e]
  exact h

end Cert.Proof

end
-- ==== Proof.Value.Bool.lean ====
module

public import Idealize.ShloMosaic.Lib.Pipeline.ValueKit

@[expose] public section

/-! The four-bit code of one weight as a function of its seven threshold comparisons and its sign. The kernel finds
    the code by a search of three steps, the reference by counting the thresholds passed: on comparisons that come
    from growing thresholds the two are the same code and the same magnitude. -/

namespace Cert.Value

open Idealize.ShloMosaic

/-- The second bit of the search. -/
def mid (c1 c3 c5 : Bool) : Bool := bif c3 then c5 else c1

/-- The last bit of the search. -/
def low (c0 c1 c2 c3 c4 c5 c6 : Bool) : Bool :=
  bif c3 then (bif mid c1 c3 c5 then c6 else c4) else (bif mid c1 c3 c5 then c2 else c0)

/-- The two upper bits of the magnitude code. -/
def highB (c1 c3 c5 : Bool) : BitVec 16 :=
  bif c3 then (bif mid c1 c3 c5 then 6#16 else 4#16) else (bif mid c1 c3 c5 then 2#16 else 0#16)

/-- The magnitude code as the search finds it. -/
def magB (c0 c1 c2 c3 c4 c5 c6 : Bool) : BitVec 16 :=
  IntOp.ori (highB c1 c3 c5) (bif low c0 c1 c2 c3 c4 c5 c6 then 1#16 else 0#16)

/-- The code as the search finds it. -/
def searchB (c0 c1 c2 c3 c4 c5 c6 s : Bool) : BitVec 16 :=
  IntOp.ori (magB c0 c1 c2 c3 c4 c5 c6) (bif s then 8#16 else 0#16)

/-- The bf16 pattern of the magnitude as the search builds it. -/
def patB (c0 c1 c2 c3 c4 c5 c6 : Bool) : BitVec 16 :=
  Scalar.select (IntOp.cmpi .sgt (highB c1 c3 c5) 0#16)
    (IntOp.addi (IntOp.shli .vector (magB c0 c1 c2 c3 c4 c5 c6) 6#16) 16128#16)
    (bif low c0 c1 c2 c3 c4 c5 c6 then 16128#16 else 0#16)

/-- One comparison, counted. -/
def one (c : Bool) : BitVec 32 := BitVec.setWidth 32 (BitVec.ofBool c)

/-- The code as the reference counts it. -/
def countB (c0 c1 c2 c3 c4 c5 c6 s : Bool) : BitVec 32 :=
  IntOp.ori (IntOp.shli .vector (one s) 3#32)
    (IntOp.addi (IntOp.addi (IntOp.addi (IntOp.addi (IntOp.addi (IntOp.addi (one c0) (one c1)) (one c2)) (one c3)) (one c4)) (one c5)) (one c6))

/-- Is a bit of the code set. -/
def bit (n m : BitVec 32) : BitVec 1 := IntOp.cmpi .ne (IntOp.andi n m) 0#32

/-- The bf16 pattern of the magnitude of a code. -/
def patN (n : BitVec 32) : BitVec 16 :=
  Scalar.select (bit n 4#32)
    (Scalar.select (bit n 2#32) (Scalar.select (bit n 1#32) 16576#16 16512#16) (Scalar.select (bit n 1#32) 16448#16 16384#16))
    (Scalar.select (bit n 2#32) (Scalar.select (bit n 1#32) 16320#16 16256#16) (Scalar.select (bit n 1#32) 16128#16 0#16))

/-- Growing thresholds: a number that passes one passes every smaller one. -/
def Chain (c0 c1 c2 c3 c4 c5 c6 : Bool) : Prop :=
  (c6 → c5) ∧ (c5 → c4) ∧ (c4 → c3) ∧ (c3 → c2) ∧ (c2 → c1) ∧ (c1 → c0)

instance (c0 c1 c2 c3 c4 c5 c6 : Bool) : Decidable (Chain c0 c1 c2 c3 c4 c5 c6) := by unfold Chain; infer_instance

/-- The search finds the counted code, the counted code has four bits, the two magnitudes have one pattern, and the
    code's top bit is the sign. -/
theorem search_count : ∀ c0 c1 c2 c3 c4 c5 c6 s : Bool, Chain c0 c1 c2 c3 c4 c5 c6 →
    searchB c0 c1 c2 c3 c4 c5 c6 s = BitVec.setWidth 16 (countB c0 c1 c2 c3 c4 c5 c6 s) ∧
    countB c0 c1 c2 c3 c4 c5 c6 s = BitVec.setWidth 32 (BitVec.setWidth 4 (countB c0 c1 c2 c3 c4 c5 c6 s)) ∧
    patB c0 c1 c2 c3 c4 c5 c6 = patN (countB c0 c1 c2 c3 c4 c5 c6 s) ∧
    bit (countB c0 c1 c2 c3 c4 c5 c6 s) 8#32 = BitVec.ofBool s := by
  decide +kernel

end Cert.Value
-- ==== Proof.Value.Ext.lean ====
module

public import proofs.«01_k».proof.Proof.Value.Bool
public import Idealize.ShloMosaic.Lib.IdealHost

@[expose] public section

/-! The quantisation of one weight over the extended reals: the threshold test `p · d ≤ |w|` against the test
    `p ≤ |clip (w / d)|`, for a block step `d` that is never `⊤`. -/

noncomputable section

namespace Cert.Value

open Idealize.ShloMosaic

theorem six : Ideal.ofBits .f32 1086324736#32 = ((6 : ℝ) : EReal) := by
  simp [Ideal.ofBits, Ideal.ieee, -EReal.coe_mul]; norm_num
theorem negSix : Ideal.ofBits .f32 3233808384#32 = ((-6 : ℝ) : EReal) := by
  simp [Ideal.ofBits, Ideal.ieee, -EReal.coe_mul, -EReal.coe_neg]; norm_num
theorem fp8Max : Ideal.ofBits .f32 1138753536#32 = ((448 : ℝ) : EReal) := by
  simp [Ideal.ofBits, Ideal.ieee, -EReal.coe_mul]; norm_num
theorem stepMax : Ideal.ofBits .f32 1160249344#32 = ((2688 : ℝ) : EReal) := by
  simp [Ideal.ofBits, Ideal.ieee, -EReal.coe_mul]; norm_num
theorem posInf : Ideal.ofBits .f32 2139095040#32 = (⊤ : EReal) := by
  simp [Ideal.ofBits, Ideal.ieee]
theorem negInf : Ideal.ofBits .f32 4286578688#32 = (⊥ : EReal) := by
  simp [Ideal.ofBits, Ideal.ieee]
theorem p0 : Ideal.ofBits .f32 1048576000#32 = ((0.25 : ℝ) : EReal) := by
  simp [Ideal.ofBits, Ideal.ieee, -EReal.coe_mul]; norm_num
theorem p1 : Ideal.ofBits .f32 1061158912#32 = ((0.75 : ℝ) : EReal) := by
  simp [Ideal.ofBits, Ideal.ieee, -EReal.coe_mul]; norm_num
theorem p2 : Ideal.ofBits .f32 1067450368#32 = ((1.25 : ℝ) : EReal) := by
  simp [Ideal.ofBits, Ideal.ieee, -EReal.coe_mul]; norm_num
theorem p3 : Ideal.ofBits .f32 1071644672#32 = ((1.75 : ℝ) : EReal) := by
  simp [Ideal.ofBits, Ideal.ieee, -EReal.coe_mul]; norm_num
theorem p4 : Ideal.ofBits .f32 1075838976#32 = ((2.5 : ℝ) : EReal) := by
  simp [Ideal.ofBits, Ideal.ieee, -EReal.coe_mul]; norm_num
theorem p5 : Ideal.ofBits .f32 1080033280#32 = ((3.5 : ℝ) : EReal) := by
  simp [Ideal.ofBits, Ideal.ieee, -EReal.coe_mul]; norm_num
theorem p6 : Ideal.ofBits .f32 1084227584#32 = ((5 : ℝ) : EReal) := by
  simp [Ideal.ofBits, Ideal.ieee, -EReal.coe_mul]; norm_num

/-- The scale of one block. -/
def scaleE (st b : EReal) : EReal :=
  min (Ideal.div b (st * Ideal.ofBits .f32 1086324736#32)) (Ideal.ofBits .f32 1138753536#32)

/-- The step of one block: its scale times the tensor's. -/
def stepE (st b : EReal) : EReal := scaleE st b * st

/-- The largest absolute value gives the tensor's scale. -/
def tensorE (M : EReal) : EReal := Ideal.div M (Ideal.ofBits .f32 1160249344#32)

/-- One weight in steps of its block, clipped to six steps; `0` for a block without a positive step. -/
def ratioE (d w : EReal) : EReal :=
  min (Ideal.ofBits .f32 1086324736#32) (max (Ideal.ofBits .f32 3233808384#32)
    (if 0 < d then Ideal.div w (if 0 < d then d else 1) else 0))

theorem div_pos_coe (w : EReal) {r : ℝ} (hr : 0 < r) : Ideal.div w (r : EReal) = w * ((r⁻¹ : ℝ) : EReal) := by
  unfold Ideal.div
  rw [if_neg (by exact_mod_cast hr.ne'), EReal.coe_inv]

theorem div_ne_coe (w : EReal) {r : ℝ} (hr : r ≠ 0) : Ideal.div w (r : EReal) = w * ((r⁻¹ : ℝ) : EReal) := by
  unfold Ideal.div
  rw [if_neg (by exact_mod_cast hr), EReal.coe_inv]

/-- A block's step is never `⊤` when the block's maximum is at most the tensor's. -/
theorem step_ne_top {M b : EReal} (h : b ≤ M) : stepE (tensorE M) b ≠ ⊤ := by
  unfold stepE scaleE tensorE
  rw [six, fp8Max, stepMax, div_pos_coe _ (by norm_num : (0 : ℝ) < 2688)]
  have k : (0 : ℝ) < 2688⁻¹ := by norm_num
  induction M using EReal.rec with
  | bot =>
    rw [EReal.bot_mul_coe_of_pos k, EReal.bot_mul_coe_of_pos (by norm_num : (0 : ℝ) < 6)]
    simp [Ideal.div]
  | top =>
    rw [EReal.top_mul_coe_of_pos k, EReal.top_mul_coe_of_pos (by norm_num : (0 : ℝ) < 6)]
    simp [Ideal.div]
  | coe m =>
    rw [← EReal.coe_mul]
    generalize hr : m * 2688⁻¹ = r
    rw [← EReal.coe_mul]
    rcases eq_or_ne r 0 with h0 | h0
    · subst h0; simp
    · rw [div_ne_coe _ (mul_ne_zero h0 (by norm_num))]
      induction b using EReal.rec with
      | top => simp at h
      | coe b =>
        rw [← EReal.coe_mul, ← EReal.coe_strictMono.monotone.map_min, ← EReal.coe_mul]
        exact EReal.coe_ne_top _
      | bot =>
        rcases lt_or_gt_of_ne h0 with h1 | h1
        · rw [EReal.bot_mul_coe_of_neg (by rw [inv_lt_zero]; linarith)]
          simp only [le_top, min_eq_right, ← EReal.coe_mul]
          exact EReal.coe_ne_top _
        · rw [EReal.bot_mul_coe_of_pos (by positivity)]
          simp [EReal.bot_mul_coe_of_pos h1]

/-- The absolute value of the clipped ratio of a real step. -/
theorem ratio_cases {r : ℝ} (hr : 0 < r) (w : EReal) {p : ℝ} (h0 : 0 < p) (h6 : p < 6) :
    ((r : EReal) * (p : EReal) ≤ max w (-w) ↔ (p : EReal) ≤ max (ratioE r w) (-(ratioE r w))) ∧
    ((r : EReal) * (p : EReal) < max w (-w) ↔ (p : EReal) < max (ratioE r w) (-(ratioE r w))) ∧
    (w < 0 ↔ ratioE r w < 0) := by
  have hrE : (0 : EReal) < (r : EReal) := by exact_mod_cast hr
  have hi : (0 : ℝ) < r⁻¹ := by positivity
  unfold ratioE
  rw [if_pos hrE, if_pos hrE, div_pos_coe _ hr, six, negSix]
  induction w using EReal.rec with
  | bot =>
    rw [EReal.bot_mul_coe_of_pos hi]
    have e : min ((6 : ℝ) : EReal) (max ((-6 : ℝ) : EReal) ⊥) = ((-6 : ℝ) : EReal) := by
      rw [max_eq_left bot_le, ← EReal.coe_strictMono.monotone.map_min]; norm_num
    rw [e, ← EReal.coe_neg, ← EReal.coe_mul, ← EReal.coe_strictMono.monotone.map_max]
    have e2 : max (-6 : ℝ) (- -6) = 6 := by norm_num
    rw [e2, EReal.neg_bot, max_eq_right bot_le]
    refine ⟨⟨fun _ => ?_, fun _ => le_top⟩, ⟨fun _ => ?_, fun _ => EReal.coe_lt_top _⟩, ⟨fun _ => ?_, fun _ => EReal.bot_lt_zero⟩⟩
    · exact_mod_cast h6.le
    · exact_mod_cast h6
    · exact_mod_cast (by norm_num : (-6 : ℝ) < 0)
  | top =>
    rw [EReal.top_mul_coe_of_pos hi]
    have e : min ((6 : ℝ) : EReal) (max ((-6 : ℝ) : EReal) ⊤) = ((6 : ℝ) : EReal) := by
      rw [max_eq_right le_top, min_eq_left le_top]
    rw [e, ← EReal.coe_neg, ← EReal.coe_mul, ← EReal.coe_strictMono.monotone.map_max]
    have e2 : max (6 : ℝ) (-6) = 6 := by norm_num
    rw [e2, EReal.neg_top, max_eq_left bot_le]
    refine ⟨⟨fun _ => ?_, fun _ => le_top⟩, ⟨fun _ => ?_, fun _ => EReal.coe_lt_top _⟩, ⟨fun h => ?_, fun h => ?_⟩⟩
    · exact_mod_cast h6.le
    · exact_mod_cast h6
    · simp at h
    · exact absurd h (by simp only [not_lt]; exact_mod_cast (by norm_num : (0 : ℝ) ≤ 6))
  | coe w =>
    have e : min ((6 : ℝ) : EReal) (max ((-6 : ℝ) : EReal) ((w : EReal) * ((r⁻¹ : ℝ) : EReal))) = ((min 6 (max (-6) (w * r⁻¹)) : ℝ) : EReal) := by
      rw [← EReal.coe_mul, ← EReal.coe_strictMono.monotone.map_max, ← EReal.coe_strictMono.monotone.map_min]
    rw [e, ← EReal.coe_neg, ← EReal.coe_neg, ← EReal.coe_mul, ← EReal.coe_strictMono.monotone.map_max, ← EReal.coe_strictMono.monotone.map_max,
      EReal.coe_le_coe_iff, EReal.coe_le_coe_iff, EReal.coe_lt_coe_iff, EReal.coe_lt_coe_iff,
      ← EReal.coe_zero, EReal.coe_lt_coe_iff, EReal.coe_lt_coe_iff]
    have hw : w = r * (w * r⁻¹) := by field_simp
    generalize hq : w * r⁻¹ = q at *
    subst hw
    have a1 : ∀ x y : ℝ, r * x ≤ r * y ↔ x ≤ y := fun x y => mul_le_mul_iff_right₀ hr
    have a2 : ∀ x y : ℝ, r * x < r * y ↔ x < y := fun x y => mul_lt_mul_iff_right₀ hr
    rw [← mul_neg]
    refine ⟨?_, ?_, ?_⟩
    · simp only [le_max_iff, a1, le_min_iff, le_neg (a := p), min_le_iff, max_le_iff]
      constructor
      · rintro (h | h)
        · exact .inl ⟨h6.le, .inr h⟩
        · exact .inr (.inr ⟨by linarith, by linarith⟩)
      · rintro (⟨_, h | h⟩ | (h | ⟨_, h⟩))
        · linarith
        · exact .inl h
        · linarith
        · exact .inr (by linarith)
    · simp only [lt_max_iff, a2, lt_min_iff, lt_neg (a := p), min_lt_iff, max_lt_iff]
      constructor
      · rintro (h | h)
        · exact .inl ⟨h6, .inr h⟩
        · exact .inr (.inr ⟨by linarith, by linarith⟩)
      · rintro (⟨_, h | h⟩ | (h | ⟨_, h⟩))
        · linarith
        · exact .inl h
        · linarith
        · exact .inr (by linarith)
    · simp only [min_lt_iff, max_lt_iff]
      constructor
      · intro h
        exact .inr ⟨by norm_num, by by_contra hc; nlinarith [mul_nonneg hr.le (not_lt.1 hc)]⟩
      · rintro (h | ⟨_, h⟩)
        · linarith
        · nlinarith [mul_pos hr (neg_pos.2 h)]

end Cert.Value

end
-- ==== Proof.Value.Code.lean ====
module

public import proofs.«01_k».proof.Proof.Value.Ext

@[expose] public section

/-! One weight of the kernel against one weight of the reference: the codes are the same four bits, and the decoded
    weights are the same extended real. -/

noncomputable section

namespace Cert.Value

open Idealize.ShloMosaic

/-- A threshold of the kernel's table: a multiple of the block's step, out of reach where the step is not positive. -/
def thrE (d : EReal) (p : BitVec 32) : EReal :=
  if 0 < d then d * Ideal.ofBits .f32 p else Ideal.ofBits .f32 2139095040#32

/-- The sign threshold of the kernel's table. -/
def sgnE (d : EReal) : EReal := if 0 < d then 0 else Ideal.ofBits .f32 4286578688#32

/-- One comparison of the kernel's search. -/
def hitE (a t : EReal) : BitVec 1 :=
  IntOp.andi (BitVec.ofBool (decide (t ≤ a))) (BitVec.ofBool (decide (t < Ideal.ofBits .f32 2139095040#32)))

def midE (a t3 t5 t1 : EReal) : BitVec 1 := hitE a (Scalar.select (hitE a t3) t5 t1)

def lowE (a t3 t5 t1 t6 t4 t2 t0 : EReal) : EReal :=
  Scalar.select (hitE a t3) (Scalar.select (midE a t3 t5 t1) t6 t4) (Scalar.select (midE a t3 t5 t1) t2 t0)

def highE (a t3 t5 t1 : EReal) : BitVec 16 :=
  Scalar.select (hitE a t3) (Scalar.select (midE a t3 t5 t1) 6#16 4#16) (Scalar.select (midE a t3 t5 t1) 2#16 0#16)

def magE (a t3 t5 t1 t6 t4 t2 t0 : EReal) : BitVec 16 :=
  IntOp.ori (highE a t3 t5 t1) (if lowE a t3 t5 t1 t6 t4 t2 t0 < a then 1#16 else 0#16)

/-- The kernel's code of a weight, from its eight thresholds. -/
def codeE (w t3 t5 t1 t6 t4 t2 t0 t7 : EReal) : BitVec 16 :=
  IntOp.ori (magE (max w (-w)) t3 t5 t1 t6 t4 t2 t0) (if w < t7 then 8#16 else 0#16)

def patE (a t3 t5 t1 t6 t4 t2 t0 : EReal) : BitVec 16 :=
  Scalar.select (IntOp.cmpi .sgt (highE a t3 t5 t1) 0#16)
    (IntOp.addi (IntOp.shli .vector (magE a t3 t5 t1 t6 t4 t2 t0) 6#16) 16128#16)
    (if lowE a t3 t5 t1 t6 t4 t2 t0 < a then 16128#16 else 0#16)

/-- The kernel's decoded weight. -/
def deqE (w t3 t5 t1 t6 t4 t2 t0 t7 t9 t8 : EReal) : EReal :=
  Ideal.ofBits .bf16 (patE (max w (-w)) t3 t5 t1 t6 t4 t2 t0) * (if w < t7 then t9 else t8)

/-- The reference's code of a clipped ratio. -/
def nibE (v : EReal) : BitVec 32 :=
  countB (decide (Ideal.ofBits .f32 1048576000#32 < max v (-v))) (decide (Ideal.ofBits .f32 1061158912#32 ≤ max v (-v)))
    (decide (Ideal.ofBits .f32 1067450368#32 < max v (-v))) (decide (Ideal.ofBits .f32 1071644672#32 ≤ max v (-v)))
    (decide (Ideal.ofBits .f32 1075838976#32 < max v (-v))) (decide (Ideal.ofBits .f32 1080033280#32 ≤ max v (-v)))
    (decide (Ideal.ofBits .f32 1084227584#32 < max v (-v))) (decide (v < 0))

/-- The magnitude of a code, as the reference picks it. -/
def absN (n : BitVec 32) : EReal :=
  Scalar.select (bit n 4#32)
    (Scalar.select (bit n 2#32) (Scalar.select (bit n 1#32) (Ideal.ofBits .bf16 16576#16) (Ideal.ofBits .bf16 16512#16))
      (Scalar.select (bit n 1#32) (Ideal.ofBits .bf16 16448#16) (Ideal.ofBits .bf16 16384#16)))
    (Scalar.select (bit n 2#32) (Scalar.select (bit n 1#32) (Ideal.ofBits .bf16 16320#16) 1)
      (Scalar.select (bit n 1#32) (Ideal.ofBits .bf16 16128#16) 0))

/-- The reference's decoded weight, without its block's scale. -/
def decN (n : BitVec 32) : EReal := Scalar.select (bit n 8#32) (0 - absN n) (absN n)

theorem select_ofBool {α : Type} (c : Bool) (x y : α) : Scalar.select (BitVec.ofBool c) x y = bif c then x else y := by
  cases c <;> rfl

theorem absN_eq (n : BitVec 32) : absN n = Ideal.ofBits .bf16 (patN n) := by
  have k : ∀ (c : BitVec 1) (x y : BitVec 16), Ideal.ofBits .bf16 (Scalar.select c x y) = Scalar.select c (Ideal.ofBits .bf16 x) (Ideal.ofBits .bf16 y) := by
    intro c x y; unfold Scalar.select; split <;> rfl
  have h1 : Ideal.ofBits .bf16 16256#16 = 1 := Idealize.ShloMosaic.Ideal.ofBits_one_bf16
  have h0 : Ideal.ofBits .bf16 0#16 = 0 := Idealize.ShloMosaic.Ideal.ofBits_zero_bf16
  unfold absN patN
  simp only [k, h1, h0]

theorem hitE_fin {a t : EReal} (h : t < ⊤) : hitE a t = BitVec.ofBool (decide (t ≤ a)) := by
  unfold hitE
  rw [posInf, decide_eq_true h]
  cases decide (t ≤ a) <;> rfl

theorem hitE_top (a : EReal) : hitE a ⊤ = BitVec.ofBool false := by
  unfold hitE
  rw [posInf, decide_eq_false (lt_irrefl _)]
  cases decide (⊤ ≤ a) <;> rfl

theorem if_bif {α : Type} (p : Prop) [Decidable p] (x y : α) : (if p then x else y) = bif decide p then x else y := by
  by_cases h : p <;> simp [h]

theorem decide_le_bif (c : Bool) (x y a : EReal) : decide ((bif c then x else y) ≤ a) = bif c then decide (x ≤ a) else decide (y ≤ a) := by
  cases c <;> rfl
theorem decide_lt_bif (c : Bool) (x y a : EReal) : decide ((bif c then x else y) < a) = bif c then decide (x < a) else decide (y < a) := by
  cases c <;> rfl
theorem bif_lt {c : Bool} {x y a : EReal} (h1 : x < a) (h2 : y < a) : (bif c then x else y) < a := by
  cases c <;> assumption

/-- With thresholds below `⊤` the search is the Boolean one. -/
theorem search_fin {a t0 t1 t2 t3 t4 t5 t6 : EReal} (h1 : t1 < ⊤) (h3 : t3 < ⊤) (h5 : t5 < ⊤) :
    magE a t3 t5 t1 t6 t4 t2 t0 = magB (decide (t0 < a)) (decide (t1 ≤ a)) (decide (t2 < a)) (decide (t3 ≤ a)) (decide (t4 < a)) (decide (t5 ≤ a)) (decide (t6 < a)) ∧
    patE a t3 t5 t1 t6 t4 t2 t0 = patB (decide (t0 < a)) (decide (t1 ≤ a)) (decide (t2 < a)) (decide (t3 ≤ a)) (decide (t4 < a)) (decide (t5 ≤ a)) (decide (t6 < a)) := by
  have e1 : midE a t3 t5 t1 = BitVec.ofBool (mid (decide (t1 ≤ a)) (decide (t3 ≤ a)) (decide (t5 ≤ a))) := by
    unfold midE
    rw [hitE_fin h3, select_ofBool, hitE_fin (bif_lt h5 h1), decide_le_bif]; rfl
  have e2 : highE a t3 t5 t1 = highB (decide (t1 ≤ a)) (decide (t3 ≤ a)) (decide (t5 ≤ a)) := by
    unfold highE
    rw [e1, hitE_fin h3]
    simp only [select_ofBool]; rfl
  have e3 : decide (lowE a t3 t5 t1 t6 t4 t2 t0 < a) = low (decide (t0 < a)) (decide (t1 ≤ a)) (decide (t2 < a)) (decide (t3 ≤ a)) (decide (t4 < a)) (decide (t5 ≤ a)) (decide (t6 < a)) := by
    unfold lowE
    rw [e1, hitE_fin h3]
    simp only [select_ofBool, decide_lt_bif]; rfl
  have e4 : magE a t3 t5 t1 t6 t4 t2 t0 = magB (decide (t0 < a)) (decide (t1 ≤ a)) (decide (t2 < a)) (decide (t3 ≤ a)) (decide (t4 < a)) (decide (t5 ≤ a)) (decide (t6 < a)) := by
    unfold magE magB
    rw [e2, if_bif, e3]
  refine ⟨e4, ?_⟩
  unfold patE patB
  rw [e2, e4, if_bif, e3]

theorem chain_of (v : EReal) :
    Chain (decide (Ideal.ofBits .f32 1048576000#32 < v)) (decide (Ideal.ofBits .f32 1061158912#32 ≤ v))
      (decide (Ideal.ofBits .f32 1067450368#32 < v)) (decide (Ideal.ofBits .f32 1071644672#32 ≤ v))
      (decide (Ideal.ofBits .f32 1075838976#32 < v)) (decide (Ideal.ofBits .f32 1080033280#32 ≤ v))
      (decide (Ideal.ofBits .f32 1084227584#32 < v)) := by
  unfold Chain
  rw [p0, p1, p2, p3, p4, p5, p6]
  simp only [decide_eq_true_eq]
  refine ⟨fun h => le_trans ?_ h.le, fun h => lt_of_lt_of_le ?_ h, fun h => le_trans ?_ h.le, fun h => lt_of_lt_of_le ?_ h,
    fun h => le_trans ?_ h.le, fun h => lt_of_lt_of_le ?_ h⟩ <;> norm_cast <;> norm_num

/-- The codes agree, the decoded weights agree, and the code has four bits. -/
theorem weight_eq {d : EReal} (hd : d ≠ ⊤) (w sb : EReal) :
    codeE w (thrE d 1071644672#32) (thrE d 1080033280#32) (thrE d 1061158912#32) (thrE d 1084227584#32) (thrE d 1075838976#32)
        (thrE d 1067450368#32) (thrE d 1048576000#32) (sgnE d) = BitVec.setWidth 16 (nibE (ratioE d w)) ∧
    deqE w (thrE d 1071644672#32) (thrE d 1080033280#32) (thrE d 1061158912#32) (thrE d 1084227584#32) (thrE d 1075838976#32)
        (thrE d 1067450368#32) (thrE d 1048576000#32) (sgnE d) (0 - sb) sb = decN (nibE (ratioE d w)) * sb ∧
    nibE (ratioE d w) = BitVec.setWidth 32 (BitVec.setWidth 4 (nibE (ratioE d w))) := by
  obtain ⟨hs1, hs2, hs3, hs4⟩ := search_count _ _ _ _ _ _ _ (decide (ratioE d w < 0)) (chain_of (max (ratioE d w) (-(ratioE d w))))
  have key : magE (max w (-w)) (thrE d 1071644672#32) (thrE d 1080033280#32) (thrE d 1061158912#32) (thrE d 1084227584#32) (thrE d 1075838976#32)
        (thrE d 1067450368#32) (thrE d 1048576000#32) =
        magB (decide (Ideal.ofBits .f32 1048576000#32 < max (ratioE d w) (-(ratioE d w)))) (decide (Ideal.ofBits .f32 1061158912#32 ≤ max (ratioE d w) (-(ratioE d w))))
    (decide (Ideal.ofBits .f32 1067450368#32 < max (ratioE d w) (-(ratioE d w)))) (decide (Ideal.ofBits .f32 1071644672#32 ≤ max (ratioE d w) (-(ratioE d w))))
    (decide (Ideal.ofBits .f32 1075838976#32 < max (ratioE d w) (-(ratioE d w)))) (decide (Ideal.ofBits .f32 1080033280#32 ≤ max (ratioE d w) (-(ratioE d w))))
    (decide (Ideal.ofBits .f32 1084227584#32 < max (ratioE d w) (-(ratioE d w)))) ∧
      patE (max w (-w)) (thrE d 1071644672#32) (thrE d 1080033280#32) (thrE d 1061158912#32) (thrE d 1084227584#32) (thrE d 1075838976#32)
        (thrE d 1067450368#32) (thrE d 1048576000#32) =
        patB (decide (Ideal.ofBits .f32 1048576000#32 < max (ratioE d w) (-(ratioE d w)))) (decide (Ideal.ofBits .f32 1061158912#32 ≤ max (ratioE d w) (-(ratioE d w))))
    (decide (Ideal.ofBits .f32 1067450368#32 < max (ratioE d w) (-(ratioE d w)))) (decide (Ideal.ofBits .f32 1071644672#32 ≤ max (ratioE d w) (-(ratioE d w))))
    (decide (Ideal.ofBits .f32 1075838976#32 < max (ratioE d w) (-(ratioE d w)))) (decide (Ideal.ofBits .f32 1080033280#32 ≤ max (ratioE d w) (-(ratioE d w))))
    (decide (Ideal.ofBits .f32 1084227584#32 < max (ratioE d w) (-(ratioE d w)))) ∧ (w < sgnE d ↔ ratioE d w < 0) := by
    by_cases h : 0 < d
    · have hb : d ≠ ⊥ := fun e => by rw [e] at h; exact absurd h (by simp)
      lift d to ℝ using ⟨hd, hb⟩
      have hr : 0 < d := by exact_mod_cast h
      have th : ∀ p : BitVec 32, thrE (d : EReal) p = (d : EReal) * Ideal.ofBits .f32 p := fun p => if_pos h
      have fin : ∀ p : ℝ, (d : EReal) * (p : EReal) < ⊤ := fun p => by rw [← EReal.coe_mul]; exact EReal.coe_lt_top _
      have k := search_fin (a := max w (-w)) (t0 := thrE d 1048576000#32) (t1 := thrE d 1061158912#32) (t2 := thrE d 1067450368#32) (t3 := thrE d 1071644672#32)
        (t4 := thrE d 1075838976#32) (t5 := thrE d 1080033280#32) (t6 := thrE d 1084227584#32)
        (by rw [th, p1]; exact fin _) (by rw [th, p3]; exact fin _) (by rw [th, p5]; exact fin _)
      have c0 := (ratio_cases hr w (p := 0.25) (by norm_num) (by norm_num)).2.1
      have c1 := (ratio_cases hr w (p := 0.75) (by norm_num) (by norm_num)).1
      have c2 := (ratio_cases hr w (p := 1.25) (by norm_num) (by norm_num)).2.1
      have c3 := (ratio_cases hr w (p := 1.75) (by norm_num) (by norm_num)).1
      have c4 := (ratio_cases hr w (p := 2.5) (by norm_num) (by norm_num)).2.1
      have c5 := (ratio_cases hr w (p := 3.5) (by norm_num) (by norm_num)).1
      have c6 := (ratio_cases hr w (p := 5) (by norm_num) (by norm_num)).2.1
      have cs := (ratio_cases hr w (p := 5) (by norm_num) (by norm_num)).2.2
      simp only [th, p0, p1, p2, p3, p4, p5, p6] at k ⊢
      simp only [decide_eq_decide.2 c0, decide_eq_decide.2 c1, decide_eq_decide.2 c2, decide_eq_decide.2 c3, decide_eq_decide.2 c4,
        decide_eq_decide.2 c5, decide_eq_decide.2 c6] at k
      refine ⟨k.1, k.2, ?_⟩
      rw [show sgnE (d : EReal) = 0 from if_pos h]
      exact cs
    · have th : ∀ p : BitVec 32, thrE d p = ⊤ := fun p => by unfold thrE; rw [if_neg h, posInf]
      have sg : sgnE d = ⊥ := by unfold sgnE; rw [if_neg h, negInf]
      have rt : ratioE d w = 0 := by
        unfold ratioE
        rw [if_neg h, six, negSix, max_eq_right (by exact_mod_cast (by norm_num : (-6 : ℝ) ≤ 0)), min_eq_right (by exact_mod_cast (by norm_num : (0 : ℝ) ≤ 6))]
      have e1 : highE (max w (-w)) ⊤ ⊤ ⊤ = 0#16 := by
        unfold highE midE
        simp only [hitE_top, select_ofBool, cond_false]
      have e2 : lowE (max w (-w)) ⊤ ⊤ ⊤ ⊤ ⊤ ⊤ ⊤ = ⊤ := by
        unfold lowE midE
        simp only [hitE_top, select_ofBool, cond_false]
      have z : max (0 : EReal) (-0) = 0 := by simp
      have no1 : ∀ p : ℝ, 0 < p → decide ((p : EReal) < 0) = false := fun p hp => decide_eq_false (not_lt.2 (by exact_mod_cast hp.le))
      have no2 : ∀ p : ℝ, 0 < p → decide ((p : EReal) ≤ 0) = false := fun p hp => decide_eq_false (not_le.2 (by exact_mod_cast hp))
      simp only [th, sg, rt, z, p0, p1, p2, p3, p4, p5, p6]
      rw [no1 0.25 (by norm_num), no2 0.75 (by norm_num), no1 1.25 (by norm_num), no2 1.75 (by norm_num), no1 2.5 (by norm_num),
        no2 3.5 (by norm_num), no1 5 (by norm_num)]
      unfold patE magE
      rw [e1, e2, if_neg not_top_lt, if_neg not_top_lt]
      exact ⟨rfl, rfl, by simp⟩
  obtain ⟨k1, k2, k3⟩ := key
  refine ⟨?_, ?_, hs2⟩
  · unfold codeE
    rw [k1, if_bif, decide_eq_decide.2 k3]
    exact hs1
  · unfold deqE decN
    rw [k2, hs3, if_bif, decide_eq_decide.2 k3, absN_eq, show bit (nibE (ratioE d w)) 8#32 = _ from hs4, select_ofBool]
    change Ideal.ofBits .bf16 (patN (nibE (ratioE d w))) * _ = _
    cases decide (ratioE d w < 0)
    · rfl
    · simp only [cond_true, zero_sub, mul_neg, neg_mul]

end Cert.Value

end
-- ==== Proof.Value.Index.lean ====
module

public import proofs.«01_k».proof.Proof.Body.Spec
public import Idealize.ShloMosaic.Lib.Pipeline.ValueKit

@[expose] public section

/-! Indices given by natural numbers, as indices of given coordinates. -/

namespace Cert.Kernel.Value

open Cert.Kernel.Body
open Idealize.ShloMosaic

theorem at2 {n0 n1 : ℕ} {h : ∀ a, 0 < (⟨2, ![n0, n1]⟩ : Shape).size a} (a b : ℕ) (i0 : Fin n0) (i1 : Fin n1)
    (e0 : a % n0 = i0.val) (e1 : b % n1 = i1.val) : at' ⟨2, ![n0, n1]⟩ ![a, b] h = ix2 i0 i1 := by
  funext x
  refine Fin.cases (Fin.ext e0) (fun x => Fin.cases (Fin.ext e1) (fun x => x.elim0) x) x

theorem at4 {n0 n1 n2 n3 : ℕ} {h : ∀ a, 0 < (⟨4, ![n0, n1, n2, n3]⟩ : Shape).size a} (a b c d : ℕ) (i0 : Fin n0) (i1 : Fin n1)
    (i2 : Fin n2) (i3 : Fin n3) (e0 : a % n0 = i0.val) (e1 : b % n1 = i1.val) (e2 : c % n2 = i2.val) (e3 : d % n3 = i3.val) :
    at' ⟨4, ![n0, n1, n2, n3]⟩ ![a, b, c, d] h = ix4 i0 i1 i2 i3 := by
  funext x
  refine Fin.cases (Fin.ext e0) (fun x => Fin.cases (Fin.ext e1) (fun x => Fin.cases (Fin.ext e2) (fun x => Fin.cases (Fin.ext e3) (fun x => x.elim0) x) x) x) x

end Cert.Kernel.Value
-- ==== Proof.Value.Table.lean ====
module

public import proofs.«01_k».proof.Proof.Body.Point
public import proofs.«01_k».proof.Proof.Value.Code
public import proofs.«01_k».proof.Proof.Value.Index

@[expose] public section

/-! What the threshold tables of a strip hold: for every block of sixteen rows and sixteen columns, the seven
    thresholds, the sign threshold, the scale and its negative, computed from that block's maximum. -/

set_option maxRecDepth 16384

noncomputable section

namespace Cert.Kernel.Value

open Cert.Kernel Cert.Kernel.Gen Cert.Kernel.Body Cert.Value
open Idealize.ShloMosaic

/-- The ten table rows of a block of maximum `b`. -/
def rowE (st b : EReal) : Fin 10 → EReal
  | 0 => thrE (stepE st b) 1048576000#32
  | 1 => thrE (stepE st b) 1061158912#32
  | 2 => thrE (stepE st b) 1067450368#32
  | 3 => thrE (stepE st b) 1071644672#32
  | 4 => thrE (stepE st b) 1075838976#32
  | 5 => thrE (stepE st b) 1080033280#32
  | 6 => thrE (stepE st b) 1084227584#32
  | 7 => sgnE (stepE st b)
  | 8 => scaleE st b
  | 9 => 0 - scaleE st b

theorem thrP_apply (st : EReal) (bm : Vec Ideal S8x128 .f32) (p : BitVec 32) (y : S8x128.Idx) :
    thrP (F := Ideal) st bm p y = thrE (stepE st (bm y)) p := by
  pointwise [thrP, k0_pay5, k0_pay6, k0_pay7]
  rfl

theorem rowsP_apply (st : EReal) (bm : Vec Ideal S8x128 .f32) (t : Fin 10) (y : S8x128.Idx) :
    rowsP (F := Ideal) st bm t y = rowE st (bm y) t := by
  match t with
  | 0 | 1 | 2 | 3 | 4 | 5 | 6 => exact thrP_apply st bm _ y
  | 7 => show k0_pay16 (F := Ideal) (k0_pay7 st bm) y = _
         pointwise [k0_pay5, k0_pay6, k0_pay7, k0_pay16]; rfl
  | 8 => show k0_pay5 (F := Ideal) st bm y = _
         pointwise [k0_pay5]; rfl
  | 9 => show k0_pay17 (F := Ideal) (k0_pay5 st bm) y = _
         pointwise [k0_pay5, k0_pay17]; rfl

/-- The column of blocks, within a half of a strip, of lane `l`. -/
def laneQ (l : BitVec 32) : BitVec 32 :=
  Scalar.select
    (IntOp.andi
      (IntOp.cmpi .ne (IntOp.subi (BitVec.setWidth 32 (IntOp.cmpi .sgt l 0#32)) (BitVec.setWidth 32 (IntOp.cmpi .slt l 0#32)))
        (Scalar.subi (Scalar.extui (Scalar.cmpi .sgt 16#32 0#32)) (Scalar.extui (Scalar.cmpi .slt 16#32 0#32))))
      (IntOp.cmpi .ne (IntOp.remsi .vector l 16#32) 0#32))
    (IntOp.subi (IntOp.divsi .vector l 16#32) 1#32) (IntOp.divsi .vector l 16#32)

theorem baseV_apply (a : BitVec 32) (y : S8x128.Idx) : baseV a y = IntOp.addi (colW a) (laneQ (BitVec.ofNat 32 (y 1).val)) := by
  pointwise [baseV, k0_pay1, k0_pay230, k0_pay231]
  rfl

theorem laneQ_eq : ∀ l : Fin 128, laneQ (BitVec.ofNat 32 l.val) = BitVec.ofNat 32 (l.val / 16) := by decide +kernel
theorem colW_eq : ∀ a : Fin 57, colW (Scalar.minsi (BitVec.ofNat 32 a.val) 55#32) = BitVec.ofNat 32 (16 * (min a.val 55 % 8)) := by decide +kernel

/-- The lane a table reads, a number below 128. -/
def laneN (base c : BitVec 32) : ℕ :=
  (Scalar.select (IntOp.cmpi .slt (IntOp.addi base c) 0#32) (IntOp.addi (IntOp.addi base c) 128#32) (IntOp.addi base c)).toNat % 128

theorem laneN_eq : ∀ (q d : Fin 8) (c : Fin 2),
    laneN (IntOp.addi (BitVec.ofNat 32 (16 * q.val)) (BitVec.ofNat 32 d.val)) (BitVec.ofNat 32 (8 * c.val)) = 16 * q.val + 8 * c.val + d.val := by
  decide +kernel

theorem gatherP_apply (f : FVec Ideal S8x128 .f32) (base : IVec S8x128 32) (c : BitVec 32) (r : Fin 8) (l : Fin 128) :
    gatherP (F := Ideal) f (laneP base c) (ix4 0 0 r l) = f (ix2 r ⟨laneN (base (ix2 r l)) c, Nat.mod_lt _ (by decide)⟩) := by
  pointwise [gatherP, laneP]
  rfl

/-- A table entry is its block's row entry. -/
theorem tabS_apply (st : EReal) (a : Fin 57) (bm : S256x128.Idx → Elt Ideal .f32) (t : Fin 10) (c : Fin 2) (k : Fin 256) (l : Fin 128)
    (q : Fin 128) (hq : q.val = 16 * (min a.val 55 % 8) + 8 * c.val + l.val / 16) :
    tabS (F := Ideal) st (baseV (Scalar.minsi (BitVec.ofNat 32 a.val) 55#32)) bm (ix4 t c k l) = rowE st (bm (ix2 k q)) t := by
  have hk : k.val < 256 := k.isLt
  have hl : l.val < 128 := l.isLt
  have ha : min a.val 55 % 8 < 8 := Nat.mod_lt _ (by decide)
  have hd : l.val / 16 < 8 := by omega
  unfold tabS
  have e : at' S1x1x8x128 ![0, 0, k.val, l.val] = ix4 0 0 (⟨k.val % 8, by omega⟩ : Fin 8) l :=
    at4 _ _ _ _ _ _ _ _ rfl rfl rfl (Nat.mod_eq_of_lt hl)
  show gatherP (F := Ideal) (rowsP st (fun y => bm (at' S256x128 ![8 * (k.val / 8) + (y 0).val, (y 1).val])) t) _ (at' S1x1x8x128 ![0, 0, k.val, l.val]) = _
  rw [e, gatherP_apply, rowsP_apply, baseV_apply]
  congr 2
  refine at2 _ _ _ _ (by show (8 * (k.val / 8) + k.val % 8) % 256 = k.val; omega) ?_
  show laneN (IntOp.addi (colW _) (laneQ (BitVec.ofNat 32 l.val))) (BitVec.ofNat 32 (8 * c.val)) % 128 = q.val
  rw [laneQ_eq, colW_eq]
  have h := laneN_eq ⟨min a.val 55 % 8, ha⟩ ⟨l.val / 16, hd⟩ c
  simp only at h
  rw [h]
  omega

end Cert.Kernel.Value

end
-- ==== Proof.Value.Piece.lean ====
module

public import proofs.«01_k».proof.Proof.Value.Table

@[expose] public section

/-! The kernel's pieces of a strip, element by element: a code is the reference's code of the same weight, a decoded
    weight is the reference's. -/

set_option maxRecDepth 16384

noncomputable section

namespace Cert.Kernel.Value

open Cert.Kernel Cert.Kernel.Gen Cert.Kernel.Body Cert.Value
open Idealize.ShloMosaic

theorem codeP_apply (w : Vec Ideal S16x128 .bf16) (t3 t5 t1 t6 t4 t2 t0 t7 : Vec Ideal S1x1x16x128 .f32) (r : Fin 16) (l : Fin 128) :
    codeP (F := Ideal) w t3 t5 t1 t6 t4 t2 t0 t7 (ix2 r l) = codeE (w (ix2 r l)) (t3 (ix4 0 0 r l)) (t5 (ix4 0 0 r l)) (t1 (ix4 0 0 r l))
      (t6 (ix4 0 0 r l)) (t4 (ix4 0 0 r l)) (t2 (ix4 0 0 r l)) (t0 (ix4 0 0 r l)) (t7 (ix4 0 0 r l)) := by
  pointwise [codeP, k0_pay44, k0_pay45, k0_pay46, k0_pay47, k0_pay48, k0_pay49, k0_pay50, k0_pay51, k0_pay52]
  rfl

theorem deqP_apply (w : Vec Ideal S16x128 .bf16) (t3 t5 t1 t6 t4 t2 t0 t7 t9 t8 : Vec Ideal S1x1x16x128 .f32) (r : Fin 16) (l : Fin 128) :
    deqP (F := Ideal) w t3 t5 t1 t6 t4 t2 t0 t7 t9 t8 (ix2 r l) = deqE (w (ix2 r l)) (t3 (ix4 0 0 r l)) (t5 (ix4 0 0 r l)) (t1 (ix4 0 0 r l))
      (t6 (ix4 0 0 r l)) (t4 (ix4 0 0 r l)) (t2 (ix4 0 0 r l)) (t0 (ix4 0 0 r l)) (t7 (ix4 0 0 r l)) (t9 (ix4 0 0 r l)) (t8 (ix4 0 0 r l)) := by
  pointwise [deqP, k0_pay44, k0_pay45, k0_pay46, k0_pay47, k0_pay48, k0_pay49, k0_pay50, k0_pay51, k0_pay52, k0_pay53, k0_pay65]
  rfl

theorem blkIn_apply (W : S4096x256.Idx → Elt Ideal .bf16) (k : Fin 256) (c : Fin 2) (r : Fin 16) (l : Fin 128) (R : Fin 4096) (C : Fin 256)
    (hR : R.val = 16 * k.val + r.val) (hC : C.val = 128 * c.val + l.val) : blkIn (F := Ideal) W k.val c.val (ix2 r l) = W (ix2 R C) := by
  have := R.isLt
  have := C.isLt
  show W (at' S4096x256 ![16 * k.val + r.val, 128 * c.val + l.val]) = _
  rw [show at' S4096x256 ![16 * k.val + r.val, 128 * c.val + l.val] = ix2 R C from at2 _ _ _ _ (by omega) (by omega)]

theorem rowIn_apply (T : S10x2x256x128.Idx → Elt Ideal .f32) (t : Fin 10) (c : Fin 2) (k : Fin 256) (r : Fin 16) (l : Fin 128) :
    rowIn (F := Ideal) T t.val c.val k.val (ix4 0 0 r l) = T (ix4 t c k l) := by
  show T (at' S10x2x256x128 ![t.val, c.val, k.val, l.val]) = _
  rw [show at' S10x2x256x128 ![t.val, c.val, k.val, l.val] = ix4 t c k l from
    at4 _ _ _ _ _ _ _ _ (Nat.mod_eq_of_lt t.isLt) (Nat.mod_eq_of_lt c.isLt) (Nat.mod_eq_of_lt k.isLt) (Nat.mod_eq_of_lt l.isLt)]

/-- The code of a weight of a strip. -/
def nibS (M : EReal) (bq : Fin 2 → Fin 256 → Fin 128 → EReal) (W : S4096x256.Idx → Elt Ideal .bf16) (R : Fin 4096) (C : Fin 256) : BitVec 32 :=
  nibE (ratioE (stepE (tensorE M) (bq ⟨C.val / 128, by omega⟩ ⟨R.val / 16, by omega⟩ ⟨C.val % 128, by omega⟩)) (W (ix2 R C)))

variable (M : EReal) (bq : Fin 2 → Fin 256 → Fin 128 → EReal) (hb : ∀ c k l, bq c k l ≤ M)
  (W : S4096x256.Idx → Elt Ideal .bf16) (T : S10x2x256x128.Idx → Elt Ideal .f32)
  (hT : ∀ t c k l, T (ix4 t c k l) = rowE (tensorE M) (bq c k l) t)

include hb hT

theorem codeB_apply (k : Fin 256) (c : Fin 2) (r : Fin 16) (l : Fin 128) (R : Fin 4096) (C : Fin 256)
    (hR : R.val = 16 * k.val + r.val) (hC : C.val = 128 * c.val + l.val) :
    codeB (F := Ideal) W T k.val c.val (ix2 r l) = BitVec.setWidth 16 (nibS M bq W R C) := by
  have h := (weight_eq (step_ne_top (hb c k l)) (W (ix2 R C)) 0).1
  have e : nibS M bq W R C = nibE (ratioE (stepE (tensorE M) (bq c k l)) (W (ix2 R C))) := by
    unfold nibS
    have e1 : (⟨C.val / 128, by omega⟩ : Fin 2) = c := Fin.ext (by show C.val / 128 = c.val; omega)
    have e2 : (⟨R.val / 16, by omega⟩ : Fin 256) = k := Fin.ext (by show R.val / 16 = k.val; omega)
    have e3 : (⟨C.val % 128, by omega⟩ : Fin 128) = l := Fin.ext (by show C.val % 128 = l.val; omega)
    rw [e1, e2, e3]
  rw [e, ← h]
  unfold codeB
  rw [codeP_apply, blkIn_apply W k c r l R C hR hC]
  have g := fun t => (rowIn_apply T t c k r l).trans (hT t c k l)
  rw [show rowIn (F := Ideal) T 3 c.val k.val (ix4 0 0 r l) = _ from g 3, show rowIn (F := Ideal) T 5 c.val k.val (ix4 0 0 r l) = _ from g 5,
    show rowIn (F := Ideal) T 1 c.val k.val (ix4 0 0 r l) = _ from g 1, show rowIn (F := Ideal) T 6 c.val k.val (ix4 0 0 r l) = _ from g 6,
    show rowIn (F := Ideal) T 4 c.val k.val (ix4 0 0 r l) = _ from g 4, show rowIn (F := Ideal) T 2 c.val k.val (ix4 0 0 r l) = _ from g 2,
    show rowIn (F := Ideal) T 0 c.val k.val (ix4 0 0 r l) = _ from g 0, show rowIn (F := Ideal) T 7 c.val k.val (ix4 0 0 r l) = _ from g 7]
  rfl

/-- An element of the decoded strip. -/
theorem deqS_apply (R : Fin 4096) (C : Fin 256) :
    deqS (F := Ideal) W T (ix2 R C) = (decN (nibS M bq W R C) * scaleE (tensorE M) (bq ⟨C.val / 128, by omega⟩ ⟨R.val / 16, by omega⟩ ⟨C.val % 128, by omega⟩) : EReal) := by
  have h := fun sb => (weight_eq (step_ne_top (hb ⟨C.val / 128, by omega⟩ ⟨R.val / 16, by omega⟩ ⟨C.val % 128, by omega⟩)) (W (ix2 R C)) sb).2.1
  unfold nibS
  rw [← h]
  have e : at' S16x128 ![R.val, C.val] = ix2 (⟨R.val % 16, by omega⟩ : Fin 16) (⟨C.val % 128, by omega⟩ : Fin 128) := at2 _ _ _ _ rfl rfl
  show deqB (F := Ideal) W T (R.val / 16) (C.val / 128) (at' S16x128 ![R.val, C.val]) = _
  rw [e]
  unfold deqB
  rw [deqP_apply, show blkIn (F := Ideal) W (R.val / 16) (C.val / 128) (ix2 (⟨R.val % 16, by omega⟩ : Fin 16) (⟨C.val % 128, by omega⟩ : Fin 128)) = W (ix2 R C) from
    blkIn_apply W ⟨R.val / 16, by omega⟩ ⟨C.val / 128, by omega⟩ _ _ R C (by show R.val = 16 * (R.val / 16) + R.val % 16; omega) (by show C.val = 128 * (C.val / 128) + C.val % 128; omega)]
  have g : ∀ t : Fin 10, rowIn (F := Ideal) T t.val (C.val / 128) (R.val / 16) (ix4 0 0 (⟨R.val % 16, by omega⟩ : Fin 16) (⟨C.val % 128, by omega⟩ : Fin 128)) = _ :=
    fun t => (rowIn_apply T t ⟨C.val / 128, by omega⟩ ⟨R.val / 16, by omega⟩ _ _).trans (hT t _ _ _)
  rw [show rowIn (F := Ideal) T 3 _ _ (ix4 0 0 _ _) = _ from g 3, show rowIn (F := Ideal) T 5 _ _ (ix4 0 0 _ _) = _ from g 5,
    show rowIn (F := Ideal) T 1 _ _ (ix4 0 0 _ _) = _ from g 1, show rowIn (F := Ideal) T 6 _ _ (ix4 0 0 _ _) = _ from g 6,
    show rowIn (F := Ideal) T 4 _ _ (ix4 0 0 _ _) = _ from g 4, show rowIn (F := Ideal) T 2 _ _ (ix4 0 0 _ _) = _ from g 2,
    show rowIn (F := Ideal) T 0 _ _ (ix4 0 0 _ _) = _ from g 0, show rowIn (F := Ideal) T 7 _ _ (ix4 0 0 _ _) = _ from g 7,
    show rowIn (F := Ideal) T 9 _ _ (ix4 0 0 _ _) = _ from g 9, show rowIn (F := Ideal) T 8 _ _ (ix4 0 0 _ _) = _ from g 8]
  rfl

omit hT in
/-- A code has four bits. -/
theorem nibS_four (R : Fin 4096) (C : Fin 256) : nibS M bq W R C = BitVec.setWidth 32 (BitVec.setWidth 4 (nibS M bq W R C)) :=
  (weight_eq (step_ne_top (hb ⟨C.val / 128, by omega⟩ ⟨R.val / 16, by omega⟩ ⟨C.val % 128, by omega⟩)) (W (ix2 R C)) 0).2.2

end Cert.Kernel.Value

end
-- ==== Proof.Value.Pack.lean ====
module

public import proofs.«01_k».proof.Proof.Value.Piece
public import Idealize.ShloMosaic.Lib.BitcastPair

@[expose] public section

/-! The two packings of a strip's codes: neighbouring columns to a byte, and neighbouring rows to a byte. -/

set_option maxRecDepth 16384

noncomputable section

namespace Cert.Kernel.Value

open Cert.Kernel Cert.Kernel.Gen Cert.Kernel.Body Cert.Value
open Idealize.ShloMosaic

/-- Two codes in a byte. -/
def pair (x y : BitVec 32) : BitVec 8 := BitVec.setWidth 8 (IntOp.ori x (IntOp.shli .vector y 4#32))

/-- Two codes in a word. -/
def wordN (a b : BitVec 4) : BitVec 32 := BitVec.setWidth 16 (BitVec.setWidth 32 b) ++ BitVec.setWidth 16 (BitVec.setWidth 32 a)

/-- The rows' byte out of a word. -/
theorem pair_word : ∀ a b : BitVec 4,
    BitVec.setWidth 8 (IntOp.andi (IntOp.ori (wordN a b) (IntOp.shrui .vector (wordN a b) 12#32)) 255#32) = pair (BitVec.setWidth 32 a) (BitVec.setWidth 32 b) := by
  decide +kernel

/-- A half of two words packed. -/
theorem half_or (u v : BitVec 32) (p : ℕ) :
    BitVec.extractLsb' p 16 (IntOp.ori u v) = IntOp.ori (BitVec.extractLsb' p 16 u) (BitVec.extractLsb' p 16 v) := by
  unfold IntOp.ori
  ext i hi
  simp

theorem half_word : ∀ (a b : BitVec 4),
    BitVec.extractLsb' 0 16 (wordN a b) = BitVec.setWidth 16 a ∧ BitVec.extractLsb' 16 16 (wordN a b) = BitVec.setWidth 16 b ∧
    BitVec.extractLsb' 0 16 (IntOp.shli .vector (wordN a b) 4#32) = BitVec.setWidth 16 a <<< 4 ∧
    BitVec.extractLsb' 16 16 (IntOp.shli .vector (wordN a b) 4#32) = BitVec.setWidth 16 b <<< 4 := by
  decide +kernel

theorem pair_half : ∀ a b : BitVec 4,
    BitVec.setWidth 8 (IntOp.ori (BitVec.setWidth 16 a) (BitVec.setWidth 16 b <<< 4)) = pair (BitVec.setWidth 32 a) (BitVec.setWidth 32 b) := by
  decide +kernel

/-- The columns' byte out of two words: the lower halves give the first row's, the upper halves the second row's. -/
theorem pair_cols (a b c d : BitVec 4) :
    BitVec.setWidth 8 (BitVec.extractLsb' 0 16 (IntOp.ori (wordN a b) (IntOp.shli .vector (wordN c d) 4#32))) = pair (BitVec.setWidth 32 a) (BitVec.setWidth 32 c) ∧
    BitVec.setWidth 8 (BitVec.extractLsb' 16 16 (IntOp.ori (wordN a b) (IntOp.shli .vector (wordN c d) 4#32))) = pair (BitVec.setWidth 32 b) (BitVec.setWidth 32 d) := by
  rw [half_or, half_or, (half_word a b).1, (half_word a b).2.1, (half_word c d).2.2.1, (half_word c d).2.2.2]
  exact ⟨pair_half a c, pair_half b d⟩

/-- A word of a piece. -/
theorem k0_pay64_apply (x : IVec S16x128 16) (r : Fin 8) (l : Fin 128) :
    k0_pay64 x (ix4 0 0 r l) = x (ix2 (⟨2 * r.val + 1, by omega⟩ : Fin 16) l) ++ x (ix2 (⟨2 * r.val, by omega⟩ : Fin 16) l) := by
  pointwise [k0_pay64]
  rw [bitcast_16_32]
  congr 1 <;> congr 1 <;> funext a <;> apply Fin.ext <;> match a with | ⟨0, _⟩ => rfl | ⟨1, _⟩ => rfl

theorem k0_pay67_apply (v : Vec Ideal S1x1x128x128 .i32) (y0 y1 : Fin 128) :
    k0_pay67 (F := Ideal) v (ix2 y0 y1) = BitVec.setWidth 8 (IntOp.andi (IntOp.ori (v (ix4 0 0 y1 y0)) (IntOp.shrui .vector (v (ix4 0 0 y1 y0)) 12#32)) 255#32) := by
  pointwise [k0_pay67, k0_pay66]

theorem halfV_apply (v : Vec Ideal S1x1x128x128 .i32) (p : Fin 2) (r : Fin 64) (l : Fin 128) :
    halfV (F := Ideal) v p.val (ix4 0 0 r l) = v (ix4 0 0 l (⟨p.val + 2 * r.val, by omega⟩ : Fin 128)) := by
  show k0_pay68 (k0_pay66 (F := Ideal) v) (at' S1x1x128x128 ![0, 0, p.val + 2 * r.val, l.val]) = _
  rw [show at' S1x1x128x128 ![0, 0, p.val + 2 * r.val, l.val] = ix4 0 0 (⟨p.val + 2 * r.val, by omega⟩ : Fin 128) l from
    at4 _ _ _ _ _ _ _ _ rfl rfl (by show _ % 128 = p.val + 2 * r.val; omega) (Nat.mod_eq_of_lt l.isLt)]
  pointwise [k0_pay68, k0_pay66]

/-- The two packed words of a column pair, before they are read as halves. -/
theorem joined_apply (a b c d : Vec Ideal S1x1x64x128 .i32) (l0 l1 : Fin 128) :
    transpose S128x128 [1, 0]
          (concatenate S128x128 0
            [⟨S64x128, k0_pay69 (F := Ideal) a b⟩,
              ⟨S64x128, ori (shapeCast S64x128 c shapeCasts_S1x1x64x128_S64x128) (shli (shapeCast S64x128 d shapeCasts_S1x1x64x128_S64x128) (broadcast S64x128 4#32))⟩]
            concatenates_S64x128_S64x128_S128x128_d0)
          transposes_S128x128_p1_0_S128x128 (ix2 l0 l1) =
      if h : l1.val < 64 then IntOp.ori (a (ix4 0 0 ⟨l1.val, h⟩ l0)) (IntOp.shli .vector (b (ix4 0 0 ⟨l1.val, h⟩ l0)) 4#32)
      else IntOp.ori (c (ix4 0 0 (⟨l1.val - 64, by omega⟩ : Fin 64) l0)) (IntOp.shli .vector (d (ix4 0 0 (⟨l1.val - 64, by omega⟩ : Fin 64) l0)) 4#32) := by
  pointwise [k0_pay69]

theorem cnP_apply (a b c d : Vec Ideal S1x1x64x128 .i32) (q : Fin 256) (l : Fin 128) :
    cnP (F := Ideal) a b c d (ix2 q l) = BitVec.setWidth 8 (BitVec.extractLsb' (16 * (q.val % 2)) 16
      (if h : l.val < 64 then IntOp.ori (a (ix4 0 0 ⟨l.val, h⟩ (⟨q.val / 2, by omega⟩ : Fin 128))) (IntOp.shli .vector (b (ix4 0 0 ⟨l.val, h⟩ (⟨q.val / 2, by omega⟩ : Fin 128))) 4#32)
      else IntOp.ori (c (ix4 0 0 (⟨l.val - 64, by omega⟩ : Fin 64) (⟨q.val / 2, by omega⟩ : Fin 128))) (IntOp.shli .vector (d (ix4 0 0 (⟨l.val - 64, by omega⟩ : Fin 64) (⟨q.val / 2, by omega⟩ : Fin 128))) 4#32))) := by
  rw [← joined_apply a b c d]
  unfold cnP k0_pay75
  show BitVec.setWidth 8 (bitcast S256x128 16 _ bitcasts_S128x128_w32_S256x128_w16 (ix2 q l)) = _
  rw [bitcast_32_16]
  congr 2
  congr 1
  funext a
  apply Fin.ext
  match a with | ⟨0, _⟩ => rfl | ⟨1, _⟩ => rfl

section
variable (W : S4096x256.Idx → Elt Ideal .bf16) (T : S10x2x256x128.Idx → Elt Ideal .f32) (n : Fin 4096 → Fin 256 → BitVec 4)
  (hn : ∀ (k : Fin 256) (c : Fin 2) (r : Fin 16) (l : Fin 128) (R : Fin 4096) (C : Fin 256), R.val = 16 * k.val + r.val → C.val = 128 * c.val + l.val →
    codeB (F := Ideal) W T k.val c.val (ix2 r l) = BitVec.setWidth 16 (BitVec.setWidth 32 (n R C)))
include hn

theorem wordV_apply (kt : Fin 16) (c : Fin 2) (r l : Fin 128) (R : Fin 4096) (C : Fin 256) (hR : R.val = 256 * kt.val + 2 * r.val) (hC : C.val = 128 * c.val + l.val) :
    wordV (F := Ideal) W T kt.val c.val (ix4 0 0 r l) = wordN (n R C) (n ⟨R.val + 1, by omega⟩ C) := by
  have := kt.isLt
  have := r.isLt
  have e1 := hn ⟨16 * kt.val + r.val / 8, by omega⟩ c ⟨2 * (r.val % 8) + 1, by omega⟩ l ⟨R.val + 1, by omega⟩ C (by show R.val + 1 = 16 * (16 * kt.val + r.val / 8) + (2 * (r.val % 8) + 1); omega) hC
  have e0 := hn ⟨16 * kt.val + r.val / 8, by omega⟩ c ⟨2 * (r.val % 8), by omega⟩ l R C (by show R.val = 16 * (16 * kt.val + r.val / 8) + 2 * (r.val % 8); omega) hC
  have ei : at' S1x1x8x128 ![0, 0, r.val, l.val] = ix4 0 0 (⟨r.val % 8, by omega⟩ : Fin 8) l := at4 _ _ _ _ _ _ _ _ rfl rfl rfl (Nat.mod_eq_of_lt l.isLt)
  have ew : wordV (F := Ideal) W T kt.val c.val (ix4 0 0 r l) = k0_pay64 (codeB (F := Ideal) W T (16 * kt.val + r.val / 8) c.val) (at' S1x1x8x128 ![0, 0, r.val, l.val]) := rfl
  rw [ew, ei, k0_pay64_apply]
  unfold wordN
  rw [← e0, ← e1]

/-- The rows' packing: rows `2 y` and `2 y + 1` of a column. -/
theorem ckS_apply (C : Fin 256) (y : Fin 2048) :
    ckS (F := Ideal) W T (ix2 C y) = pair (BitVec.setWidth 32 (n ⟨2 * y.val, by omega⟩ C)) (BitVec.setWidth 32 (n ⟨2 * y.val + 1, by omega⟩ C)) := by
  show k0_pay67 (F := Ideal) (wordV W T (y.val / 128) (C.val / 128)) (at' S128x128 ![C.val, y.val]) = _
  rw [show at' S128x128 ![C.val, y.val] = ix2 (⟨C.val % 128, by omega⟩ : Fin 128) (⟨y.val % 128, by omega⟩ : Fin 128) from at2 _ _ _ _ rfl rfl, k0_pay67_apply,
    show wordV (F := Ideal) W T (y.val / 128) (C.val / 128) (ix4 0 0 (⟨y.val % 128, by omega⟩ : Fin 128) (⟨C.val % 128, by omega⟩ : Fin 128)) = _ from
      wordV_apply W T n hn ⟨y.val / 128, by omega⟩ ⟨C.val / 128, by omega⟩ _ _ ⟨2 * y.val, by omega⟩ C (by show 2 * y.val = 256 * (y.val / 128) + 2 * (y.val % 128); omega) (by show C.val = 128 * (C.val / 128) + C.val % 128; omega)]
  exact pair_word _ _

/-- The columns' packing: columns `2 l` and `2 l + 1` of a row. -/
theorem cnS_apply (R : Fin 4096) (l : Fin 128) :
    cnS (F := Ideal) W T (ix2 R l) = pair (BitVec.setWidth 32 (n R ⟨2 * l.val, by omega⟩)) (BitVec.setWidth 32 (n R ⟨2 * l.val + 1, by omega⟩)) := by
  have hR := R.isLt
  have hl := l.isLt
  show cnB (F := Ideal) W T (R.val / 256) (at' S256x128 ![R.val, l.val]) = _
  rw [show at' S256x128 ![R.val, l.val] = ix2 (⟨R.val % 256, by omega⟩ : Fin 256) l from at2 _ _ _ _ rfl (Nat.mod_eq_of_lt l.isLt)]
  unfold cnB
  rw [cnP_apply]
  have key : ∀ (c p : Fin 2) (s : Fin 64) (C : Fin 256), C.val = 128 * c.val + (p.val + 2 * s.val) →
      halfV (F := Ideal) (wordV W T (R.val / 256) c.val) p.val (ix4 0 0 s (⟨R.val % 256 / 2, by omega⟩ : Fin 128))
        = wordN (n ⟨2 * (R.val / 2), by omega⟩ C) (n ⟨2 * (R.val / 2) + 1, by omega⟩ C) := fun c p s C hC => by
    rw [halfV_apply]
    exact wordV_apply W T n hn ⟨R.val / 256, by omega⟩ c _ _ ⟨2 * (R.val / 2), by omega⟩ C (by show 2 * (R.val / 2) = 256 * (R.val / 256) + 2 * (R.val % 256 / 2); omega) hC
  have fin : ∀ C0 C1 : Fin 256, BitVec.setWidth 8 (BitVec.extractLsb' (16 * (R.val % 256 % 2)) 16
      (IntOp.ori (wordN (n ⟨2 * (R.val / 2), by omega⟩ C0) (n ⟨2 * (R.val / 2) + 1, by omega⟩ C0))
        (IntOp.shli .vector (wordN (n ⟨2 * (R.val / 2), by omega⟩ C1) (n ⟨2 * (R.val / 2) + 1, by omega⟩ C1)) 4#32)))
      = pair (BitVec.setWidth 32 (n R C0)) (BitVec.setWidth 32 (n R C1)) := fun C0 C1 => by
    rcases Nat.mod_two_eq_zero_or_one R.val with h | h
    · rw [show R.val % 256 % 2 = 0 by omega, show (⟨2 * (R.val / 2), by omega⟩ : Fin 4096) = R from Fin.ext (by show 2 * (R.val / 2) = R.val; omega)]
      exact (pair_cols _ _ _ _).1
    · rw [show R.val % 256 % 2 = 1 by omega, show (⟨2 * (R.val / 2) + 1, by omega⟩ : Fin 4096) = R from Fin.ext (by show 2 * (R.val / 2) + 1 = R.val; omega)]
      exact (pair_cols _ _ _ _).2
  by_cases h : l.val < 64
  · rw [dif_pos h]
    rw [show halfV (F := Ideal) (wordV W T (R.val / 256) 0) 0 (ix4 0 0 (⟨l.val, h⟩ : Fin 64) _) = _ from key 0 0 ⟨l.val, h⟩ ⟨2 * l.val, by omega⟩ (by show 2 * l.val = 128 * 0 + (0 + 2 * l.val); omega),
      show halfV (F := Ideal) (wordV W T (R.val / 256) 0) 1 (ix4 0 0 (⟨l.val, h⟩ : Fin 64) _) = _ from key 0 1 ⟨l.val, h⟩ ⟨2 * l.val + 1, by omega⟩ (by show 2 * l.val + 1 = 128 * 0 + (1 + 2 * l.val); omega)]
    exact fin _ _
  · rw [dif_neg h]
    rw [show halfV (F := Ideal) (wordV W T (R.val / 256) 1) 0 (ix4 0 0 (⟨l.val - 64, by omega⟩ : Fin 64) _) = _ from key 1 0 ⟨l.val - 64, by omega⟩ ⟨2 * l.val, by omega⟩ (by show 2 * l.val = 128 * 1 + (0 + 2 * (l.val - 64)); omega),
      show halfV (F := Ideal) (wordV W T (R.val / 256) 1) 1 (ix4 0 0 (⟨l.val - 64, by omega⟩ : Fin 64) _) = _ from key 1 1 ⟨l.val - 64, by omega⟩ ⟨2 * l.val + 1, by omega⟩ (by show 2 * l.val + 1 = 128 * 1 + (1 + 2 * (l.val - 64)); omega)]
    exact fin _ _

end

end Cert.Kernel.Value

end
-- ==== Proof.Value.Ref.lean ====
module

public import proofs.«01_k».proof.Proof.Value.Code
public import proofs.«01_k».proof.Proof.Value.Pack
public import proofs.«01_k».proof.Proof.Gen.ReferenceIdeal.Skeleton
public import Idealize.ShloMosaic.Lib.Pipeline.ValueKit

@[expose] public section

/-! The reference's five results, element by element, as functions of the block maxima, the activations and the
    weights. -/

set_option maxRecDepth 16384

noncomputable section

namespace Cert.ReferenceIdeal.Value

open Cert.ReferenceIdeal Cert.ReferenceIdeal.Gen Cert.Value
open Idealize.ShloMosaic
open Cert.Kernel.Value (pair)

/-- The largest block maximum. -/
def maxG (bm : Vec Ideal S256x896 .f32) : EReal :=
  Finset.fold max (Ideal.ofBits .f32 4286578688#32) (fun x : Fin 256 × Fin 896 => bm (ix2 x.1 x.2)) Finset.univ

theorem le_maxG (bm : Vec Ideal S256x896 .f32) (r : Fin 256) (c : Fin 896) : (bm (ix2 r c) : EReal) ≤ maxG bm :=
  (Finset.le_fold_max _).2 (.inr ⟨(r, c), Finset.mem_univ _, le_refl _⟩)

/-- The code of one weight. -/
def nibG (bm : Vec Ideal S256x896 .f32) (w : Vec Ideal S4096x14336 .bf16) (R : Fin 4096) (C : Fin 14336) : BitVec 32 :=
  nibE (ratioE (stepE (tensorE (maxG bm)) (bm (ix2 ⟨R.val / 16, by omega⟩ ⟨C.val / 16, by omega⟩))) (w (ix2 R C)))

/-- The tensor's scale. -/
def stR (bm : Vec Ideal S256x896 .f32) : EReal := k0_pay2 (F := Ideal) bm
/-- The blocks' scales. -/
def sbR (bm : Vec Ideal S256x896 .f32) : Vec Ideal S256x896 .fp8e4m3 := k0_pay3 (F := Ideal) bm
/-- The codes. -/
def nibR (bm : Vec Ideal S256x896 .f32) (w : Vec Ideal S4096x14336 .bf16) : IVec S4096x14336 32 :=
  k0_pay8 (F := Ideal) (k0_pay4 bm w) (k0_pay5 bm w) (k0_pay6 bm w) (k0_pay7 bm w)
/-- The codes packed by columns. -/
def cnR (bm : Vec Ideal S256x896 .f32) (w : Vec Ideal S4096x14336 .bf16) : IVec S4096x7168 8 :=
  k0_pay9 (F := Ideal) (k0_pay4 bm w) (k0_pay5 bm w) (k0_pay6 bm w) (k0_pay7 bm w)
/-- The codes packed by rows. -/
def ckR (bm : Vec Ideal S256x896 .f32) (w : Vec Ideal S4096x14336 .bf16) : IVec S14336x2048 8 :=
  k0_pay10 (F := Ideal) (k0_pay4 bm w) (k0_pay5 bm w) (k0_pay6 bm w) (k0_pay7 bm w)
/-- The product. -/
def yR (bm : Vec Ideal S256x896 .f32) (x : Vec Ideal S1920x4096 .bf16) (w : Vec Ideal S4096x14336 .bf16) : Vec Ideal S1920x14336 .bf16 :=
  k0_pay1 (F := Ideal) (k0_pay2 bm) (k0_pay11 (nibR bm w)) (k0_pay12 (k0_pay3 bm)) x

theorem stR_eq (bm : Vec Ideal S256x896 .f32) : stR bm = tensorE (maxG bm) := by
  pointwise [stR, k0_pay2]
  rfl

theorem sbR_apply (bm : Vec Ideal S256x896 .f32) (r : Fin 256) (c : Fin 896) : (sbR bm (ix2 r c) : EReal) = scaleE (tensorE (maxG bm)) (bm (ix2 r c)) := by
  rw [← stR_eq]
  pointwise [sbR, k0_pay3]
  rfl

theorem ratio_apply (bm : Vec Ideal S256x896 .f32) (w : Vec Ideal S4096x14336 .bf16) (R : Fin 4096) (C : Fin 14336) :
    (k0_pay4 (F := Ideal) bm w (ix4 (⟨R.val / 16, by omega⟩ : Fin 256) (⟨R.val % 16, by omega⟩ : Fin 16) (⟨C.val / 16, by omega⟩ : Fin 896) (⟨C.val % 16, by omega⟩ : Fin 16)) : EReal)
      = ratioE (stepE (tensorE (maxG bm)) (bm (ix2 ⟨R.val / 16, by omega⟩ ⟨C.val / 16, by omega⟩))) (w (ix2 R C)) := by
  rw [← stR_eq]
  pointwise [k0_pay4, k0_pay3]
  rfl

theorem nibR_apply (bm : Vec Ideal S256x896 .f32) (w : Vec Ideal S4096x14336 .bf16) (R : Fin 4096) (C : Fin 14336) :
    nibR bm w (ix2 R C) = nibG bm w R C := by
  unfold nibG
  rw [← ratio_apply]
  pointwise [nibR, k0_pay8, k0_pay7, k0_pay6, k0_pay5]
  rfl

theorem cnR_apply (bm : Vec Ideal S256x896 .f32) (w : Vec Ideal S4096x14336 .bf16) (R : Fin 4096) (l : Fin 7168) :
    cnR bm w (ix2 R l) = pair (nibG bm w R ⟨l.val * 2, by omega⟩) (nibG bm w R ⟨l.val * 2 + 1, by omega⟩) := by
  rw [← nibR_apply, ← nibR_apply]
  pointwise [cnR, k0_pay9]
  rfl

theorem ckR_apply (bm : Vec Ideal S256x896 .f32) (w : Vec Ideal S4096x14336 .bf16) (C : Fin 14336) (y : Fin 2048) :
    ckR bm w (ix2 C y) = pair (nibG bm w ⟨y.val * 2, by omega⟩ C) (nibG bm w ⟨y.val * 2 + 1, by omega⟩ C) := by
  rw [← nibR_apply, ← nibR_apply]
  pointwise [ckR, k0_pay10]
  rfl

theorem decR_apply (n : IVec S4096x14336 32) (R : Fin 4096) (C : Fin 14336) :
    (k0_pay11 (F := Ideal) n (ix4 (⟨R.val / 16, by omega⟩ : Fin 256) (⟨R.val % 16, by omega⟩ : Fin 16) (⟨C.val / 16, by omega⟩ : Fin 896) (⟨C.val % 16, by omega⟩ : Fin 16)) : EReal)
      = decN (n (ix2 R C)) := by
  pointwise [k0_pay11]
  rfl

theorem sb12_apply (bm : Vec Ideal S256x896 .f32) (r : Fin 256) (c : Fin 896) :
    (k0_pay12 (F := Ideal) (k0_pay3 bm) (ix4 r 0 c 0) : EReal) = scaleE (tensorE (maxG bm)) (bm (ix2 r c)) := by
  rw [← sbR_apply]
  pointwise [k0_pay12]
  rfl

theorem yR_apply (bm : Vec Ideal S256x896 .f32) (x : Vec Ideal S1920x4096 .bf16) (w : Vec Ideal S4096x14336 .bf16) (i : Fin 1920) (C : Fin 14336) :
    (yR bm x w (ix2 i C) : EReal) = ((∑ k : Fin 4096, (x (ix2 i k) : EReal) * (decN (nibG bm w k C) * scaleE (tensorE (maxG bm)) (bm (ix2 ⟨k.val / 16, by omega⟩ ⟨C.val / 16, by omega⟩)))) * tensorE (maxG bm) : EReal) := by
  rw [← stR_eq]
  pointwise [yR, k0_pay1]
  refine congrArg₂ (· * ·) (Finset.sum_congr rfl fun k _ => ?_) rfl
  rw [stR_eq]
  refine Ideal.mul_congr rfl (Ideal.mul_congr ?_ (sb12_apply bm _ _))
  exact (decR_apply (nibR bm w) k C).trans (congrArg decN (nibR_apply bm w k C))

end Cert.ReferenceIdeal.Value

end
-- ==== Proof.Value.Strip.lean ====
module

public import proofs.«01_k».proof.Proof.Body.Data
public import proofs.«01_k».proof.Proof.Value.Ref
public import Idealize.ShloMosaic.Lib.Pipeline.ValueKit

@[expose] public section

/-! What the kernel's points read: the block maxima, the activations and the strip of the weights, as parts of the
    argument arrays; and the codes and decoded weights of that strip. -/

set_option maxRecDepth 16384

noncomputable section

namespace Cert.Kernel.Value

open Cert.Kernel Cert.Kernel.Gen Cert.Kernel.Body Cert.Value
open Idealize.ShloMosaic Idealize.ShloMosaic.TcCoe Idealize.SL.Sem
open Cert.ReferenceIdeal.Value (maxG le_maxG nibG nibR cnR ckR yR sbR stR)

variable (m : (ℓ : Loc nD τ sig) → Buf (Elt Ideal) ℓ) (c : Dev nD)

/-- The block maxima. -/
def bmG : Vec Ideal S256x896 .f32 := m ((c : Thread nD τ).loc main_arg0)
/-- The activations. -/
def xG : Vec Ideal S1920x4096 .bf16 := m ((c : Thread nD τ).loc main_arg1)
/-- The weights. -/
def wG : Vec Ideal S4096x14336 .bf16 := m ((c : Thread nD τ).loc main_arg2)

theorem idx : ∀ t : Fin cfg0.N, win0_0.index t = ![0, 0] ∧ win0_1.index t = ![0, min t.val 55 / 8] ∧ win0_2.index t = ![0, t.val - 1]
    ∧ win0_3.index t = ![0, min t.val 55] ∧ win0_4.index t = ![min t.val 55, 0] ∧ win0_5.index t = ![0, min t.val 55 / 8] ∧ win0_6.index t = ![0]
    ∧ (grid0.coords t 0).val = t.val ∧ t.val < 57 :=
  (by decide +kernel : ∀ t : Fin grid0.N, _)

theorem iblk0 (t : Fin cfg0.N) : iblk m c 0 t = bmG m c := by blk_ext! [iblk, V, bmG, idx t]

theorem bV_apply (t : Fin cfg0.N) (k : Fin 256) (q : Fin 128) (C : Fin 896) (hC : C.val = 128 * (min t.val 55 / 8) + q.val) :
    bV m c t (ix2 k q) = bmG m c (ix2 k C) := by
  unfold bV bmG
  blk_point [iblk, V, idx t]

theorem wV_apply (t : ℕ) (R : Fin 4096) (C : Fin 256) (D : Fin 14336) (hD : D.val = 256 * min t 55 + C.val) :
    wV m c t (ix2 R C) = wG m c (ix2 R D) := by
  have := D.isLt
  show wG m c (at' S4096x14336 ![R.val, 256 * min t 55 + C.val]) = _
  rw [show at' S4096x14336 ![R.val, 256 * min t 55 + C.val] = ix2 R D from at2 _ _ _ _ (Nat.mod_eq_of_lt R.isLt) (by omega)]

theorem xV_eq : xV m c = xG m c := rfl

theorem stV_eq : stV m c = tensorE (maxG (bmG m c)) := by
  unfold stV
  rw [iblk0]
  pointwise [k0_pay232]
  rfl

/-- The block maxima over a strip's rows of blocks. -/
def bqG (j : ℕ) (h : Fin 2) (k : Fin 256) (l : Fin 128) : EReal := bmG m c (ix2 k ⟨(256 * min j 55 + 128 * h.val + l.val) / 16, by omega⟩)

theorem bqG_le (j : ℕ) (h : Fin 2) (k : Fin 256) (l : Fin 128) : bqG m c j h k l ≤ maxG (bmG m c) := le_maxG _ _ _

theorem tV_apply (t : Fin cfg0.N) (r : Fin 10) (h : Fin 2) (k : Fin 256) (l : Fin 128) :
    tV m c t (ix4 r h k l) = rowE (tensorE (maxG (bmG m c))) (bqG m c t.val h k l) r := by
  have ht : t.val < 57 := t.isLt
  unfold tV
  rw [coord_val, stV_eq]
  have e := tabS_apply (tensorE (maxG (bmG m c))) ⟨t.val, ht⟩ (bV m c t) r h k l ⟨16 * (min t.val 55 % 8) + 8 * h.val + l.val / 16, by omega⟩ rfl
  refine e.trans ?_
  unfold bqG
  rw [bV_apply m c t k _ ⟨(256 * min t.val 55 + 128 * h.val + l.val) / 16, by omega⟩ (by
    show (256 * min t.val 55 + 128 * h.val + l.val) / 16 = 128 * (min t.val 55 / 8) + (16 * (min t.val 55 % 8) + 8 * h.val + l.val / 16)
    omega)]

/-- A strip's codes are the reference's. -/
theorem nibS_eq (t : Fin cfg0.N) (R : Fin 4096) (C : Fin 256) (D : Fin 14336) (hD : D.val = 256 * min t.val 55 + C.val) :
    nibS (maxG (bmG m c)) (bqG m c t.val) (wV m c t.val) R C = nibG (bmG m c) (wG m c) R D := by
  unfold nibS nibG
  rw [wV_apply m c t.val R C D hD]
  unfold bqG
  have e : (⟨(256 * min t.val 55 + 128 * (C.val / 128) + C.val % 128) / 16, by omega⟩ : Fin 896) = ⟨D.val / 16, by omega⟩ := Fin.ext (by
    show (256 * min t.val 55 + 128 * (C.val / 128) + C.val % 128) / 16 = D.val / 16
    omega)
  rw [e]

/-- A strip's decoded weights are the reference's. -/
theorem dV_apply (t : Fin cfg0.N) (R : Fin 4096) (C : Fin 256) (D : Fin 14336) (hD : D.val = 256 * min t.val 55 + C.val) :
    dV m c t (ix2 R C) = (decN (nibG (bmG m c) (wG m c) R D) * scaleE (tensorE (maxG (bmG m c))) (bmG m c (ix2 ⟨R.val / 16, by omega⟩ ⟨D.val / 16, by omega⟩)) : EReal) := by
  unfold dV
  rw [deqS_apply (maxG (bmG m c)) (bqG m c t.val) (bqG_le m c t.val) (wV m c t.val) (tV m c t) (tV_apply m c t) R C, nibS_eq m c t R C D hD]
  unfold bqG
  have e : (⟨(256 * min t.val 55 + 128 * (C.val / 128) + C.val % 128) / 16, by omega⟩ : Fin 896) = ⟨D.val / 16, by omega⟩ := Fin.ext (by
    show (256 * min t.val 55 + 128 * (C.val / 128) + C.val % 128) / 16 = D.val / 16
    omega)
  rw [e]

/-- The kernel's piece of codes in the form the packings ask for. -/
theorem four (t : Fin cfg0.N) (k : Fin 256) (h : Fin 2) (r : Fin 16) (l : Fin 128) (R : Fin 4096) (C : Fin 256) (hR : R.val = 16 * k.val + r.val) (hC : C.val = 128 * h.val + l.val) :
    codeB (F := Ideal) (wV m c t.val) (tV m c t) k.val h.val (ix2 r l)
      = BitVec.setWidth 16 (BitVec.setWidth 32 (BitVec.setWidth 4 (nibS (maxG (bmG m c)) (bqG m c t.val) (wV m c t.val) R C))) := by
  rw [← nibS_four (maxG (bmG m c)) (bqG m c t.val) (bqG_le m c t.val) (wV m c t.val) R C]
  exact codeB_apply (maxG (bmG m c)) (bqG m c t.val) (bqG_le m c t.val) (wV m c t.val) (tV m c t) (tV_apply m c t) k h r l R C hR hC

/-- The columns' packing of a strip. -/
theorem cn_point (t : Fin cfg0.N) (R : Fin 4096) (l : Fin 128) (D : Fin 7168) (hD : D.val = 128 * min t.val 55 + l.val) :
    cnS (F := Ideal) (wV m c t.val) (tV m c t) (ix2 R l) = cnR (bmG m c) (wG m c) (ix2 R D) := by
  have hl := l.isLt
  have h := cnS_apply (wV m c t.val) (tV m c t) (fun R C => BitVec.setWidth 4 (nibS (maxG (bmG m c)) (bqG m c t.val) (wV m c t.val) R C)) (four m c t) R l
  simp only [← nibS_four (maxG (bmG m c)) (bqG m c t.val) (bqG_le m c t.val) (wV m c t.val)] at h
  rw [nibS_eq m c t R ⟨2 * l.val, by omega⟩ ⟨D.val * 2, by omega⟩ (by show D.val * 2 = 256 * min t.val 55 + 2 * l.val; omega),
    nibS_eq m c t R ⟨2 * l.val + 1, by omega⟩ ⟨D.val * 2 + 1, by omega⟩ (by show D.val * 2 + 1 = 256 * min t.val 55 + (2 * l.val + 1); omega)] at h
  exact h.trans (Cert.ReferenceIdeal.Value.cnR_apply (bmG m c) (wG m c) R D).symm

/-- The rows' packing of a strip. -/
theorem ck_point (t : Fin cfg0.N) (C : Fin 256) (y : Fin 2048) (D : Fin 14336) (hD : D.val = 256 * min t.val 55 + C.val) :
    ckS (F := Ideal) (wV m c t.val) (tV m c t) (ix2 C y) = ckR (bmG m c) (wG m c) (ix2 D y) := by
  have hy := y.isLt
  have h := ckS_apply (wV m c t.val) (tV m c t) (fun R C => BitVec.setWidth 4 (nibS (maxG (bmG m c)) (bqG m c t.val) (wV m c t.val) R C)) (four m c t) C y
  simp only [← nibS_four (maxG (bmG m c)) (bqG m c t.val) (bqG_le m c t.val) (wV m c t.val)] at h
  rw [nibS_eq m c t ⟨2 * y.val, by omega⟩ C D hD, nibS_eq m c t ⟨2 * y.val + 1, by omega⟩ C D hD] at h
  refine h.trans (Eq.trans ?_ (Cert.ReferenceIdeal.Value.ckR_apply (bmG m c) (wG m c) D y).symm)
  simp only [Nat.mul_comm 2 y.val]

theorem yS_apply (st : EReal) (x : S1920x4096.Idx → Elt Ideal .bf16) (D : S4096x256.Idx → Elt Ideal .bf16) (i : Fin 1920) (C : Fin 256) :
    (yS (F := Ideal) st x D (ix2 i C) : EReal) = ((∑ k : Fin 4096, (x (ix2 i k) : EReal) * (D (ix2 k C) : EReal)) * st : EReal) := by
  have hi := i.isLt
  show k0_pay3 (F := Ideal) st (fun y => x (at' S1920x4096 ![240 * (i.val / 240) + (y 0).val, (y 1).val])) D (at' S240x256 ![i.val, C.val]) = _
  rw [show at' S240x256 ![i.val, C.val] = ix2 (⟨i.val % 240, by omega⟩ : Fin 240) C from at2 _ _ _ _ rfl (Nat.mod_eq_of_lt C.isLt)]
  pointwise [k0_pay3]
  refine congrArg₂ (· * ·) (Finset.sum_congr rfl fun k _ => ?_) rfl
  have e : at' S1920x4096 ![240 * (i.val / 240) + i.val % 240, k.val] = ix2 i k :=
    at2 _ _ _ _ (by show (240 * (i.val / 240) + i.val % 240) % 1920 = i.val; omega) (Nat.mod_eq_of_lt k.isLt)
  exact Ideal.mul_congr (congrArg x e) rfl

/-- The product of a strip. -/
theorem y_point (t : Fin cfg0.N) (ht : t.val ≠ 0) (i : Fin 1920) (C : Fin 256) (D : Fin 14336) (hD : D.val = 256 * (t.val - 1) + C.val) :
    yV m c t (ix2 i C) = yR (bmG m c) (xG m c) (wG m c) (ix2 i D) := by
  have hN : t.val < 57 := t.isLt
  refine Eq.trans ?_ (Cert.ReferenceIdeal.Value.yR_apply (bmG m c) (xG m c) (wG m c) i D).symm
  unfold yV
  rw [stV_eq, xV_eq]
  refine (yS_apply _ _ _ i C).trans ?_
  refine congrArg₂ (· * ·) (Finset.sum_congr rfl fun k _ => ?_) rfl
  exact Ideal.mul_congr rfl (dV_apply m c (prev t) k C D (by show D.val = 256 * min (t.val - 1) 55 + C.val; omega))

/-- The scales of a group of strips. -/
theorem sb_point (t : Fin cfg0.N) (k : Fin 256) (q : Fin 128) (C : Fin 896) (hC : C.val = 128 * (min t.val 55 / 8) + q.val) :
    sbS (F := Ideal) (stV m c) (bV m c t) (ix2 k q) = sbR (bmG m c) (ix2 k C) := by
  refine Eq.trans ?_ (Cert.ReferenceIdeal.Value.sbR_apply (bmG m c) k C).symm
  rw [← bV_apply m c t k q C hC, stV_eq]
  pointwise [sbS, k0_pay229]
  rfl

end Cert.Kernel.Value

end
-- ==== Proof.Value.Arrays.lean ====
module

public import proofs.«01_k».proof.Proof.Value.Strip
public import proofs.«01_k».proof.Proof.Body.Launch

@[expose] public section

/-! The kernel's five result arrays after its run are the reference's results of the argument arrays. -/

set_option maxRecDepth 16384

noncomputable section

namespace Cert.Kernel.Value

open Cert.Kernel Cert.Kernel.Gen Cert.Kernel.Body Cert.Value
open Idealize.ShloMosaic Idealize.ShloMosaic.TcCoe Idealize.SL.Sem
open Cert.ReferenceIdeal.Value (maxG le_maxG nibG nibR cnR ckR yR sbR stR)

variable (m : (ℓ : Loc nD τ sig) → Buf (Elt Ideal) ℓ) (c : Dev nD)

theorem y_array : (dats m 0 c).arrAt 2 cfg0.N = yR (bmG m c) (xG m c) (wG m c) := by
  refine (dats m 0 c).arrAt_eq_of_covers 2 _ (by decide +kernel) fun t hf y => ?_
  have ht : t.val ≠ 0 := of_decide_eq_true ((flush2 t).symm.trans hf)
  have hN : t.val < 57 := t.isLt
  blk_simp
  rw [after_2]
  idx_vars y
  refine (y_point m c t ht y0 y1 ⟨256 * (t.val - 1) + y1.val, by omega⟩ rfl).trans ?_
  blk_ext [idx t]

theorem cn_array : (dats m 0 c).arrAt 3 cfg0.N = cnR (bmG m c) (wG m c) := by
  refine (dats m 0 c).arrAt_eq_of_covers 3 _ (by decide +kernel) fun t _ y => ?_
  have hN : t.val < 57 := t.isLt
  blk_simp
  rw [after_3]
  idx_vars y
  refine (cn_point m c t y0 y1 ⟨128 * min t.val 55 + y1.val, by omega⟩ rfl).trans ?_
  blk_ext [idx t]

theorem ck_array : (dats m 0 c).arrAt 4 cfg0.N = ckR (bmG m c) (wG m c) := by
  refine (dats m 0 c).arrAt_eq_of_covers 4 _ (by decide +kernel) fun t _ y => ?_
  have hN : t.val < 57 := t.isLt
  blk_simp
  rw [after_4]
  idx_vars y
  refine (ck_point m c t y0 y1 ⟨256 * min t.val 55 + y0.val, by omega⟩ rfl).trans ?_
  blk_ext [idx t]

theorem sb_array : (dats m 0 c).arrAt 5 cfg0.N = sbR (bmG m c) := by
  refine (dats m 0 c).arrAt_eq_of_covers 5 _ (by decide +kernel) fun t _ y => ?_
  have hN : t.val < 57 := t.isLt
  blk_simp
  rw [after_5]
  idx_vars y
  refine (sb_point m c t y0 y1 ⟨128 * (min t.val 55 / 8) + y1.val, by omega⟩ rfl).trans ?_
  blk_ext [idx t]

theorem st_array : (dats m 0 c).arrAt 6 cfg0.N = fun _ => stR (bmG m c) := by
  refine (dats m 0 c).arrAt_eq_of_covers 6 _ (by decide +kernel) fun t _ y => ?_
  blk_simp
  rw [after_6]
  exact (stV_eq m c).trans (Cert.ReferenceIdeal.Value.stR_eq (bmG m c)).symm

/-- The kernel's runs leave in its results the reference's functions of the arguments, and the arguments alone. -/
theorem run (g : Dev nD → PrngReg) : θ_run (defs (F := Ideal)) (onTc (τ := τ) (main (F := Ideal))) ⟨m, fun _ => 0, g⟩ (fun r => ∀ c : Dev nD,
      r.2.mem ((c.tc : Thread nD τ).loc main_v0_0) = yR (bmG m c) (xG m c) (wG m c)
      ∧ r.2.mem ((c.tc : Thread nD τ).loc main_v0_1) = cnR (bmG m c) (wG m c)
      ∧ r.2.mem ((c.tc : Thread nD τ).loc main_v0_2) = ckR (bmG m c) (wG m c)
      ∧ r.2.mem ((c.tc : Thread nD τ).loc main_v0_3) = sbR (bmG m c)
      ∧ r.2.mem ((c.tc : Thread nD τ).loc main_v0_4) = (fun _ => stR (bmG m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 2).trans (y_array m c), ((h.1 c).1 3).trans (cn_array m c),
    ((h.1 c).1 4).trans (ck_array m c), ((h.1 c).1 5).trans (sb_array m c), ((h.1 c).1 6).trans (st_array m c), args_kept m r h.1 c⟩) (run_main m g)

end Cert.Kernel.Value

end
-- ==== Proof.Value.RefArrays.lean ====
module

public import proofs.«01_k».proof.Proof.Value.Ref
public import proofs.«01_k».proof.Proof.Gen.ReferenceIdeal.Frame

@[expose] public section

/-! The reference's result arrays after its run are its five results of the argument arrays. -/

set_option maxRecDepth 16384

noncomputable section

namespace Cert.ReferenceIdeal.Value

open Cert.ReferenceIdeal Cert.ReferenceIdeal.Gen
open Idealize.ShloMosaic Idealize.ShloMosaic.TcCoe Idealize.SL.Sem

variable (m : (ℓ : Loc nD τ sig) → Buf (Elt Ideal) ℓ) (c : Dev nD)

/-- The block maxima. -/
def bmG : Vec Ideal S256x896 .f32 := m ((c : Thread nD τ).loc main_arg0)
/-- The activations. -/
def xG : Vec Ideal S1920x4096 .bf16 := m ((c : Thread nD τ).loc main_arg1)
/-- The weights. -/
def wG : Vec Ideal S4096x14336 .bf16 := m ((c : Thread nD τ).loc main_arg2)

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0] :=
  (by decide +kernel : ∀ t : Fin grid0.N, _)

theorem iblk0 (t : Fin cfg0.N) : iblk m c 0 t = bmG m c := by blk_ext! [iblk, V, bmG, idx t]
theorem iblk1 (t : Fin cfg0.N) : iblk m c 1 t = xG m c := by blk_ext! [iblk, V, xG, idx t]
theorem iblk2 (t : Fin cfg0.N) : iblk m c 2 t = wG m c := by blk_ext! [iblk, V, wG, idx t]

/-- What the run reads of the maxima's staging buffer at its one point. -/
theorem read0 : View.read (Elt Ideal) (View.whole cc0_stg0_0) ((hs0_0 t0_0).unread (iblk m c 0 t0_0)) = bmG m c :=
  ((hs0_0 t0_0).read_unread (iblk m c 0 t0_0)).trans (iblk0 m c t0_0)
/-- The same of the activations'. -/
theorem read1 : View.read (Elt Ideal) (View.whole cc0_stg1_0) ((hs0_1 t0_0).unread (iblk m c 1 t0_0)) = xG m c :=
  ((hs0_1 t0_0).read_unread (iblk m c 1 t0_0)).trans (iblk1 m c t0_0)
/-- The same of the weights'. -/
theorem read2 : View.read (Elt Ideal) (View.whole cc0_stg2_0) ((hs0_2 t0_0).unread (iblk m c 2 t0_0)) = wG m c :=
  ((hs0_2 t0_0).read_unread (iblk m c 2 t0_0)).trans (iblk2 m c t0_0)

theorem y_array : (dats m 0 c).arrAt 3 cfg0.N = yR (bmG m c) (xG m c) (wG m c) := by
  refine (dats m 0 c).arrAt_eq_of_after_last 3 t0_0 (by decide +kernel) _ fun j => ?_
  blk_simp
  rw [after0_3]
  unfold outsAt0 out0_A_3
  frame_out
  rw [read0, read1, read2]
  rfl

theorem cn_array : (dats m 0 c).arrAt 4 cfg0.N = cnR (bmG m c) (wG m c) := by
  refine (dats m 0 c).arrAt_eq_of_after_last 4 t0_0 (by decide +kernel) _ fun j => ?_
  blk_simp
  rw [after0_4]
  unfold outsAt0 out0_A_4
  frame_out
  rw [read0, read2]
  rfl

theorem ck_array : (dats m 0 c).arrAt 5 cfg0.N = ckR (bmG m c) (wG m c) := by
  refine (dats m 0 c).arrAt_eq_of_after_last 5 t0_0 (by decide +kernel) _ fun j => ?_
  blk_simp
  rw [after0_5]
  unfold outsAt0 out0_A_5
  frame_out
  rw [read0, read2]
  rfl

theorem sb_array : (dats m 0 c).arrAt 6 cfg0.N = sbR (bmG m c) := by
  refine (dats m 0 c).arrAt_eq_of_after_last 6 t0_0 (by decide +kernel) _ fun j => ?_
  blk_simp
  rw [after0_6]
  unfold outsAt0 out0_A_6
  frame_out
  rw [read0]
  rfl

theorem st_array : (dats m 0 c).arrAt 7 cfg0.N = fun _ => stR (bmG m c) := by
  refine (dats m 0 c).arrAt_eq_of_after_last 7 t0_0 (by decide +kernel) _ fun j => ?_
  blk_simp
  rw [after0_7]
  unfold outsAt0 out0_A_7
  frame_out
  rw [read0]
  rfl

/-- The reference's runs leave its functions of the arguments in its results, and the arguments alone. -/
theorem run (g : Dev nD → PrngReg) : θ_run (defs (F := Ideal)) (onTc (τ := τ) (main (F := Ideal))) ⟨m, fun _ => 0, g⟩ (fun r => ∀ c : Dev nD,
      r.2.mem ((c.tc : Thread nD τ).loc main_v0_0) = yR (bmG m c) (xG m c) (wG m c)
      ∧ r.2.mem ((c.tc : Thread nD τ).loc main_v0_1) = cnR (bmG m c) (wG m c)
      ∧ r.2.mem ((c.tc : Thread nD τ).loc main_v0_2) = ckR (bmG m c) (wG m c)
      ∧ r.2.mem ((c.tc : Thread nD τ).loc main_v0_3) = sbR (bmG m c)
      ∧ r.2.mem ((c.tc : Thread nD τ).loc main_v0_4) = (fun _ => stR (bmG m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 3).trans (y_array m c), ((h.1 c).1 4).trans (cn_array m c),
    ((h.1 c).1 5).trans (ck_array m c), ((h.1 c).1 6).trans (sb_array m c), ((h.1 c).1 7).trans (st_array m c), h.2 c⟩)
    (θ_run_and (run_main m g) (unchanged m g))

end Cert.ReferenceIdeal.Value

end
-- ==== Proof.Amax.Fold.lean ====
module

public import proofs.«01_k».proof.Proof.Gen.AmaxIdeal.Skeleton
public import Idealize.ShloMosaic.Lib.IdealHost
public import Idealize.ShloMosaic.Lib.Pipeline.ValueKit

@[expose] public section

/-! Eight tiles of 16 rows are folded into one tile of 8 sublanes, each sublane the largest magnitude of the rows of
    its own tile. Even and odd rows go separately, and each fold exchanges half of the sublanes of two tiles. -/

set_option maxRecDepth 16384

noncomputable section

namespace Cert.AmaxIdeal.Value

open Cert.AmaxIdeal Cert.AmaxIdeal.Gen
open Idealize.ShloMosaic

/-- The magnitudes of a tile's rows of one parity. -/
def par (p : Fin 2) (w : FVec Ideal S16x128 .bf16) : FVec Ideal S8x128 .bf16 :=
  rowsOfParity p S8x128 (absf w) bitcasts_S16x128_w16_S8x128_w32

/-- A tile's sublanes moved up by `n`, round the end. -/
def turn (n : BitVec 32) (a : FVec Ideal S8x128 .bf16) : FVec Ideal S8x128 .bf16 := dynamicRotate 0 n none a rotates_S8x128_d0

/-- The fold of two tiles over sublanes that differ in the bit 4. -/
def fold4 (a b : FVec Ideal S8x128 .bf16) : FVec Ideal S8x128 .bf16 :=
  maximumf (select k0_pay128 a b) (turn 4#32 (select k0_pay128 b a))

/-- A fold over sublanes that differ in the bit of the mask `k`, which lie `d` below or `u` above. -/
def foldBy (k : IVec S8x128 1) (u d : BitVec 32) (a b : FVec Ideal S8x128 .bf16) : FVec Ideal S8x128 .bf16 :=
  maximumf (select k a b) (select k (turn u (select k b a)) (turn d (select k b a)))

/-- The eight tiles' rows of one parity in one tile. -/
def rows (p : Fin 2) (w : Fin 8 → FVec Ideal S16x128 .bf16) : FVec Ideal S8x128 .bf16 :=
  foldBy k0_pay130 7#32 1#32
    (foldBy k0_pay129 6#32 2#32 (fold4 (par p (w 0)) (par p (w 4))) (fold4 (par p (w 2)) (par p (w 6))))
    (foldBy k0_pay129 6#32 2#32 (fold4 (par p (w 1)) (par p (w 5))) (fold4 (par p (w 3)) (par p (w 7))))

/-- The eight tiles in one. -/
def top (w : Fin 8 → FVec Ideal S16x128 .bf16) : FVec Ideal S8x128 .f32 :=
  maximumf (extf .f32 (rows 1 w)) (extf .f32 (rows 0 w))

theorem par_maximumf (p : Fin 2) (x y : FVec Ideal S16x128 .bf16) :
    rowsOfParity p S8x128 (maximumf x y) bitcasts_S16x128_w16_S8x128_w32
      = maximumf (rowsOfParity p S8x128 x bitcasts_S16x128_w16_S8x128_w32) (rowsOfParity p S8x128 y bitcasts_S16x128_w16_S8x128_w32) := rfl

/-- The magnitude of an element. -/
def mag (x : EReal) : EReal := FloatOps.absf (F := Ideal) (φ := .bf16) x

theorem turn_apply (n : BitVec 32) (a : FVec Ideal S8x128 .bf16) (s : Fin 8) (l : Fin 128) :
    turn n a (ix2 s l) = a (ix2 ⟨(s.val + 8 - n.toNat % 8) % 8, Nat.mod_lt _ (by decide)⟩ l) := by
  pointwise [turn]

theorem mask4 (s : Fin 8) (l : Fin 128) : k0_pay128 (ix2 s l) = if s.val / 4 % 2 = 0 then 1#1 else 0#1 := by
  pointwise [k0_pay128]
  revert s
  decide +kernel

theorem mask2 (s : Fin 8) (l : Fin 128) : k0_pay129 (ix2 s l) = if s.val / 2 % 2 = 0 then 1#1 else 0#1 := by
  pointwise [k0_pay129]
  revert s
  decide +kernel

theorem mask1 (s : Fin 8) (l : Fin 128) : k0_pay130 (ix2 s l) = if s.val % 2 = 0 then 1#1 else 0#1 := by
  pointwise [k0_pay130]
  revert s
  decide +kernel

/-- The row `s` of a tile, at a lane. -/
abbrev at8 (a : FVec Ideal S8x128 .bf16) (l : Fin 128) (s : Fin 8) : EReal := a (ix2 s l)

theorem fold4_apply (a b : FVec Ideal S8x128 .bf16) (s : Fin 8) (l : Fin 128) :
    (fold4 a b (ix2 s l) : EReal) = if s.val / 4 % 2 = 0 then max (at8 a l s) (at8 a l (s + 4)) else max (at8 b l s) (at8 b l (s + 4)) := by
  have e : (fold4 a b (ix2 s l) : EReal) = max (Scalar.select (k0_pay128 (ix2 s l)) (a (ix2 s l)) (b (ix2 s l)))
      (Scalar.select (k0_pay128 (ix2 (s + 4) l)) (b (ix2 (s + 4) l)) (a (ix2 (s + 4) l))) := by
    refine congrArg (max _) ((turn_apply _ _ s l).trans ?_)
    rw [show (⟨(s.val + 8 - (4#32).toNat % 8) % 8, Nat.mod_lt _ (by decide)⟩ : Fin 8) = s + 4 from by revert s; decide]
    rfl
  rw [e, mask4, mask4]
  fin_cases s <;> rfl

theorem foldBy_apply (k : IVec S8x128 1) (u d : BitVec 32) (a b : FVec Ideal S8x128 .bf16) (s s' : Fin 8) (l : Fin 128) (i : Bool)
    (hs : k (ix2 s l) = if i then 1#1 else 0#1) (hs' : k (ix2 s' l) = if i then 0#1 else 1#1)
    (hu : (s.val + 8 - (if i then u else d).toNat % 8) % 8 = s'.val) :
    (foldBy k u d a b (ix2 s l) : EReal) = if i then max (at8 a l s) (at8 a l s') else max (at8 b l s) (at8 b l s') := by
  have e : (foldBy k u d a b (ix2 s l) : EReal) = max (Scalar.select (k (ix2 s l)) (a (ix2 s l)) (b (ix2 s l)))
      (Scalar.select (k (ix2 s l)) (turn u (select k b a) (ix2 s l)) (turn d (select k b a) (ix2 s l))) := rfl
  rw [e, turn_apply, turn_apply]
  cases i
  · rw [show (⟨(s.val + 8 - d.toNat % 8) % 8, Nat.mod_lt _ (by decide)⟩ : Fin 8) = s' from Fin.ext hu]
    show max (Scalar.select (k (ix2 s l)) _ _) (Scalar.select (k (ix2 s l)) _ (Scalar.select (k (ix2 s' l)) _ _)) = _
    rw [hs, hs']; rfl
  · rw [show (⟨(s.val + 8 - u.toNat % 8) % 8, Nat.mod_lt _ (by decide)⟩ : Fin 8) = s' from Fin.ext hu]
    show max (Scalar.select (k (ix2 s l)) _ _) (Scalar.select (k (ix2 s l)) (Scalar.select (k (ix2 s' l)) _ _) _) = _
    rw [hs, hs']; rfl

/-- The sublane `s` of the folded tile is the largest over the rows of the tile `s`. -/
theorem rows_le (p : Fin 2) (w : Fin 8 → FVec Ideal S16x128 .bf16) (s : Fin 8) (l : Fin 128) (x : EReal) :
    (rows p w (ix2 s l) : EReal) ≤ x ↔ ∀ r : Fin 8, at8 (par p (w s)) l r ≤ x := by
  have e1 (a b : FVec Ideal S8x128 .bf16) (s : Fin 8) := foldBy_apply k0_pay130 7#32 1#32 a b s (if s.val % 2 = 0 then s + 1 else s - 1) l (decide (s.val % 2 = 0))
    (by rw [mask1]; revert s; decide) (by rw [mask1]; revert s; decide) (by revert s; decide)
  have e2 (a b : FVec Ideal S8x128 .bf16) (s : Fin 8) := foldBy_apply k0_pay129 6#32 2#32 a b s (if s.val / 2 % 2 = 0 then s + 2 else s - 2) l (decide (s.val / 2 % 2 = 0))
    (by rw [mask2]; revert s; decide) (by rw [mask2]; revert s; decide) (by revert s; decide)
  unfold rows
  rw [e1]
  simp only [at8, e2, fold4_apply, Fin.forall_fin_succ]
  fin_cases s <;> simp [at8] <;> clear e1 e2 <;> tauto

theorem par_apply (p : Fin 2) (w : FVec Ideal S16x128 .bf16) (s : Fin 8) (l : Fin 128) :
    (par p w (ix2 s l) : EReal) = mag (w (ix2 ⟨2 * s.val + p.val, by omega⟩ l)) := by
  pointwise [par]
  rfl

theorem top_le (w : Fin 8 → FVec Ideal S16x128 .bf16) (s : Fin 8) (l : Fin 128) (x : EReal) :
    (top w (ix2 s l) : EReal) ≤ x ↔ ∀ r : Fin 16, mag (w s (ix2 r l)) ≤ x := by
  have e : (top w (ix2 s l) : EReal) = max (rows 1 w (ix2 s l)) (rows 0 w (ix2 s l)) := rfl
  rw [e, max_le_iff, rows_le, rows_le]
  simp only [at8, par_apply]
  constructor
  · rintro ⟨h1, h0⟩ r
    by_cases hr : r.val % 2 = 0
    · have := h0 ⟨r.val / 2, by omega⟩
      rwa [show (⟨2 * (r.val / 2) + (0 : Fin 2).val, by simp; omega⟩ : Fin 16) = r from Fin.ext (by simp; omega)] at this
    · have := h1 ⟨r.val / 2, by omega⟩
      rwa [show (⟨2 * (r.val / 2) + (1 : Fin 2).val, by simp; omega⟩ : Fin 16) = r from Fin.ext (by simp; omega)] at this
  · exact fun h => ⟨fun _ => h _, fun _ => h _⟩

end Cert.AmaxIdeal.Value

end
-- ==== Proof.Amax.Lane.lean ====
module

public import proofs.«01_k».proof.Proof.Amax.Fold

@[expose] public section

/-! A chunk's 128 lanes hold 8 blocks of 16: the largest over each block, placed in the 8 lanes of the result that
    belong to the chunk. -/

set_option maxRecDepth 16384

noncomputable section

namespace Cert.AmaxIdeal.Value

open Cert.AmaxIdeal Cert.AmaxIdeal.Gen
open Idealize.ShloMosaic

/-- The larger of each lane and the one `128 - n` further on. -/
def step (n : BitVec 32) (f : FVec Ideal S8x128 .f32) : FVec Ideal S8x128 .f32 := maximumf f (dynamicRotate 1 n none f rotates_S8x128_d1)

/-- The largest over 16 lanes from each on. -/
def win (f : FVec Ideal S8x128 .f32) : FVec Ideal S8x128 .f32 := step 120#32 (step 124#32 (step 126#32 (step 127#32 f)))

/-- The lane that a result's lane is taken from. -/
def pickV : IVec S8x128 32 :=
  shapeCast S8x128 (shapeCast S8x128x1 (select (cmpi .slt k0_pay127 (broadcast S8x128 0#32)) (addi k0_pay127 (broadcast S8x128 128#32)) k0_pay127)
    shapeCasts_S8x128_S8x128x1) shapeCasts_S8x128x1_S8x128

/-- The chunk that a result's lane belongs to. -/
def chunkV : IVec S8x128 32 :=
  have v1 : IVec S8x128 32 := iota .tc S8x128 32 [1] iota_S8x128_d1_w32
  have v175 : IVec S8x128 32 := divsi v1 (broadcast S8x128 8#32)
  have v178 : IVec S8x128 32 := extui 32 (cmpi .sgt v1 (broadcast S8x128 0#32)) natLt_1_32
  have v181 : IVec S8x128 32 := extui 32 (cmpi .slt v1 (broadcast S8x128 0#32)) natLt_1_32
  let v187 : BitVec 32 := Scalar.subi (Scalar.extui (Scalar.cmpi .sgt 8#32 0#32)) (Scalar.extui (Scalar.cmpi .slt 8#32 0#32))
  have v189 : IVec S8x128 1 := cmpi .ne (subi v178 v181) (broadcast S8x128 v187)
  have v193 : IVec S8x128 1 := cmpi .ne (remsi v1 (broadcast S8x128 8#32)) (broadcast S8x128 0#32)
  select (andi v189 v193) (subi v175 (broadcast S8x128 1#32)) v175

theorem pay132_eq (acc v : FVec Ideal S8x128 .f32) (a : BitVec 32) :
    k0_pay132 acc a v 127#32 = select (cmpi .eq chunkV (broadcast S8x128 a)) (dynamicGather 1 (win v) pickV) acc := rfl

theorem chunkV_apply (s : Fin 8) (l : Fin 128) : chunkV (ix2 s l) = BitVec.ofNat 32 (l.val / 8) := by
  pointwise [chunkV]
  revert l
  decide +kernel

theorem pickV_apply (s : Fin 8) (l : Fin 128) : pickV (ix2 s l) = BitVec.ofNat 32 (l.val % 8 * 16) := by
  pointwise [pickV, k0_pay127]
  revert l
  decide +kernel

theorem gather_apply (f : FVec Ideal S8x128 .f32) (s : Fin 8) (l : Fin 128) :
    dynamicGather 1 f pickV (ix2 s l) = f (ix2 s ⟨l.val % 8 * 16, by omega⟩) := by
  pointwise
  rw [pickV_apply]
  congr 2
  refine Fin.ext ?_
  show (BitVec.ofNat 32 (l.val % 8 * 16)).toNat % 128 = l.val % 8 * 16
  rw [BitVec.toNat_ofNat]
  omega

theorem trip_apply (acc v : FVec Ideal S8x128 .f32) (k : Fin 16) (s : Fin 8) (l : Fin 128) :
    k0_pay132 acc (BitVec.ofNat 32 k.val) v 127#32 (ix2 s l) = if l.val / 8 = k.val then win v (ix2 s ⟨l.val % 8 * 16, by omega⟩) else acc (ix2 s l) := by
  rw [pay132_eq]
  show Scalar.select (Scalar.cmpi .eq (chunkV (ix2 s l)) (BitVec.ofNat 32 k.val)) (dynamicGather 1 (win v) pickV (ix2 s l)) (acc (ix2 s l)) = _
  rw [chunkV_apply, gather_apply]
  by_cases h : l.val / 8 = k.val
  · rw [if_pos h, h]
    rw [show Scalar.cmpi .eq (BitVec.ofNat 32 k.val) (BitVec.ofNat 32 k.val) = 1#1 from by clear h; revert k; decide]
    rfl
  · rw [if_neg h]
    rw [show Scalar.cmpi .eq (BitVec.ofNat 32 (l.val / 8)) (BitVec.ofNat 32 k.val) = 0#1 from by revert k l; decide +kernel]
    rfl

theorem step_apply (n : BitVec 32) (f : FVec Ideal S8x128 .f32) (s : Fin 8) (l : Fin 128) :
    (step n f (ix2 s l) : EReal) = max (f (ix2 s l)) (f (ix2 s ⟨(l.val + 128 - n.toNat % 128) % 128, Nat.mod_lt _ (by decide)⟩)) := by
  pointwise [step]

/-- A step doubles the window. -/
theorem step_le (n : BitVec 32) (k : ℕ) (hk : n.toNat = 128 - k) (hk1 : 1 ≤ k) (hk2 : k ≤ 8) (f v : FVec Ideal S8x128 .f32) (s : Fin 8) (x : EReal)
    (h : ∀ l : Fin 128, (f (ix2 s l) : EReal) ≤ x ↔ ∀ d < k, (v (ix2 s ⟨(l.val + d) % 128, Nat.mod_lt _ (by decide)⟩) : EReal) ≤ x) (l : Fin 128) :
    (step n f (ix2 s l) : EReal) ≤ x ↔ ∀ d < 2 * k, (v (ix2 s ⟨(l.val + d) % 128, Nat.mod_lt _ (by decide)⟩) : EReal) ≤ x := by
  rw [step_apply, max_le_iff, h, h]
  have e (d : ℕ) : ((l.val + 128 - n.toNat % 128) % 128 + d) % 128 = (l.val + (k + d)) % 128 := by rw [hk]; omega
  simp only [e]
  constructor
  · rintro ⟨h1, h2⟩ d hd
    by_cases hd1 : d < k
    · exact h1 d hd1
    · have := h2 (d - k) (by omega)
      simpa only [show k + (d - k) = d from by omega] using this
  · exact fun g => ⟨fun d hd => g d (by omega), fun d hd => g (k + d) (by omega)⟩

theorem win_le (v : FVec Ideal S8x128 .f32) (s : Fin 8) (l : Fin 128) (x : EReal) :
    (win v (ix2 s l) : EReal) ≤ x ↔ ∀ d < 16, (v (ix2 s ⟨(l.val + d) % 128, Nat.mod_lt _ (by decide)⟩) : EReal) ≤ x := by
  refine step_le 120#32 8 rfl (by decide) (by decide) _ v s x (fun l => ?_) l
  refine step_le 124#32 4 rfl (by decide) (by decide) _ v s x (fun l => ?_) l
  refine step_le 126#32 2 rfl (by decide) (by decide) _ v s x (fun l => ?_) l
  refine step_le 127#32 1 rfl (by decide) (by decide) _ v s x (fun l => ?_) l
  constructor
  · intro h d hd
    obtain rfl : d = 0 := by omega
    rwa [show (⟨(l.val + 0) % 128, Nat.mod_lt _ (by decide)⟩ : Fin 128) = l from Fin.ext (Nat.mod_eq_of_lt l.isLt)]
  · intro h
    have := h 0 (by decide)
    rwa [show (⟨(l.val + 0) % 128, Nat.mod_lt _ (by decide)⟩ : Fin 128) = l from Fin.ext (Nat.mod_eq_of_lt l.isLt)] at this

end Cert.AmaxIdeal.Value

end
-- ==== Proof.Amax.Trip.lean ====
module

public import proofs.«01_k».proof.Proof.Amax.Fold
public import proofs.«01_k».proof.Proof.Gen.AmaxIdeal.Frame
public import Idealize.ShloMosaic.Lib.Bf16PairInverse

@[expose] public section

/-! One trip of each of the four loops. -/

set_option maxRecDepth 16384

noncomputable section

namespace Cert.AmaxIdeal.Value

open Cert.AmaxIdeal Cert.AmaxIdeal.Gen
open Idealize.ShloMosaic Idealize.ShloMosaic.TcCoe Idealize.SL.Sem

variable (c : Dev nD) (i : grid0.Coords) (a2 : Memref sig .tc .vmem S512x2048 .bf16) (h2 : a2.IsWhole) (a3 : Memref sig .tc .vmem S32x128 .f32) (h3 : a3.IsWhole)

/-- The tile of 16 rows from `r` on and 128 columns from `128 k` on. -/
def tile (x : Vec Ideal S512x2048 .bf16) (r k : ℕ) : FVec Ideal S16x128 .bf16 := fun y =>
  x (ix2 ⟨(r + (y 0).val) % 512, Nat.mod_lt _ (by decide)⟩ ⟨(128 * k + (y 1).val) % 2048, Nat.mod_lt _ (by decide)⟩)

theorem column_eq : ∀ k : Fin 16, BitVec.toNat (Scalar.indexCast (Scalar.muli (Scf.iv 0#32 1#32 k.val) 128#32)) = 128 * k.val := by decide +kernel

theorem iv_eq : ∀ k : Fin 16, Scf.iv 0#32 1#32 k.val = BitVec.ofNat 32 k.val := by decide +kernel

theorem ld_tile (x : Vec Ideal S512x2048 .bf16) (r k n : ℕ) (e : n = 128 * k) (inb : ∀ a, (![r, n] : Fin 2 → ℕ) a + (![16, 128] : Fin 2 → ℕ) a ≤ S512x2048.size a) :
    View.ld x (Rect.unit (s := S512x2048) ![r, n] ![16, 128] inb) = tile x r k := by
  have i0 : r + 16 ≤ 512 := inb 0
  have i1 : n + 128 ≤ 2048 := inb 1
  subst e
  funext y
  idx_vars y
  pointwise [tile]
  congr 2
  · exact Fin.ext (Nat.mod_eq_of_lt (by have := y0.isLt; show r + y0.val < 512; omega)).symm
  · exact Fin.ext (Nat.mod_eq_of_lt (by have := y1.isLt; show 128 * k + y1.val < 2048; omega)).symm

/-- Eight tiles one under another, from row `128 g` on. -/
def tiles (x : Vec Ideal S512x2048 .bf16) (g k : ℕ) (s : Fin 8) : FVec Ideal S16x128 .bf16 := tile x (128 * g + 16 * s.val) k

theorem top_eq (w : Fin 8 → FVec Ideal S16x128 .bf16) (w0 w1 w2 w3 w4 w5 w6 w7 : FVec Ideal S16x128 .bf16) (e0 : w0 = w 0) (e1 : w1 = w 1)
    (e2 : w2 = w 2) (e3 : w3 = w 3) (e4 : w4 = w 4) (e5 : w5 = w 5) (e6 : w6 = w 6) (e7 : w7 = w 7) :
    k0_pay36 k0_pay129 k0_pay130 (k0_pay26 k0_pay128 (k0_pay8 w0) (k0_pay9 w0) (k0_pay20 w4) (k0_pay21 w4))
      (k0_pay27 k0_pay128 (k0_pay8 w0) (k0_pay9 w0) (k0_pay20 w4) (k0_pay21 w4))
      (k0_pay29 k0_pay128 (k0_pay11 w1) (k0_pay12 w1) (k0_pay23 w5) (k0_pay24 w5))
      (k0_pay30 k0_pay128 (k0_pay11 w1) (k0_pay12 w1) (k0_pay23 w5) (k0_pay24 w5))
      (k0_pay32 k0_pay128 (k0_pay14 w2) (k0_pay15 w2) w6) (k0_pay33 k0_pay128 (k0_pay14 w2) (k0_pay15 w2) w6)
      (k0_pay34 k0_pay128 (k0_pay17 w3) (k0_pay18 w3) w7) (k0_pay35 k0_pay128 (k0_pay17 w3) (k0_pay18 w3) w7) = top w := by
  subst e0 e1 e2 e3 e4 e5 e6 e7
  dsimp only [k0_pay36, k0_pay25, k0_pay26, k0_pay27, k0_pay28, k0_pay29, k0_pay30, k0_pay31, k0_pay32, k0_pay33, k0_pay34, k0_pay35,
    k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]
  simp only [par_maximumf, rowsOfParity_zero_interleaveRows, rowsOfParity_one_interleaveRows]
  rfl

theorem t1_eq (𝒱 : Variants) (bd : Option 𝒱.V) (x : Vec Ideal S512x2048 .bf16) (k : Fin k0_t1_loop.trips) (acc : FVec Ideal S8x128 .f32) :
    tripR_k0_t1 𝒱 c bd i a2 h2 a3 h3 (h2.unread x) k acc = k0_pay132 acc (BitVec.ofNat 32 k.val) (top (tiles x 0 k.val)) 127#32 := by
  have hk : k.val < 16 := Nat.lt_of_lt_of_le k.isLt k0_t1_abs.2.1
  have col : BitVec.toNat (Scalar.indexCast (Scalar.muli (Scf.iv 0#32 1#32 k.val) 128#32)) = 128 * k.val := column_eq ⟨k.val, hk⟩
  have iv : Scf.iv 0#32 1#32 k.val = BitVec.ofNat 32 k.val := iv_eq ⟨k.val, hk⟩
  unfold tripR_k0_t1 trip_k0_t1
  dsimp only
  sl_unfold_words
  simp only [View.readAt_eq_ld, Memref.IsWhole.read_unread]
  rw [← iv]
  exact congrArg (fun v => k0_pay132 acc _ v 127#32) (top_eq (tiles x 0 k.val) _ _ _ _ _ _ _ _ (ld_tile x _ k.val _ col _) (ld_tile x _ k.val _ col _) (ld_tile x _ k.val _ col _) (ld_tile x _ k.val _ col _)
    (ld_tile x _ k.val _ col _) (ld_tile x _ k.val _ col _) (ld_tile x _ k.val _ col _) (ld_tile x _ k.val _ col _))

theorem t2_eq (𝒱 : Variants) (bd : Option 𝒱.V) (x : Vec Ideal S512x2048 .bf16) (k : Fin k0_t2_loop.trips) (acc : FVec Ideal S8x128 .f32) :
    tripR_k0_t2 𝒱 c bd i a2 h2 a3 h3 kernelRun0_A.sl.v1 k0_pay127 k0_pay128 k0_pay129 k0_pay130 (h2.unread x) k acc = k0_pay132 acc (BitVec.ofNat 32 k.val) (top (tiles x 1 k.val)) 127#32 := by
  have hk : k.val < 16 := Nat.lt_of_lt_of_le k.isLt k0_t2_abs.2.1
  have col : BitVec.toNat (Scalar.indexCast (Scalar.muli (Scf.iv 0#32 1#32 k.val) 128#32)) = 128 * k.val := column_eq ⟨k.val, hk⟩
  have iv : Scf.iv 0#32 1#32 k.val = BitVec.ofNat 32 k.val := iv_eq ⟨k.val, hk⟩
  unfold tripR_k0_t2 trip_k0_t2
  dsimp only
  sl_unfold_words
  simp only [View.readAt_eq_ld, Memref.IsWhole.read_unread]
  rw [← iv]
  exact congrArg (fun v => k0_pay132 acc _ v 127#32) (top_eq (tiles x 1 k.val) _ _ _ _ _ _ _ _ (ld_tile x _ k.val _ col _) (ld_tile x _ k.val _ col _) (ld_tile x _ k.val _ col _) (ld_tile x _ k.val _ col _)
    (ld_tile x _ k.val _ col _) (ld_tile x _ k.val _ col _) (ld_tile x _ k.val _ col _) (ld_tile x _ k.val _ col _))

theorem t3_eq (𝒱 : Variants) (bd : Option 𝒱.V) (x : Vec Ideal S512x2048 .bf16) (k : Fin k0_t3_loop.trips) (acc : FVec Ideal S8x128 .f32) :
    tripR_k0_t3 𝒱 c bd i a2 h2 a3 h3 kernelRun0_A.sl.v1 k0_pay127 k0_pay128 k0_pay129 k0_pay130 (h2.unread x) k acc = k0_pay132 acc (BitVec.ofNat 32 k.val) (top (tiles x 2 k.val)) 127#32 := by
  have hk : k.val < 16 := Nat.lt_of_lt_of_le k.isLt k0_t3_abs.2.1
  have col : BitVec.toNat (Scalar.indexCast (Scalar.muli (Scf.iv 0#32 1#32 k.val) 128#32)) = 128 * k.val := column_eq ⟨k.val, hk⟩
  have iv : Scf.iv 0#32 1#32 k.val = BitVec.ofNat 32 k.val := iv_eq ⟨k.val, hk⟩
  unfold tripR_k0_t3 trip_k0_t3
  dsimp only
  sl_unfold_words
  simp only [View.readAt_eq_ld, Memref.IsWhole.read_unread]
  rw [← iv]
  exact congrArg (fun v => k0_pay132 acc _ v 127#32) (top_eq (tiles x 2 k.val) _ _ _ _ _ _ _ _ (ld_tile x _ k.val _ col _) (ld_tile x _ k.val _ col _) (ld_tile x _ k.val _ col _) (ld_tile x _ k.val _ col _)
    (ld_tile x _ k.val _ col _) (ld_tile x _ k.val _ col _) (ld_tile x _ k.val _ col _) (ld_tile x _ k.val _ col _))

theorem t4_eq (𝒱 : Variants) (bd : Option 𝒱.V) (x : Vec Ideal S512x2048 .bf16) (k : Fin k0_t4_loop.trips) (acc : FVec Ideal S8x128 .f32) :
    tripR_k0_t4 𝒱 c bd i a2 h2 a3 h3 kernelRun0_A.sl.v1 k0_pay127 k0_pay128 k0_pay129 k0_pay130 (h2.unread x) k acc = k0_pay132 acc (BitVec.ofNat 32 k.val) (top (tiles x 3 k.val)) 127#32 := by
  have hk : k.val < 16 := Nat.lt_of_lt_of_le k.isLt k0_t4_abs.2.1
  have col : BitVec.toNat (Scalar.indexCast (Scalar.muli (Scf.iv 0#32 1#32 k.val) 128#32)) = 128 * k.val := column_eq ⟨k.val, hk⟩
  have iv : Scf.iv 0#32 1#32 k.val = BitVec.ofNat 32 k.val := iv_eq ⟨k.val, hk⟩
  unfold tripR_k0_t4 trip_k0_t4
  dsimp only
  sl_unfold_words
  simp only [View.readAt_eq_ld, Memref.IsWhole.read_unread]
  rw [← iv]
  exact congrArg (fun v => k0_pay132 acc _ v 127#32) (top_eq (tiles x 3 k.val) _ _ _ _ _ _ _ _ (ld_tile x _ k.val _ col _) (ld_tile x _ k.val _ col _) (ld_tile x _ k.val _ col _) (ld_tile x _ k.val _ col _)
    (ld_tile x _ k.val _ col _) (ld_tile x _ k.val _ col _) (ld_tile x _ k.val _ col _) (ld_tile x _ k.val _ col _))

end Cert.AmaxIdeal.Value

end
-- ==== Proof.Amax.Loop.lean ====
module

public import proofs.«01_k».proof.Proof.Amax.Lane
public import proofs.«01_k».proof.Proof.Amax.Trip

@[expose] public section

/-! A loop of 16 trips fills the 128 lanes of its 8 rows of blocks, 8 lanes a trip. -/

set_option maxRecDepth 16384

noncomputable section

namespace Cert.AmaxIdeal.Value

open Cert.AmaxIdeal Cert.AmaxIdeal.Gen
open Idealize.ShloMosaic Idealize.ShloMosaic.TcCoe Idealize.SL.Sem

/-- What a loop leaves. -/
def group (x : Vec Ideal S512x2048 .bf16) (g : ℕ) (s : Fin 8) (l : Fin 128) : EReal :=
  win (top (tiles x g (l.val / 8))) (ix2 s ⟨l.val % 8 * 16, by omega⟩)

theorem filled (x : Vec Ideal S512x2048 .bf16) (g : ℕ) (f : ℕ → FVec Ideal S8x128 .f32)
    (hf : ∀ k : Fin 16, f (k.val + 1) = k0_pay132 (f k.val) (BitVec.ofNat 32 k.val) (top (tiles x g k.val)) 127#32) (s : Fin 8) (l : Fin 128) (n : ℕ)
    (hn : n ≤ 16) (hl : l.val / 8 < n) : f n (ix2 s l) = group x g s l := by
  induction n with
  | zero => omega
  | succ n ih =>
    rw [hf ⟨n, by omega⟩]
    refine (trip_apply _ _ ⟨n, by omega⟩ s l).trans ?_
    by_cases h : l.val / 8 = n
    · subst h; rw [if_pos rfl]; rfl
    · rw [if_neg h]; exact ih (by omega) (by omega)

theorem group_le (x : Vec Ideal S512x2048 .bf16) (g : ℕ) (s : Fin 8) (l : Fin 128) (b : EReal) (R : Fin 32) (hR : R.val = 8 * g + s.val) :
    group x g s l ≤ b ↔ ∀ r d : Fin 16, mag (x (ix2 ⟨16 * R.val + r.val, by omega⟩ ⟨16 * l.val + d.val, by omega⟩)) ≤ b := by
  unfold group
  rw [win_le]
  simp only [top_le]
  have e (r : Fin 16) (d : ℕ) (hd : d < 16) : tiles x g (l.val / 8) s (ix2 r ⟨(l.val % 8 * 16 + d) % 128, Nat.mod_lt _ (by decide)⟩)
      = x (ix2 ⟨16 * R.val + r.val, by omega⟩ ⟨16 * l.val + d, by omega⟩) := by
    unfold tiles tile
    refine congrArg x (congrArg₂ ix2 (Fin.ext ?_) (Fin.ext ?_))
    · show (128 * g + 16 * s.val + r.val) % 512 = 16 * R.val + r.val
      omega
    · show (128 * (l.val / 8) + (l.val % 8 * 16 + d) % 128) % 2048 = 16 * l.val + d
      omega
  constructor
  · intro h r d
    have := h d.val d.isLt r
    rwa [e r d.val d.isLt] at this
  · intro h d hd r
    rw [e r d hd]
    exact h r ⟨d, hd⟩

variable (c : Dev nD) (i : grid0.Coords) (a2 : Memref sig .tc .vmem S512x2048 .bf16) (h2 : a2.IsWhole) (a3 : Memref sig .tc .vmem S32x128 .f32) (h3 : a3.IsWhole)

theorem loop1 (x : Vec Ideal S512x2048 .bf16) (init : FVec Ideal S8x128 .f32) (s : Fin 8) (l : Fin 128) :
    st_k0_t1 Variants.none c none i a2 h2 a3 h3 (h2.unread x) init (Scf.trips (0#32) (Scalar.addi 0#32 16#32) 1#32) (ix2 s l) = group x 0 s l :=
  filled x 0 _ (fun k => (st_k0_t1_succ Variants.none c none i a2 h2 a3 h3 (h2.unread x) init k).trans (t1_eq c i a2 h2 a3 h3 Variants.none none x k _)) s l _ (by decide) (by
    show l.val / 8 < 16; omega)

theorem loop2 (x : Vec Ideal S512x2048 .bf16) (init : FVec Ideal S8x128 .f32) (s : Fin 8) (l : Fin 128) :
    st_k0_t2 Variants.none c none i a2 h2 a3 h3 kernelRun0_A.sl.v1 k0_pay127 k0_pay128 k0_pay129 k0_pay130 (h2.unread x) init (Scf.trips (0#32) (Scalar.addi 0#32 16#32) 1#32) (ix2 s l) = group x 1 s l :=
  filled x 1 _ (fun k => (st_k0_t2_succ Variants.none c none i a2 h2 a3 h3 _ _ _ _ _ (h2.unread x) init k).trans (t2_eq c i a2 h2 a3 h3 Variants.none none x k _)) s l _ (by decide) (by
    show l.val / 8 < 16; omega)

theorem loop3 (x : Vec Ideal S512x2048 .bf16) (init : FVec Ideal S8x128 .f32) (s : Fin 8) (l : Fin 128) :
    st_k0_t3 Variants.none c none i a2 h2 a3 h3 kernelRun0_A.sl.v1 k0_pay127 k0_pay128 k0_pay129 k0_pay130 (h2.unread x) init (Scf.trips (0#32) (Scalar.addi 0#32 16#32) 1#32) (ix2 s l) = group x 2 s l :=
  filled x 2 _ (fun k => (st_k0_t3_succ Variants.none c none i a2 h2 a3 h3 _ _ _ _ _ (h2.unread x) init k).trans (t3_eq c i a2 h2 a3 h3 Variants.none none x k _)) s l _ (by decide) (by
    show l.val / 8 < 16; omega)

theorem loop4 (x : Vec Ideal S512x2048 .bf16) (init : FVec Ideal S8x128 .f32) (s : Fin 8) (l : Fin 128) :
    st_k0_t4 Variants.none c none i a2 h2 a3 h3 kernelRun0_A.sl.v1 k0_pay127 k0_pay128 k0_pay129 k0_pay130 (h2.unread x) init (Scf.trips (0#32) (Scalar.addi 0#32 16#32) 1#32) (ix2 s l) = group x 3 s l :=
  filled x 3 _ (fun k => (st_k0_t4_succ Variants.none c none i a2 h2 a3 h3 _ _ _ _ _ (h2.unread x) init k).trans (t4_eq c i a2 h2 a3 h3 Variants.none none x k _)) s l _ (by decide) (by
    show l.val / 8 < 16; omega)

end Cert.AmaxIdeal.Value

end
-- ==== Proof.Amax.Ref.lean ====
module

public import proofs.«01_k».proof.Proof.Gen.AmaxReferenceIdeal.Frame
public import Idealize.ShloMosaic.Lib.IdealHost
public import Idealize.ShloMosaic.Lib.Pipeline.ValueKit

@[expose] public section

/-! The reference's block maxima. -/

set_option maxRecDepth 16384

noncomputable section

namespace Cert.AmaxReferenceIdeal.Value

open Cert.AmaxReferenceIdeal Cert.AmaxReferenceIdeal.Gen
open Idealize.ShloMosaic Idealize.ShloMosaic.TcCoe Idealize.SL.Sem

/-- The block maxima of the weights. -/
def bmR (w : Vec Ideal S4096x14336 .bf16) : Vec Ideal S256x896 .f32 := k0_pay1 (F := Ideal) w

theorem bmR_le (w : Vec Ideal S4096x14336 .bf16) (R : Fin 256) (C : Fin 896) (b : EReal) :
    (bmR w (ix2 R C) : EReal) ≤ b ↔ ∀ r d : Fin 16, (FloatOps.absf (F := Ideal) (φ := .bf16) (w (ix2 ⟨16 * R.val + r.val, by omega⟩ ⟨16 * C.val + d.val, by omega⟩)) : EReal) ≤ b := by
  pointwise [bmR, k0_pay1]
  have e : Ideal.ofBits .f32 4286578688#32 = ⊥ := by
    simp [Ideal.ofBits, Ideal.ieee]
  rw [e, Finset.fold_max_le]
  constructor
  · rintro ⟨-, h⟩ r d
    have hm := h (ix4 R r C d) (Finset.mem_filter.2 ⟨Finset.mem_univ _, by
      funext a
      refine Fin.ext ?_
      rw [Shape.Reduces.drop_apply_val]
      fin_cases a <;> rfl⟩)
    refine le_of_eq_of_le (congrArg _ (congrArg w (congrArg₂ ix2 (Fin.ext ?_) (Fin.ext ?_)))) hm
    · show 16 * R.val + r.val = R.val * 16 + r.val
      omega
    · show 16 * C.val + d.val = C.val * 16 + d.val
      omega
  · intro h
    refine ⟨bot_le, fun i hi => ?_⟩
    have hd := (Finset.mem_filter.1 hi).2
    have h0 : (i 0).val = R.val := by
      rw [← show (reduces_S256x16x896x16_S256x896.drop i 0).val = (i 0).val from rfl, hd]; rfl
    have h2 : (i 2).val = C.val := by
      rw [← show (reduces_S256x16x896x16_S256x896.drop i 1).val = (i 2).val from rfl, hd]; rfl
    refine le_of_eq_of_le (congrArg _ (congrArg w (congrArg₂ ix2 (Fin.ext ?_) (Fin.ext ?_)))) (h (i 1) (i 3))
    · show (i 0).val * 16 + (i 1).val = 16 * R.val + (i 1).val
      omega
    · show (i 2).val * 16 + (i 3).val = 16 * C.val + (i 3).val
      omega

end Cert.AmaxReferenceIdeal.Value

end
-- ==== Proof.Amax.Arrays.lean ====
module

public import proofs.«01_k».proof.Proof.Amax.Loop
public import proofs.«01_k».proof.Proof.Amax.Ref

@[expose] public section

/-! The array of block maxima after the kernel's run is the reference's of the weights. -/

set_option maxRecDepth 16384

noncomputable section

namespace Cert.AmaxIdeal.Value

open Cert.AmaxIdeal Cert.AmaxIdeal.Gen
open Idealize.ShloMosaic Idealize.ShloMosaic.TcCoe Idealize.SL.Sem
open Cert.AmaxReferenceIdeal.Value (bmR bmR_le)

/-- The block maxima of a point's part of the weights. -/
def pointG (x : Vec Ideal S512x2048 .bf16) : Vec Ideal S32x128 .f32 := fun y =>
  group x ((y 0).val / 8) ⟨(y 0).val % 8, Nat.mod_lt _ (by decide)⟩ (y 1)

/-- `pointG` at the `s`-th row of the `g`-th group of eight rows. -/
theorem pointG_apply (x : Vec Ideal S512x2048 .bf16) (g : ℕ) (s : Fin 8) (l : Fin 128) (y : S32x128.Idx) (h0 : (y 0).val = 8 * g + s.val)
    (h1 : (y 1).val = l.val) : group x g s l = pointG x y := by
  obtain rfl : l = y 1 := Fin.ext h1.symm
  unfold pointG
  rw [show (y 0).val / 8 = g by omega]
  exact congrArg (fun s => group x g s (y 1)) (Fin.ext (by show s.val = (y 0).val % 8; omega))

/-- A point leaves the block maxima of its part of the weights: its four stores are the four groups of eight rows. -/
theorem out_eq (c : Dev nD) (i : grid0.Coords) (a2 : Memref sig .tc .vmem S512x2048 .bf16) (h2 : a2.IsWhole) (a3 : Memref sig .tc .vmem S32x128 .f32)
    (h3 : a3.IsWhole) (x : Vec Ideal S512x2048 .bf16) : out0_A_1 c i a2 h2 a3 h3 x = pointG x := by
  have cov := cover0_A_1 c i a2 h2 a3 h3 x
  unfold out0_A_1
  rw [View.read_writes_eq_canon _ _ _ cov]
  funext y
  refine View.canon_apply_of_pieces (pointG x) _ ?_ y (cov y)
  clear cov
  unfold kernelRun0_A
  dsimp only
  intro p hp
  simp only [List.mem_cons, List.not_mem_nil, or_false] at hp
  obtain rfl | rfl | rfl | rfl := hp
  · intro z
    idx_vars z
    exact (loop4 c i a2 h2 a3 h3 x _ z0 z1).trans (pointG_apply x 3 z0 z1 _ (by blk_simp) (by blk_simp))
  · intro z
    idx_vars z
    exact (loop3 c i a2 h2 a3 h3 x _ z0 z1).trans (pointG_apply x 2 z0 z1 _ (by blk_simp) (by blk_simp))
  · intro z
    idx_vars z
    exact (loop2 c i a2 h2 a3 h3 x _ z0 z1).trans (pointG_apply x 1 z0 z1 _ (by blk_simp) (by blk_simp))
  · intro z
    idx_vars z
    exact (loop1 c i a2 h2 a3 h3 x _ z0 z1).trans (pointG_apply x 0 z0 z1 _ (by blk_simp; omega) (by blk_simp))

variable (m : (ℓ : Loc nD τ sig) → Buf (Elt Ideal) ℓ) (c : Dev nD)

/-- The weights. -/
def wG : Vec Ideal S4096x14336 .bf16 := m ((c : Thread nD τ).loc main_arg0)

/-- Where the windows' blocks are. -/
theorem idx : ∀ t : Fin cfg0.N, win0_0.index t = ![t.val / 7, t.val % 7] ∧ win0_1.index t = ![t.val / 7, t.val % 7] ∧ t.val < 56 :=
  (by decide +kernel : ∀ t : Fin grid0.N, _)

/-- A point's part of the weights, element by element. -/
theorem iblk_apply (t : Fin cfg0.N) (R : Fin 512) (C : Fin 2048) (R' : Fin 4096) (C' : Fin 14336) (hR : R'.val = 512 * (t.val / 7) + R.val)
    (hC : C'.val = 2048 * (t.val % 7) + C.val) : (iblk m c 0 t : Vec Ideal S512x2048 .bf16) (ix2 R C) = wG m c (ix2 R' C') := by
  unfold wG
  blk_point [iblk, V, idx t]

/-- A point's block maxima are the reference's of all the weights, at the point's place. -/
theorem point_eq (t : Fin cfg0.N) (R : Fin 32) (C : Fin 128) (R' : Fin 256) (C' : Fin 896) (hR : R'.val = 32 * (t.val / 7) + R.val)
    (hC : C'.val = 128 * (t.val % 7) + C.val) : pointG (iblk m c 0 t) (ix2 R C) = bmR (wG m c) (ix2 R' C') := by
  refine eq_of_forall_ge_iff fun b => ?_
  refine Iff.trans (group_le (iblk m c 0 t) (R.val / 8) ⟨R.val % 8, Nat.mod_lt _ (by decide)⟩ C b R (Nat.div_add_mod _ _).symm) (Iff.trans ?_ (bmR_le (wG m c) R' C' b).symm)
  refine forall_congr' fun r => forall_congr' fun d => ?_
  rw [iblk_apply m c t _ _ ⟨16 * R'.val + r.val, by omega⟩ ⟨16 * C'.val + d.val, by omega⟩ (by show 16 * R'.val + r.val = 512 * (t.val / 7) + (16 * R.val + r.val); omega)
    (by show 16 * C'.val + d.val = 2048 * (t.val % 7) + (16 * C.val + d.val); omega)]
  rfl

/-- The kernel's result after its run. -/
theorem array : (dats m 0 c).arrAt 1 cfg0.N = bmR (wG m c) := by
  refine (dats m 0 c).arrAt_eq_of_covers 1 _ (by decide +kernel) fun t _ y => ?_
  have hN : t.val < 56 := (idx t).2.2
  blk_simp
  rw [after0_1]
  unfold outsAt0
  rw [out_eq]
  idx_vars y
  refine (point_eq m c t y0 y1 ⟨32 * (t.val / 7) + y0.val, by omega⟩ ⟨128 * (t.val % 7) + y1.val, by omega⟩ rfl rfl).trans ?_
  generalize bmR (wG m c) = B
  blk_ext [idx t]

/-- The kernel's runs leave in its result the reference's block maxima of the argument, and the argument alone. -/
theorem run (g : Dev nD → PrngReg) : θ_run (defs (F := Ideal)) (onTc (τ := τ) (main (F := Ideal))) ⟨m, fun _ => 0, g⟩ (fun r => ∀ c : Dev nD,
      r.2.mem ((c.tc : Thread nD τ).loc main_v0) = bmR (wG m c)
      ∧ r.2.mem ((c.tc : Thread nD τ).loc main_arg0) = m ((c.tc : Thread nD τ).loc main_arg0)) :=
  (θ_run defs _ _).mono (fun r h c => ⟨((h.1 c).1 1).trans (array m c), h.2 c⟩) (θ_run_and (run_main m g) (unchanged m g))

end Cert.AmaxIdeal.Value

end
-- ==== Proof.Amax.RefArrays.lean ====
module

public import proofs.«01_k».proof.Proof.Amax.Ref

@[expose] public section

/-! The array of block maxima after the reference's run. -/

set_option maxRecDepth 16384

noncomputable section

namespace Cert.AmaxReferenceIdeal.Value

open Cert.AmaxReferenceIdeal Cert.AmaxReferenceIdeal.Gen
open Idealize.ShloMosaic Idealize.ShloMosaic.TcCoe Idealize.SL.Sem

variable (m : (ℓ : Loc nD τ sig) → Buf (Elt Ideal) ℓ) (c : Dev nD)

/-- The weights. -/
def wG : Vec Ideal S4096x14336 .bf16 := m ((c : Thread nD τ).loc main_arg0)

/-- The windows' only block is the whole array. -/
theorem idx : ∀ t : Fin cfg0.N, win0_0.index t = ![0, 0] ∧ win0_1.index t = ![0, 0] := (by decide +kernel : ∀ t : Fin grid0.N, _)

/-- The only block of the weights is the weights. -/
theorem iblk0 (t : Fin cfg0.N) : iblk m c 0 t = wG m c := by blk_ext! [iblk, V, wG, idx t]

/-- The reference's result after its run. -/
theorem array : (dats m 0 c).arrAt 1 cfg0.N = bmR (wG m c) := by
  refine (dats m 0 c).arrAt_eq_of_covers 1 _ (by decide +kernel) fun t _ y => ?_
  blk_simp
  rw [after0_1]
  frame_out
  rw [iblk0]
  show bmR (wG m c) y = _
  generalize bmR (wG m c) = B
  idx_vars y
  blk_ext [idx t]

/-- The reference's runs leave its block maxima in its result, and the argument alone. -/
theorem run (g : Dev nD → PrngReg) : θ_run (defs (F := Ideal)) (onTc (τ := τ) (main (F := Ideal))) ⟨m, fun _ => 0, g⟩ (fun r => ∀ c : Dev nD,
      r.2.mem ((c.tc : Thread nD τ).loc main_v0) = bmR (wG m c)
      ∧ r.2.mem ((c.tc : Thread nD τ).loc main_arg0) = m ((c.tc : Thread nD τ).loc main_arg0)) :=
  (θ_run defs _ _).mono (fun r h c => ⟨((h.1 c).1 1).trans (array m c), h.2 c⟩) (θ_run_and (run_main m g) (unchanged m g))

end Cert.AmaxReferenceIdeal.Value

end
-- ==== Proof.lean ====
/-
  The kernel's frame comes from `Body.Launch`: its body's three kinds of step, joined over the grid.
  Its idealization prints the same program, so the same theorem serves at the ideal instance.
  The algebraic claim: `Value.Arrays` and `Value.RefArrays` read the two programs' result arrays as the same
  five functions (`Value.Ref`) of the argument arrays.
  The call that computes the block maxima: its frames are generated, its idealization is one rewriting of
  pairs of bf16 values, and `Amax.Arrays` and `Amax.RefArrays` read both results as the same function (`Amax.Ref`).
-/
module

public import proofs.«01_k».proof.Defs
public import proofs.«01_k».proof.Proof.Body.Launch
public import proofs.«01_k».proof.Proof.Same
public import proofs.«01_k».proof.Proof.Value.Arrays
public import proofs.«01_k».proof.Proof.Value.RefArrays
public import proofs.«01_k».proof.Proof.Amax.Arrays
public import proofs.«01_k».proof.Proof.Amax.RefArrays
public import proofs.«01_k».proof.Proof.Gen.KernelIdeal
public import proofs.«01_k».proof.Proof.Gen.ReferenceIdeal
public import proofs.«01_k».proof.Proof.Gen.ReferenceIdeal.Frame
public import proofs.«01_k».proof.Proof.Gen.Amax
public import proofs.«01_k».proof.Proof.Gen.Amax.Frame
public import proofs.«01_k».proof.Proof.Gen.AmaxIdeal
public import proofs.«01_k».proof.Proof.Gen.AmaxIdeal.Frame
public import proofs.«01_k».proof.Proof.Gen.AmaxReferenceIdeal
public import proofs.«01_k».proof.Proof.Gen.AmaxReferenceIdeal.Frame
public import Idealize.ShloMosaic.Lib.Bf16Pair

@[expose] public section

noncomputable section

namespace Cert.Proof

open Idealize.ShloMosaic Idealize.SL.Sem

theorem quiescent_Kernel : Cert.quiescent_Kernel (hKernel := Cert.Kernel.Gen.facts) := fun m g _ => Cert.Kernel.Body.frame m g

theorem quiescent_KernelIdeal : Cert.quiescent_KernelIdeal (hKernelIdeal := Cert.KernelIdeal.Gen.facts) := fun m g _ => run_same m g _ (Cert.Kernel.Body.frame (F := Ideal) m g)

theorem quiescent_ReferenceIdeal : Cert.quiescent_ReferenceIdeal (hReferenceIdeal := Cert.ReferenceIdeal.Gen.facts) := fun m g _ => Cert.ReferenceIdeal.Gen.frame m g

/-- The arguments the two memories share are the same arrays, so the reference's functions of them are. -/
theorem algebraic : Cert.algebraic_KernelIdeal_ReferenceIdeal (hKernelIdeal := Cert.KernelIdeal.Gen.facts) (hReferenceIdeal := Cert.ReferenceIdeal.Gen.facts) := by
  intro m g m' g' _ hagree
  have e0 (c : Dev 1) : Cert.ReferenceIdeal.Value.bmG m' c = Cert.Kernel.Value.bmG m c := (hagree c).1
  have e1 (c : Dev 1) : Cert.ReferenceIdeal.Value.xG m' c = Cert.Kernel.Value.xG m c := (hagree c).2.1
  have e2 (c : Dev 1) : Cert.ReferenceIdeal.Value.wG m' c = Cert.Kernel.Value.wG m c := (hagree c).2.2
  have hr := Cert.ReferenceIdeal.Value.run m' g'
  simp only [e0, e1, e2] at hr
  exact ⟨_, _, _, _, _, run_same m g _ (Cert.Kernel.Value.run m g), hr⟩

theorem quiescent_Amax : Cert.quiescent_Amax (hAmax := Cert.Amax.Gen.facts) := fun m g _ => Cert.Amax.Gen.frame m g

theorem quiescent_AmaxIdeal : Cert.quiescent_AmaxIdeal (hAmaxIdeal := Cert.AmaxIdeal.Gen.facts) := fun m g _ => Cert.AmaxIdeal.Gen.frame m g

theorem quiescent_AmaxReferenceIdeal : Cert.quiescent_AmaxReferenceIdeal (hAmaxReferenceIdeal := Cert.AmaxReferenceIdeal.Gen.facts) :=
  fun m g _ => Cert.AmaxReferenceIdeal.Gen.frame m g

theorem preserves_Amax : Cert.preserves_Amax_AmaxIdeal := IdealRules.bf16_pair.statement _ _ (by decide)

theorem algebraic_Amax : Cert.algebraic_AmaxIdeal_AmaxReferenceIdeal (hAmaxIdeal := Cert.AmaxIdeal.Gen.facts) (hAmaxReferenceIdeal := Cert.AmaxReferenceIdeal.Gen.facts) := by
  intro m g m' g' _ hagree
  have e0 (c : Dev 1) : Cert.AmaxReferenceIdeal.Value.wG m' c = Cert.AmaxIdeal.Value.wG m c := hagree c
  have hr := Cert.AmaxReferenceIdeal.Value.run m' g'
  simp only [e0] at hr
  exact ⟨_, Cert.AmaxIdeal.Value.run m g, hr⟩

theorem claim : Cert.Claim :=
  ⟨Cert.Kernel.Gen.facts, Cert.KernelIdeal.Gen.facts, Cert.ReferenceIdeal.Gen.facts, Cert.Amax.Gen.facts, Cert.AmaxIdeal.Gen.facts,
    Cert.AmaxReferenceIdeal.Gen.facts, quiescent_Kernel, quiescent_KernelIdeal, quiescent_ReferenceIdeal, quiescent_Amax, quiescent_AmaxIdeal,
    quiescent_AmaxReferenceIdeal, trivial, algebraic, preserves_Amax, algebraic_Amax⟩

end Cert.Proof

end
